-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9)
      ∧ r.2.mem ((c.tc : Thread Cert.BackReferenceIdeal.nD Cert.BackReferenceIdeal.τ).loc Cert.BackReferenceIdeal.main_arg10) = m ((c.tc : Thread Cert.BackReferenceIdeal.nD Cert.BackReferenceIdeal.τ).loc Cert.BackReferenceIdeal.main_arg10))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5))
      ∧ r.2.sem = fun _ => 0)

def preserves_Kernel_KernelIdeal : Prop :=
  IdealRules.named_const.Statement Cert.KernelIdeal.κ "neg" .f32 0xF1800000#32 ⊥
  ∧ IdealRules.named_const.Statement Cert.KernelIdeal.κ "m_init" .f32 0xF1000000#32 ⊥

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)
      ∧ m' ((c.tc : Thread Cert.BackReferenceIdeal.nD Cert.BackReferenceIdeal.τ).loc Cert.BackReferenceIdeal.main_arg8) = m ((c.tc : Thread Cert.BackIdeal.nD Cert.BackIdeal.τ).loc Cert.BackIdeal.main_arg8)
      ∧ m' ((c.tc : Thread Cert.BackReferenceIdeal.nD Cert.BackReferenceIdeal.τ).loc Cert.BackReferenceIdeal.main_arg9) = m ((c.tc : Thread Cert.BackIdeal.nD Cert.BackIdeal.τ).loc Cert.BackIdeal.main_arg9)
      ∧ m' ((c.tc : Thread Cert.BackReferenceIdeal.nD Cert.BackReferenceIdeal.τ).loc Cert.BackReferenceIdeal.main_arg10) = m ((c.tc : Thread Cert.BackIdeal.nD Cert.BackIdeal.τ).loc Cert.BackIdeal.main_arg10)) →
    ∃ (v0 : (c : Dev Cert.BackIdeal.nD) → Buf (Elt Ideal) ((c.tc : Thread Cert.BackIdeal.nD Cert.BackIdeal.τ).loc Cert.BackIdeal.main_v9)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v9) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v44) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7)
          ∧ r.2.mem ((c.tc : Thread Cert.BackReferenceIdeal.nD Cert.BackReferenceIdeal.τ).loc Cert.BackReferenceIdeal.main_arg8) = m' ((c.tc : Thread Cert.BackReferenceIdeal.nD Cert.BackReferenceIdeal.τ).loc Cert.BackReferenceIdeal.main_arg8)
          ∧ r.2.mem ((c.tc : Thread Cert.BackReferenceIdeal.nD Cert.BackReferenceIdeal.τ).loc Cert.BackReferenceIdeal.main_arg9) = m' ((c.tc : Thread Cert.BackReferenceIdeal.nD Cert.BackReferenceIdeal.τ).loc Cert.BackReferenceIdeal.main_arg9)
          ∧ r.2.mem ((c.tc : Thread Cert.BackReferenceIdeal.nD Cert.BackReferenceIdeal.τ).loc Cert.BackReferenceIdeal.main_arg10) = m' ((c.tc : Thread Cert.BackReferenceIdeal.nD Cert.BackReferenceIdeal.τ).loc Cert.BackReferenceIdeal.main_arg10))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)) →
    ∃ (v0 : (c : Dev Cert.FrontIdeal.nD) → Buf (Elt Ideal) ((c.tc : Thread Cert.FrontIdeal.nD Cert.FrontIdeal.τ).loc Cert.FrontIdeal.main_v32_0)) (v1 : (c : Dev Cert.FrontIdeal.nD) → Buf (Elt Ideal) ((c.tc : Thread Cert.FrontIdeal.nD Cert.FrontIdeal.τ).loc Cert.FrontIdeal.main_v32_1)) (v2 : (c : Dev Cert.FrontIdeal.nD) → Buf (Elt Ideal) ((c.tc : Thread Cert.FrontIdeal.nD Cert.FrontIdeal.τ).loc Cert.FrontIdeal.main_v32_2)) (v3 : (c : Dev Cert.FrontIdeal.nD) → Buf (Elt Ideal) ((c.tc : Thread Cert.FrontIdeal.nD Cert.FrontIdeal.τ).loc Cert.FrontIdeal.main_v32_3)) (v4 : (c : Dev Cert.FrontIdeal.nD) → Buf (Elt Ideal) ((c.tc : Thread Cert.FrontIdeal.nD Cert.FrontIdeal.τ).loc Cert.FrontIdeal.main_v32_4)) (v5 : (c : Dev Cert.FrontIdeal.nD) → Buf (Elt Ideal) ((c.tc : Thread Cert.FrontIdeal.nD Cert.FrontIdeal.τ).loc Cert.FrontIdeal.main_v32_5)) (v6 : (c : Dev Cert.FrontIdeal.nD) → Buf (Elt Ideal) ((c.tc : Thread Cert.FrontIdeal.nD Cert.FrontIdeal.τ).loc Cert.FrontIdeal.main_v32_6)) (v7 : (c : Dev Cert.FrontIdeal.nD) → Buf (Elt Ideal) ((c.tc : Thread Cert.FrontIdeal.nD Cert.FrontIdeal.τ).loc Cert.FrontIdeal.main_v32_7)) (v8 : (c : Dev Cert.FrontIdeal.nD) → Buf (Elt Ideal) ((c.tc : Thread Cert.FrontIdeal.nD Cert.FrontIdeal.τ).loc Cert.FrontIdeal.main_v32_8)) (v9 : (c : Dev Cert.FrontIdeal.nD) → Buf (Elt Ideal) ((c.tc : Thread Cert.FrontIdeal.nD Cert.FrontIdeal.τ).loc Cert.FrontIdeal.main_v32_9)) (v10 : (c : Dev Cert.FrontIdeal.nD) → Buf (Elt Ideal) ((c.tc : Thread Cert.FrontIdeal.nD Cert.FrontIdeal.τ).loc Cert.FrontIdeal.main_v32_10)) (v11 : (c : Dev Cert.FrontIdeal.nD) → Buf (Elt Ideal) ((c.tc : Thread Cert.FrontIdeal.nD Cert.FrontIdeal.τ).loc Cert.FrontIdeal.main_v32_11)) (v12 : (c : Dev Cert.FrontIdeal.nD) → Buf (Elt Ideal) ((c.tc : Thread Cert.FrontIdeal.nD Cert.FrontIdeal.τ).loc Cert.FrontIdeal.main_v32_12)) (v13 : (c : Dev Cert.FrontIdeal.nD) → Buf (Elt Ideal) ((c.tc : Thread Cert.FrontIdeal.nD Cert.FrontIdeal.τ).loc Cert.FrontIdeal.main_v32_13)) (v14 : (c : Dev Cert.FrontIdeal.nD) → Buf (Elt Ideal) ((c.tc : Thread Cert.FrontIdeal.nD Cert.FrontIdeal.τ).loc Cert.FrontIdeal.main_v32_14)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v32_0) = v0 c
          ∧ r.2.mem ((c.tc : Thread Cert.FrontIdeal.nD Cert.FrontIdeal.τ).loc Cert.FrontIdeal.main_v32_1) = v1 c
          ∧ r.2.mem ((c.tc : Thread Cert.FrontIdeal.nD Cert.FrontIdeal.τ).loc Cert.FrontIdeal.main_v32_2) = v2 c
          ∧ r.2.mem ((c.tc : Thread Cert.FrontIdeal.nD Cert.FrontIdeal.τ).loc Cert.FrontIdeal.main_v32_3) = v3 c
          ∧ r.2.mem ((c.tc : Thread Cert.FrontIdeal.nD Cert.FrontIdeal.τ).loc Cert.FrontIdeal.main_v32_4) = v4 c
          ∧ r.2.mem ((c.tc : Thread Cert.FrontIdeal.nD Cert.FrontIdeal.τ).loc Cert.FrontIdeal.main_v32_5) = v5 c
          ∧ r.2.mem ((c.tc : Thread Cert.FrontIdeal.nD Cert.FrontIdeal.τ).loc Cert.FrontIdeal.main_v32_6) = v6 c
          ∧ r.2.mem ((c.tc : Thread Cert.FrontIdeal.nD Cert.FrontIdeal.τ).loc Cert.FrontIdeal.main_v32_7) = v7 c
          ∧ r.2.mem ((c.tc : Thread Cert.FrontIdeal.nD Cert.FrontIdeal.τ).loc Cert.FrontIdeal.main_v32_8) = v8 c
          ∧ r.2.mem ((c.tc : Thread Cert.FrontIdeal.nD Cert.FrontIdeal.τ).loc Cert.FrontIdeal.main_v32_9) = v9 c
          ∧ r.2.mem ((c.tc : Thread Cert.FrontIdeal.nD Cert.FrontIdeal.τ).loc Cert.FrontIdeal.main_v32_10) = v10 c
          ∧ r.2.mem ((c.tc : Thread Cert.FrontIdeal.nD Cert.FrontIdeal.τ).loc Cert.FrontIdeal.main_v32_11) = v11 c
          ∧ r.2.mem ((c.tc : Thread Cert.FrontIdeal.nD Cert.FrontIdeal.τ).loc Cert.FrontIdeal.main_v32_12) = v12 c
          ∧ r.2.mem ((c.tc : Thread Cert.FrontIdeal.nD Cert.FrontIdeal.τ).loc Cert.FrontIdeal.main_v32_13) = v13 c
          ∧ r.2.mem ((c.tc : Thread Cert.FrontIdeal.nD Cert.FrontIdeal.τ).loc Cert.FrontIdeal.main_v32_14) = v14 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v40) = v0 c
          ∧ r.2.mem ((c.tc : Thread Cert.FrontReferenceIdeal.nD Cert.FrontReferenceIdeal.τ).loc Cert.FrontReferenceIdeal.main_v185) = v1 c
          ∧ r.2.mem ((c.tc : Thread Cert.FrontReferenceIdeal.nD Cert.FrontReferenceIdeal.τ).loc Cert.FrontReferenceIdeal.main_v190) = v2 c
          ∧ r.2.mem ((c.tc : Thread Cert.FrontReferenceIdeal.nD Cert.FrontReferenceIdeal.τ).loc Cert.FrontReferenceIdeal.main_v225) = v3 c
          ∧ r.2.mem ((c.tc : Thread Cert.FrontReferenceIdeal.nD Cert.FrontReferenceIdeal.τ).loc Cert.FrontReferenceIdeal.main_v227) = v4 c
          ∧ r.2.mem ((c.tc : Thread Cert.FrontReferenceIdeal.nD Cert.FrontReferenceIdeal.τ).loc Cert.FrontReferenceIdeal.main_v229) = v5 c
          ∧ r.2.mem ((c.tc : Thread Cert.FrontReferenceIdeal.nD Cert.FrontReferenceIdeal.τ).loc Cert.FrontReferenceIdeal.main_v231) = v6 c
          ∧ r.2.mem ((c.tc : Thread Cert.FrontReferenceIdeal.nD Cert.FrontReferenceIdeal.τ).loc Cert.FrontReferenceIdeal.main_v233) = v7 c
          ∧ r.2.mem ((c.tc : Thread Cert.FrontReferenceIdeal.nD Cert.FrontReferenceIdeal.τ).loc Cert.FrontReferenceIdeal.main_v235) = v8 c
          ∧ r.2.mem ((c.tc : Thread Cert.FrontReferenceIdeal.nD Cert.FrontReferenceIdeal.τ).loc Cert.FrontReferenceIdeal.main_v237) = v9 c
          ∧ r.2.mem ((c.tc : Thread Cert.FrontReferenceIdeal.nD Cert.FrontReferenceIdeal.τ).loc Cert.FrontReferenceIdeal.main_v240) = v10 c
          ∧ r.2.mem ((c.tc : Thread Cert.FrontReferenceIdeal.nD Cert.FrontReferenceIdeal.τ).loc Cert.FrontReferenceIdeal.main_v242) = v11 c
          ∧ r.2.mem ((c.tc : Thread Cert.FrontReferenceIdeal.nD Cert.FrontReferenceIdeal.τ).loc Cert.FrontReferenceIdeal.main_v247) = v12 c
          ∧ r.2.mem ((c.tc : Thread Cert.FrontReferenceIdeal.nD Cert.FrontReferenceIdeal.τ).loc Cert.FrontReferenceIdeal.main_v252) = v13 c
          ∧ r.2.mem ((c.tc : Thread Cert.FrontReferenceIdeal.nD Cert.FrontReferenceIdeal.τ).loc Cert.FrontReferenceIdeal.main_v260) = v14 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v248) = v0 c
          ∧ r.2.mem ((c.tc : Thread Cert.ConvReferenceIdeal.nD Cert.ConvReferenceIdeal.τ).loc Cert.ConvReferenceIdeal.main_v249) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)) →
    ∃ (v0 : (c : Dev Cert.CompressIdeal.nD) → Buf (Elt Ideal) ((c.tc : Thread Cert.CompressIdeal.nD Cert.CompressIdeal.τ).loc Cert.CompressIdeal.main_v47_0)) (v1 : (c : Dev Cert.CompressIdeal.nD) → Buf (Elt Ideal) ((c.tc : Thread Cert.CompressIdeal.nD Cert.CompressIdeal.τ).loc Cert.CompressIdeal.main_v47_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v47_0) = v0 c
          ∧ r.2.mem ((c.tc : Thread Cert.CompressIdeal.nD Cert.CompressIdeal.τ).loc Cert.CompressIdeal.main_v47_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v11) = v0 c
          ∧ r.2.mem ((c.tc : Thread Cert.CompressReferenceIdeal.nD Cert.CompressReferenceIdeal.τ).loc Cert.CompressReferenceIdeal.main_v23) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hBackReferenceIdeal : Cert.BackReferenceIdeal.Facts) (hFront : Cert.Front.Facts) (hFrontIdeal : Cert.FrontIdeal.Facts) (hFrontReferenceIdeal : Cert.FrontReferenceIdeal.Facts) (hConv : Cert.Conv.Facts) (hConvIdeal : Cert.ConvIdeal.Facts) (hConvReferenceIdeal : Cert.ConvReferenceIdeal.Facts) (hAda : Cert.Ada.Facts) (hAdaIdeal : Cert.AdaIdeal.Facts) (hAdaReferenceIdeal : Cert.AdaReferenceIdeal.Facts) (hCompress : Cert.Compress.Facts) (hCompressIdeal : Cert.CompressIdeal.Facts) (hCompressReferenceIdeal : Cert.CompressReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Back (hBack := hBack)
    ∧ quiescent_BackIdeal (hBackIdeal := hBackIdeal)
    ∧ quiescent_BackReferenceIdeal (hBackReferenceIdeal := hBackReferenceIdeal)
    ∧ quiescent_Front (hFront := hFront)
    ∧ quiescent_FrontIdeal (hFrontIdeal := hFrontIdeal)
    ∧ quiescent_FrontReferenceIdeal (hFrontReferenceIdeal := hFrontReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ preserves_Back_BackIdeal
    ∧ algebraic_BackIdeal_BackReferenceIdeal (hBackIdeal := hBackIdeal) (hBackReferenceIdeal := hBackReferenceIdeal)
    ∧ preserves_Front_FrontIdeal
    ∧ algebraic_FrontIdeal_FrontReferenceIdeal (hFrontIdeal := hFrontIdeal) (hFrontReferenceIdeal := hFrontReferenceIdeal)
    ∧ preserves_Conv_ConvIdeal
    ∧ algebraic_ConvIdeal_ConvReferenceIdeal (hConvIdeal := hConvIdeal) (hConvReferenceIdeal := hConvReferenceIdeal)
    ∧ preserves_Ada_AdaIdeal
    ∧ algebraic_AdaIdeal_AdaReferenceIdeal (hAdaIdeal := hAdaIdeal) (hAdaReferenceIdeal := hAdaReferenceIdeal)
    ∧ preserves_Compress_CompressIdeal
    ∧ algebraic_CompressIdeal_CompressReferenceIdeal (hCompressIdeal := hCompressIdeal) (hCompressReferenceIdeal := hCompressReferenceIdeal)
-- ==== Kernel.lean ====
abbrev S4x8192x2x4x64 : Shape := ⟨5, ![4, 8192, 2, 4, 64]⟩
abbrev S4x128x2x64 : Shape := ⟨4, ![4, 128, 2, 64]⟩
abbrev S4x8192x2x64 : Shape := ⟨4, ![4, 8192, 2, 64]⟩
abbrev S4x8192x2x4x3 : Shape := ⟨5, ![4, 8192, 2, 4, 3]⟩
abbrev S_ : Shape := ⟨0, ![]⟩
abbrev S4x8192x16 : Shape := ⟨3, ![4, 8192, 16]⟩
abbrev S4x16x8192 : Shape := ⟨3, ![4, 16, 8192]⟩
abbrev S4x2x4x3x8192 : Shape := ⟨5, ![4, 2, 4, 3, 8192]⟩
abbrev S4x24x8192 : Shape := ⟨3, ![4, 24, 8192]⟩
abbrev S4x2x4x64x8192 : Shape := ⟨5, ![4, 2, 4, 64, 8192]⟩
abbrev S4x512x8192 : Shape := ⟨3, ![4, 512, 8192]⟩
abbrev S4x8192x128 : Shape := ⟨3, ![4, 8192, 128]⟩
abbrev S4x8192x144 : Shape := ⟨3, ![4, 8192, 144]⟩
abbrev S4x2x64x8192 : Shape := ⟨4, ![4, 2, 64, 8192]⟩
abbrev S4x128x8192 : Shape := ⟨3, ![4, 128, 8192]⟩
abbrev S4x64x8192 : Shape := ⟨3, ![4, 64, 8192]⟩
abbrev S4x160x8192 : Shape := ⟨3, ![4, 160, 8192]⟩
abbrev S4x32x8192 : Shape := ⟨3, ![4, 32, 8192]⟩
abbrev S4x128x128 : Shape := ⟨3, ![4, 128, 128]⟩
abbrev S4x2x64x128 : Shape := ⟨4, ![4, 2, 64, 128]⟩
abbrev S4x8192x512 : Shape := ⟨3, ![4, 8192, 512]⟩
abbrev S1x512x128 : Shape := ⟨3, ![1, 512, 128]⟩
abbrev S1x128x128 : Shape := ⟨3, ![1, 128, 128]⟩
abbrev S1x8192x144 : Shape := ⟨3, ![1, 8192, 144]⟩
abbrev S1x160x8192 : Shape := ⟨3, ![1, 160, 8192]⟩
abbrev S1x8192x128 : Shape := ⟨3, ![1, 8192, 128]⟩
abbrev S1x32x128 : Shape := ⟨3, ![1, 32, 128]⟩
abbrev S1x128x512 : Shape := ⟨3, ![1, 128, 512]⟩
abbrev S2x17x16x512 : Shape := ⟨4, ![2, 17, 16, 512]⟩
abbrev S2x2x512x512 : Shape := ⟨4, ![2, 2, 512, 512]⟩
abbrev S2x2x1x512 : Shape := ⟨4, ![2, 2, 1, 512]⟩
abbrev S2x128x512 : Shape := ⟨3, ![2, 128, 512]⟩
abbrev S2x640x512 : Shape := ⟨3, ![2, 640, 512]⟩
abbrev S2x512x512 : Shape := ⟨3, ![2, 512, 512]⟩
abbrev S1x512 : Shape := ⟨2, ![1, 512]⟩
abbrev S32x128 : Shape := ⟨2, ![32, 128]⟩
abbrev S1x64x128 : Shape := ⟨3, ![1, 64, 128]⟩
abbrev S64x128 : Shape := ⟨2, ![64, 128]⟩
abbrev S64x512 : Shape := ⟨2, ![64, 512]⟩
abbrev S128x512 : Shape := ⟨2, ![128, 512]⟩
abbrev S128x128 : Shape := ⟨2, ![128, 128]⟩
abbrev S1x640x128 : Shape := ⟨3, ![1, 640, 128]⟩
abbrev S640x128 : Shape := ⟨2, ![640, 128]⟩
abbrev S640x512 : Shape := ⟨2, ![640, 512]⟩
abbrev S1x640x512 : Shape := ⟨3, ![1, 640, 512]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S1x128 : Shape := ⟨2, ![1, 128]⟩
abbrev S128 : Shape := ⟨1, ![128]⟩
abbrev S16x8x512 : Shape := ⟨3, ![16, 8, 512]⟩
abbrev S1x8x512 : Shape := ⟨3, ![1, 8, 512]⟩
abbrev S17x8x512 : Shape := ⟨3, ![17, 8, 512]⟩
abbrev S17x16x512 : Shape := ⟨3, ![17, 16, 512]⟩
abbrev S1x17x16x512 : Shape := ⟨4, ![1, 17, 16, 512]⟩
abbrev S1x512x144 : Shape := ⟨3, ![1, 512, 144]⟩
abbrev S512x144 : Shape := ⟨2, ![512, 144]⟩
abbrev S1x1x16x512 : Shape := ⟨4, ![1, 1, 16, 512]⟩
abbrev S16x512 : Shape := ⟨2, ![16, 512]⟩
abbrev S144x512 : Shape := ⟨2, ![144, 512]⟩
abbrev S1x1x512x512 : Shape := ⟨4, ![1, 1, 512, 512]⟩
abbrev S1x1x1x512 : Shape := ⟨4, ![1, 1, 1, 512]⟩
abbrev S384x512 : Shape := ⟨2, ![384, 512]⟩
abbrev S1x80x640 : Shape := ⟨3, ![1, 80, 640]⟩
abbrev S80x640 : Shape := ⟨2, ![80, 640]⟩
abbrev S80x512 : Shape := ⟨2, ![80, 512]⟩
abbrev S1x80x512 : Shape := ⟨3, ![1, 80, 512]⟩
abbrev S8x512 : Shape := ⟨2, ![8, 512]⟩
abbrev S8x1x512 : Shape := ⟨3, ![8, 1, 512]⟩
abbrev S8x64x512 : Shape := ⟨3, ![8, 64, 512]⟩
abbrev S1x384x512 : Shape := ⟨3, ![1, 384, 512]⟩
abbrev S1x80x384 : Shape := ⟨3, ![1, 80, 384]⟩
abbrev S80x384 : Shape := ⟨2, ![80, 384]⟩
abbrev S1x6x512 : Shape := ⟨3, ![1, 6, 512]⟩
abbrev S6x512 : Shape := ⟨2, ![6, 512]⟩
abbrev S6x1x512 : Shape := ⟨3, ![6, 1, 512]⟩
abbrev S6x64x512 : Shape := ⟨3, ![6, 64, 512]⟩
abbrev S256x512 : Shape := ⟨2, ![256, 512]⟩
abbrev S1x256x512 : Shape := ⟨3, ![1, 256, 512]⟩
abbrev S1x80x256 : Shape := ⟨3, ![1, 80, 256]⟩
abbrev S80x256 : Shape := ⟨2, ![80, 256]⟩
abbrev S1x4x512 : Shape := ⟨3, ![1, 4, 512]⟩
abbrev S4x512 : Shape := ⟨2, ![4, 512]⟩
abbrev S4x1x512 : Shape := ⟨3, ![4, 1, 512]⟩
abbrev S4x64x512 : Shape := ⟨3, ![4, 64, 512]⟩
abbrev S1x80x128 : Shape := ⟨3, ![1, 80, 128]⟩
abbrev S80x128 : Shape := ⟨2, ![80, 128]⟩
abbrev S1x2x512 : Shape := ⟨3, ![1, 2, 512]⟩
abbrev S2x512 : Shape := ⟨2, ![2, 512]⟩
abbrev S2x1x512 : Shape := ⟨3, ![2, 1, 512]⟩
abbrev S2x64x512 : Shape := ⟨3, ![2, 64, 512]⟩
abbrev S1x256x144 : Shape := ⟨3, ![1, 256, 144]⟩
abbrev S256x144 : Shape := ⟨2, ![256, 144]⟩
abbrev S1x1x256x512 : Shape := ⟨4, ![1, 1, 256, 512]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 102
  | .vmem => 26
  | .smem => 0
  | _ => 0

abbrev bufTy : (tb : Table) → Fin (tcTables nBuf tb) → BufTy
  | .hbm, ⟨0, _⟩ => ⟨S4x8192x2x4x64, .f32⟩
  | .hbm, ⟨1, _⟩ => ⟨S4x8192x2x4x64, .f32⟩
  | .hbm, ⟨2, _⟩ => ⟨S4x128x2x64, .f32⟩
  | .hbm, ⟨3, _⟩ => ⟨S4x128x2x64, .f32⟩
  | .hbm, ⟨4, _⟩ => ⟨S4x8192x2x64, .f32⟩
  | .hbm, ⟨5, _⟩ => ⟨S4x8192x2x64, .f32⟩
  | .hbm, ⟨6, _⟩ => ⟨S4x8192x2x64, .f32⟩
  | .hbm, ⟨7, _⟩ => ⟨S4x8192x2x64, .f32⟩
  | .hbm, ⟨8, _⟩ => ⟨S4x8192x2x4x3, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x16, .i32⟩
  | .hbm, ⟨14, _⟩ => ⟨S_, .i32⟩
  | .hbm, ⟨15, _⟩ => ⟨S_, .i32⟩
  | .hbm, ⟨16, _⟩ => ⟨S4x8192x16, .i32⟩
  | .hbm, ⟨17, _⟩ => ⟨S4x8192x16, .i32⟩
  | .hbm, ⟨18, _⟩ => ⟨S4x8192x16, .i32⟩
  | .hbm, ⟨19, _⟩ => ⟨S_, .i32⟩
  | .hbm, ⟨20, _⟩ => ⟨S4x8192x16, .i32⟩
  | .hbm, ⟨21, _⟩ => ⟨S4x8192x16, .i1⟩
  | .hbm, ⟨22, _⟩ => ⟨S4x8192x16, .i32⟩
  | .hbm, ⟨23, _⟩ => ⟨S4x8192x16, .i32⟩
  | .hbm, ⟨24, _⟩ => ⟨S_, .i32⟩
  | .hbm, ⟨25, _⟩ => ⟨S4x8192x16, .i32⟩
  | .hbm, ⟨26, _⟩ => ⟨S4x8192x16, .i1⟩
  | .hbm, ⟨27, _⟩ => ⟨S4x8192x16, .i1⟩
  | .hbm, ⟨28, _⟩ => ⟨S_, .i32⟩
  | .hbm, ⟨29, _⟩ => ⟨S4x8192x16, .i32⟩
  | .hbm, ⟨30, _⟩ => ⟨S4x8192x16, .i32⟩
  | .hbm, ⟨31, _⟩ => ⟨S4x8192x16, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S4x8192x16, .i32⟩
  | .hbm, ⟨39, _⟩ => ⟨S4x8192x16, .i32⟩
  | .hbm, ⟨40, _⟩ => ⟨S_, .i32⟩
  | .hbm, ⟨41, _⟩ => ⟨S4x8192x16, .i32⟩
  | .hbm, ⟨42, _⟩ => ⟨S4x8192x16, .i1⟩
  | .hbm, ⟨43, _⟩ => ⟨S_, .i32⟩
  | .hbm, ⟨44, _⟩ => ⟨S4x8192x16, .i32⟩
  | .hbm, ⟨45, _⟩ => ⟨S4x8192x16, .i1⟩
  | .hbm, ⟨46, _⟩ => ⟨S_, .i32⟩
  | .hbm, ⟨47, _⟩ => ⟨S_, .i1⟩
  | .hbm, ⟨48, _⟩ => ⟨S4x8192x16, .i1⟩
  | .hbm, ⟨49, _⟩ => ⟨S4x8192x16, .i1⟩
  | .hbm, ⟨50, _⟩ => ⟨S4x8192x16, .i1⟩
  | .hbm, ⟨51, _⟩ => ⟨S4x8192x16, .i32⟩
  | .hbm, ⟨52, _⟩ => ⟨S4x8192x16, .i32⟩
  | .hbm, ⟨53, _⟩ => ⟨S4x8192x16, .i32⟩
  | .hbm, ⟨54, _⟩ => ⟨S4x8192x16, .i32⟩
  | .hbm, ⟨55, _⟩ => ⟨S4x8192x16, .i1⟩
  | .hbm, ⟨56, _⟩ => ⟨S_, .f32⟩
  | .hbm, ⟨57, _⟩ => ⟨S4x16x8192, .f32⟩
  | .hbm, ⟨58, _⟩ => ⟨S4x2x4x3x8192, .f32⟩
  | .hbm, ⟨59, _⟩ => ⟨S4x24x8192, .f32⟩
  | .hbm, ⟨60, _⟩ => ⟨S4x2x4x64x8192, .f32⟩
  | .hbm, ⟨61, _⟩ => ⟨S4x512x8192, .f32⟩
  | .hbm, ⟨62, _⟩ => ⟨S4x512x8192, .f32⟩
  | .hbm, ⟨63, _⟩ => ⟨S4x512x8192, .f32⟩
  | .hbm, ⟨64, _⟩ => ⟨S4x512x8192, .bf16⟩
  | .hbm, ⟨65, _⟩ => ⟨S4x2x4x64x8192, .f32⟩
  | .hbm, ⟨66, _⟩ => ⟨S4x512x8192, .f32⟩
  | .hbm, ⟨67, _⟩ => ⟨S4x512x8192, .f32⟩
  | .hbm, ⟨68, _⟩ => ⟨S4x512x8192, .f32⟩
  | .hbm, ⟨69, _⟩ => ⟨S4x512x8192, .bf16⟩
  | .hbm, ⟨70, _⟩ => ⟨S4x8192x128, .f32⟩
  | .hbm, ⟨71, _⟩ => ⟨S_, .f32⟩
  | .hbm, ⟨72, _⟩ => ⟨S_, .f32⟩
  | .hbm, ⟨73, _⟩ => ⟨S4x8192x16, .f32⟩
  | .hbm, ⟨74, _⟩ => ⟨S4x8192x16, .f32⟩
  | .hbm, ⟨75, _⟩ => ⟨S4x8192x16, .f32⟩
  | .hbm, ⟨76, _⟩ => ⟨S4x8192x16, .f32⟩
  | .hbm, ⟨77, _⟩ => ⟨S4x8192x144, .f32⟩
  | .hbm, ⟨78, _⟩ => ⟨S4x8192x144, .bf16⟩
  | .hbm, ⟨79, _⟩ => ⟨S4x8192x128, .f32⟩
  | .hbm, ⟨80, _⟩ => ⟨S4x8192x128, .bf16⟩
  | .hbm, ⟨81, _⟩ => ⟨S4x2x64x8192, .f32⟩
  | .hbm, ⟨82, _⟩ => ⟨S4x128x8192, .f32⟩
  | .hbm, ⟨83, _⟩ => ⟨S4x64x8192, .f32⟩
  | .hbm, ⟨84, _⟩ => ⟨S4x64x8192, .f32⟩
  | .hbm, ⟨85, _⟩ => ⟨S4x160x8192, .f32⟩
  | .hbm, ⟨86, _⟩ => ⟨S4x160x8192, .bf16⟩
  | .hbm, ⟨87, _⟩ => ⟨S4x2x64x8192, .f32⟩
  | .hbm, ⟨88, _⟩ => ⟨S4x128x8192, .f32⟩
  | .hbm, ⟨89, _⟩ => ⟨S4x64x8192, .f32⟩
  | .hbm, ⟨90, _⟩ => ⟨S4x64x8192, .f32⟩
  | .hbm, ⟨91, _⟩ => ⟨S4x160x8192, .f32⟩
  | .hbm, ⟨92, _⟩ => ⟨S4x160x8192, .bf16⟩
  | .hbm, ⟨93, _⟩ => ⟨S_, .i32⟩
  | .hbm, ⟨94, _⟩ => ⟨S_, .f32⟩
  | .hbm, ⟨95, _⟩ => ⟨S4x32x8192, .f32⟩
  | .hbm, ⟨96, _⟩ => ⟨S4x128x128, .f32⟩
  | .hbm, ⟨97, _⟩ => ⟨S4x128x128, .bf16⟩
  | .hbm, ⟨98, _⟩ => ⟨S4x2x64x128, .f32⟩
  | .hbm, ⟨99, _⟩ => ⟨S4x128x128, .f32⟩
  | .hbm, ⟨100, _⟩ => ⟨S4x128x128, .bf16⟩
  | .hbm, ⟨101, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x8192x144, .bf16⟩
  | .local _ .vmem, ⟨9, _⟩ => ⟨S1x8192x144, .bf16⟩
  | .local _ .vmem, ⟨10, _⟩ => ⟨S1x160x8192, .bf16⟩
  | .local _ .vmem, ⟨11, _⟩ => ⟨S1x160x8192, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x160x8192, .bf16⟩
  | .local _ .vmem, ⟨15, _⟩ => ⟨S1x160x8192, .bf16⟩
  | .local _ .vmem, ⟨16, _⟩ => ⟨S1x32x128, .f32⟩
  | .local _ .vmem, ⟨17, _⟩ => ⟨S1x32x128, .f32⟩
  | .local _ .vmem, ⟨18, _⟩ => ⟨S1x128x512, .bf16⟩
  | .local _ .vmem, ⟨19, _⟩ => ⟨S1x128x512, .bf16⟩
  | .local _ .vmem, ⟨20, _⟩ => ⟨S2x17x16x512, .bf16⟩
  | .local _ .vmem, ⟨21, _⟩ => ⟨S2x2x512x512, .f32⟩
  | .local _ .vmem, ⟨22, _⟩ => ⟨S2x2x1x512, .f32⟩
  | .local _ .vmem, ⟨23, _⟩ => ⟨S2x128x512, .f32⟩
  | .local _ .vmem, ⟨24, _⟩ => ⟨S2x640x512, .f32⟩
  | .local _ .vmem, ⟨25, _⟩ => ⟨S2x512x512, .f32⟩
  | _, _ => ⟨S4x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v3 : Ref sig .tc := ⟨.hbm, 31, rfl⟩
abbrev main_c_1 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_cst_2 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_3 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_c_5 : Ref sig .tc := ⟨.hbm, 93, rfl⟩
abbrev main_call3_v0 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  v61
def k0_mult2 (i : grid0.Coords) : BitVec 32 :=
  let arg1 : BitVec 32 := BitVec.ofNat 32 (i 1).val
  let c128_i32 : BitVec 32 := 128#32
  let v0 : BitVec 32 := Scalar.muli arg1 c128_i32
  let c512_i32_31 : BitVec 32 := 512#32
  let v63 : BitVec 32 := Scalar.subi v0 c512_i32_31
  let c0_i32_32 : BitVec 32 := 0#32
  let v64 : BitVec 32 := Scalar.maxsi v63 c0_i32_32
  v64
def k0_off1 (i : grid0.Coords) : Fin 3 → Nat :=
  let c0_67 : Index := 0#32
  let arg1 : BitVec 32 := BitVec.ofNat 32 (i 1).val
  let c128_i32 : BitVec 32 := 128#32
  let v0 : BitVec 32 := Scalar.muli arg1 c128_i32
  let c512_i32_31 : BitVec 32 := 512#32
  let v63 : BitVec 32 := Scalar.subi v0 c512_i32_31
  let c0_i32_32 : BitVec 32 := 0#32
  let v64 : BitVec 32 := Scalar.maxsi v63 c0_i32_32
  let v65 : BitVec 32 := v64
  let v94 : Index := Scalar.indexCast v65
  let c0_68 : Index := 0#32
  ![0, v94.toNat, 0]
def k0_off2 (i : grid0.Coords) : Fin 3 → Nat :=
  let c0_73 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v101 : Index := Scalar.indexCast v62
  let c0_74 : Index := 0#32
  ![0, v101.toNat, 0]
def k0_cond1 (i : grid0.Coords) : BitVec 1 :=
  let arg1 : BitVec 32 := BitVec.ofNat 32 (i 1).val
  let c128_i32 : BitVec 32 := 128#32
  let v0 : BitVec 32 := Scalar.muli arg1 c128_i32
  let c512_i32_294 : BitVec 32 := 512#32
  let v686 : BitVec 1 := Scalar.cmpi .sge v0 c512_i32_294
  let v687 : BitVec 32 := Scalar.extui v686
  let c0_i32_295 : BitVec 32 := 0#32
  let v688 : BitVec 1 := Scalar.cmpi .ne v687 c0_i32_295
  v688

def k0_mult3 (i : grid0.Coords) : BitVec 32 :=
  let c0_i32_332 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_330 : BitVec 32 := 1#32
  let v826 : BitVec 32 := Scalar.subi v60 c1_i32_330
  let c0_i32_331 : BitVec 32 := 0#32
  let v827 : BitVec 32 := Scalar.maxsi v826 c0_i32_331
  let v828 : BitVec 32 := Scalar.minsi c0_i32_332 v827
  let c512_i32_335 : BitVec 32 := 512#32
  let v831 : BitVec 32 := Scalar.muli v828 c512_i32_335
  v831
def k0_off3 (i : grid0.Coords) : Fin 3 → Nat :=
  let c0_336 : Index := 0#32
  let c0_i32_332 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_330 : BitVec 32 := 1#32
  let v826 : BitVec 32 := Scalar.subi v60 c1_i32_330
  let c0_i32_331 : BitVec 32 := 0#32
  let v827 : BitVec 32 := Scalar.maxsi v826 c0_i32_331
  let v828 : BitVec 32 := Scalar.minsi c0_i32_332 v827
  let c512_i32_335 : BitVec 32 := 512#32
  let v831 : BitVec 32 := Scalar.muli v828 c512_i32_335
  let v832 : BitVec 32 := v831
  let v833 : Index := Scalar.indexCast v832
  let c0_337 : Index := 0#32
  ![0, v833.toNat, 0]
def k0_off4 (i : grid0.Coords) : Fin 4 → Nat :=
  let c0_338 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c0_i32_333 : BitVec 32 := 0#32
  let v829 : BitVec 1 := Scalar.cmpi .sgt v60 c0_i32_333
  let c0_i32_334 : BitVec 32 := 0#32
  let c16_i32 : BitVec 32 := 16#32
  let v830 : BitVec 32 := Scalar.select v829 c0_i32_334 c16_i32
  let v836 : Index := Scalar.indexCast v830
  let c0_339 : Index := 0#32
  let c0_340 : Index := 0#32
  ![0, v836.toNat, 0, 0]
def k0_mult4 (i : grid0.Coords) : BitVec 32 :=
  let c0_i32_332 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_330 : BitVec 32 := 1#32
  let v826 : BitVec 32 := Scalar.subi v60 c1_i32_330
  let c0_i32_331 : BitVec 32 := 0#32
  let v827 : BitVec 32 := Scalar.maxsi v826 c0_i32_331
  let v828 : BitVec 32 := Scalar.minsi c0_i32_332 v827
  let c512_i32_354 : BitVec 32 := 512#32
  let v851 : BitVec 32 := Scalar.muli v828 c512_i32_354
  v851
def k0_off5 (i : grid0.Coords) : Fin 4 → Nat :=
  let c1_357 : Index := 1#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c0_i32_351 : BitVec 32 := 0#32
  let v849 : BitVec 1 := Scalar.cmpi .sgt v60 c0_i32_351
  let c0_i32_352 : BitVec 32 := 0#32
  let c16_i32_353 : BitVec 32 := 16#32
  let v850 : BitVec 32 := Scalar.select v849 c0_i32_352 c16_i32_353
  let v856 : Index := Scalar.indexCast v850
  let c0_358 : Index := 0#32
  let c0_359 : Index := 0#32
  ![1, v856.toNat, 0, 0]
def k0_off6 (i : grid0.Coords) : Fin 3 → Nat :=
  let c0_381 : Index := 0#32
  let c0_382 : Index := 0#32
  let arg1 : BitVec 32 := BitVec.ofNat 32 (i 1).val
  let c128_i32 : BitVec 32 := 128#32
  let v0 : BitVec 32 := Scalar.muli arg1 c128_i32
  let c512_i32_31 : BitVec 32 := 512#32
  let v63 : BitVec 32 := Scalar.subi v0 c512_i32_31
  let c0_i32_32 : BitVec 32 := 0#32
  let v64 : BitVec 32 := Scalar.maxsi v63 c0_i32_32
  let v65 : BitVec 32 := v64
  let v900 : Index := Scalar.indexCast v65
  ![0, 0, v900.toNat]
def k0_off7 (i : grid0.Coords) : Fin 3 → Nat :=
  let c0_399 : Index := 0#32
  let c80 : Index := 80#32
  let arg1 : BitVec 32 := BitVec.ofNat 32 (i 1).val
  let c128_i32 : BitVec 32 := 128#32
  let v0 : BitVec 32 := Scalar.muli arg1 c128_i32
  let c512_i32_31 : BitVec 32 := 512#32
  let v63 : BitVec 32 := Scalar.subi v0 c512_i32_31
  let c0_i32_32 : BitVec 32 := 0#32
  let v64 : BitVec 32 := Scalar.maxsi v63 c0_i32_32
  let v65 : BitVec 32 := v64
  let v955 : Index := Scalar.indexCast v65
  ![0, 80, v955.toNat]
def k0_mult5 (i : grid0.Coords) : BitVec 32 :=
  let c0_i32_332 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_330 : BitVec 32 := 1#32
  let v826 : BitVec 32 := Scalar.subi v60 c1_i32_330
  let c0_i32_331 : BitVec 32 := 0#32
  let v827 : BitVec 32 := Scalar.maxsi v826 c0_i32_331
  let v828 : BitVec 32 := Scalar.minsi c0_i32_332 v827
  let c512_i32_335 : BitVec 32 := 512#32
  let v831 : BitVec 32 := Scalar.muli v828 c512_i32_335
  v831
def k0_off8 (i : grid0.Coords) : Fin 3 → Nat :=
  let c0_336 : Index := 0#32
  let c0_i32_332 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_330 : BitVec 32 := 1#32
  let v826 : BitVec 32 := Scalar.subi v60 c1_i32_330
  let c0_i32_331 : BitVec 32 := 0#32
  let v827 : BitVec 32 := Scalar.maxsi v826 c0_i32_331
  let v828 : BitVec 32 := Scalar.minsi c0_i32_332 v827
  let c512_i32_335 : BitVec 32 := 512#32
  let v831 : BitVec 32 := Scalar.muli v828 c512_i32_335
  let v832 : BitVec 32 := v831
  let v833 : Index := Scalar.indexCast v832
  let c0_337 : Index := 0#32
  ![0, v833.toNat, 0]
def k0_off9 (i : grid0.Coords) : Fin 4 → Nat :=
  let c0_338 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c0_i32_333 : BitVec 32 := 0#32
  let v829 : BitVec 1 := Scalar.cmpi .sgt v60 c0_i32_333
  let c0_i32_334 : BitVec 32 := 0#32
  let c16_i32 : BitVec 32 := 16#32
  let v830 : BitVec 32 := Scalar.select v829 c0_i32_334 c16_i32
  let v836 : Index := Scalar.indexCast v830
  let c0_339 : Index := 0#32
  let c0_340 : Index := 0#32
  ![0, v836.toNat, 0, 0]
def k0_mult6 (i : grid0.Coords) : BitVec 32 :=
  let c0_i32_332 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_330 : BitVec 32 := 1#32
  let v826 : BitVec 32 := Scalar.subi v60 c1_i32_330
  let c0_i32_331 : BitVec 32 := 0#32
  let v827 : BitVec 32 := Scalar.maxsi v826 c0_i32_331
  let v828 : BitVec 32 := Scalar.minsi c0_i32_332 v827
  let c512_i32_354 : BitVec 32 := 512#32
  let v851 : BitVec 32 := Scalar.muli v828 c512_i32_354
  v851
def k0_off10 (i : grid0.Coords) : Fin 4 → Nat :=
  let c1_357 : Index := 1#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c0_i32_351 : BitVec 32 := 0#32
  let v849 : BitVec 1 := Scalar.cmpi .sgt v60 c0_i32_351
  let c0_i32_352 : BitVec 32 := 0#32
  let c16_i32_353 : BitVec 32 := 16#32
  let v850 : BitVec 32 := Scalar.select v849 c0_i32_352 c16_i32_353
  let v856 : Index := Scalar.indexCast v850
  let c0_358 : Index := 0#32
  let c0_359 : Index := 0#32
  ![1, v856.toNat, 0, 0]
def k0_off11 (i : grid0.Coords) : Fin 3 → Nat :=
  let c0_375 : Index := 0#32
  let c0_376 : Index := 0#32
  let arg1 : BitVec 32 := BitVec.ofNat 32 (i 1).val
  let c128_i32 : BitVec 32 := 128#32
  let v0 : BitVec 32 := Scalar.muli arg1 c128_i32
  let c512_i32_31 : BitVec 32 := 512#32
  let v63 : BitVec 32 := Scalar.subi v0 c512_i32_31
  let c0_i32_32 : BitVec 32 := 0#32
  let v64 : BitVec 32 := Scalar.maxsi v63 c0_i32_32
  let v65 : BitVec 32 := v64
  let v883 : Index := Scalar.indexCast v65
  ![0, 0, v883.toNat]
def k0_off12 (i : grid0.Coords) : Fin 3 → Nat :=
  let c0_387 : Index := 0#32
  let c80 : Index := 80#32
  let arg1 : BitVec 32 := BitVec.ofNat 32 (i 1).val
  let c128_i32 : BitVec 32 := 128#32
  let v0 : BitVec 32 := Scalar.muli arg1 c128_i32
  let c512_i32_31 : BitVec 32 := 512#32
  let v63 : BitVec 32 := Scalar.subi v0 c512_i32_31
  let c0_i32_32 : BitVec 32 := 0#32
  let v64 : BitVec 32 := Scalar.maxsi v63 c0_i32_32
  let v65 : BitVec 32 := v64
  let v921 : Index := Scalar.indexCast v65
  ![0, 80, v921.toNat]
def k0_mult7 (i : grid0.Coords) : BitVec 32 :=
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  v690
def k0_cond2 (i : grid0.Coords) : BitVec 1 :=
  let arg1 : BitVec 32 := BitVec.ofNat 32 (i 1).val
  let c128_i32 : BitVec 32 := 128#32
  let v0 : BitVec 32 := Scalar.muli arg1 c128_i32
  let c512_i32_296 : BitVec 32 := 512#32
  let c0_i32_297 : BitVec 32 := 0#32
  let v692 : BitVec 1 := Scalar.cmpi .eq c512_i32_296 c0_i32_297
  let c1_i32_298 : BitVec 32 := 1#32
  let v693 : BitVec 32 := Scalar.select v692 c1_i32_298 c512_i32_296
  let v694 : BitVec 32 := Scalar.remsi v0 v693
  let c0_i32_300 : BitVec 32 := 0#32
  let v696 : BitVec 1 := Scalar.cmpi .slt v694 c0_i32_300
  let c0_i32_301 : BitVec 32 := 0#32
  let v697 : BitVec 1 := Scalar.cmpi .slt v693 c0_i32_301
  let v698 : BitVec 1 := Scalar.xori v696 v697
  let c0_i32_299 : BitVec 32 := 0#32
  let v695 : BitVec 1 := Scalar.cmpi .ne v694 c0_i32_299
  let v699 : BitVec 1 := Scalar.andi v698 v695
  let v700 : BitVec 32 := Scalar.addi v694 v693
  let v701 : BitVec 32 := Scalar.select v699 v700 v694
  let c0_i32_303 : BitVec 32 := 0#32
  let v703 : BitVec 1 := Scalar.cmpi .sgt v701 c0_i32_303
  let v704 : BitVec 32 := Scalar.extui v703
  let c0_i32_304 : BitVec 32 := 0#32
  let v705 : BitVec 1 := Scalar.cmpi .slt v701 c0_i32_304
  let v706 : BitVec 32 := Scalar.extui v705
  let v707 : BitVec 32 := Scalar.subi v704 v706
  let c128_i32_302 : BitVec 32 := 128#32
  let c0_i32_305 : BitVec 32 := 0#32
  let v708 : BitVec 1 := Scalar.cmpi .sgt c128_i32_302 c0_i32_305
  let v709 : BitVec 32 := Scalar.extui v708
  let c0_i32_306 : BitVec 32 := 0#32
  let v710 : BitVec 1 := Scalar.cmpi .slt c128_i32_302 c0_i32_306
  let v711 : BitVec 32 := Scalar.extui v710
  let v712 : BitVec 32 := Scalar.subi v709 v711
  let v713 : BitVec 1 := Scalar.cmpi .ne v707 v712
  let v714 : BitVec 32 := Scalar.remsi v701 c128_i32_302
  let c0_i32_307 : BitVec 32 := 0#32
  let v715 : BitVec 1 := Scalar.cmpi .ne v714 c0_i32_307
  let v716 : BitVec 1 := Scalar.andi v713 v715
  let v702 : BitVec 32 := Scalar.divsi v701 c128_i32_302
  let c1_i32_308 : BitVec 32 := 1#32
  let v717 : BitVec 32 := Scalar.subi v702 c1_i32_308
  let v718 : BitVec 32 := Scalar.select v716 v717 v702
  let c0_i32_309 : BitVec 32 := 0#32
  let v719 : BitVec 32 := Scalar.maxsi v718 c0_i32_309
  let c3_i32 : BitVec 32 := 3#32
  let v720 : BitVec 32 := Scalar.minsi v719 c3_i32
  let c0_i32_310 : BitVec 32 := 0#32
  let v721 : BitVec 1 := Scalar.cmpi .ne v720 c0_i32_310
  v721

def k0_cond3 (i : grid0.Coords) : BitVec 1 :=
  let arg1 : BitVec 32 := BitVec.ofNat 32 (i 1).val
  let c128_i32 : BitVec 32 := 128#32
  let v0 : BitVec 32 := Scalar.muli arg1 c128_i32
  let c512_i32_296 : BitVec 32 := 512#32
  let c0_i32_297 : BitVec 32 := 0#32
  let v692 : BitVec 1 := Scalar.cmpi .eq c512_i32_296 c0_i32_297
  let c1_i32_298 : BitVec 32 := 1#32
  let v693 : BitVec 32 := Scalar.select v692 c1_i32_298 c512_i32_296
  let v694 : BitVec 32 := Scalar.remsi v0 v693
  let c0_i32_300 : BitVec 32 := 0#32
  let v696 : BitVec 1 := Scalar.cmpi .slt v694 c0_i32_300
  let c0_i32_301 : BitVec 32 := 0#32
  let v697 : BitVec 1 := Scalar.cmpi .slt v693 c0_i32_301
  let v698 : BitVec 1 := Scalar.xori v696 v697
  let c0_i32_299 : BitVec 32 := 0#32
  let v695 : BitVec 1 := Scalar.cmpi .ne v694 c0_i32_299
  let v699 : BitVec 1 := Scalar.andi v698 v695
  let v700 : BitVec 32 := Scalar.addi v694 v693
  let v701 : BitVec 32 := Scalar.select v699 v700 v694
  let c0_i32_303 : BitVec 32 := 0#32
  let v703 : BitVec 1 := Scalar.cmpi .sgt v701 c0_i32_303
  let v704 : BitVec 32 := Scalar.extui v703
  let c0_i32_304 : BitVec 32 := 0#32
  let v705 : BitVec 1 := Scalar.cmpi .slt v701 c0_i32_304
  let v706 : BitVec 32 := Scalar.extui v705
  let v707 : BitVec 32 := Scalar.subi v704 v706
  let c128_i32_302 : BitVec 32 := 128#32
  let c0_i32_305 : BitVec 32 := 0#32
  let v708 : BitVec 1 := Scalar.cmpi .sgt c128_i32_302 c0_i32_305
  let v709 : BitVec 32 := Scalar.extui v708
  let c0_i32_306 : BitVec 32 := 0#32
  let v710 : BitVec 1 := Scalar.cmpi .slt c128_i32_302 c0_i32_306
  let v711 : BitVec 32 := Scalar.extui v710
  let v712 : BitVec 32 := Scalar.subi v709 v711
  let v713 : BitVec 1 := Scalar.cmpi .ne v707 v712
  let v714 : BitVec 32 := Scalar.remsi v701 c128_i32_302
  let c0_i32_307 : BitVec 32 := 0#32
  let v715 : BitVec 1 := Scalar.cmpi .ne v714 c0_i32_307
  let v716 : BitVec 1 := Scalar.andi v713 v715
  let v702 : BitVec 32 := Scalar.divsi v701 c128_i32_302
  let c1_i32_308 : BitVec 32 := 1#32
  let v717 : BitVec 32 := Scalar.subi v702 c1_i32_308
  let v718 : BitVec 32 := Scalar.select v716 v717 v702
  let c0_i32_309 : BitVec 32 := 0#32
  let v719 : BitVec 32 := Scalar.maxsi v718 c0_i32_309
  let c3_i32 : BitVec 32 := 3#32
  let v720 : BitVec 32 := Scalar.minsi v719 c3_i32
  let c1_i32_330 : BitVec 32 := 1#32
  let v826 : BitVec 32 := Scalar.subi v720 c1_i32_330
  let c0_i32_331 : BitVec 32 := 0#32
  let v827 : BitVec 1 := Scalar.cmpi .ne v826 c0_i32_331
  v827

def k0_cond4 (i : grid0.Coords) : BitVec 1 :=
  let arg1 : BitVec 32 := BitVec.ofNat 32 (i 1).val
  let c128_i32 : BitVec 32 := 128#32
  let v0 : BitVec 32 := Scalar.muli arg1 c128_i32
  let c512_i32_296 : BitVec 32 := 512#32
  let c0_i32_297 : BitVec 32 := 0#32
  let v692 : BitVec 1 := Scalar.cmpi .eq c512_i32_296 c0_i32_297
  let c1_i32_298 : BitVec 32 := 1#32
  let v693 : BitVec 32 := Scalar.select v692 c1_i32_298 c512_i32_296
  let v694 : BitVec 32 := Scalar.remsi v0 v693
  let c0_i32_300 : BitVec 32 := 0#32
  let v696 : BitVec 1 := Scalar.cmpi .slt v694 c0_i32_300
  let c0_i32_301 : BitVec 32 := 0#32
  let v697 : BitVec 1 := Scalar.cmpi .slt v693 c0_i32_301
  let v698 : BitVec 1 := Scalar.xori v696 v697
  let c0_i32_299 : BitVec 32 := 0#32
  let v695 : BitVec 1 := Scalar.cmpi .ne v694 c0_i32_299
  let v699 : BitVec 1 := Scalar.andi v698 v695
  let v700 : BitVec 32 := Scalar.addi v694 v693
  let v701 : BitVec 32 := Scalar.select v699 v700 v694
  let c0_i32_303 : BitVec 32 := 0#32
  let v703 : BitVec 1 := Scalar.cmpi .sgt v701 c0_i32_303
  let v704 : BitVec 32 := Scalar.extui v703
  let c0_i32_304 : BitVec 32 := 0#32
  let v705 : BitVec 1 := Scalar.cmpi .slt v701 c0_i32_304
  let v706 : BitVec 32 := Scalar.extui v705
  let v707 : BitVec 32 := Scalar.subi v704 v706
  let c128_i32_302 : BitVec 32 := 128#32
  let c0_i32_305 : BitVec 32 := 0#32
  let v708 : BitVec 1 := Scalar.cmpi .sgt c128_i32_302 c0_i32_305
  let v709 : BitVec 32 := Scalar.extui v708
  let c0_i32_306 : BitVec 32 := 0#32
  let v710 : BitVec 1 := Scalar.cmpi .slt c128_i32_302 c0_i32_306
  let v711 : BitVec 32 := Scalar.extui v710
  let v712 : BitVec 32 := Scalar.subi v709 v711
  let v713 : BitVec 1 := Scalar.cmpi .ne v707 v712
  let v714 : BitVec 32 := Scalar.remsi v701 c128_i32_302
  let c0_i32_307 : BitVec 32 := 0#32
  let v715 : BitVec 1 := Scalar.cmpi .ne v714 c0_i32_307
  let v716 : BitVec 1 := Scalar.andi v713 v715
  let v702 : BitVec 32 := Scalar.divsi v701 c128_i32_302
  let c1_i32_308 : BitVec 32 := 1#32
  let v717 : BitVec 32 := Scalar.subi v702 c1_i32_308
  let v718 : BitVec 32 := Scalar.select v716 v717 v702
  let c0_i32_309 : BitVec 32 := 0#32
  let v719 : BitVec 32 := Scalar.maxsi v718 c0_i32_309
  let c3_i32 : BitVec 32 := 3#32
  let v720 : BitVec 32 := Scalar.minsi v719 c3_i32
  let c1_i32_330 : BitVec 32 := 1#32
  let v826 : BitVec 32 := Scalar.subi v720 c1_i32_330
  let c1_i32_332 : BitVec 32 := 1#32
  let v829 : BitVec 32 := Scalar.subi v826 c1_i32_332
  let c0_i32_333 : BitVec 32 := 0#32
  let v830 : BitVec 1 := Scalar.cmpi .ne v829 c0_i32_333
  v830

def k0_off13 (i : grid0.Coords) : Fin 3 → Nat :=
  let c0_337 : Index := 0#32
  let c0_338 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v839 : Index := Scalar.indexCast v62
  ![0, 0, v839.toNat]
def k0_off14 (i : grid0.Coords) : Fin 3 → Nat :=
  let c0_339 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v842 : Index := Scalar.indexCast v691
  let c0_340 : Index := 0#32
  ![0, v842.toNat, 0]
def k0_off15 (i : grid0.Coords) : Fin 3 → Nat :=
  let c0_350 : Index := 0#32
  let c80 : Index := 80#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v871 : Index := Scalar.indexCast v62
  ![0, 80, v871.toNat]
def k0_off16 (i : grid0.Coords) : Fin 3 → Nat :=
  let c1_351 : Index := 1#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v874 : Index := Scalar.indexCast v691
  let c0_352 : Index := 0#32
  ![1, v874.toNat, 0]
def k0_off17 (i : grid0.Coords) : Fin 3 → Nat :=
  let c0_337 : Index := 0#32
  let c0_338 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v839 : Index := Scalar.indexCast v62
  ![0, 0, v839.toNat]
def k0_off18 (i : grid0.Coords) : Fin 3 → Nat :=
  let c0_339 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v842 : Index := Scalar.indexCast v691
  let c0_340 : Index := 0#32
  ![0, v842.toNat, 0]
def k0_off19 (i : grid0.Coords) : Fin 3 → Nat :=
  let c0_350 : Index := 0#32
  let c80 : Index := 80#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v871 : Index := Scalar.indexCast v62
  ![0, 80, v871.toNat]
def k0_off20 (i : grid0.Coords) : Fin 3 → Nat :=
  let c1_351 : Index := 1#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v874 : Index := Scalar.indexCast v691
  let c0_352 : Index := 0#32
  ![1, v874.toNat, 0]
def k0_off21 (i : grid0.Coords) : Fin 3 → Nat :=
  let c0_335 : Index := 0#32
  let c0_336 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v836 : Index := Scalar.indexCast v62
  ![0, 0, v836.toNat]
def k0_off22 (i : grid0.Coords) : Fin 3 → Nat :=
  let c0_337 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v839 : Index := Scalar.indexCast v691
  let c0_338 : Index := 0#32
  ![0, v839.toNat, 0]
def k0_off23 (i : grid0.Coords) : Fin 3 → Nat :=
  let c0_348 : Index := 0#32
  let c80 : Index := 80#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v868 : Index := Scalar.indexCast v62
  ![0, 80, v868.toNat]
def k0_off24 (i : grid0.Coords) : Fin 3 → Nat :=
  let c1_349 : Index := 1#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v871 : Index := Scalar.indexCast v691
  let c0_350 : Index := 0#32
  ![1, v871.toNat, 0]
def k0_off25 (i : grid0.Coords) : Fin 3 → Nat :=
  let c0_333 : Index := 0#32
  let c0_334 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v833 : Index := Scalar.indexCast v62
  ![0, 0, v833.toNat]
def k0_off26 (i : grid0.Coords) : Fin 3 → Nat :=
  let c0_335 : Index := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v836 : Index := Scalar.indexCast v691
  let c0_336 : Index := 0#32
  ![0, v836.toNat, 0]
def k0_off27 (i : grid0.Coords) : Fin 3 → Nat :=
  let c0_346 : Index := 0#32
  let c80 : Index := 80#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c512_i32_30 : BitVec 32 := 512#32
  let v61 : BitVec 32 := Scalar.muli v60 c512_i32_30
  let v62 : BitVec 32 := v61
  let v865 : Index := Scalar.indexCast v62
  ![0, 80, v865.toNat]
def k0_off28 (i : grid0.Coords) : Fin 3 → Nat :=
  let c1_347 : Index := 1#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c8_i32 : BitVec 32 := 8#32
  let v690 : BitVec 32 := Scalar.muli v60 c8_i32
  let v691 : BitVec 32 := v690
  let v868 : Index := Scalar.indexCast v691
  let c0_348 : Index := 0#32
  ![1, v868.toNat, 0]
@[reducible] def k0_t1_loop (i : grid0.Coords) : Scf.Loop 32 :=
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_320 : BitVec 32 := 1#32
  ⟨c0_i32_318, v745, c1_i32_320⟩
def k0_mult8 (i : grid0.Coords) (k0_t1 : Fin (k0_t1_loop i).trips) : BitVec 32 :=
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let c1_i32_331 : BitVec 32 := 1#32
  let v827 : BitVec 32 := Scalar.addi v826 c1_i32_331
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_332 : BitVec 32 := 1#32
  let v828 : BitVec 32 := Scalar.subi v60 c1_i32_332
  let c0_i32_333 : BitVec 32 := 0#32
  let v829 : BitVec 32 := Scalar.maxsi v828 c0_i32_333
  let v830 : BitVec 32 := Scalar.minsi v827 v829
  let c512_i32_334 : BitVec 32 := 512#32
  let v831 : BitVec 32 := Scalar.muli v830 c512_i32_334
  v831
def k0_mult9 (i : grid0.Coords) (k0_t1 : Fin (k0_t1_loop i).trips) : BitVec 32 :=
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_332 : BitVec 32 := 1#32
  let v828 : BitVec 32 := Scalar.subi v60 c1_i32_332
  let c0_i32_333 : BitVec 32 := 0#32
  let v829 : BitVec 32 := Scalar.maxsi v828 c0_i32_333
  let v833 : BitVec 32 := Scalar.minsi v826 v829
  let c512_i32_335 : BitVec 32 := 512#32
  let v834 : BitVec 32 := Scalar.muli v833 c512_i32_335
  v834
def k0_off29 (i : grid0.Coords) (k0_t1 : Fin (k0_t1_loop i).trips) (c1_i32_331 : BitVec 32) : Fin 4 → Nat :=
  let c0_344 : Index := 0#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let v827 : BitVec 32 := Scalar.addi v826 c1_i32_331
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let v836 : BitVec 1 := Scalar.cmpi .slt v827 v60
  let c16_i32 : BitVec 32 := 16#32
  let v837 : BitVec 32 := Scalar.select v836 v827 c16_i32
  let v852 : Index := Scalar.indexCast v837
  let c0_345 : Index := 0#32
  let c0_346 : Index := 0#32
  ![0, v852.toNat, 0, 0]
def k0_off30 (i : grid0.Coords) (k0_t1 : Fin (k0_t1_loop i).trips) (c1_i32_331 : BitVec 32) : Fin 4 → Nat :=
  let c1_347 : Index := 1#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let v827 : BitVec 32 := Scalar.addi v826 c1_i32_331
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let v836 : BitVec 1 := Scalar.cmpi .slt v827 v60
  let c16_i32 : BitVec 32 := 16#32
  let v837 : BitVec 32 := Scalar.select v836 v827 c16_i32
  let v856 : Index := Scalar.indexCast v837
  let c0_348 : Index := 0#32
  let c0_349 : Index := 0#32
  ![1, v856.toNat, 0, 0]
def k0_off31 (i : grid0.Coords) (k0_t1 : Fin (k0_t1_loop i).trips) (c1_i32_331 : BitVec 32) (c0_i32_350 : BitVec 32) : Fin 3 → Nat :=
  let c0_351 : Index := 0#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let v827 : BitVec 32 := Scalar.addi v826 c1_i32_331
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_332 : BitVec 32 := 1#32
  let v828 : BitVec 32 := Scalar.subi v60 c1_i32_332
  let c0_i32_333 : BitVec 32 := 0#32
  let v829 : BitVec 32 := Scalar.maxsi v828 c0_i32_333
  let v830 : BitVec 32 := Scalar.minsi v827 v829
  let c512_i32_334 : BitVec 32 := 512#32
  let v831 : BitVec 32 := Scalar.muli v830 c512_i32_334
  let v832 : BitVec 32 := v831
  let v860 : BitVec 32 := Scalar.addi v832 c0_i32_350
  let v861 : Index := Scalar.indexCast v860
  let c0_352 : Index := 0#32
  ![0, v861.toNat, 0]
def k0_off32 (i : grid0.Coords) (k0_t1 : Fin (k0_t1_loop i).trips) (c0_i32_363 : BitVec 32) : Fin 3 → Nat :=
  let c0_364 : Index := 0#32
  let c0_365 : Index := 0#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_332 : BitVec 32 := 1#32
  let v828 : BitVec 32 := Scalar.subi v60 c1_i32_332
  let c0_i32_333 : BitVec 32 := 0#32
  let v829 : BitVec 32 := Scalar.maxsi v828 c0_i32_333
  let v833 : BitVec 32 := Scalar.minsi v826 v829
  let c512_i32_335 : BitVec 32 := 512#32
  let v834 : BitVec 32 := Scalar.muli v833 c512_i32_335
  let v835 : BitVec 32 := v834
  let v876 : BitVec 32 := Scalar.addi v835 c0_i32_363
  let v877 : Index := Scalar.indexCast v876
  ![0, 0, v877.toNat]
def k0_off33 (i : grid0.Coords) (k0_t1 : Fin (k0_t1_loop i).trips) (c0_i32_380 : BitVec 32) : Fin 3 → Nat :=
  let c0_381 : Index := 0#32
  let c80 : Index := 80#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_332 : BitVec 32 := 1#32
  let v828 : BitVec 32 := Scalar.subi v60 c1_i32_332
  let c0_i32_333 : BitVec 32 := 0#32
  let v829 : BitVec 32 := Scalar.maxsi v828 c0_i32_333
  let v833 : BitVec 32 := Scalar.minsi v826 v829
  let c512_i32_335 : BitVec 32 := 512#32
  let v834 : BitVec 32 := Scalar.muli v833 c512_i32_335
  let v835 : BitVec 32 := v834
  let v898 : BitVec 32 := Scalar.addi v835 c0_i32_380
  let v899 : Index := Scalar.indexCast v898
  ![0, 80, v899.toNat]
def k0_mult10 (i : grid0.Coords) (k0_t1 : Fin (k0_t1_loop i).trips) : BitVec 32 :=
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let c2_i32_424 : BitVec 32 := 2#32
  let v956 : BitVec 32 := Scalar.addi v826 c2_i32_424
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_426 : BitVec 32 := 1#32
  let v958 : BitVec 32 := Scalar.subi v60 c1_i32_426
  let c0_i32_427 : BitVec 32 := 0#32
  let v959 : BitVec 32 := Scalar.maxsi v958 c0_i32_427
  let v960 : BitVec 32 := Scalar.minsi v956 v959
  let c512_i32_428 : BitVec 32 := 512#32
  let v961 : BitVec 32 := Scalar.muli v960 c512_i32_428
  v961
def k0_mult11 (i : grid0.Coords) (k0_t1 : Fin (k0_t1_loop i).trips) : BitVec 32 :=
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let c1_i32_425 : BitVec 32 := 1#32
  let v957 : BitVec 32 := Scalar.addi v826 c1_i32_425
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_426 : BitVec 32 := 1#32
  let v958 : BitVec 32 := Scalar.subi v60 c1_i32_426
  let c0_i32_427 : BitVec 32 := 0#32
  let v959 : BitVec 32 := Scalar.maxsi v958 c0_i32_427
  let v963 : BitVec 32 := Scalar.minsi v957 v959
  let c512_i32_429 : BitVec 32 := 512#32
  let v964 : BitVec 32 := Scalar.muli v963 c512_i32_429
  v964
def k0_off34 (i : grid0.Coords) (k0_t1 : Fin (k0_t1_loop i).trips) (c0_i32_458 : BitVec 32) : Fin 3 → Nat :=
  let c0_459 : Index := 0#32
  let c0_460 : Index := 0#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let c1_i32_425 : BitVec 32 := 1#32
  let v957 : BitVec 32 := Scalar.addi v826 c1_i32_425
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_426 : BitVec 32 := 1#32
  let v958 : BitVec 32 := Scalar.subi v60 c1_i32_426
  let c0_i32_427 : BitVec 32 := 0#32
  let v959 : BitVec 32 := Scalar.maxsi v958 c0_i32_427
  let v963 : BitVec 32 := Scalar.minsi v957 v959
  let c512_i32_429 : BitVec 32 := 512#32
  let v964 : BitVec 32 := Scalar.muli v963 c512_i32_429
  let v965 : BitVec 32 := v964
  let v1006 : BitVec 32 := Scalar.addi v965 c0_i32_458
  let v1007 : Index := Scalar.indexCast v1006
  ![0, 0, v1007.toNat]
def k0_off35 (i : grid0.Coords) (k0_t1 : Fin (k0_t1_loop i).trips) (c0_i32_475 : BitVec 32) : Fin 3 → Nat :=
  let c0_476 : Index := 0#32
  let c80_477 : Index := 80#32
  let c2_i32_330 : BitVec 32 := 2#32
  let c0_i32_318 : BitVec 32 := 0#32
  let c1_i32_320 : BitVec 32 := 1#32
  let arg18 : BitVec 32 := Scf.iv c0_i32_318 c1_i32_320 k0_t1
  let v826 : BitVec 32 := Scalar.muli c2_i32_330 arg18
  let c1_i32_425 : BitVec 32 := 1#32
  let v957 : BitVec 32 := Scalar.addi v826 c1_i32_425
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_426 : BitVec 32 := 1#32
  let v958 : BitVec 32 := Scalar.subi v60 c1_i32_426
  let c0_i32_427 : BitVec 32 := 0#32
  let v959 : BitVec 32 := Scalar.maxsi v958 c0_i32_427
  let v963 : BitVec 32 := Scalar.minsi v957 v959
  let c512_i32_429 : BitVec 32 := 512#32
  let v964 : BitVec 32 := Scalar.muli v963 c512_i32_429
  let v965 : BitVec 32 := v964
  let v1028 : BitVec 32 := Scalar.addi v965 c0_i32_475
  let v1029 : Index := Scalar.indexCast v1028
  ![0, 80, v1029.toNat]
@[reducible] def k0_t2_loop (i : grid0.Coords) : Scf.Loop 32 :=
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let v742 : BitVec 32 := Scalar.addi c0_i32_318 v741
  let c1_i32_321 : BitVec 32 := 1#32
  ⟨v745, v742, c1_i32_321⟩
def k0_mult12 (i : grid0.Coords) (k0_t2 : Fin (k0_t2_loop i).trips) : BitVec 32 :=
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_331 : BitVec 32 := 1#32
  let v827 : BitVec 32 := Scalar.addi v826 c1_i32_331
  let c1_i32_332 : BitVec 32 := 1#32
  let v828 : BitVec 32 := Scalar.subi v60 c1_i32_332
  let c0_i32_333 : BitVec 32 := 0#32
  let v829 : BitVec 32 := Scalar.maxsi v828 c0_i32_333
  let v830 : BitVec 32 := Scalar.minsi v827 v829
  let c512_i32_334 : BitVec 32 := 512#32
  let v831 : BitVec 32 := Scalar.muli v830 c512_i32_334
  v831
def k0_mult13 (i : grid0.Coords) (k0_t2 : Fin (k0_t2_loop i).trips) : BitVec 32 :=
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_332 : BitVec 32 := 1#32
  let v828 : BitVec 32 := Scalar.subi v60 c1_i32_332
  let c0_i32_333 : BitVec 32 := 0#32
  let v829 : BitVec 32 := Scalar.maxsi v828 c0_i32_333
  let v833 : BitVec 32 := Scalar.minsi v826 v829
  let c512_i32_335 : BitVec 32 := 512#32
  let v834 : BitVec 32 := Scalar.muli v833 c512_i32_335
  v834
def k0_off36 (i : grid0.Coords) (k0_t2 : Fin (k0_t2_loop i).trips) (c1_i32_331 : BitVec 32) : Fin 4 → Nat :=
  let c0_344 : Index := 0#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let v827 : BitVec 32 := Scalar.addi v826 c1_i32_331
  let v836 : BitVec 1 := Scalar.cmpi .slt v827 v60
  let c16_i32 : BitVec 32 := 16#32
  let v837 : BitVec 32 := Scalar.select v836 v827 c16_i32
  let v852 : Index := Scalar.indexCast v837
  let c0_345 : Index := 0#32
  let c0_346 : Index := 0#32
  ![0, v852.toNat, 0, 0]
def k0_off37 (i : grid0.Coords) (k0_t2 : Fin (k0_t2_loop i).trips) (c1_i32_331 : BitVec 32) : Fin 4 → Nat :=
  let c1_347 : Index := 1#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let v827 : BitVec 32 := Scalar.addi v826 c1_i32_331
  let v836 : BitVec 1 := Scalar.cmpi .slt v827 v60
  let c16_i32 : BitVec 32 := 16#32
  let v837 : BitVec 32 := Scalar.select v836 v827 c16_i32
  let v856 : Index := Scalar.indexCast v837
  let c0_348 : Index := 0#32
  let c0_349 : Index := 0#32
  ![1, v856.toNat, 0, 0]
def k0_off38 (i : grid0.Coords) (k0_t2 : Fin (k0_t2_loop i).trips) (c1_i32_331 : BitVec 32) (c0_i32_350 : BitVec 32) : Fin 3 → Nat :=
  let c0_351 : Index := 0#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let v827 : BitVec 32 := Scalar.addi v826 c1_i32_331
  let c1_i32_332 : BitVec 32 := 1#32
  let v828 : BitVec 32 := Scalar.subi v60 c1_i32_332
  let c0_i32_333 : BitVec 32 := 0#32
  let v829 : BitVec 32 := Scalar.maxsi v828 c0_i32_333
  let v830 : BitVec 32 := Scalar.minsi v827 v829
  let c512_i32_334 : BitVec 32 := 512#32
  let v831 : BitVec 32 := Scalar.muli v830 c512_i32_334
  let v832 : BitVec 32 := v831
  let v860 : BitVec 32 := Scalar.addi v832 c0_i32_350
  let v861 : Index := Scalar.indexCast v860
  let c0_352 : Index := 0#32
  ![0, v861.toNat, 0]
def k0_off39 (i : grid0.Coords) (k0_t2 : Fin (k0_t2_loop i).trips) (c0_i32_363 : BitVec 32) : Fin 3 → Nat :=
  let c0_364 : Index := 0#32
  let c0_365 : Index := 0#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_332 : BitVec 32 := 1#32
  let v828 : BitVec 32 := Scalar.subi v60 c1_i32_332
  let c0_i32_333 : BitVec 32 := 0#32
  let v829 : BitVec 32 := Scalar.maxsi v828 c0_i32_333
  let v833 : BitVec 32 := Scalar.minsi v826 v829
  let c512_i32_335 : BitVec 32 := 512#32
  let v834 : BitVec 32 := Scalar.muli v833 c512_i32_335
  let v835 : BitVec 32 := v834
  let v876 : BitVec 32 := Scalar.addi v835 c0_i32_363
  let v877 : Index := Scalar.indexCast v876
  ![0, 0, v877.toNat]
def k0_off40 (i : grid0.Coords) (k0_t2 : Fin (k0_t2_loop i).trips) (c0_i32_380 : BitVec 32) : Fin 3 → Nat :=
  let c0_381 : Index := 0#32
  let c80 : Index := 80#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_332 : BitVec 32 := 1#32
  let v828 : BitVec 32 := Scalar.subi v60 c1_i32_332
  let c0_i32_333 : BitVec 32 := 0#32
  let v829 : BitVec 32 := Scalar.maxsi v828 c0_i32_333
  let v833 : BitVec 32 := Scalar.minsi v826 v829
  let c512_i32_335 : BitVec 32 := 512#32
  let v834 : BitVec 32 := Scalar.muli v833 c512_i32_335
  let v835 : BitVec 32 := v834
  let v898 : BitVec 32 := Scalar.addi v835 c0_i32_380
  let v899 : Index := Scalar.indexCast v898
  ![0, 80, v899.toNat]
def k0_mult14 (i : grid0.Coords) (k0_t2 : Fin (k0_t2_loop i).trips) : BitVec 32 :=
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c2_i32_424 : BitVec 32 := 2#32
  let v956 : BitVec 32 := Scalar.addi v826 c2_i32_424
  let c1_i32_426 : BitVec 32 := 1#32
  let v958 : BitVec 32 := Scalar.subi v60 c1_i32_426
  let c0_i32_427 : BitVec 32 := 0#32
  let v959 : BitVec 32 := Scalar.maxsi v958 c0_i32_427
  let v960 : BitVec 32 := Scalar.minsi v956 v959
  let c512_i32_428 : BitVec 32 := 512#32
  let v961 : BitVec 32 := Scalar.muli v960 c512_i32_428
  v961
def k0_mult15 (i : grid0.Coords) (k0_t2 : Fin (k0_t2_loop i).trips) : BitVec 32 :=
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_425 : BitVec 32 := 1#32
  let v957 : BitVec 32 := Scalar.addi v826 c1_i32_425
  let c1_i32_426 : BitVec 32 := 1#32
  let v958 : BitVec 32 := Scalar.subi v60 c1_i32_426
  let c0_i32_427 : BitVec 32 := 0#32
  let v959 : BitVec 32 := Scalar.maxsi v958 c0_i32_427
  let v963 : BitVec 32 := Scalar.minsi v957 v959
  let c512_i32_429 : BitVec 32 := 512#32
  let v964 : BitVec 32 := Scalar.muli v963 c512_i32_429
  v964
def k0_off41 (i : grid0.Coords) (k0_t2 : Fin (k0_t2_loop i).trips) (c0_i32_458 : BitVec 32) : Fin 3 → Nat :=
  let c0_459 : Index := 0#32
  let c0_460 : Index := 0#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_425 : BitVec 32 := 1#32
  let v957 : BitVec 32 := Scalar.addi v826 c1_i32_425
  let c1_i32_426 : BitVec 32 := 1#32
  let v958 : BitVec 32 := Scalar.subi v60 c1_i32_426
  let c0_i32_427 : BitVec 32 := 0#32
  let v959 : BitVec 32 := Scalar.maxsi v958 c0_i32_427
  let v963 : BitVec 32 := Scalar.minsi v957 v959
  let c512_i32_429 : BitVec 32 := 512#32
  let v964 : BitVec 32 := Scalar.muli v963 c512_i32_429
  let v965 : BitVec 32 := v964
  let v1006 : BitVec 32 := Scalar.addi v965 c0_i32_458
  let v1007 : Index := Scalar.indexCast v1006
  ![0, 0, v1007.toNat]
def k0_off42 (i : grid0.Coords) (k0_t2 : Fin (k0_t2_loop i).trips) (c0_i32_475 : BitVec 32) : Fin 3 → Nat :=
  let c0_476 : Index := 0#32
  let c80_477 : Index := 80#32
  let c2_i32_330 : BitVec 32 := 2#32
  let c0_i32_318 : BitVec 32 := 0#32
  let arg1 : BitVec 32 := BitVec.ofNat 32 (i 1).val
  let c128_i32 : BitVec 32 := 128#32
  let v0 : BitVec 32 := Scalar.muli arg1 c128_i32
  let c0_i32_24 : BitVec 32 := 0#32
  let v45 : BitVec 1 := Scalar.cmpi .sgt v0 c0_i32_24
  let v46 : BitVec 32 := Scalar.extui v45
  let c0_i32_25 : BitVec 32 := 0#32
  let v47 : BitVec 1 := Scalar.cmpi .slt v0 c0_i32_25
  let v48 : BitVec 32 := Scalar.extui v47
  let v49 : BitVec 32 := Scalar.subi v46 v48
  let c512_i32 : BitVec 32 := 512#32
  let c0_i32_26 : BitVec 32 := 0#32
  let v50 : BitVec 1 := Scalar.cmpi .sgt c512_i32 c0_i32_26
  let v51 : BitVec 32 := Scalar.extui v50
  let c0_i32_27 : BitVec 32 := 0#32
  let v52 : BitVec 1 := Scalar.cmpi .slt c512_i32 c0_i32_27
  let v53 : BitVec 32 := Scalar.extui v52
  let v54 : BitVec 32 := Scalar.subi v51 v53
  let v55 : BitVec 1 := Scalar.cmpi .ne v49 v54
  let v56 : BitVec 32 := Scalar.remsi v0 c512_i32
  let c0_i32_28 : BitVec 32 := 0#32
  let v57 : BitVec 1 := Scalar.cmpi .ne v56 c0_i32_28
  let v58 : BitVec 1 := Scalar.andi v55 v57
  let v44 : BitVec 32 := Scalar.divsi v0 c512_i32
  let c1_i32_29 : BitVec 32 := 1#32
  let v59 : BitVec 32 := Scalar.subi v44 c1_i32_29
  let v60 : BitVec 32 := Scalar.select v58 v59 v44
  let c1_i32_311 : BitVec 32 := 1#32
  let v723 : BitVec 32 := Scalar.addi v60 c1_i32_311
  let c0_i32_312 : BitVec 32 := 0#32
  let v725 : BitVec 1 := Scalar.cmpi .sgt v723 c0_i32_312
  let v726 : BitVec 32 := Scalar.extui v725
  let c0_i32_313 : BitVec 32 := 0#32
  let v727 : BitVec 1 := Scalar.cmpi .slt v723 c0_i32_313
  let v728 : BitVec 32 := Scalar.extui v727
  let v729 : BitVec 32 := Scalar.subi v726 v728
  let c2_i32 : BitVec 32 := 2#32
  let c0_i32_314 : BitVec 32 := 0#32
  let v730 : BitVec 1 := Scalar.cmpi .sgt c2_i32 c0_i32_314
  let v731 : BitVec 32 := Scalar.extui v730
  let c0_i32_315 : BitVec 32 := 0#32
  let v732 : BitVec 1 := Scalar.cmpi .slt c2_i32 c0_i32_315
  let v733 : BitVec 32 := Scalar.extui v732
  let v734 : BitVec 32 := Scalar.subi v731 v733
  let v735 : BitVec 1 := Scalar.cmpi .ne v729 v734
  let v736 : BitVec 32 := Scalar.remsi v723 c2_i32
  let c0_i32_316 : BitVec 32 := 0#32
  let v737 : BitVec 1 := Scalar.cmpi .ne v736 c0_i32_316
  let v738 : BitVec 1 := Scalar.andi v735 v737
  let v724 : BitVec 32 := Scalar.divsi v723 c2_i32
  let c1_i32_317 : BitVec 32 := 1#32
  let v739 : BitVec 32 := Scalar.subi v724 c1_i32_317
  let v740 : BitVec 32 := Scalar.select v738 v739 v724
  let v741 : BitVec 32 := Scalar.subi v740 c0_i32_318
  let c1_i32_319 : BitVec 32 := 1#32
  let v743 : BitVec 32 := Scalar.divsi v741 c1_i32_319
  let v744 : BitVec 32 := Scalar.muli v743 c1_i32_319
  let v745 : BitVec 32 := Scalar.addi c0_i32_318 v744
  let c1_i32_321 : BitVec 32 := 1#32
  let arg18 : BitVec 32 := Scf.iv v745 c1_i32_321 k0_t2
  let v826 : BitVec 32 := Scalar.muli c2_i32_330 arg18
  let c1_i32_425 : BitVec 32 := 1#32
  let v957 : BitVec 32 := Scalar.addi v826 c1_i32_425
  let c1_i32_426 : BitVec 32 := 1#32
  let v958 : BitVec 32 := Scalar.subi v60 c1_i32_426
  let c0_i32_427 : BitVec 32 := 0#32
  let v959 : BitVec 32 := Scalar.maxsi v958 c0_i32_427
  let v963 : BitVec 32 := Scalar.minsi v957 v959
  let c512_i32_429 : BitVec 32 := 512#32
  let v964 : BitVec 32 := Scalar.muli v963 c512_i32_429
  let v965 : BitVec 32 := v964
  let v1028 : BitVec 32 := Scalar.addi v965 c0_i32_475
  let v1029 : Index := Scalar.indexCast v1028
  ![0, 80, v1029.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x160x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x160x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "m_init" => some ⊥
  | "neg" => some ⊥
  | _ => none
-- ==== ReferenceIdeal.lean ====
abbrev S4x8192x2x4x64 : Shape := ⟨5, ![4, 8192, 2, 4, 64]⟩
abbrev S4x128x2x64 : Shape := ⟨4, ![4, 128, 2, 64]⟩
abbrev S4x8192x2x64 : Shape := ⟨4, ![4, 8192, 2, 64]⟩
abbrev S4x8192x2x4x3 : Shape := ⟨5, ![4, 8192, 2, 4, 3]⟩
abbrev S8192 : Shape := ⟨1, ![8192]⟩
abbrev S128 : Shape := ⟨1, ![128]⟩
abbrev S_ : Shape := ⟨0, ![]⟩
abbrev S4x2x128x8192x4 : Shape := ⟨5, ![4, 2, 128, 8192, 4]⟩
abbrev S4x8192x2x4x128 : Shape := ⟨5, ![4, 8192, 2, 4, 128]⟩
abbrev S1x128 : Shape := ⟨2, ![1, 128]⟩
abbrev S8192x1 : Shape := ⟨2, ![8192, 1]⟩
abbrev S8192x128 : Shape := ⟨2, ![8192, 128]⟩
abbrev S1x8192x1x1x128 : Shape := ⟨5, ![1, 8192, 1, 1, 128]⟩
abbrev S4x8192x2x4 : Shape := ⟨4, ![4, 8192, 2, 4]⟩
abbrev S4x8192x2x4x1 : Shape := ⟨5, ![4, 8192, 2, 4, 1]⟩
abbrev S4x2x64x8192x4 : Shape := ⟨5, ![4, 2, 64, 8192, 4]⟩
abbrev S4x8192x2x128 : Shape := ⟨4, ![4, 8192, 2, 128]⟩
abbrev S1x8192x1x128 : Shape := ⟨4, ![1, 8192, 1, 128]⟩
abbrev S4x8192x2x128x1 : Shape := ⟨5, ![4, 8192, 2, 128, 1]⟩
abbrev S4x8192x2x1x128 : Shape := ⟨5, ![4, 8192, 2, 1, 128]⟩
abbrev S4x8192x2x128x128 : Shape := ⟨5, ![4, 8192, 2, 128, 128]⟩
abbrev S128x1 : Shape := ⟨2, ![128, 1]⟩
abbrev S128x128 : Shape := ⟨2, ![128, 128]⟩
abbrev S1x1x1x128x128 : Shape := ⟨5, ![1, 1, 1, 128, 128]⟩
abbrev S4x8192x2x128x64 : Shape := ⟨5, ![4, 8192, 2, 128, 64]⟩
abbrev S4x8192x2x8192 : Shape := ⟨4, ![4, 8192, 2, 8192]⟩
abbrev S1x8192 : Shape := ⟨2, ![1, 8192]⟩
abbrev S8192x8192 : Shape := ⟨2, ![8192, 8192]⟩
abbrev S1x8192x1x8192 : Shape := ⟨4, ![1, 8192, 1, 8192]⟩
abbrev S4x2x8192x8192x4 : Shape := ⟨5, ![4, 2, 8192, 8192, 4]⟩
abbrev S4x8192x2x4x8192 : Shape := ⟨5, ![4, 8192, 2, 4, 8192]⟩
abbrev S4x8192x2x1x8192 : Shape := ⟨5, ![4, 8192, 2, 1, 8192]⟩
abbrev S1x8192x1x1x8192 : Shape := ⟨5, ![1, 8192, 1, 1, 8192]⟩
abbrev S4x8192x512 : Shape := ⟨3, ![4, 8192, 512]⟩

abbrev nBuf : Space → Nat
  | .hbm => 268
  | .vmem => 0
  | .smem => 0
  | _ => 0

abbrev hbmTy0_0 (i : Nat) : BufTy := match i % 128 with
  | 0 => ⟨S4x8192x2x4x64, .f32⟩
  | 1 => ⟨S4x8192x2x4x64, .f32⟩
  | 2 => ⟨S4x128x2x64, .f32⟩
  | 3 => ⟨S4x128x2x64, .f32⟩
  | 4 => ⟨S4x8192x2x64, .f32⟩
  | 5 => ⟨S4x8192x2x64, .f32⟩
  | 6 => ⟨S4x8192x2x64, .f32⟩
  | 7 => ⟨S4x8192x2x64, .f32⟩
  | 8 => ⟨S4x8192x2x4x3, .f32⟩
  | 9 => ⟨S8192, .i32⟩
  | 10 => ⟨S8192, .i32⟩
  | 11 => ⟨S128, .i32⟩
  | 12 => ⟨S_, .i32⟩
  | 13 => ⟨S_, .i32⟩
  | 14 => ⟨S8192, .i32⟩
  | 15 => ⟨S8192, .i32⟩
  | 16 => ⟨S8192, .i32⟩
  | 17 => ⟨S_, .i32⟩
  | 18 => ⟨S8192, .i32⟩
  | 19 => ⟨S8192, .i1⟩
  | 20 => ⟨S8192, .i32⟩
  | 21 => ⟨S8192, .i32⟩
  | 22 => ⟨S_, .i32⟩
  | 23 => ⟨S8192, .i32⟩
  | 24 => ⟨S8192, .i1⟩
  | 25 => ⟨S8192, .i1⟩
  | 26 => ⟨S_, .i32⟩
  | 27 => ⟨S8192, .i32⟩
  | 28 => ⟨S8192, .i32⟩
  | 29 => ⟨S8192, .i32⟩
  | 30 => ⟨S4x2x128x8192x4, .f32⟩
  | 31 => ⟨S4x8192x2x4x128, .f32⟩
  | 32 => ⟨S_, .f32⟩
  | 33 => ⟨S4x8192x2x4x128, .f32⟩
  | 34 => ⟨S4x8192x2x4x128, .f32⟩
  | 35 => ⟨S1x128, .i32⟩
  | 36 => ⟨S_, .i32⟩
  | 37 => ⟨S1x128, .i32⟩
  | 38 => ⟨S1x128, .i32⟩
  | 39 => ⟨S_, .i32⟩
  | 40 => ⟨S1x128, .i32⟩
  | 41 => ⟨S1x128, .i32⟩
  | 42 => ⟨S8192x1, .i32⟩
  | 43 => ⟨S_, .i32⟩
  | 44 => ⟨S8192x1, .i32⟩
  | 45 => ⟨S8192x1, .i32⟩
  | 46 => ⟨S8192x128, .i32⟩
  | 47 => ⟨S8192x128, .i32⟩
  | 48 => ⟨S8192x128, .i1⟩
  | 49 => ⟨S1x8192x1x1x128, .i1⟩
  | 50 => ⟨S4x8192x2x4x128, .i1⟩
  | 51 => ⟨S_, .f32⟩
  | 52 => ⟨S4x8192x2x4x128, .f32⟩
  | 53 => ⟨S4x8192x2x4x128, .f32⟩
  | 54 => ⟨S_, .f32⟩
  | 55 => ⟨S4x8192x2x4, .f32⟩
  | 56 => ⟨S4x8192x2x4x1, .f32⟩
  | 57 => ⟨S_, .f32⟩
  | 58 => ⟨S4x8192x2x4x1, .f32⟩
  | 59 => ⟨S4x8192x2x4x1, .i1⟩
  | 60 => ⟨S_, .f32⟩
  | 61 => ⟨S4x8192x2x4x1, .f32⟩
  | 62 => ⟨S4x8192x2x4x1, .i1⟩
  | 63 => ⟨S4x8192x2x4x1, .i1⟩
  | 64 => ⟨S_, .f32⟩
  | 65 => ⟨S4x8192x2x4x1, .f32⟩
  | 66 => ⟨S4x8192x2x4x1, .f32⟩
  | 67 => ⟨S4x8192x2x4x128, .f32⟩
  | 68 => ⟨S4x8192x2x4x128, .f32⟩
  | 69 => ⟨S4x8192x2x4x128, .f32⟩
  | 70 => ⟨S4x8192x2x4x128, .i1⟩
  | 71 => ⟨S_, .f32⟩
  | 72 => ⟨S4x8192x2x4x128, .f32⟩
  | 73 => ⟨S4x8192x2x4x128, .f32⟩
  | 74 => ⟨S_, .f32⟩
  | 75 => ⟨S4x8192x2x4, .f32⟩
  | 76 => ⟨S4x8192x2x4x1, .f32⟩
  | 77 => ⟨S_, .f32⟩
  | 78 => ⟨S4x8192x2x4x1, .f32⟩
  | 79 => ⟨S4x8192x2x4x1, .f32⟩
  | 80 => ⟨S4x8192x2x4x128, .f32⟩
  | 81 => ⟨S4x8192x2x4x128, .f32⟩
  | 82 => ⟨S4x2x64x8192x4, .f32⟩
  | 83 => ⟨S4x8192x2x4x64, .f32⟩
  | 84 => ⟨S_, .f32⟩
  | 85 => ⟨S4x8192x2x128, .f32⟩
  | 86 => ⟨S1x128, .i32⟩
  | 87 => ⟨S8192x1, .i32⟩
  | 88 => ⟨S8192x128, .i32⟩
  | 89 => ⟨S8192x128, .i32⟩
  | 90 => ⟨S8192x128, .i1⟩
  | 91 => ⟨S1x128, .i32⟩
  | 92 => ⟨S_, .i32⟩
  | 93 => ⟨S1x128, .i32⟩
  | 94 => ⟨S1x128, .i1⟩
  | 95 => ⟨S1x128, .i32⟩
  | 96 => ⟨S8192x1, .i32⟩
  | 97 => ⟨S8192x128, .i32⟩
  | 98 => ⟨S8192x128, .i32⟩
  | 99 => ⟨S8192x128, .i1⟩
  | 100 => ⟨S8192x128, .i1⟩
  | 101 => ⟨S8192x128, .i1⟩
  | 102 => ⟨S1x128, .i32⟩
  | 103 => ⟨S8192x1, .i32⟩
  | 104 => ⟨S_, .i32⟩
  | 105 => ⟨S8192x1, .i32⟩
  | 106 => ⟨S8192x1, .i32⟩
  | 107 => ⟨S8192x128, .i32⟩
  | 108 => ⟨S8192x128, .i32⟩
  | 109 => ⟨S8192x128, .i1⟩
  | 110 => ⟨S8192x128, .i1⟩
  | 111 => ⟨S_, .f32⟩
  | 112 => ⟨S8192x128, .f32⟩
  | 113 => ⟨S_, .f32⟩
  | 114 => ⟨S8192x128, .f32⟩
  | 115 => ⟨S8192x128, .f32⟩
  | 116 => ⟨S1x8192x1x128, .i1⟩
  | 117 => ⟨S1x8192x1x128, .f32⟩
  | 118 => ⟨S4x8192x2x128, .f32⟩
  | 119 => ⟨S4x8192x2x128, .f32⟩
  | 120 => ⟨S4x8192x2x128, .i1⟩
  | 121 => ⟨S_, .f32⟩
  | 122 => ⟨S4x8192x2x128, .f32⟩
  | 123 => ⟨S4x8192x2x128, .f32⟩
  | 124 => ⟨S4x8192x2x128x1, .f32⟩
  | 125 => ⟨S4x8192x2x1x128, .f32⟩
  | 126 => ⟨S4x8192x2x128x128, .f32⟩
  | 127 => ⟨S4x8192x2x128x128, .f32⟩
  | _ => ⟨S4x8192x2x4x64, .f32⟩

abbrev hbmTy0_1 (i : Nat) : BufTy := match i % 128 with
  | 0 => ⟨S4x8192x2x128x128, .i1⟩
  | 1 => ⟨S4x8192x2x128x128, .f32⟩
  | 2 => ⟨S4x8192x2x128x128, .f32⟩
  | 3 => ⟨S4x8192x2x128x128, .i1⟩
  | 4 => ⟨S1x128, .i32⟩
  | 5 => ⟨S128x1, .i32⟩
  | 6 => ⟨S128x128, .i32⟩
  | 7 => ⟨S128x128, .i32⟩
  | 8 => ⟨S128x128, .i1⟩
  | 9 => ⟨S1x1x1x128x128, .i1⟩
  | 10 => ⟨S4x8192x2x128x128, .i1⟩
  | 11 => ⟨S4x8192x2x128x128, .i1⟩
  | 12 => ⟨S4x8192x2x128x128, .i1⟩
  | 13 => ⟨S_, .f32⟩
  | 14 => ⟨S4x8192x2x128x128, .f32⟩
  | 15 => ⟨S_, .f32⟩
  | 16 => ⟨S4x8192x2x128x128, .f32⟩
  | 17 => ⟨S4x8192x2x128x128, .f32⟩
  | 18 => ⟨S_, .f32⟩
  | 19 => ⟨S4x8192x2x128, .f32⟩
  | 20 => ⟨S_, .f32⟩
  | 21 => ⟨S4x8192x2x128, .f32⟩
  | 22 => ⟨S4x8192x2x128, .i1⟩
  | 23 => ⟨S4x8192x2x128x64, .i1⟩
  | 24 => ⟨S4x8192x2x8192, .i1⟩
  | 25 => ⟨S1x8192, .i32⟩
  | 26 => ⟨S8192x1, .i32⟩
  | 27 => ⟨S8192x8192, .i32⟩
  | 28 => ⟨S8192x8192, .i32⟩
  | 29 => ⟨S8192x8192, .i1⟩
  | 30 => ⟨S1x8192x1x8192, .i1⟩
  | 31 => ⟨S4x8192x2x8192, .i1⟩
  | 32 => ⟨S4x8192x2x8192, .i1⟩
  | 33 => ⟨S4x2x8192x8192x4, .f32⟩
  | 34 => ⟨S4x8192x2x4x8192, .f32⟩
  | 35 => ⟨S_, .f32⟩
  | 36 => ⟨S4x8192x2x4x8192, .f32⟩
  | 37 => ⟨S4x8192x2x4x8192, .f32⟩
  | 38 => ⟨S4x8192x2x1x8192, .i1⟩
  | 39 => ⟨S4x8192x2x4x8192, .i1⟩
  | 40 => ⟨S_, .f32⟩
  | 41 => ⟨S4x8192x2x4x8192, .f32⟩
  | 42 => ⟨S4x8192x2x4x8192, .f32⟩
  | 43 => ⟨S_, .f32⟩
  | 44 => ⟨S4x8192x2x4, .f32⟩
  | 45 => ⟨S4x8192x2x4x1, .f32⟩
  | 46 => ⟨S_, .f32⟩
  | 47 => ⟨S4x8192x2x4x1, .f32⟩
  | 48 => ⟨S4x8192x2x4x1, .i1⟩
  | 49 => ⟨S_, .f32⟩
  | 50 => ⟨S4x8192x2x4x1, .f32⟩
  | 51 => ⟨S4x8192x2x4x1, .i1⟩
  | 52 => ⟨S4x8192x2x4x1, .i1⟩
  | 53 => ⟨S_, .f32⟩
  | 54 => ⟨S4x8192x2x4x1, .f32⟩
  | 55 => ⟨S4x8192x2x4x1, .f32⟩
  | 56 => ⟨S4x8192x2x4x8192, .f32⟩
  | 57 => ⟨S4x8192x2x4x8192, .f32⟩
  | 58 => ⟨S4x8192x2x4x8192, .f32⟩
  | 59 => ⟨S4x8192x2x4x8192, .i1⟩
  | 60 => ⟨S_, .f32⟩
  | 61 => ⟨S4x8192x2x4x8192, .f32⟩
  | 62 => ⟨S4x8192x2x4x8192, .f32⟩
  | 63 => ⟨S_, .f32⟩
  | 64 => ⟨S4x8192x2x4, .f32⟩
  | 65 => ⟨S4x8192x2x4x1, .f32⟩
  | 66 => ⟨S_, .f32⟩
  | 67 => ⟨S4x8192x2x4x1, .f32⟩
  | 68 => ⟨S4x8192x2x4x1, .f32⟩
  | 69 => ⟨S4x8192x2x4x8192, .f32⟩
  | 70 => ⟨S4x8192x2x4x8192, .f32⟩
  | 71 => ⟨S4x2x64x8192x4, .f32⟩
  | 72 => ⟨S4x8192x2x4x64, .f32⟩
  | 73 => ⟨S4x2x8192x8192x4, .f32⟩
  | 74 => ⟨S4x8192x2x4x8192, .f32⟩
  | 75 => ⟨S_, .f32⟩
  | 76 => ⟨S4x8192x2x4x8192, .f32⟩
  | 77 => ⟨S4x8192x2x4x8192, .f32⟩
  | 78 => ⟨S1x8192, .i32⟩
  | 79 => ⟨S8192x1, .i32⟩
  | 80 => ⟨S8192x8192, .i32⟩
  | 81 => ⟨S8192x8192, .i32⟩
  | 82 => ⟨S8192x8192, .i1⟩
  | 83 => ⟨S1x8192, .i32⟩
  | 84 => ⟨S8192x1, .i32⟩
  | 85 => ⟨S_, .i32⟩
  | 86 => ⟨S8192x1, .i32⟩
  | 87 => ⟨S8192x1, .i32⟩
  | 88 => ⟨S8192x8192, .i32⟩
  | 89 => ⟨S8192x8192, .i32⟩
  | 90 => ⟨S8192x8192, .i1⟩
  | 91 => ⟨S8192x8192, .i1⟩
  | 92 => ⟨S1x8192x1x1x8192, .i1⟩
  | 93 => ⟨S4x8192x2x4x8192, .i1⟩
  | 94 => ⟨S_, .f32⟩
  | 95 => ⟨S4x8192x2x4x8192, .f32⟩
  | 96 => ⟨S4x8192x2x4x8192, .f32⟩
  | 97 => ⟨S_, .f32⟩
  | 98 => ⟨S4x8192x2x4, .f32⟩
  | 99 => ⟨S4x8192x2x4x1, .f32⟩
  | 100 => ⟨S_, .f32⟩
  | 101 => ⟨S4x8192x2x4x1, .f32⟩
  | 102 => ⟨S4x8192x2x4x1, .i1⟩
  | 103 => ⟨S_, .f32⟩
  | 104 => ⟨S4x8192x2x4x1, .f32⟩
  | 105 => ⟨S4x8192x2x4x1, .i1⟩
  | 106 => ⟨S4x8192x2x4x1, .i1⟩
  | 107 => ⟨S_, .f32⟩
  | 108 => ⟨S4x8192x2x4x1, .f32⟩
  | 109 => ⟨S4x8192x2x4x1, .f32⟩
  | 110 => ⟨S4x8192x2x4x8192, .f32⟩
  | 111 => ⟨S4x8192x2x4x8192, .f32⟩
  | 112 => ⟨S4x8192x2x4x8192, .f32⟩
  | 113 => ⟨S4x8192x2x4x8192, .i1⟩
  | 114 => ⟨S_, .f32⟩
  | 115 => ⟨S4x8192x2x4x8192, .f32⟩
  | 116 => ⟨S4x8192x2x4x8192, .f32⟩
  | 117 => ⟨S_, .f32⟩
  | 118 => ⟨S4x8192x2x4, .f32⟩
  | 119 => ⟨S4x8192x2x4x1, .f32⟩
  | 120 => ⟨S_, .f32⟩
  | 121 => ⟨S4x8192x2x4x1, .f32⟩
  | 122 => ⟨S4x8192x2x4x1, .f32⟩
  | 123 => ⟨S4x8192x2x4x8192, .f32⟩
  | 124 => ⟨S4x8192x2x4x8192, .f32⟩
  | 125 => ⟨S4x2x64x8192x4, .f32⟩
  | 126 => ⟨S4x8192x2x4x64, .f32⟩
  | 127 => ⟨S4x8192x2x4x1, .f32⟩
  | _ => ⟨S4x8192x2x4x64, .f32⟩

abbrev hbmTy0_2 (i : Nat) : BufTy := match i % 128 with
  | 0 => ⟨S4x8192x2x4x64, .f32⟩
  | 1 => ⟨S4x8192x2x4x64, .f32⟩
  | 2 => ⟨S4x8192x2x4x1, .f32⟩
  | 3 => ⟨S4x8192x2x4x64, .f32⟩
  | 4 => ⟨S4x8192x2x4x64, .f32⟩
  | 5 => ⟨S4x8192x2x4x64, .f32⟩
  | 6 => ⟨S4x8192x2x4x1, .f32⟩
  | 7 => ⟨S4x8192x2x4x64, .f32⟩
  | 8 => ⟨S4x8192x2x4x64, .f32⟩
  | 9 => ⟨S4x8192x2x4x64, .f32⟩
  | 10 => ⟨S4x8192x512, .f32⟩
  | 11 => ⟨S4x8192x512, .bf16⟩
  | _ => ⟨S4x8192x2x4x64, .f32⟩

abbrev hbmTy (i : Nat) : BufTy := match i / 128 with
  | 0 => hbmTy0_0 i
  | 1 => hbmTy0_1 i
  | 2 => hbmTy0_2 i
  | _ => ⟨S4x8192x2x4x64, .f32⟩

abbrev bufTy : (tb : Table) → Fin (tcTables nBuf tb) → BufTy
  | .hbm, ⟨i, _⟩ => hbmTy i
  | _, _ => ⟨S4x8192x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_8 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_cst_10 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_11 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_13 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_14 : Ref sig .tc := ⟨.hbm, 111, rfl⟩
abbrev main_v70 : Ref sig .tc := ⟨.hbm, 112, rfl⟩
abbrev main_cst_15 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_16 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_17 : Ref sig .tc := ⟨.hbm, 141, rfl⟩
abbrev main_v97 : Ref sig .tc := ⟨.hbm, 142, rfl⟩
abbrev main_cst_18 : Ref sig .tc := ⟨.hbm, 143, rfl⟩
abbrev main_v98 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_cst_20 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_21 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_22 : Ref sig .tc := ⟨.hbm, 168, rfl⟩
abbrev main_v119 : Ref sig .tc := ⟨.hbm, 169, rfl⟩
abbrev main_v120 : Ref sig .tc := ⟨.hbm, 170, rfl⟩
abbrev main_cst_23 : Ref sig .tc := ⟨.hbm, 171, rfl⟩
abbrev main_v121 : Ref sig .tc := ⟨.hbm, 172, rfl⟩
abbrev main_v122 : Ref sig .tc := ⟨.hbm, 173, rfl⟩
abbrev main_cst_24 : Ref sig .tc := ⟨.hbm, 174, rfl⟩
abbrev main_v123 : Ref sig .tc := ⟨.hbm, 175, rfl⟩
abbrev main_v124 : Ref sig .tc := ⟨.hbm, 176, rfl⟩
abbrev main_cst_25 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_26 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_27 : Ref sig .tc := ⟨.hbm, 188, rfl⟩
abbrev main_v134 : Ref sig .tc := ⟨.hbm, 189, rfl⟩
abbrev main_v135 : Ref sig .tc := ⟨.hbm, 190, rfl⟩
abbrev main_cst_28 : Ref sig .tc := ⟨.hbm, 191, rfl⟩
abbrev main_v136 : Ref sig .tc := ⟨.hbm, 192, rfl⟩
abbrev main_v137 : Ref sig .tc := ⟨.hbm, 193, rfl⟩
abbrev main_cst_29 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_30 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_c_31 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_32 : Ref sig .tc := ⟨.hbm, 222, rfl⟩
abbrev main_v163 : Ref sig .tc := ⟨.hbm, 223, rfl⟩
abbrev main_v164 : Ref sig .tc := ⟨.hbm, 224, rfl⟩
abbrev main_cst_33 : Ref sig .tc := ⟨.hbm, 225, rfl⟩
abbrev main_v165 : Ref sig .tc := ⟨.hbm, 226, rfl⟩
abbrev main_v166 : Ref sig .tc := ⟨.hbm, 227, rfl⟩
abbrev main_cst_34 : Ref sig .tc := ⟨.hbm, 228, rfl⟩
abbrev main_v167 : Ref sig .tc := ⟨.hbm, 229, rfl⟩
abbrev main_v168 : Ref sig .tc := ⟨.hbm, 230, rfl⟩
abbrev main_cst_35 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_36 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_cst_37 : Ref sig .tc := ⟨.hbm, 242, rfl⟩
abbrev main_v178 : Ref sig .tc := ⟨.hbm, 243, rfl⟩
abbrev main_v179 : Ref sig .tc := ⟨.hbm, 244, rfl⟩
abbrev main_cst_38 : Ref sig .tc := ⟨.hbm, 245, rfl⟩
abbrev main_v180 : Ref sig .tc := ⟨.hbm, 246, rfl⟩
abbrev main_v181 : Ref sig .tc := ⟨.hbm, 247, rfl⟩
abbrev main_cst_39 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩

abbrev nD : Nat := 1
abbrev τ : Topo := Topo.v7x

variable {F : FTy → Type} [FloatOps F]
-- ==== Back.lean ====
abbrev S4x8192x1024 : Shape := ⟨3, ![4, 8192, 1024]⟩
abbrev S4x8192x2x4x64 : Shape := ⟨5, ![4, 8192, 2, 4, 64]⟩
abbrev S4x8192x2048 : Shape := ⟨3, ![4, 8192, 2048]⟩
abbrev S4x6144 : Shape := ⟨2, ![4, 6144]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S4x8192x512 : Shape := ⟨3, ![4, 8192, 512]⟩
abbrev S4x1x6144 : Shape := ⟨3, ![4, 1, 6144]⟩
abbrev S1x1024 : Shape := ⟨2, ![1, 1024]⟩
abbrev S1x256x1024 : Shape := ⟨3, ![1, 256, 1024]⟩
abbrev S1x256x512 : Shape := ⟨3, ![1, 256, 512]⟩
abbrev S1x256x2048 : Shape := ⟨3, ![1, 256, 2048]⟩
abbrev S1x1x1024 : Shape := ⟨3, ![1, 1, 1024]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x2816 : Shape := ⟨2, ![256, 2816]⟩

abbrev nBuf : Space → Nat
  | .hbm => 21
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192x2x4x64, .f32⟩
  | .hbm, ⟨2, _⟩ => ⟨S4x8192x1024, .f32⟩
  | .hbm, ⟨3, _⟩ => ⟨S4x8192x2048, .f32⟩
  | .hbm, ⟨4, _⟩ => ⟨S4x6144, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S512x1024, .bf16⟩
  | .hbm, ⟨12, _⟩ => ⟨S1024x1024, .bf16⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S4x8192x512, .f32⟩
  | .hbm, ⟨17, _⟩ => ⟨S4x8192x512, .bf16⟩
  | .hbm, ⟨18, _⟩ => ⟨S4x1x6144, .f32⟩
  | .hbm, ⟨19, _⟩ => ⟨S1x1024, .f32⟩
  | .hbm, ⟨20, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x2048, .f32⟩
  | .local _ .vmem, ⟨7, _⟩ => ⟨S1x256x2048, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .bf16⟩
  | .local _ .vmem, ⟨18, _⟩ => ⟨S1024x1024, .bf16⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S1x256x1024, .f32⟩
  | .local _ .vmem, ⟨23, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== BackReferenceIdeal.lean ====
abbrev S4x8192x1024 : Shape := ⟨3, ![4, 8192, 1024]⟩
abbrev S4x8192x2x4x64 : Shape := ⟨5, ![4, 8192, 2, 4, 64]⟩
abbrev S4x8192x2048 : Shape := ⟨3, ![4, 8192, 2048]⟩
abbrev S4x6144 : Shape := ⟨2, ![4, 6144]⟩
abbrev S1024 : Shape := ⟨1, ![1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S4x1x6144 : Shape := ⟨3, ![4, 1, 6144]⟩
abbrev S4x1x1024 : Shape := ⟨3, ![4, 1, 1024]⟩
abbrev S4x8192x512 : Shape := ⟨3, ![4, 8192, 512]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x2x4x64, .f32⟩
  | .hbm, ⟨2, _⟩ => ⟨S4x8192x1024, .f32⟩
  | .hbm, ⟨3, _⟩ => ⟨S4x8192x2048, .f32⟩
  | .hbm, ⟨4, _⟩ => ⟨S4x6144, .f32⟩
  | .hbm, ⟨5, _⟩ => ⟨S1024, .f32⟩
  | .hbm, ⟨6, _⟩ => ⟨S512x1024, .f32⟩
  | .hbm, ⟨7, _⟩ => ⟨S1024x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x8192x1024, .f32⟩
  | .hbm, ⟨19, _⟩ => ⟨S4x8192x1024, .f32⟩
  | .hbm, ⟨20, _⟩ => ⟨S4x8192x512, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S_, .f32⟩
  | .hbm, ⟨56, _⟩ => ⟨S4x8192x2816, .f32⟩
  | .hbm, ⟨57, _⟩ => ⟨S4x8192x2816, .f32⟩
  | .hbm, ⟨58, _⟩ => ⟨S_, .f32⟩
  | .hbm, ⟨59, _⟩ => ⟨S4x8192x2816, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Front.lean ====
abbrev S4x8192x1024 : Shape := ⟨3, ![4, 8192, 1024]⟩
abbrev S4x6144 : Shape := ⟨2, ![4, 6144]⟩
abbrev S1024 : Shape := ⟨1, ![1024]⟩
abbrev S1024x4376 : Shape := ⟨2, ![1024, 4376]⟩
abbrev S64 : Shape := ⟨1, ![64]⟩
abbrev S3x64 : Shape := ⟨2, ![3, 64]⟩
abbrev S1024x1024 : Shape := ⟨2, ![1024, 1024]⟩
abbrev S1024x2048 : Shape := ⟨2, ![1024, 2048]⟩
abbrev S1024x3072 : Shape := ⟨2, ![1024, 3072]⟩
abbrev S1024x1304 : Shape := ⟨2, ![1024, 1304]⟩
abbrev S_ : Shape := ⟨0, ![]⟩
abbrev S1024x8 : Shape := ⟨2, ![1024, 8]⟩
abbrev S1024x1312 : Shape := ⟨2, ![1024, 1312]⟩
abbrev S1312x1024 : Shape := ⟨2, ![1312, 1024]⟩
abbrev S4x1x6144 : Shape := ⟨3, ![4, 1, 6144]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S32x8192 : Shape := ⟨2, ![32, 8192]⟩
abbrev S64x1 : Shape := ⟨2, ![64, 1]⟩
abbrev S64x256 : Shape := ⟨2, ![64, 256]⟩
abbrev S3x64x1 : Shape := ⟨3, ![3, 64, 1]⟩
abbrev S3x64x256 : Shape := ⟨3, ![3, 64, 256]⟩
abbrev S1x1024 : Shape := ⟨2, ![1, 1024]⟩
abbrev S4x8192x512 : Shape := ⟨3, ![4, 8192, 512]⟩
abbrev S4x8192x2048 : Shape := ⟨3, ![4, 8192, 2048]⟩
abbrev S4x512x8192 : Shape := ⟨3, ![4, 512, 8192]⟩
abbrev S4x128x8192 : Shape := ⟨3, ![4, 128, 8192]⟩
abbrev S4x8192x144 : Shape := ⟨3, ![4, 8192, 144]⟩
abbrev S4x8192x128 : Shape := ⟨3, ![4, 8192, 128]⟩
abbrev S4x160x8192 : Shape := ⟨3, ![4, 160, 8192]⟩
abbrev S4x32x8192 : Shape := ⟨3, ![4, 32, 8192]⟩
abbrev S1x256x1024 : Shape := ⟨3, ![1, 256, 1024]⟩
abbrev S1x1x1024 : Shape := ⟨3, ![1, 1, 1024]⟩
abbrev S32x256 : Shape := ⟨2, ![32, 256]⟩
abbrev S1x256x512 : Shape := ⟨3, ![1, 256, 512]⟩
abbrev S1x256x2048 : Shape := ⟨3, ![1, 256, 2048]⟩
abbrev S1x512x256 : Shape := ⟨3, ![1, 512, 256]⟩
abbrev S1x128x256 : Shape := ⟨3, ![1, 128, 256]⟩
abbrev S1x256x144 : Shape := ⟨3, ![1, 256, 144]⟩
abbrev S1x256x128 : Shape := ⟨3, ![1, 256, 128]⟩
abbrev S1x160x256 : Shape := ⟨3, ![1, 160, 256]⟩
abbrev S1x32x256 : Shape := ⟨3, ![1, 32, 256]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x512 : Shape := ⟨2, ![256, 512]⟩
abbrev S256x2048 : Shape := ⟨2, ![256, 2048]⟩
abbrev S1312x256 : Shape := ⟨2, ![1312, 256]⟩
abbrev S1x256 : Shape := ⟨2, ![1, 256]⟩
abbrev S1x64x256 : Shape := ⟨3, ![1, 64, 256]⟩
abbrev S128x256 : Shape := ⟨2, ![128, 256]⟩
abbrev S256x16 : Shape := ⟨2, ![256, 16]⟩
abbrev S256x128 : Shape := ⟨2, ![256, 128]⟩
abbrev S256x144 : Shape := ⟨2, ![256, 144]⟩
abbrev S16x256 : Shape := ⟨2, ![16, 256]⟩
abbrev S160x256 : Shape := ⟨2, ![160, 256]⟩

abbrev nBuf : Space → Nat
  | .hbm => 56
  | .vmem => 45
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x4376, .f32⟩
  | .hbm, ⟨4, _⟩ => ⟨S64, .f32⟩
  | .hbm, ⟨5, _⟩ => ⟨S3x64, .f32⟩
  | .hbm, ⟨6, _⟩ => ⟨S1024x1024, .f32⟩
  | .hbm, ⟨7, _⟩ => ⟨S1024x2048, .f32⟩
  | .hbm, ⟨8, _⟩ => ⟨S1024x3072, .f32⟩
  | .hbm, ⟨9, _⟩ => ⟨S1024x3072, .bf16⟩
  | .hbm, ⟨10, _⟩ => ⟨S1024x1304, .f32⟩
  | .hbm, ⟨11, _⟩ => ⟨S_, .f32⟩
  | .hbm, ⟨12, _⟩ => ⟨S1024x8, .f32⟩
  | .hbm, ⟨13, _⟩ => ⟨S1024x1312, .f32⟩
  | .hbm, ⟨14, _⟩ => ⟨S1312x1024, .f32⟩
  | .hbm, ⟨15, _⟩ => ⟨S1312x1024, .bf16⟩
  | .hbm, ⟨16, _⟩ => ⟨S4x1x6144, .f32⟩
  | .hbm, ⟨17, _⟩ => ⟨S8192, .i32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192, .f32⟩
  | .hbm, ⟨27, _⟩ => ⟨S8192x1, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S32x8192, .f32⟩
  | .hbm, ⟨34, _⟩ => ⟨S8192x32, .f32⟩
  | .hbm, ⟨35, _⟩ => ⟨S32x8192, .f32⟩
  | .hbm, ⟨36, _⟩ => ⟨S64x1, .f32⟩
  | .hbm, ⟨37, _⟩ => ⟨S64x256, .f32⟩
  | .hbm, ⟨38, _⟩ => ⟨S3x64x1, .f32⟩
  | .hbm, ⟨39, _⟩ => ⟨S3x64x256, .f32⟩
  | .hbm, ⟨40, _⟩ => ⟨S1x1024, .f32⟩
  | .hbm, ⟨41, _⟩ => ⟨S4x8192x512, .f32⟩
  | .hbm, ⟨42, _⟩ => ⟨S4x8192x2048, .f32⟩
  | .hbm, ⟨43, _⟩ => ⟨S4x512x8192, .bf16⟩
  | .hbm, ⟨44, _⟩ => ⟨S4x512x8192, .bf16⟩
  | .hbm, ⟨45, _⟩ => ⟨S4x128x8192, .f32⟩
  | .hbm, ⟨46, _⟩ => ⟨S4x128x8192, .f32⟩
  | .hbm, ⟨47, _⟩ => ⟨S4x128x8192, .f32⟩
  | .hbm, ⟨48, _⟩ => ⟨S4x128x8192, .f32⟩
  | .hbm, ⟨49, _⟩ => ⟨S4x128x8192, .f32⟩
  | .hbm, ⟨50, _⟩ => ⟨S4x128x8192, .f32⟩
  | .hbm, ⟨51, _⟩ => ⟨S4x8192x144, .bf16⟩
  | .hbm, ⟨52, _⟩ => ⟨S4x8192x128, .bf16⟩
  | .hbm, ⟨53, _⟩ => ⟨S4x160x8192, .bf16⟩
  | .hbm, ⟨54, _⟩ => ⟨S4x160x8192, .bf16⟩
  | .hbm, ⟨55, _⟩ => ⟨S4x32x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1312x1024, .bf16⟩
  | .local _ .vmem, ⟨9, _⟩ => ⟨S64x256, .f32⟩
  | .local _ .vmem, ⟨10, _⟩ => ⟨S3x64x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S1x256x512, .f32⟩
  | .local _ .vmem, ⟨16, _⟩ => ⟨S1x256x512, .f32⟩
  | .local _ .vmem, ⟨17, _⟩ => ⟨S1x256x2048, .f32⟩
  | .local _ .vmem, ⟨18, _⟩ => ⟨S1x256x2048, .f32⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x128x256, .f32⟩
  | .local _ .vmem, ⟨24, _⟩ => ⟨S1x128x256, .f32⟩
  | .local _ .vmem, ⟨25, _⟩ => ⟨S1x128x256, .f32⟩
  | .local _ .vmem, ⟨26, _⟩ => ⟨S1x128x256, .f32⟩
  | .local _ .vmem, ⟨27, _⟩ => ⟨S1x128x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | .local _ .vmem, ⟨31, _⟩ => ⟨S1x128x256, .f32⟩
  | .local _ .vmem, ⟨32, _⟩ => ⟨S1x128x256, .f32⟩
  | .local _ .vmem, ⟨33, _⟩ => ⟨S1x128x256, .f32⟩
  | .local _ .vmem, ⟨34, _⟩ => ⟨S1x128x256, .f32⟩
  | .local _ .vmem, ⟨35, _⟩ => ⟨S1x256x144, .bf16⟩
  | .local _ .vmem, ⟨36, _⟩ => ⟨S1x256x144, .bf16⟩
  | .local _ .vmem, ⟨37, _⟩ => ⟨S1x256x128, .bf16⟩
  | .local _ .vmem, ⟨38, _⟩ => ⟨S1x256x128, .bf16⟩
  | .local _ .vmem, ⟨39, _⟩ => ⟨S1x160x256, .bf16⟩
  | .local _ .vmem, ⟨40, _⟩ => ⟨S1x160x256, .bf16⟩
  | .local _ .vmem, ⟨41, _⟩ => ⟨S1x160x256, .bf16⟩
  | .local _ .vmem, ⟨42, _⟩ => ⟨S1x160x256, .bf16⟩
  | .local _ .vmem, ⟨43, _⟩ => ⟨S1x32x256, .f32⟩
  | .local _ .vmem, ⟨44, _⟩ => ⟨S1x32x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev main_v32_6 : Ref sig .tc := ⟨.hbm, 47, rfl⟩
abbrev main_v32_7 : Ref sig .tc := ⟨.hbm, 48, rfl⟩
abbrev main_v32_8 : Ref sig .tc := ⟨.hbm, 49, rfl⟩
abbrev main_v32_9 : Ref sig .tc := ⟨.hbm, 50, rfl⟩
abbrev main_v32_10 : Ref sig .tc := ⟨.hbm, 51, rfl⟩
abbrev main_v32_11 : Ref sig .tc := ⟨.hbm, 52, rfl⟩
abbrev main_v32_12 : Ref sig .tc := ⟨.hbm, 53, rfl⟩
abbrev main_v32_13 : Ref sig .tc := ⟨.hbm, 54, rfl⟩
abbrev main_v32_14 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1312x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x144 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x160x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x160x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x32x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== FrontReferenceIdeal.lean ====
abbrev S4x8192x1024 : Shape := ⟨3, ![4, 8192, 1024]⟩
abbrev S4x6144 : Shape := ⟨2, ![4, 6144]⟩
abbrev S1024 : Shape := ⟨1, ![1024]⟩
abbrev S1024x4376 : Shape := ⟨2, ![1024, 4376]⟩
abbrev S64 : Shape := ⟨1, ![64]⟩
abbrev S3x64 : Shape := ⟨2, ![3, 64]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4376 : Shape := ⟨3, ![4, 8192, 4376]⟩
abbrev S4x8192x512 : Shape := ⟨3, ![4, 8192, 512]⟩
abbrev S4x8192x768 : Shape := ⟨3, ![4, 8192, 768]⟩
abbrev S4x8192x24 : Shape := ⟨3, ![4, 8192, 24]⟩
abbrev S4x8192x2048 : Shape := ⟨3, ![4, 8192, 2048]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x6x2x64 : Shape := ⟨5, ![4, 8192, 6, 2, 64]⟩
abbrev S4x8192x1x2x64 : Shape := ⟨5, ![4, 8192, 1, 2, 64]⟩
abbrev S4x8192x2x64 : Shape := ⟨4, ![4, 8192, 2, 64]⟩
abbrev S1x64 : Shape := ⟨2, ![1, 64]⟩
abbrev S4x8192x2 : Shape := ⟨3, ![4, 8192, 2]⟩
abbrev S4x8192x2x1 : Shape := ⟨4, ![4, 8192, 2, 1]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x2x32 : Shape := ⟨4, ![4, 8192, 2, 32]⟩
abbrev S16x8x64x16 : Shape := ⟨4, ![16, 8, 64, 16]⟩
abbrev S1x8192x16 : Shape := ⟨3, ![1, 8192, 16]⟩
abbrev S4x8192x16 : Shape := ⟨3, ![4, 8192, 16]⟩
abbrev S4x512x8192 : Shape := ⟨3, ![4, 512, 8192]⟩
abbrev S4x8192x8x32 : Shape := ⟨4, ![4, 8192, 8, 32]⟩
abbrev S4x8192x128 : Shape := ⟨3, ![4, 8192, 128]⟩
abbrev S4x128x8192 : Shape := ⟨3, ![4, 128, 8192]⟩
abbrev S4x8192x144 : Shape := ⟨3, ![4, 8192, 144]⟩
abbrev S4x8192x2x16 : Shape := ⟨4, ![4, 8192, 2, 16]⟩
abbrev S4x8192x2x80 : Shape := ⟨4, ![4, 8192, 2, 80]⟩
abbrev S4x8192x160 : Shape := ⟨3, ![4, 8192, 160]⟩
abbrev S4x160x8192 : Shape := ⟨3, ![4, 160, 8192]⟩
abbrev S4x8192x32 : Shape := ⟨3, ![4, 8192, 32]⟩
abbrev S4x32x8192 : Shape := ⟨3, ![4, 32, 8192]⟩

abbrev nBuf : Space → Nat
  | .hbm => 300
  | .vmem => 0
  | .smem => 0
  | _ => 0

abbrev hbmTy0_0 (i : Nat) : BufTy := match i % 128 with
  | 0 => ⟨S4x8192x1024, .f32⟩
  | 1 => ⟨S4x6144, .f32⟩
  | 2 => ⟨S1024, .f32⟩
  | 3 => ⟨S1024x4376, .f32⟩
  | 4 => ⟨S64, .f32⟩
  | 5 => ⟨S3x64, .f32⟩
  | 6 => ⟨S4x1x6144, .f32⟩
  | 7 => ⟨S4x1x1024, .f32⟩
  | 8 => ⟨S4x1x1024, .f32⟩
  | 9 => ⟨S4x1x1024, .f32⟩
  | 10 => ⟨S4x1x1024, .f32⟩
  | 11 => ⟨S4x1x1024, .f32⟩
  | 12 => ⟨S4x1x1024, .f32⟩
  | 13 => ⟨S4x8192x1024, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S_, .f32⟩
  | 30 => ⟨S4x1x1024, .f32⟩
  | 31 => ⟨S4x1x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S4x8192x4376, .f32⟩
  | 37 => ⟨S4x8192x1024, .f32⟩
  | 38 => ⟨S4x8192x512, .f32⟩
  | 39 => ⟨S4x8192x768, .f32⟩
  | 40 => ⟨S4x8192x24, .f32⟩
  | 41 => ⟨S4x8192x2048, .f32⟩
  | 42 => ⟨S4x8192x512, .f32⟩
  | 43 => ⟨S4x8192x512, .f32⟩
  | 44 => ⟨S4x8192x512, .f32⟩
  | 45 => ⟨S4x8192x512, .f32⟩
  | 46 => ⟨S_, .f32⟩
  | 47 => ⟨S4x8192x512, .f32⟩
  | 48 => ⟨S4x8192x512, .f32⟩
  | 49 => ⟨S_, .f32⟩
  | 50 => ⟨S4x8192x512, .f32⟩
  | 51 => ⟨S4x8192x512, .f32⟩
  | 52 => ⟨S4x8192x512, .f32⟩
  | 53 => ⟨S4x8192x8x64, .f32⟩
  | 54 => ⟨S4x8192x8x64, .f32⟩
  | 55 => ⟨S_, .f32⟩
  | 56 => ⟨S4x8192x8, .f32⟩
  | 57 => ⟨S4x8192x8x1, .f32⟩
  | 58 => ⟨S_, .f32⟩
  | 59 => ⟨S4x8192x8x1, .f32⟩
  | 60 => ⟨S4x8192x8x1, .f32⟩
  | 61 => ⟨S_, .f32⟩
  | 62 => ⟨S4x8192x8x1, .f32⟩
  | 63 => ⟨S4x8192x8x1, .f32⟩
  | 64 => ⟨S4x8192x8x1, .f32⟩
  | 65 => ⟨S4x8192x8x64, .f32⟩
  | 66 => ⟨S4x8192x8x64, .f32⟩
  | 67 => ⟨S1x1x1x64, .f32⟩
  | 68 => ⟨S4x8192x8x64, .f32⟩
  | 69 => ⟨S4x8192x8x64, .f32⟩
  | 70 => ⟨S4x8192x6x2x64, .f32⟩
  | 71 => ⟨S4x8192x1x2x64, .f32⟩
  | 72 => ⟨S4x8192x2x64, .f32⟩
  | 73 => ⟨S1x64, .f32⟩
  | 74 => ⟨S64, .f32⟩
  | 75 => ⟨S4x8192x2x64, .f32⟩
  | 76 => ⟨S_, .f32⟩
  | 77 => ⟨S4x8192x2, .f32⟩
  | 78 => ⟨S4x8192x2x1, .f32⟩
  | 79 => ⟨S_, .f32⟩
  | 80 => ⟨S4x8192x2x1, .f32⟩
  | 81 => ⟨S4x8192x2x1, .f32⟩
  | 82 => ⟨S_, .f32⟩
  | 83 => ⟨S4x8192x2x1, .f32⟩
  | 84 => ⟨S4x8192x2x1, .f32⟩
  | 85 => ⟨S4x8192x2x1, .f32⟩
  | 86 => ⟨S4x8192x2x64, .f32⟩
  | 87 => ⟨S4x8192x2x64, .f32⟩
  | 88 => ⟨S1x1x1x64, .f32⟩
  | 89 => ⟨S4x8192x2x64, .f32⟩
  | 90 => ⟨S4x8192x2x64, .f32⟩
  | 91 => ⟨S4x8192x1x2x64, .f32⟩
  | 92 => ⟨S4x8192x2x64, .f32⟩
  | 93 => ⟨S4x8192x1x2x64, .f32⟩
  | 94 => ⟨S4x8192x2x64, .f32⟩
  | 95 => ⟨S1x64, .f32⟩
  | 96 => ⟨S64, .f32⟩
  | 97 => ⟨S4x8192x2x64, .f32⟩
  | 98 => ⟨S_, .f32⟩
  | 99 => ⟨S4x8192x2, .f32⟩
  | 100 => ⟨S4x8192x2x1, .f32⟩
  | 101 => ⟨S_, .f32⟩
  | 102 => ⟨S4x8192x2x1, .f32⟩
  | 103 => ⟨S4x8192x2x1, .f32⟩
  | 104 => ⟨S_, .f32⟩
  | 105 => ⟨S4x8192x2x1, .f32⟩
  | 106 => ⟨S4x8192x2x1, .f32⟩
  | 107 => ⟨S4x8192x2x1, .f32⟩
  | 108 => ⟨S4x8192x2x64, .f32⟩
  | 109 => ⟨S4x8192x2x64, .f32⟩
  | 110 => ⟨S1x1x1x64, .f32⟩
  | 111 => ⟨S4x8192x2x64, .f32⟩
  | 112 => ⟨S4x8192x2x64, .f32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S8192, .i32⟩
  | 122 => ⟨S8192, .f32⟩
  | 123 => ⟨S8192x1, .f32⟩
  | 124 => ⟨S1x32, .f32⟩
  | 125 => ⟨S8192x32, .f32⟩
  | 126 => ⟨S8192x32, .f32⟩
  | 127 => ⟨S8192x32, .f32⟩
  | _ => ⟨S4x8192x1024, .f32⟩

abbrev hbmTy0_1 (i : Nat) : BufTy := match i % 128 with
  | 0 => ⟨S8192x32, .f32⟩
  | 1 => ⟨S1x8192x1x32, .f32⟩
  | 2 => ⟨S8192x32, .f32⟩
  | 3 => ⟨S1x8192x1x32, .f32⟩
  | 4 => ⟨S4x8192x2x32, .f32⟩
  | 5 => ⟨S4x8192x2x32, .f32⟩
  | 6 => ⟨S4x8192x2x32, .f32⟩
  | 7 => ⟨S4x8192x2x32, .f32⟩
  | 8 => ⟨S4x8192x2x32, .f32⟩
  | 9 => ⟨S4x8192x2x32, .f32⟩
  | 10 => ⟨S4x8192x2x32, .f32⟩
  | 11 => ⟨S4x8192x2x32, .f32⟩
  | 12 => ⟨S4x8192x2x32, .f32⟩
  | 13 => ⟨S4x8192x2x32, .f32⟩
  | 14 => ⟨S4x8192x2x32, .f32⟩
  | 15 => ⟨S4x8192x2x32, .f32⟩
  | 16 => ⟨S4x8192x2x64, .f32⟩
  | 17 => ⟨S4x8192x1x2x64, .f32⟩
  | 18 => ⟨S4x8192x2x64, .f32⟩
  | 19 => ⟨S4x8192x1x2x64, .f32⟩
  | 20 => ⟨S4x8192x2x64, .f32⟩
  | 21 => ⟨S1x64, .f32⟩
  | 22 => ⟨S64, .f32⟩
  | 23 => ⟨S4x8192x2x64, .f32⟩
  | 24 => ⟨S_, .f32⟩
  | 25 => ⟨S4x8192x2, .f32⟩
  | 26 => ⟨S4x8192x2x1, .f32⟩
  | 27 => ⟨S_, .f32⟩
  | 28 => ⟨S4x8192x2x1, .f32⟩
  | 29 => ⟨S4x8192x2x1, .f32⟩
  | 30 => ⟨S_, .f32⟩
  | 31 => ⟨S4x8192x2x1, .f32⟩
  | 32 => ⟨S4x8192x2x1, .f32⟩
  | 33 => ⟨S4x8192x2x1, .f32⟩
  | 34 => ⟨S4x8192x2x64, .f32⟩
  | 35 => ⟨S4x8192x2x64, .f32⟩
  | 36 => ⟨S1x1x1x64, .f32⟩
  | 37 => ⟨S4x8192x2x64, .f32⟩
  | 38 => ⟨S4x8192x2x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S8192, .i32⟩
  | 48 => ⟨S8192, .f32⟩
  | 49 => ⟨S8192x1, .f32⟩
  | 50 => ⟨S1x32, .f32⟩
  | 51 => ⟨S8192x32, .f32⟩
  | 52 => ⟨S8192x32, .f32⟩
  | 53 => ⟨S8192x32, .f32⟩
  | 54 => ⟨S8192x32, .f32⟩
  | 55 => ⟨S1x8192x1x32, .f32⟩
  | 56 => ⟨S8192x32, .f32⟩
  | 57 => ⟨S1x8192x1x32, .f32⟩
  | 58 => ⟨S4x8192x2x32, .f32⟩
  | 59 => ⟨S4x8192x2x32, .f32⟩
  | 60 => ⟨S4x8192x2x32, .f32⟩
  | 61 => ⟨S4x8192x2x32, .f32⟩
  | 62 => ⟨S4x8192x2x32, .f32⟩
  | 63 => ⟨S4x8192x2x32, .f32⟩
  | 64 => ⟨S4x8192x2x32, .f32⟩
  | 65 => ⟨S4x8192x2x32, .f32⟩
  | 66 => ⟨S4x8192x2x32, .f32⟩
  | 67 => ⟨S4x8192x2x32, .f32⟩
  | 68 => ⟨S4x8192x2x32, .f32⟩
  | 69 => ⟨S4x8192x2x32, .f32⟩
  | 70 => ⟨S4x8192x2x64, .f32⟩
  | 71 => ⟨S4x8192x1x2x64, .f32⟩
  | 72 => ⟨S4x8192x2x64, .f32⟩
  | 73 => ⟨S16x8x64x16, .i32⟩
  | 74 => ⟨S16x8x64x16, .i32⟩
  | 75 => ⟨S16x8x64x16, .i1⟩
  | 76 => ⟨S16x8x64x16, .f32⟩
  | 77 => ⟨S1x8192x16, .f32⟩
  | 78 => ⟨S4x8192x16, .f32⟩
  | 79 => ⟨S_, .f32⟩
  | 80 => ⟨S4x8192x8, .f32⟩
  | 81 => ⟨S4x8192x2048, .f32⟩
  | 82 => ⟨S4x8192x2048, .f32⟩
  | 83 => ⟨S_, .f32⟩
  | 84 => ⟨S4x8192x2048, .f32⟩
  | 85 => ⟨S4x8192x2048, .f32⟩
  | 86 => ⟨S_, .f32⟩
  | 87 => ⟨S4x8192x2048, .f32⟩
  | 88 => ⟨S4x8192x2048, .f32⟩
  | 89 => ⟨S_, .f32⟩
  | 90 => ⟨S4x8192x8x64, .f32⟩
  | 91 => ⟨S4x8192x8x64, .f32⟩
  | 92 => ⟨S4x8192x512, .f32⟩
  | 93 => ⟨S4x512x8192, .f32⟩
  | 94 => ⟨S4x512x8192, .bf16⟩
  | 95 => ⟨S_, .f32⟩
  | 96 => ⟨S4x8192x8x64, .f32⟩
  | 97 => ⟨S4x8192x8x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S8192, .i32⟩
  | 107 => ⟨S8192, .f32⟩
  | 108 => ⟨S8192x1, .f32⟩
  | 109 => ⟨S1x32, .f32⟩
  | 110 => ⟨S8192x32, .f32⟩
  | 111 => ⟨S8192x32, .f32⟩
  | 112 => ⟨S8192x32, .f32⟩
  | 113 => ⟨S8192x32, .f32⟩
  | 114 => ⟨S1x8192x1x32, .f32⟩
  | 115 => ⟨S8192x32, .f32⟩
  | 116 => ⟨S1x8192x1x32, .f32⟩
  | 117 => ⟨S4x8192x8x32, .f32⟩
  | 118 => ⟨S4x8192x8x32, .f32⟩
  | 119 => ⟨S4x8192x8x32, .f32⟩
  | 120 => ⟨S4x8192x8x32, .f32⟩
  | 121 => ⟨S4x8192x8x32, .f32⟩
  | 122 => ⟨S4x8192x8x32, .f32⟩
  | 123 => ⟨S4x8192x8x32, .f32⟩
  | 124 => ⟨S4x8192x8x32, .f32⟩
  | 125 => ⟨S4x8192x8x32, .f32⟩
  | 126 => ⟨S4x8192x8x32, .f32⟩
  | 127 => ⟨S4x8192x8x32, .f32⟩
  | _ => ⟨S4x8192x1024, .f32⟩

abbrev hbmTy0_2 (i : Nat) : BufTy := match i % 128 with
  | 0 => ⟨S4x8192x8x32, .f32⟩
  | 1 => ⟨S4x8192x8x64, .f32⟩
  | 2 => ⟨S4x8192x512, .f32⟩
  | 3 => ⟨S4x512x8192, .f32⟩
  | 4 => ⟨S4x512x8192, .bf16⟩
  | 5 => ⟨S4x8192x128, .f32⟩
  | 6 => ⟨S4x128x8192, .f32⟩
  | 7 => ⟨S4x8192x128, .f32⟩
  | 8 => ⟨S4x128x8192, .f32⟩
  | 9 => ⟨S4x8192x128, .f32⟩
  | 10 => ⟨S4x128x8192, .f32⟩
  | 11 => ⟨S4x8192x128, .f32⟩
  | 12 => ⟨S4x128x8192, .f32⟩
  | 13 => ⟨S4x8192x128, .f32⟩
  | 14 => ⟨S4x128x8192, .f32⟩
  | 15 => ⟨S4x8192x128, .f32⟩
  | 16 => ⟨S4x128x8192, .f32⟩
  | 17 => ⟨S4x8192x128, .f32⟩
  | 18 => ⟨S4x8192x144, .f32⟩
  | 19 => ⟨S4x8192x144, .bf16⟩
  | 20 => ⟨S4x8192x128, .f32⟩
  | 21 => ⟨S4x8192x128, .bf16⟩
  | 22 => ⟨S_, .f32⟩
  | 23 => ⟨S4x8192x2x16, .f32⟩
  | 24 => ⟨S4x8192x2x80, .f32⟩
  | 25 => ⟨S4x8192x160, .f32⟩
  | 26 => ⟨S4x160x8192, .f32⟩
  | 27 => ⟨S4x160x8192, .bf16⟩
  | 28 => ⟨S_, .f32⟩
  | 29 => ⟨S4x8192x2x16, .f32⟩
  | 30 => ⟨S4x8192x2x80, .f32⟩
  | 31 => ⟨S4x8192x160, .f32⟩
  | 32 => ⟨S4x160x8192, .f32⟩
  | 33 => ⟨S4x160x8192, .bf16⟩
  | 34 => ⟨S4x8192x32, .f32⟩
  | 35 => ⟨S4x8192x32, .f32⟩
  | 36 => ⟨S4x8192x32, .f32⟩
  | 37 => ⟨S_, .f32⟩
  | 38 => ⟨S4x8192x32, .f32⟩
  | 39 => ⟨S4x8192x32, .f32⟩
  | 40 => ⟨S_, .f32⟩
  | 41 => ⟨S4x8192x32, .f32⟩
  | 42 => ⟨S4x8192x32, .f32⟩
  | 43 => ⟨S4x32x8192, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_16 : Ref sig .tc := ⟨.hbm, 152, rfl⟩
abbrev main_v129 : Ref sig .tc := ⟨.hbm, 153, rfl⟩
abbrev main_v130 : Ref sig .tc := ⟨.hbm, 154, rfl⟩
abbrev main_cst_17 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_19 : Ref sig .tc := ⟨.hbm, 169, rfl⟩
abbrev main_v143 : Ref sig .tc := ⟨.hbm, 170, rfl⟩
abbrev main_v144 : Ref sig .tc := ⟨.hbm, 171, rfl⟩
abbrev main_cst_20 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_cst_21 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_cst_22 : Ref sig .tc := ⟨.hbm, 211, rfl⟩
abbrev main_v182 : Ref sig .tc := ⟨.hbm, 212, rfl⟩
abbrev main_v183 : Ref sig .tc := ⟨.hbm, 213, rfl⟩
abbrev main_cst_23 : Ref sig .tc := ⟨.hbm, 214, rfl⟩
abbrev main_v184 : Ref sig .tc := ⟨.hbm, 215, rfl⟩
abbrev main_v185 : Ref sig .tc := ⟨.hbm, 216, rfl⟩
abbrev main_cst_24 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_cst_25 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_cst_26 : Ref sig .tc := ⟨.hbm, 228, rfl⟩
abbrev main_v195 : Ref sig .tc := ⟨.hbm, 229, rfl⟩
abbrev main_v196 : Ref sig .tc := ⟨.hbm, 230, rfl⟩
abbrev main_cst_27 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_cst_28 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_cst_29 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_cst_30 : Ref sig .tc := ⟨.hbm, 293, rfl⟩
abbrev main_v256 : Ref sig .tc := ⟨.hbm, 294, rfl⟩
abbrev main_v257 : Ref sig .tc := ⟨.hbm, 295, rfl⟩
abbrev main_cst_31 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩

abbrev nD : Nat := 1
abbrev τ : Topo := Topo.v7x

variable {F : FTy → Type} [FloatOps F]
-- ==== Conv.lean ====
abbrev S4x8192x512 : Shape := ⟨3, ![4, 8192, 512]⟩
abbrev S31x512 : Shape := ⟨2, ![31, 512]⟩
abbrev S512 : Shape := ⟨1, ![512]⟩
abbrev S512x1024 : Shape := ⟨2, ![512, 1024]⟩
abbrev S_ : Shape := ⟨0, ![]⟩
abbrev S4x30x512 : Shape := ⟨3, ![4, 30, 512]⟩
abbrev S1x512 : Shape := ⟨2, ![1, 512]⟩
abbrev S4x8192x1024 : Shape := ⟨3, ![4, 8192, 1024]⟩
abbrev S1x256x512 : Shape := ⟨3, ![1, 256, 512]⟩
abbrev S1x30x512 : Shape := ⟨3, ![1, 30, 512]⟩
abbrev S1x256x1024 : Shape := ⟨3, ![1, 256, 1024]⟩
abbrev S288x512 : Shape := ⟨2, ![288, 512]⟩
abbrev S7x280x512 : Shape := ⟨3, ![7, 280, 512]⟩
abbrev S256x512 : Shape := ⟨2, ![256, 512]⟩
abbrev S2x512 : Shape := ⟨2, ![2, 512]⟩
abbrev S30x512 : Shape := ⟨2, ![30, 512]⟩
abbrev S280x512 : Shape := ⟨2, ![280, 512]⟩
abbrev S1x280x512 : Shape := ⟨3, ![1, 280, 512]⟩
abbrev S256 : Shape := ⟨1, ![256]⟩
abbrev S256x1 : Shape := ⟨2, ![256, 1]⟩
abbrev S256x1024 : Shape := ⟨2, ![256, 1024]⟩
abbrev S32x512 : Shape := ⟨2, ![32, 512]⟩

abbrev nBuf : Space → Nat
  | .hbm => 14
  | .vmem => 15
  | .smem => 0
  | _ => 0

abbrev bufTy : (tb : Table) → Fin (tcTables nBuf tb) → BufTy
  | .hbm, ⟨0, _⟩ => ⟨S4x8192x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x1024, .f32⟩
  | .hbm, ⟨6, _⟩ => ⟨S512x1024, .bf16⟩
  | .hbm, ⟨7, _⟩ => ⟨S_, .f32⟩
  | .hbm, ⟨8, _⟩ => ⟨S4x30x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S4x8192x1024, .f32⟩
  | .hbm, ⟨13, _⟩ => ⟨S4x30x512, .f32⟩
  | .local _ .vmem, ⟨0, _⟩ => ⟨S1x256x512, .f32⟩
  | .local _ .vmem, ⟨1, _⟩ => ⟨S1x256x512, .f32⟩
  | .local _ .vmem, ⟨2, _⟩ => ⟨S1x30x512, .f32⟩
  | .local _ .vmem, ⟨3, _⟩ => ⟨S1x30x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x30x512, .f32⟩
  | .local _ .vmem, ⟨12, _⟩ => ⟨S1x30x512, .f32⟩
  | .local _ .vmem, ⟨13, _⟩ => ⟨S288x512, .f32⟩
  | .local _ .vmem, ⟨14, _⟩ => ⟨S7x280x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x30x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvReferenceIdeal.lean ====
abbrev S4x8192x512 : Shape := ⟨3, ![4, 8192, 512]⟩
abbrev S31x512 : Shape := ⟨2, ![31, 512]⟩
abbrev S512 : Shape := ⟨1, ![512]⟩
abbrev S512x1024 : Shape := ⟨2, ![512, 1024]⟩
abbrev S_ : Shape := ⟨0, ![]⟩
abbrev S4x30x512 : Shape := ⟨3, ![4, 30, 512]⟩
abbrev S4x8222x512 : Shape := ⟨3, ![4, 8222, 512]⟩
abbrev S1x512 : Shape := ⟨2, ![1, 512]⟩
abbrev S1x1x512 : Shape := ⟨3, ![1, 1, 512]⟩
abbrev S4x8192 : Shape := ⟨2, ![4, 8192]⟩
abbrev S4x8192x1 : Shape := ⟨3, ![4, 8192, 1]⟩
abbrev S4x8192x1024 : Shape := ⟨3, ![4, 8192, 1024]⟩

abbrev nBuf : Space → Nat
  | .hbm => 271
  | .vmem => 0
  | .smem => 0
  | _ => 0

abbrev hbmTy0_0 (i : Nat) : BufTy := match i % 128 with
  | 0 => ⟨S4x8192x512, .f32⟩
  | 1 => ⟨S31x512, .f32⟩
  | 2 => ⟨S512, .f32⟩
  | 3 => ⟨S512, .f32⟩
  | 4 => ⟨S512, .f32⟩
  | 5 => ⟨S512x1024, .f32⟩
  | 6 => ⟨S_, .f32⟩
  | 7 => ⟨S4x30x512, .f32⟩
  | 8 => ⟨S4x8222x512, .f32⟩
  | 9 => ⟨S4x8192x512, .f32⟩
  | 10 => ⟨S1x512, .f32⟩
  | 11 => ⟨S512, .f32⟩
  | 12 => ⟨S1x1x512, .f32⟩
  | 13 => ⟨S4x8192x512, .f32⟩
  | 14 => ⟨S4x8192x512, .f32⟩
  | 15 => ⟨S_, .f32⟩
  | 16 => ⟨S4x8192x512, .f32⟩
  | 17 => ⟨S4x8192x512, .f32⟩
  | 18 => ⟨S4x8192x512, .f32⟩
  | 19 => ⟨S1x512, .f32⟩
  | 20 => ⟨S512, .f32⟩
  | 21 => ⟨S1x1x512, .f32⟩
  | 22 => ⟨S4x8192x512, .f32⟩
  | 23 => ⟨S4x8192x512, .f32⟩
  | 24 => ⟨S4x8192x512, .f32⟩
  | 25 => ⟨S4x8192x512, .f32⟩
  | 26 => ⟨S1x512, .f32⟩
  | 27 => ⟨S512, .f32⟩
  | 28 => ⟨S1x1x512, .f32⟩
  | 29 => ⟨S4x8192x512, .f32⟩
  | 30 => ⟨S4x8192x512, .f32⟩
  | 31 => ⟨S4x8192x512, .f32⟩
  | 32 => ⟨S4x8192x512, .f32⟩
  | 33 => ⟨S1x512, .f32⟩
  | 34 => ⟨S512, .f32⟩
  | 35 => ⟨S1x1x512, .f32⟩
  | 36 => ⟨S4x8192x512, .f32⟩
  | 37 => ⟨S4x8192x512, .f32⟩
  | 38 => ⟨S4x8192x512, .f32⟩
  | 39 => ⟨S4x8192x512, .f32⟩
  | 40 => ⟨S1x512, .f32⟩
  | 41 => ⟨S512, .f32⟩
  | 42 => ⟨S1x1x512, .f32⟩
  | 43 => ⟨S4x8192x512, .f32⟩
  | 44 => ⟨S4x8192x512, .f32⟩
  | 45 => ⟨S4x8192x512, .f32⟩
  | 46 => ⟨S4x8192x512, .f32⟩
  | 47 => ⟨S1x512, .f32⟩
  | 48 => ⟨S512, .f32⟩
  | 49 => ⟨S1x1x512, .f32⟩
  | 50 => ⟨S4x8192x512, .f32⟩
  | 51 => ⟨S4x8192x512, .f32⟩
  | 52 => ⟨S4x8192x512, .f32⟩
  | 53 => ⟨S4x8192x512, .f32⟩
  | 54 => ⟨S1x512, .f32⟩
  | 55 => ⟨S512, .f32⟩
  | 56 => ⟨S1x1x512, .f32⟩
  | 57 => ⟨S4x8192x512, .f32⟩
  | 58 => ⟨S4x8192x512, .f32⟩
  | 59 => ⟨S4x8192x512, .f32⟩
  | 60 => ⟨S4x8192x512, .f32⟩
  | 61 => ⟨S1x512, .f32⟩
  | 62 => ⟨S512, .f32⟩
  | 63 => ⟨S1x1x512, .f32⟩
  | 64 => ⟨S4x8192x512, .f32⟩
  | 65 => ⟨S4x8192x512, .f32⟩
  | 66 => ⟨S4x8192x512, .f32⟩
  | 67 => ⟨S4x8192x512, .f32⟩
  | 68 => ⟨S1x512, .f32⟩
  | 69 => ⟨S512, .f32⟩
  | 70 => ⟨S1x1x512, .f32⟩
  | 71 => ⟨S4x8192x512, .f32⟩
  | 72 => ⟨S4x8192x512, .f32⟩
  | 73 => ⟨S4x8192x512, .f32⟩
  | 74 => ⟨S4x8192x512, .f32⟩
  | 75 => ⟨S1x512, .f32⟩
  | 76 => ⟨S512, .f32⟩
  | 77 => ⟨S1x1x512, .f32⟩
  | 78 => ⟨S4x8192x512, .f32⟩
  | 79 => ⟨S4x8192x512, .f32⟩
  | 80 => ⟨S4x8192x512, .f32⟩
  | 81 => ⟨S4x8192x512, .f32⟩
  | 82 => ⟨S1x512, .f32⟩
  | 83 => ⟨S512, .f32⟩
  | 84 => ⟨S1x1x512, .f32⟩
  | 85 => ⟨S4x8192x512, .f32⟩
  | 86 => ⟨S4x8192x512, .f32⟩
  | 87 => ⟨S4x8192x512, .f32⟩
  | 88 => ⟨S4x8192x512, .f32⟩
  | 89 => ⟨S1x512, .f32⟩
  | 90 => ⟨S512, .f32⟩
  | 91 => ⟨S1x1x512, .f32⟩
  | 92 => ⟨S4x8192x512, .f32⟩
  | 93 => ⟨S4x8192x512, .f32⟩
  | 94 => ⟨S4x8192x512, .f32⟩
  | 95 => ⟨S4x8192x512, .f32⟩
  | 96 => ⟨S1x512, .f32⟩
  | 97 => ⟨S512, .f32⟩
  | 98 => ⟨S1x1x512, .f32⟩
  | 99 => ⟨S4x8192x512, .f32⟩
  | 100 => ⟨S4x8192x512, .f32⟩
  | 101 => ⟨S4x8192x512, .f32⟩
  | 102 => ⟨S4x8192x512, .f32⟩
  | 103 => ⟨S1x512, .f32⟩
  | 104 => ⟨S512, .f32⟩
  | 105 => ⟨S1x1x512, .f32⟩
  | 106 => ⟨S4x8192x512, .f32⟩
  | 107 => ⟨S4x8192x512, .f32⟩
  | 108 => ⟨S4x8192x512, .f32⟩
  | 109 => ⟨S4x8192x512, .f32⟩
  | 110 => ⟨S1x512, .f32⟩
  | 111 => ⟨S512, .f32⟩
  | 112 => ⟨S1x1x512, .f32⟩
  | 113 => ⟨S4x8192x512, .f32⟩
  | 114 => ⟨S4x8192x512, .f32⟩
  | 115 => ⟨S4x8192x512, .f32⟩
  | 116 => ⟨S4x8192x512, .f32⟩
  | 117 => ⟨S1x512, .f32⟩
  | 118 => ⟨S512, .f32⟩
  | 119 => ⟨S1x1x512, .f32⟩
  | 120 => ⟨S4x8192x512, .f32⟩
  | 121 => ⟨S4x8192x512, .f32⟩
  | 122 => ⟨S4x8192x512, .f32⟩
  | 123 => ⟨S4x8192x512, .f32⟩
  | 124 => ⟨S1x512, .f32⟩
  | 125 => ⟨S512, .f32⟩
  | 126 => ⟨S1x1x512, .f32⟩
  | 127 => ⟨S4x8192x512, .f32⟩
  | _ => ⟨S4x8192x512, .f32⟩

abbrev hbmTy0_1 (i : Nat) : BufTy := match i % 128 with
  | 0 => ⟨S4x8192x512, .f32⟩
  | 1 => ⟨S4x8192x512, .f32⟩
  | 2 => ⟨S4x8192x512, .f32⟩
  | 3 => ⟨S1x512, .f32⟩
  | 4 => ⟨S512, .f32⟩
  | 5 => ⟨S1x1x512, .f32⟩
  | 6 => ⟨S4x8192x512, .f32⟩
  | 7 => ⟨S4x8192x512, .f32⟩
  | 8 => ⟨S4x8192x512, .f32⟩
  | 9 => ⟨S4x8192x512, .f32⟩
  | 10 => ⟨S1x512, .f32⟩
  | 11 => ⟨S512, .f32⟩
  | 12 => ⟨S1x1x512, .f32⟩
  | 13 => ⟨S4x8192x512, .f32⟩
  | 14 => ⟨S4x8192x512, .f32⟩
  | 15 => ⟨S4x8192x512, .f32⟩
  | 16 => ⟨S4x8192x512, .f32⟩
  | 17 => ⟨S1x512, .f32⟩
  | 18 => ⟨S512, .f32⟩
  | 19 => ⟨S1x1x512, .f32⟩
  | 20 => ⟨S4x8192x512, .f32⟩
  | 21 => ⟨S4x8192x512, .f32⟩
  | 22 => ⟨S4x8192x512, .f32⟩
  | 23 => ⟨S4x8192x512, .f32⟩
  | 24 => ⟨S1x512, .f32⟩
  | 25 => ⟨S512, .f32⟩
  | 26 => ⟨S1x1x512, .f32⟩
  | 27 => ⟨S4x8192x512, .f32⟩
  | 28 => ⟨S4x8192x512, .f32⟩
  | 29 => ⟨S4x8192x512, .f32⟩
  | 30 => ⟨S4x8192x512, .f32⟩
  | 31 => ⟨S1x512, .f32⟩
  | 32 => ⟨S512, .f32⟩
  | 33 => ⟨S1x1x512, .f32⟩
  | 34 => ⟨S4x8192x512, .f32⟩
  | 35 => ⟨S4x8192x512, .f32⟩
  | 36 => ⟨S4x8192x512, .f32⟩
  | 37 => ⟨S4x8192x512, .f32⟩
  | 38 => ⟨S1x512, .f32⟩
  | 39 => ⟨S512, .f32⟩
  | 40 => ⟨S1x1x512, .f32⟩
  | 41 => ⟨S4x8192x512, .f32⟩
  | 42 => ⟨S4x8192x512, .f32⟩
  | 43 => ⟨S4x8192x512, .f32⟩
  | 44 => ⟨S4x8192x512, .f32⟩
  | 45 => ⟨S1x512, .f32⟩
  | 46 => ⟨S512, .f32⟩
  | 47 => ⟨S1x1x512, .f32⟩
  | 48 => ⟨S4x8192x512, .f32⟩
  | 49 => ⟨S4x8192x512, .f32⟩
  | 50 => ⟨S4x8192x512, .f32⟩
  | 51 => ⟨S4x8192x512, .f32⟩
  | 52 => ⟨S1x512, .f32⟩
  | 53 => ⟨S512, .f32⟩
  | 54 => ⟨S1x1x512, .f32⟩
  | 55 => ⟨S4x8192x512, .f32⟩
  | 56 => ⟨S4x8192x512, .f32⟩
  | 57 => ⟨S4x8192x512, .f32⟩
  | 58 => ⟨S4x8192x512, .f32⟩
  | 59 => ⟨S1x512, .f32⟩
  | 60 => ⟨S512, .f32⟩
  | 61 => ⟨S1x1x512, .f32⟩
  | 62 => ⟨S4x8192x512, .f32⟩
  | 63 => ⟨S4x8192x512, .f32⟩
  | 64 => ⟨S4x8192x512, .f32⟩
  | 65 => ⟨S4x8192x512, .f32⟩
  | 66 => ⟨S1x512, .f32⟩
  | 67 => ⟨S512, .f32⟩
  | 68 => ⟨S1x1x512, .f32⟩
  | 69 => ⟨S4x8192x512, .f32⟩
  | 70 => ⟨S4x8192x512, .f32⟩
  | 71 => ⟨S4x8192x512, .f32⟩
  | 72 => ⟨S4x8192x512, .f32⟩
  | 73 => ⟨S1x512, .f32⟩
  | 74 => ⟨S512, .f32⟩
  | 75 => ⟨S1x1x512, .f32⟩
  | 76 => ⟨S4x8192x512, .f32⟩
  | 77 => ⟨S4x8192x512, .f32⟩
  | 78 => ⟨S4x8192x512, .f32⟩
  | 79 => ⟨S4x8192x512, .f32⟩
  | 80 => ⟨S1x512, .f32⟩
  | 81 => ⟨S512, .f32⟩
  | 82 => ⟨S1x1x512, .f32⟩
  | 83 => ⟨S4x8192x512, .f32⟩
  | 84 => ⟨S4x8192x512, .f32⟩
  | 85 => ⟨S4x8192x512, .f32⟩
  | 86 => ⟨S4x8192x512, .f32⟩
  | 87 => ⟨S1x512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S4x8192x512, .f32⟩
  | 94 => ⟨S1x512, .f32⟩
  | 95 => ⟨S512, .f32⟩
  | 96 => ⟨S1x1x512, .f32⟩
  | 97 => ⟨S4x8192x512, .f32⟩
  | 98 => ⟨S4x8192x512, .f32⟩
  | 99 => ⟨S4x8192x512, .f32⟩
  | 100 => ⟨S1x1x512, .f32⟩
  | 101 => ⟨S4x8192x512, .f32⟩
  | 102 => ⟨S4x8192x512, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S4x8192x512, .f32⟩
  | 110 => ⟨S4x8192x512, .f32⟩
  | 111 => ⟨S4x8192x512, .f32⟩
  | 112 => ⟨S_, .f32⟩
  | 113 => ⟨S4x8192, .f32⟩
  | 114 => ⟨S4x8192x1, .f32⟩
  | 115 => ⟨S_, .f32⟩
  | 116 => ⟨S4x8192x1, .f32⟩
  | 117 => ⟨S4x8192x1, .f32⟩
  | 118 => ⟨S4x8192x512, .f32⟩
  | 119 => ⟨S4x8192x512, .f32⟩
  | 120 => ⟨S_, .f32⟩
  | 121 => ⟨S4x8192x1, .f32⟩
  | 122 => ⟨S4x8192x1, .f32⟩
  | 123 => ⟨S4x8192x1, .f32⟩
  | 124 => ⟨S4x8192x512, .f32⟩
  | 125 => ⟨S4x8192x512, .f32⟩
  | 126 => ⟨S1x1x512, .f32⟩
  | 127 => ⟨S4x8192x512, .f32⟩
  | _ => ⟨S4x8192x512, .f32⟩

abbrev hbmTy0_2 (i : Nat) : BufTy := match i % 128 with
  | 0 => ⟨S4x8192x512, .f32⟩
  | 1 => ⟨S1x1x512, .f32⟩
  | 2 => ⟨S4x8192x512, .f32⟩
  | 3 => ⟨S4x8192x512, .f32⟩
  | 4 => ⟨S4x8192x512, .f32⟩
  | 5 => ⟨S4x8192x512, .f32⟩
  | 6 => ⟨S_, .f32⟩
  | 7 => ⟨S4x8192x512, .f32⟩
  | 8 => ⟨S4x8192x512, .f32⟩
  | 9 => ⟨S_, .f32⟩
  | 10 => ⟨S4x8192x512, .f32⟩
  | 11 => ⟨S4x8192x512, .f32⟩
  | 12 => ⟨S4x8192x512, .f32⟩
  | 13 => ⟨S4x8192x1024, .f32⟩
  | 14 => ⟨S4x30x512, .f32⟩
  | _ => ⟨S4x8192x512, .f32⟩

abbrev hbmTy (i : Nat) : BufTy := match i / 128 with
  | 0 => hbmTy0_0 i
  | 1 => hbmTy0_1 i
  | 2 => hbmTy0_2 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_cst_1 : Ref sig .tc := ⟨.hbm, 231, rfl⟩
abbrev main_v223 : Ref sig .tc := ⟨.hbm, 232, rfl⟩
abbrev main_v224 : Ref sig .tc := ⟨.hbm, 233, rfl⟩
abbrev main_cst_2 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_cst_3 : Ref sig .tc := ⟨.hbm, 240, rfl⟩
abbrev main_v230 : Ref sig .tc := ⟨.hbm, 241, rfl⟩
abbrev main_v231 : Ref sig .tc := ⟨.hbm, 242, rfl⟩
abbrev main_cst_4 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_cst_5 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩

abbrev nD : Nat := 1
abbrev τ : Topo := Topo.v7x

variable {F : FTy → Type} [FloatOps F]
-- ==== Ada.lean ====
abbrev S36x1024 : Shape := ⟨2, ![36, 1024]⟩
abbrev S1024x6144 : Shape := ⟨2, ![1024, 6144]⟩
abbrev S6144 : Shape := ⟨1, ![6144]⟩
abbrev S1x6144 : Shape := ⟨2, ![1, 6144]⟩
abbrev S36x6144 : Shape := ⟨2, ![36, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S36x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S36x6144, .f32⟩
  | .local _ .vmem, ⟨0, _⟩ => ⟨S36x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S36x1024, .f32⟩
  | .local _ .vmem, ⟨6, _⟩ => ⟨S36x1024, .f32⟩
  | _, _ => ⟨S36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S36x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S36x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S36x1024 : Shape := ⟨2, ![36, 1024]⟩
abbrev S1024x6144 : Shape := ⟨2, ![1024, 6144]⟩
abbrev S6144 : Shape := ⟨1, ![6144]⟩
abbrev S_ : Shape := ⟨0, ![]⟩
abbrev S36x6144 : Shape := ⟨2, ![36, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S36x1024, .f32⟩
  | .hbm, ⟨1, _⟩ => ⟨S1024x6144, .f32⟩
  | .hbm, ⟨2, _⟩ => ⟨S6144, .f32⟩
  | .hbm, ⟨3, _⟩ => ⟨S36x1024, .f32⟩
  | .hbm, ⟨4, _⟩ => ⟨S36x1024, .f32⟩
  | .hbm, ⟨5, _⟩ => ⟨S_, .f32⟩
  | .hbm, ⟨6, _⟩ => ⟨S36x1024, .f32⟩
  | .hbm, ⟨7, _⟩ => ⟨S36x1024, .f32⟩
  | .hbm, ⟨8, _⟩ => ⟨S_, .f32⟩
  | .hbm, ⟨9, _⟩ => ⟨S36x1024, .f32⟩
  | .hbm, ⟨10, _⟩ => ⟨S36x1024, .f32⟩
  | .hbm, ⟨11, _⟩ => ⟨S36x1024, .f32⟩
  | .hbm, ⟨12, _⟩ => ⟨S36x6144, .f32⟩
  | .hbm, ⟨13, _⟩ => ⟨S1x6144, .f32⟩
  | .hbm, ⟨14, _⟩ => ⟨S36x6144, .f32⟩
  | .hbm, ⟨15, _⟩ => ⟨S36x6144, .f32⟩
  | _, _ => ⟨S36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Compress.lean ====
abbrev S4x8192x2x64 : Shape := ⟨4, ![4, 8192, 2, 64]⟩
abbrev S64x64 : Shape := ⟨2, ![64, 64]⟩
abbrev S4x2x64x8192 : Shape := ⟨4, ![4, 2, 64, 8192]⟩
abbrev S4x128x8192 : Shape := ⟨3, ![4, 128, 8192]⟩
abbrev S2048 : Shape := ⟨1, ![2048]⟩
abbrev S1x2048x1 : Shape := ⟨3, ![1, 2048, 1]⟩
abbrev S4 : Shape := ⟨1, ![4]⟩
abbrev S4x1x1 : Shape := ⟨3, ![4, 1, 1]⟩
abbrev S128 : Shape := ⟨1, ![128]⟩
abbrev S1x1x128 : Shape := ⟨3, ![1, 1, 128]⟩
abbrev S_ : Shape := ⟨0, ![]⟩
abbrev S4x2048x1 : Shape := ⟨3, ![4, 2048, 1]⟩
abbrev S4x2048x128 : Shape := ⟨3, ![4, 2048, 128]⟩
abbrev S1x64x1x64 : Shape := ⟨4, ![1, 64, 1, 64]⟩
abbrev S2x64x32x64 : Shape := ⟨4, ![2, 64, 32, 64]⟩
abbrev S128x2048 : Shape := ⟨2, ![128, 2048]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S4x128x128 : Shape := ⟨3, ![4, 128, 128]⟩
abbrev S1x128x2048 : Shape := ⟨3, ![1, 128, 2048]⟩
abbrev S1x128x128 : Shape := ⟨3, ![1, 128, 128]⟩
abbrev S2x128x128 : Shape := ⟨3, ![2, 128, 128]⟩
abbrev S1x2048x128 : Shape := ⟨3, ![1, 2048, 128]⟩
abbrev S2048x128 : Shape := ⟨2, ![2048, 128]⟩
abbrev S256x2048 : Shape := ⟨2, ![256, 2048]⟩
abbrev S256x128 : Shape := ⟨2, ![256, 128]⟩

abbrev nBuf : Space → Nat
  | .hbm => 89
  | .vmem => 14
  | .smem => 0
  | _ => 0

abbrev bufTy : (tb : Table) → Fin (tcTables nBuf tb) → BufTy
  | .hbm, ⟨0, _⟩ => ⟨S4x8192x2x64, .f32⟩
  | .hbm, ⟨1, _⟩ => ⟨S4x8192x2x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S4x2x64x8192, .f32⟩
  | .hbm, ⟨7, _⟩ => ⟨S4x128x8192, .f32⟩
  | .hbm, ⟨8, _⟩ => ⟨S4x2x64x8192, .f32⟩
  | .hbm, ⟨9, _⟩ => ⟨S4x128x8192, .f32⟩
  | .hbm, ⟨10, _⟩ => ⟨S2048, .i32⟩
  | .hbm, ⟨11, _⟩ => ⟨S1x2048x1, .i32⟩
  | .hbm, ⟨12, _⟩ => ⟨S4, .i32⟩
  | .hbm, ⟨13, _⟩ => ⟨S4x1x1, .i32⟩
  | .hbm, ⟨14, _⟩ => ⟨S128, .i32⟩
  | .hbm, ⟨15, _⟩ => ⟨S1x1x128, .i32⟩
  | .hbm, ⟨16, _⟩ => ⟨S_, .i32⟩
  | .hbm, ⟨17, _⟩ => ⟨S4x1x1, .i32⟩
  | .hbm, ⟨18, _⟩ => ⟨S4x1x1, .i32⟩
  | .hbm, ⟨19, _⟩ => ⟨S_, .i32⟩
  | .hbm, ⟨20, _⟩ => ⟨S_, .i32⟩
  | .hbm, ⟨21, _⟩ => ⟨S1x2048x1, .i32⟩
  | .hbm, ⟨22, _⟩ => ⟨S1x2048x1, .i32⟩
  | .hbm, ⟨23, _⟩ => ⟨S1x2048x1, .i32⟩
  | .hbm, ⟨24, _⟩ => ⟨S_, .i32⟩
  | .hbm, ⟨25, _⟩ => ⟨S1x2048x1, .i32⟩
  | .hbm, ⟨26, _⟩ => ⟨S1x2048x1, .i1⟩
  | .hbm, ⟨27, _⟩ => ⟨S1x2048x1, .i32⟩
  | .hbm, ⟨28, _⟩ => ⟨S1x2048x1, .i32⟩
  | .hbm, ⟨29, _⟩ => ⟨S_, .i32⟩
  | .hbm, ⟨30, _⟩ => ⟨S1x2048x1, .i32⟩
  | .hbm, ⟨31, _⟩ => ⟨S1x2048x1, .i1⟩
  | .hbm, ⟨32, _⟩ => ⟨S1x2048x1, .i1⟩
  | .hbm, ⟨33, _⟩ => ⟨S_, .i32⟩
  | .hbm, ⟨34, _⟩ => ⟨S1x2048x1, .i32⟩
  | .hbm, ⟨35, _⟩ => ⟨S1x2048x1, .i32⟩
  | .hbm, ⟨36, _⟩ => ⟨S1x2048x1, .i32⟩
  | .hbm, ⟨37, _⟩ => ⟨S4x2048x1, .i32⟩
  | .hbm, ⟨38, _⟩ => ⟨S4x2048x1, .i32⟩
  | .hbm, ⟨39, _⟩ => ⟨S4x2048x1, .i32⟩
  | .hbm, ⟨40, _⟩ => ⟨S4x2048x128, .i32⟩
  | .hbm, ⟨41, _⟩ => ⟨S4x2048x128, .i32⟩
  | .hbm, ⟨42, _⟩ => ⟨S4x2048x128, .i1⟩
  | .hbm, ⟨43, _⟩ => ⟨S_, .f32⟩
  | .hbm, ⟨44, _⟩ => ⟨S_, .f32⟩
  | .hbm, ⟨45, _⟩ => ⟨S4x2048x128, .f32⟩
  | .hbm, ⟨46, _⟩ => ⟨S4x2048x128, .f32⟩
  | .hbm, ⟨47, _⟩ => ⟨S4x2048x128, .f32⟩
  | .hbm, ⟨48, _⟩ => ⟨S4x2048x128, .bf16⟩
  | .hbm, ⟨49, _⟩ => ⟨S64x64, .f32⟩
  | .hbm, ⟨50, _⟩ => ⟨S1x64x1x64, .f32⟩
  | .hbm, ⟨51, _⟩ => ⟨S2x64x32x64, .f32⟩
  | .hbm, ⟨52, _⟩ => ⟨S128x2048, .f32⟩
  | .hbm, ⟨53, _⟩ => ⟨S2x2, .i32⟩
  | .hbm, ⟨54, _⟩ => ⟨S2x2, .i32⟩
  | .hbm, ⟨55, _⟩ => ⟨S_, .i32⟩
  | .hbm, ⟨56, _⟩ => ⟨S2x2, .i32⟩
  | .hbm, ⟨57, _⟩ => ⟨S2x2, .i32⟩
  | .hbm, ⟨58, _⟩ => ⟨S2x2, .i1⟩
  | .hbm, ⟨59, _⟩ => ⟨S2x2, .f32⟩
  | .hbm, ⟨60, _⟩ => ⟨S64x64, .f32⟩
  | .hbm, ⟨61, _⟩ => ⟨S2x1x2x1, .f32⟩
  | .hbm, ⟨62, _⟩ => ⟨S1x64x1x64, .f32⟩
  | .hbm, ⟨63, _⟩ => ⟨S2x64x2x64, .f32⟩
  | .hbm, ⟨64, _⟩ => ⟨S2x64x2x64, .f32⟩
  | .hbm, ⟨65, _⟩ => ⟨S2x64x2x64, .f32⟩
  | .hbm, ⟨66, _⟩ => ⟨S128x128, .f32⟩
  | .hbm, ⟨67, _⟩ => ⟨S128x128, .bf16⟩
  | .hbm, ⟨68, _⟩ => ⟨S64x64, .f32⟩
  | .hbm, ⟨69, _⟩ => ⟨S1x64x1x64, .f32⟩
  | .hbm, ⟨70, _⟩ => ⟨S2x64x32x64, .f32⟩
  | .hbm, ⟨71, _⟩ => ⟨S128x2048, .f32⟩
  | .hbm, ⟨72, _⟩ => ⟨S2x2, .i32⟩
  | .hbm, ⟨73, _⟩ => ⟨S2x2, .i32⟩
  | .hbm, ⟨74, _⟩ => ⟨S_, .i32⟩
  | .hbm, ⟨75, _⟩ => ⟨S2x2, .i32⟩
  | .hbm, ⟨76, _⟩ => ⟨S2x2, .i32⟩
  | .hbm, ⟨77, _⟩ => ⟨S2x2, .i1⟩
  | .hbm, ⟨78, _⟩ => ⟨S2x2, .f32⟩
  | .hbm, ⟨79, _⟩ => ⟨S64x64, .f32⟩
  | .hbm, ⟨80, _⟩ => ⟨S2x1x2x1, .f32⟩
  | .hbm, ⟨81, _⟩ => ⟨S1x64x1x64, .f32⟩
  | .hbm, ⟨82, _⟩ => ⟨S2x64x2x64, .f32⟩
  | .hbm, ⟨83, _⟩ => ⟨S2x64x2x64, .f32⟩
  | .hbm, ⟨84, _⟩ => ⟨S2x64x2x64, .f32⟩
  | .hbm, ⟨85, _⟩ => ⟨S128x128, .f32⟩
  | .hbm, ⟨86, _⟩ => ⟨S128x128, .bf16⟩
  | .hbm, ⟨87, _⟩ => ⟨S4x128x128, .f32⟩
  | .hbm, ⟨88, _⟩ => ⟨S4x128x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S128x2048, .f32⟩
  | .local _ .vmem, ⟨5, _⟩ => ⟨S128x128, .bf16⟩
  | .local _ .vmem, ⟨6, _⟩ => ⟨S128x2048, .f32⟩
  | .local _ .vmem, ⟨7, _⟩ => ⟨S128x128, .bf16⟩
  | .local _ .vmem, ⟨8, _⟩ => ⟨S4x2048x128, .bf16⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S2x128x128, .f32⟩
  | _, _ => ⟨S4x8192x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_3 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v45 : Ref sig .tc := ⟨.hbm, 85, rfl⟩
abbrev main_v46 : Ref sig .tc := ⟨.hbm, 86, rfl⟩
abbrev main_v47_0 : Ref sig .tc := ⟨.hbm, 87, rfl⟩
abbrev main_v47_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let c4_i32 : BitVec 32 := 4#32
  let c0_i32 : BitVec 32 := 0#32
  let v4 : BitVec 1 := Scalar.cmpi .eq c4_i32 c0_i32
  let c1_i32 : BitVec 32 := 1#32
  let v5 : BitVec 32 := Scalar.select v4 c1_i32 c4_i32
  let v6 : BitVec 32 := Scalar.remsi arg1 v5
  let c0_i32_6 : BitVec 32 := 0#32
  let v8 : BitVec 1 := Scalar.cmpi .slt v6 c0_i32_6
  let c0_i32_7 : BitVec 32 := 0#32
  let v9 : BitVec 1 := Scalar.cmpi .slt v5 c0_i32_7
  let v10 : BitVec 1 := Scalar.xori v8 v9
  let c0_i32_5 : BitVec 32 := 0#32
  let v7 : BitVec 1 := Scalar.cmpi .ne v6 c0_i32_5
  let v11 : BitVec 1 := Scalar.andi v10 v7
  let v12 : BitVec 32 := Scalar.addi v6 v5
  let v13 : BitVec 32 := Scalar.select v11 v12 v6
  let v17 : Index := Scalar.indexCast v13
  let c0_10 : Index := 0#32
  let c0_11 : Index := 0#32
  ![v17.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CompressReferenceIdeal.lean ====
abbrev S4x8192x2x64 : Shape := ⟨4, ![4, 8192, 2, 64]⟩
abbrev S64x64 : Shape := ⟨2, ![64, 64]⟩
abbrev S4x128x64x2x64 : Shape := ⟨5, ![4, 128, 64, 2, 64]⟩
abbrev S_ : Shape := ⟨0, ![]⟩
abbrev S1x1x64x1x64 : Shape := ⟨5, ![1, 1, 64, 1, 64]⟩
abbrev S4x128x2x64 : Shape := ⟨4, ![4, 128, 2, 64]⟩
abbrev S4x2x64x128 : Shape := ⟨4, ![4, 2, 64, 128]⟩
abbrev S4x128x128 : Shape := ⟨3, ![4, 128, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x2x64, .f32⟩
  | .hbm, ⟨1, _⟩ => ⟨S4x8192x2x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S4x128x64x2x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S1x1x64x1x64, .f32⟩
  | .hbm, ⟨11, _⟩ => ⟨S4x128x64x2x64, .f32⟩
  | .hbm, ⟨12, _⟩ => ⟨S4x128x64x2x64, .f32⟩
  | .hbm, ⟨13, _⟩ => ⟨S_, .f32⟩
  | .hbm, ⟨14, _⟩ => ⟨S4x128x2x64, .f32⟩
  | .hbm, ⟨15, _⟩ => ⟨S_, .f32⟩
  | .hbm, ⟨16, _⟩ => ⟨S4x128x2x64, .f32⟩
  | .hbm, ⟨17, _⟩ => ⟨S4x128x2x64, .f32⟩
  | .hbm, ⟨18, _⟩ => ⟨S4x128x2x64, .f32⟩
  | .hbm, ⟨19, _⟩ => ⟨S4x2x64x128, .f32⟩
  | .hbm, ⟨20, _⟩ => ⟨S4x128x128, .f32⟩
  | .hbm, ⟨21, _⟩ => ⟨S4x128x64x2x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S1x1x64x1x64, .f32⟩
  | .hbm, ⟨26, _⟩ => ⟨S4x128x64x2x64, .f32⟩
  | .hbm, ⟨27, _⟩ => ⟨S4x128x64x2x64, .f32⟩
  | .hbm, ⟨28, _⟩ => ⟨S_, .f32⟩
  | .hbm, ⟨29, _⟩ => ⟨S4x128x2x64, .f32⟩
  | .hbm, ⟨30, _⟩ => ⟨S_, .f32⟩
  | .hbm, ⟨31, _⟩ => ⟨S4x128x2x64, .f32⟩
  | .hbm, ⟨32, _⟩ => ⟨S4x128x2x64, .f32⟩
  | .hbm, ⟨33, _⟩ => ⟨S4x128x2x64, .f32⟩
  | .hbm, ⟨34, _⟩ => ⟨S4x2x64x128, .f32⟩
  | .hbm, ⟨35, _⟩ => ⟨S4x128x128, .f32⟩
  | _, _ => ⟨S4x8192x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.KI.Trip.lean ====
module

public import proofs.«01_k».proof.Proof.Gen.KernelIdeal.Frame
public import proofs.«01_k».proof.Proof.Gen.KernelIdeal.Skeleton
public import Idealize.ShloMosaic.Lib.Exec
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

abbrev 𝒱₀ : Variants := Variants.none

/-- What the loop carries: the running maximum and the accumulator of each of the two heads. -/
abbrev Carry (F : FTy → Type) := FVec F S1x512 .f32 × FVec F S80x512 .f32 × FVec F S1x512 .f32 × FVec F S80x512 .f32
/-- A half chunk of scores of one head in one slot, and a row of its column maxima. -/
abbrev Half (F : FTy → Type) := Vec F S1x1x256x512 .f32
abbrev Row (F : FTy → Type) := Vec F S1x1x1x512 .f32

/-- The score buffer's slot 0 as four stores: the two halves of each head, the last store first. -/
abbrev piecesS (a b a' b' : Half F) : List (View.Piece (Elt F) S2x2x512x512 .f32) :=
  [⟨Rect.unit (s := S2x2x512x512) ![0, 1, 256, 0] S1x1x256x512.size inb_S2x2x512x512_S1x1x256x512_0_1_256_0, b'⟩,
   ⟨Rect.unit (s := S2x2x512x512) ![0, 0, 256, 0] S1x1x256x512.size inb_S2x2x512x512_S1x1x256x512_0_0_256_0, b⟩,
   ⟨Rect.unit (s := S2x2x512x512) ![0, 1, 0, 0] S1x1x256x512.size inb_S2x2x512x512_S1x1x256x512_0_1_0_0, a'⟩,
   ⟨Rect.unit (s := S2x2x512x512) ![0, 0, 0, 0] S1x1x256x512.size inb_S2x2x512x512_S1x1x256x512_0_0_0_0, a⟩]
/-- The maxima buffer's slot 0 as two stores, one per head. -/
abbrev piecesM (x x' : Row F) : List (View.Piece (Elt F) S2x2x1x512 .f32) :=
  [⟨Rect.unit (s := S2x2x1x512) ![0, 1, 0, 0] S1x1x1x512.size inb_S2x2x1x512_S1x1x1x512_0_1_0_0, x'⟩,
   ⟨Rect.unit (s := S2x2x1x512) ![0, 0, 0, 0] S1x1x1x512.size inb_S2x2x1x512_S1x1x1x512_0_0_0_0, x⟩]

/-- A buffer over which four stores came last holds those four stores over something. -/
theorem keep_four {s : Shape} {e : EltTy} {sp : Space} (m : Memref sig .tc sp s e) (c : Dev nD)
    (f : BufTy.Contents (Elt F) m.view.ty) (p q r t : View.Piece (Elt F) s e) (L : List (View.Piece (Elt F) s e)) :
    ((m.view.loc (c : Thread nD τ) ↦[m.view.set]{fullShare} m.view.writes (Elt F) f (p :: q :: r :: t :: L)) : sProp 𝕄)
      ⊢ iprop(∃ f', (m.view.loc (c : Thread nD τ) ↦[m.view.set]{fullShare} m.view.writes (Elt F) f' [p, q, r, t])) := by
  iintro H
  iexists m.view.writes (Elt F) f L
  iexact H
/-- Likewise with two stores. -/
theorem keep_two {s : Shape} {e : EltTy} {sp : Space} (m : Memref sig .tc sp s e) (c : Dev nD)
    (f : BufTy.Contents (Elt F) m.view.ty) (p q : View.Piece (Elt F) s e) (L : List (View.Piece (Elt F) s e)) :
    ((m.view.loc (c : Thread nD τ) ↦[m.view.set]{fullShare} m.view.writes (Elt F) f (p :: q :: L)) : sProp 𝕄)
      ⊢ iprop(∃ f', (m.view.loc (c : Thread nD τ) ↦[m.view.set]{fullShare} m.view.writes (Elt F) f' [p, q])) := by
  iintro H
  iexists m.view.writes (Elt F) f L
  iexact H

set_option maxHeartbeats 400000 in
/-- One trip of the loop over pairs of chunks: from slot 0 filled, what it yields and what it leaves in slot 0, whatever
    the rest of the two buffers held. -/
@[irreducible] def trip (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32)
    (X6 : BufTy.Contents (Elt F) arg6.view.ty) (X7 : BufTy.Contents (Elt F) arg7.view.ty) (X12 : BufTy.Contents (Elt F) arg12.view.ty)
    (k : Fin (k0_t1_loop i).trips) (acc : Carry F) (a b a' b' : Half F) (x x' : Row F) :
    Σ' (R : Carry F) (A B A' B' : Half F) (Y : Row F), { Y' : Row F // ∀ (E : Set ℕ)
        (f13 : BufTy.Contents (Elt F) arg13.view.ty) (f14 : BufTy.Contents (Elt F) arg14.view.ty),
      (iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12)
          ∗ (arg13.view.loc (c : Thread nD τ) ↦[arg13.view.set]{fullShare} arg13.view.writes (Elt F) f13 (piecesS a b a' b')) ∗ (arg14.view.loc (c : Thread nD τ) ↦[arg14.view.set]{fullShare} arg14.view.writes (Elt F) f14 (piecesM x x'))) : sProp 𝕄)
      ⊢ wp frame (wpE (defs₀ (F := F)) 𝒱₀ (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 k acc)
          (fun yld => iprop(⌜yld = R⌝ ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12)
            ∗ (∃ f, (arg13.view.loc (c : Thread nD τ) ↦[arg13.view.set]{fullShare} arg13.view.writes (Elt F) f (piecesS A B A' B')))
            ∗ (∃ f, (arg14.view.loc (c : Thread nD τ) ↦[arg14.view.set]{fullShare} arg14.view.writes (Elt F) f (piecesM Y Y'))))) } := by
  refine ⟨?_, ?_, ?_, ?_, ?_, ?_, ?_, fun E f13 f14 => ?run⟩
  case run =>
    unfold k0_t1_body
    iintro ⟨H6, H7, H12, H13, H14⟩
    sl_exec
    sl_step
    dsimp only [trip.sl.H13_12, trip.sl.H13_11, trip.sl.H13_10, trip.sl.H13_9]
    isplitr
    · ipureintro; rfl
    isplitl [H6]; · iexact H6
    isplitl [H7]; · iexact H7
    isplitl [H12]; · iexact H12
    isplitl [H13]
    · iapply (keep_four arg13 c f13 _ _ _ _ _); iexact H13
    · iapply (keep_two arg14 c f14 _ _ _); iexact H14

end Cert.Proof.KI

end
-- ==== Proof.KI.Part41.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import proofs.«01_k».proof.Proof.KI.Trip

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

theorem off4_eq : ∀ i : grid0.Coords, k0_off4 i = ![0, 16 * (1 - (i 1).val / 4), 0, 0] := by decide +kernel
theorem off5_eq : ∀ i : grid0.Coords, k0_off5 i = ![1, 16 * (1 - (i 1).val / 4), 0, 0] := by decide +kernel
theorem off9_eq : ∀ i : grid0.Coords, k0_off9 i = ![0, 16 * (1 - (i 1).val / 4), 0, 0] := by decide +kernel
theorem off10_eq : ∀ i : grid0.Coords, k0_off10 i = ![1, 16 * (1 - (i 1).val / 4), 0, 0] := by decide +kernel
instance (i : grid0.Coords) : ClosedOff (k0_off4 i) := ⟨![0, 16 * (1 - (i 1).val / 4), 0, 0], off4_eq i⟩
instance (i : grid0.Coords) : ClosedOff (k0_off5 i) := ⟨![1, 16 * (1 - (i 1).val / 4), 0, 0], off5_eq i⟩
instance (i : grid0.Coords) : ClosedOff (k0_off9 i) := ⟨![0, 16 * (1 - (i 1).val / 4), 0, 0], off9_eq i⟩
instance (i : grid0.Coords) : ClosedOff (k0_off10 i) := ⟨![1, 16 * (1 - (i 1).val / 4), 0, 0], off10_eq i⟩

/-- The score buffer's slot 0 as two stores, a whole chunk of each head. -/
abbrev piecesU (u u' : Vec F S1x1x512x512 .f32) : List (View.Piece (Elt F) S2x2x512x512 .f32) :=
  [⟨Rect.unit (s := S2x2x512x512) ![0, 1, 0, 0] S1x1x512x512.size inb_S2x2x512x512_S1x1x512x512_0_1_0_0, u'⟩,
   ⟨Rect.unit (s := S2x2x512x512) ![0, 0, 0, 0] S1x1x512x512.size inb_S2x2x512x512_S1x1x512x512_0_0_0_0, u⟩]
/-- The upper and the lower half of a chunk. -/
def lo (u : Vec F S1x1x512x512 .f32) : Half F := fun j => u ((Rect.unit (s := S1x1x512x512) ![0, 0, 0, 0] S1x1x256x512.size (by decide)).emb j)
def hi (u : Vec F S1x1x512x512 .f32) : Half F := fun j => u ((Rect.unit (s := S1x1x512x512) ![0, 0, 256, 0] S1x1x256x512.size (by decide)).emb j)

/-- Writing into a buffer what it reads changes nothing. -/
theorem writes_same {s : Shape} {e : EltTy} {sp : Space} (m : Memref sig .tc sp s e) (g : BufTy.Contents (Elt F) m.view.ty) :
    ∀ L : List (View.Piece (Elt F) s e), (∀ p ∈ L, ∀ x, m.view.read (Elt F) g (p.1.emb x) = p.2 x) → m.view.writes (Elt F) g L = g
  | [], _ => rfl
  | p :: L, h => by
    have ih := writes_same m g L fun q hq => h q (List.mem_cons_of_mem _ hq)
    refine View.contents_ext m.view (fun y => ?_) fun i hi => View.writes_apply_of_forall_ne m.view g _ hi
    by_cases hy : y ∈ p.1.set
    · obtain ⟨x, -, hx⟩ := Finset.mem_map.mp (by rw [← Rect.map_emb_univ] at hy; exact hy)
      subst hx
      obtain ⟨r, w⟩ := p
      exact (View.read_writes_cons_emb m.view g r w L x).trans (h ⟨r, w⟩ (List.mem_cons_self ..) x).symm
    · rw [View.read_writes_cons_miss m.view g p L y hy, ih]

/-- Two whole chunks in slot 0 are four half chunks. -/
theorem halves (m : Memref sig .tc .vmem S2x2x512x512 .f32) (c : Dev nD) (f : BufTy.Contents (Elt F) m.view.ty) (u u' : Vec F S1x1x512x512 .f32) :
    ((m.view.loc (c : Thread nD τ) ↦[m.view.set]{fullShare} m.view.writes (Elt F) f (piecesU u u')) : sProp 𝕄)
      ⊢ iprop(∃ f', (m.view.loc (c : Thread nD τ) ↦[m.view.set]{fullShare} m.view.writes (Elt F) f' (piecesS (lo u) (hi u) (lo u') (hi u')))) := by
  have h : m.view.writes (Elt F) f (piecesU u u')
      = m.view.writes (Elt F) (m.view.writes (Elt F) f (piecesU u u')) (piecesS (lo u) (hi u) (lo u') (hi u')) := by
    refine (writes_same m _ _ fun p hp x => ?_).symm
    simp only [List.mem_cons, List.not_mem_nil, or_false] at hp
    have h0 : ∀ (y : S2x2x512x512.Idx) (z : S1x1x512x512.Idx), (y 0).val = 0 → (y 1).val = 0 → (y 2).val = (z 2).val → (y 3).val = (z 3).val →
        m.view.read (Elt F) (m.view.writes (Elt F) f (piecesU u u')) y = u z := fun y z h0 h1 h2 h3 => by
      rw [View.read_writes_cons_miss_of_axis m.view f _ _ y 1 1 1 rfl rfl rfl (by omega)]
      refine View.read_writes_cons_hit_of_coords m.view f (Rect.unit (s := S2x2x512x512) ![0, 0, 0, 0] S1x1x512x512.size inb_S2x2x512x512_S1x1x512x512_0_0_0_0) u [] z y fun a => ?_
      have z0 : (z 0).val = 0 := by have := (z 0).isLt; change _ < 1 at this; omega
      have z1 : (z 1).val = 0 := by have := (z 1).isLt; change _ < 1 at this; omega
      fin_cases a
      · change (y 0).val = 0 + 1 * (z 0).val; omega
      · change (y 1).val = 0 + 1 * (z 1).val; omega
      · change (y 2).val = 0 + 1 * (z 2).val; omega
      · change (y 3).val = 0 + 1 * (z 3).val; omega
    have h1 : ∀ (y : S2x2x512x512.Idx) (z : S1x1x512x512.Idx), (y 0).val = 0 → (y 1).val = 1 → (y 2).val = (z 2).val → (y 3).val = (z 3).val →
        m.view.read (Elt F) (m.view.writes (Elt F) f (piecesU u u')) y = u' z := fun y z h0 h1 h2 h3 => by
      refine View.read_writes_cons_hit_of_coords m.view f (Rect.unit (s := S2x2x512x512) ![0, 1, 0, 0] S1x1x512x512.size inb_S2x2x512x512_S1x1x512x512_0_1_0_0) u' _ z y fun a => ?_
      have z0 : (z 0).val = 0 := by have := (z 0).isLt; change _ < 1 at this; omega
      have z1 : (z 1).val = 0 := by have := (z 1).isLt; change _ < 1 at this; omega
      fin_cases a
      · change (y 0).val = 0 + 1 * (z 0).val; omega
      · change (y 1).val = 1 + 1 * (z 1).val; omega
      · change (y 2).val = 0 + 1 * (z 2).val; omega
      · change (y 3).val = 0 + 1 * (z 3).val; omega
    rcases hp with rfl | rfl | rfl | rfl
    · refine h1 _ _ ?_ ?_ ?_ ?_
      · have := (x 0).isLt; change _ < 1 at this; change 0 + 1 * (x 0).val = 0; omega
      · have := (x 1).isLt; change _ < 1 at this; change 1 + 1 * (x 1).val = 1; omega
      · rfl
      · rfl
    · refine h0 _ _ ?_ ?_ ?_ ?_
      · have := (x 0).isLt; change _ < 1 at this; change 0 + 1 * (x 0).val = 0; omega
      · have := (x 1).isLt; change _ < 1 at this; change 0 + 1 * (x 1).val = 0; omega
      · rfl
      · rfl
    · refine h1 _ _ ?_ ?_ ?_ ?_
      · have := (x 0).isLt; change _ < 1 at this; change 0 + 1 * (x 0).val = 0; omega
      · have := (x 1).isLt; change _ < 1 at this; change 1 + 1 * (x 1).val = 1; omega
      · rfl
      · rfl
    · refine h0 _ _ ?_ ?_ ?_ ?_
      · have := (x 0).isLt; change _ < 1 at this; change 0 + 1 * (x 0).val = 0; omega
      · have := (x 1).isLt; change _ < 1 at this; change 0 + 1 * (x 1).val = 0; omega
      · rfl
      · rfl
  rw [h]
  iintro H
  iexists _
  iexact H

/-- What the end of the second selection leaves: the window's two outputs, the bias rows, the chosen blocks, the first
    chunk's scores of both heads and their column maxima. -/
structure Mid (F : FTy → Type) (t12 t15 : BufTy) where
  r₀ : FVec F S64x512 .f32
  r₁ : FVec F S64x512 .f32
  y12 : BufTy.Contents (Elt F) t12
  y15 : BufTy.Contents (Elt F) t15
  u : Vec F S1x1x512x512 .f32
  u' : Vec F S1x1x512x512 .f32
  x : Row F
  x' : Row F

set_option maxHeartbeats 1000000 in
/-- The end of the second selection, the window's output and the first chunk's scores: where the whole window is in reach. -/
@[irreducible] def part41w (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v1 : IVec S1x512 32) (v19 : IVec S1x512 32) (v32 : FVec F S128x512 .bf16) (v43 : FVec F S128x512 .bf16) (v60 : BitVec 32) (v65 : BitVec 32) (v484 : FVec F S128x128 .f32) (v653 : FVec F S128x128 .f32) (v655 : FVec F S128x128 .f32) (v656 : FVec F S128 .f32)
    (X6 : BufTy.Contents (Elt F) arg6.view.ty) (X9 : BufTy.Contents (Elt F) arg9.view.ty) (X16 : BufTy.Contents (Elt F) arg16.view.ty)
    (p12 : Vec F S1x17x16x512 .bf16) (p15 : Vec F S1x128x512 .f32) (h1 : k0_cond1 i = 1#1) : { M : Mid F arg12.view.ty arg15.view.ty // ∀ (E : Set ℕ) (f12 : BufTy.Contents (Elt F) arg12.view.ty) (f13 : BufTy.Contents (Elt F) arg13.view.ty) (f14 : BufTy.Contents (Elt F) arg14.view.ty)
      (f15 : BufTy.Contents (Elt F) arg15.view.ty),
      (iprop((arg6.view.loc (c : Thread nD τ) ↦[arg6.view.set]{fullShare} X6) ∗ (arg9.view.loc (c : Thread nD τ) ↦[arg9.view.set]{fullShare} X9) ∗ (arg12.view.loc (c : Thread nD τ) ↦[arg12.view.set]{fullShare} arg12.view.writes (Elt F) f12 [⟨Rect.unit (s := S2x17x16x512) ![0, 0, 0, 0] S1x17x16x512.size inb_S2x17x16x512_S1x17x16x512_0_0_0_0, p12⟩])
        ∗ (arg13.view.loc (c : Thread nD τ) ↦[arg13.view.set]{fullShare} f13) ∗ (arg14.view.loc (c : Thread nD τ) ↦[arg14.view.set]{fullShare} f14)
        ∗ (arg15.view.loc (c : Thread nD τ) ↦[arg15.view.set]{fullShare} arg15.view.writes (Elt F) f15 [⟨Rect.unit (s := S2x128x512) ![0, 0, 0] S1x128x512.size inb_S2x128x512_S1x128x512_0_0_0, p15⟩])
        ∗ (arg16.view.loc (c : Thread nD τ) ↦[arg16.view.set]{fullShare} X16)) : sProp 𝕄) ⊢ wp frame (wpE (defs₀ (F := F)) 𝒱₀ (c : Thread nD τ) none) E (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v19 v32 v43 v60 v65 v484 v653 v655 v656)
          (fun r => iprop(⌜r.1 = M.r₀⌝ ∗ ⌜r.2.1 = M.r₁⌝ ∗ ⌜r.2.2.1 = Scalar.muli v60 8#32⌝ ∗ ⌜r.2.2.2 = Scalar.select (Scalar.cmpi .eq 512#32 0#32) 1#32 512#32⌝
            ∗ (arg6.view.loc (c : Thread nD τ) ↦[arg6.view.set]{fullShare} X6) ∗ (arg9.view.loc (c : Thread nD τ) ↦[arg9.view.set]{fullShare} X9) ∗ (arg12.view.loc (c : Thread nD τ) ↦[arg12.view.set]{fullShare} M.y12)
            ∗ (∃ f, (arg13.view.loc (c : Thread nD τ) ↦[arg13.view.set]{fullShare} arg13.view.writes (Elt F) f (piecesS (lo M.u) (hi M.u) (lo M.u') (hi M.u'))))
            ∗ (∃ f, (arg14.view.loc (c : Thread nD τ) ↦[arg14.view.set]{fullShare} arg14.view.writes (Elt F) f (piecesM M.x M.x')))
            ∗ (arg15.view.loc (c : Thread nD τ) ↦[arg15.view.set]{fullShare} M.y15) ∗ (arg16.view.loc (c : Thread nD τ) ↦[arg16.view.set]{fullShare} X16))) } := by
  refine ⟨⟨?_, ?_, ?_, ?_, ?_, ?_, ?_, ?_⟩, fun E f12 f13 f14 f15 => ?run⟩
  case run =>
    rw [k0_part41_eq_skeleton]
    unfold k0_part41_skel
    iintro ⟨H6, H9, H12, H13, H14, H15, H16⟩
    sl_exec!
    sl_step
    dsimp only
    isplitr; · ipureintro; rfl
    isplitr; · ipureintro; rfl
    isplitr; · ipureintro; rfl
    isplitr; · ipureintro; rfl
    isplitl [H6]; · iexact H6
    isplitl [H9]; · iexact H9
    isplitl [H12]; · iexact H12
    isplitl [H13]; · iapply (halves arg13 c _ _ _); iexact H13
    isplitl [H14]; · iexists _; iexact H14
    isplitl [H15]; · iexact H15
    iexact H16

set_option maxHeartbeats 1000000 in
/-- The end of the second selection, the window's output and the first chunk's scores: where the window is cut. -/
@[irreducible] def part41p (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v1 : IVec S1x512 32) (v19 : IVec S1x512 32) (v32 : FVec F S128x512 .bf16) (v43 : FVec F S128x512 .bf16) (v60 : BitVec 32) (v65 : BitVec 32) (v484 : FVec F S128x128 .f32) (v653 : FVec F S128x128 .f32) (v655 : FVec F S128x128 .f32) (v656 : FVec F S128 .f32)
    (X6 : BufTy.Contents (Elt F) arg6.view.ty) (X9 : BufTy.Contents (Elt F) arg9.view.ty) (X16 : BufTy.Contents (Elt F) arg16.view.ty)
    (p12 : Vec F S1x17x16x512 .bf16) (p15 : Vec F S1x128x512 .f32) (h1 : ¬ k0_cond1 i = 1#1) : { M : Mid F arg12.view.ty arg15.view.ty // ∀ (E : Set ℕ) (f12 : BufTy.Contents (Elt F) arg12.view.ty) (f13 : BufTy.Contents (Elt F) arg13.view.ty) (f14 : BufTy.Contents (Elt F) arg14.view.ty)
      (f15 : BufTy.Contents (Elt F) arg15.view.ty),
      (iprop((arg6.view.loc (c : Thread nD τ) ↦[arg6.view.set]{fullShare} X6) ∗ (arg9.view.loc (c : Thread nD τ) ↦[arg9.view.set]{fullShare} X9) ∗ (arg12.view.loc (c : Thread nD τ) ↦[arg12.view.set]{fullShare} arg12.view.writes (Elt F) f12 [⟨Rect.unit (s := S2x17x16x512) ![0, 0, 0, 0] S1x17x16x512.size inb_S2x17x16x512_S1x17x16x512_0_0_0_0, p12⟩])
        ∗ (arg13.view.loc (c : Thread nD τ) ↦[arg13.view.set]{fullShare} f13) ∗ (arg14.view.loc (c : Thread nD τ) ↦[arg14.view.set]{fullShare} f14)
        ∗ (arg15.view.loc (c : Thread nD τ) ↦[arg15.view.set]{fullShare} arg15.view.writes (Elt F) f15 [⟨Rect.unit (s := S2x128x512) ![0, 0, 0] S1x128x512.size inb_S2x128x512_S1x128x512_0_0_0, p15⟩])
        ∗ (arg16.view.loc (c : Thread nD τ) ↦[arg16.view.set]{fullShare} X16)) : sProp 𝕄) ⊢ wp frame (wpE (defs₀ (F := F)) 𝒱₀ (c : Thread nD τ) none) E (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v19 v32 v43 v60 v65 v484 v653 v655 v656)
          (fun r => iprop(⌜r.1 = M.r₀⌝ ∗ ⌜r.2.1 = M.r₁⌝ ∗ ⌜r.2.2.1 = Scalar.muli v60 8#32⌝ ∗ ⌜r.2.2.2 = Scalar.select (Scalar.cmpi .eq 512#32 0#32) 1#32 512#32⌝
            ∗ (arg6.view.loc (c : Thread nD τ) ↦[arg6.view.set]{fullShare} X6) ∗ (arg9.view.loc (c : Thread nD τ) ↦[arg9.view.set]{fullShare} X9) ∗ (arg12.view.loc (c : Thread nD τ) ↦[arg12.view.set]{fullShare} M.y12)
            ∗ (∃ f, (arg13.view.loc (c : Thread nD τ) ↦[arg13.view.set]{fullShare} arg13.view.writes (Elt F) f (piecesS (lo M.u) (hi M.u) (lo M.u') (hi M.u'))))
            ∗ (∃ f, (arg14.view.loc (c : Thread nD τ) ↦[arg14.view.set]{fullShare} arg14.view.writes (Elt F) f (piecesM M.x M.x')))
            ∗ (arg15.view.loc (c : Thread nD τ) ↦[arg15.view.set]{fullShare} M.y15) ∗ (arg16.view.loc (c : Thread nD τ) ↦[arg16.view.set]{fullShare} X16))) } := by
  refine ⟨⟨?_, ?_, ?_, ?_, ?_, ?_, ?_, ?_⟩, fun E f12 f13 f14 f15 => ?run⟩
  case run =>
    rw [k0_part41_eq_skeleton]
    unfold k0_part41_skel
    iintro ⟨H6, H9, H12, H13, H14, H15, H16⟩
    sl_exec!
    sl_step
    dsimp only
    isplitr; · ipureintro; rfl
    isplitr; · ipureintro; rfl
    isplitr; · ipureintro; rfl
    isplitr; · ipureintro; rfl
    isplitl [H6]; · iexact H6
    isplitl [H9]; · iexact H9
    isplitl [H12]; · iexact H12
    isplitl [H13]; · iapply (halves arg13 c _ _ _); iexact H13
    isplitl [H14]; · iexists _; iexact H14
    isplitl [H15]; · iexact H15
    iexact H16

open Classical in
/-- The end of the second selection, the window's output and the first chunk's scores. -/
def mid (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v1 : IVec S1x512 32) (v19 : IVec S1x512 32) (v32 : FVec F S128x512 .bf16) (v43 : FVec F S128x512 .bf16) (v60 : BitVec 32) (v65 : BitVec 32) (v484 : FVec F S128x128 .f32) (v653 : FVec F S128x128 .f32) (v655 : FVec F S128x128 .f32) (v656 : FVec F S128 .f32)
    (X6 : BufTy.Contents (Elt F) arg6.view.ty) (X9 : BufTy.Contents (Elt F) arg9.view.ty) (X16 : BufTy.Contents (Elt F) arg16.view.ty)
    (p12 : Vec F S1x17x16x512 .bf16) (p15 : Vec F S1x128x512 .f32) : { M : Mid F arg12.view.ty arg15.view.ty // ∀ (E : Set ℕ) (f12 : BufTy.Contents (Elt F) arg12.view.ty) (f13 : BufTy.Contents (Elt F) arg13.view.ty) (f14 : BufTy.Contents (Elt F) arg14.view.ty)
      (f15 : BufTy.Contents (Elt F) arg15.view.ty),
      (iprop((arg6.view.loc (c : Thread nD τ) ↦[arg6.view.set]{fullShare} X6) ∗ (arg9.view.loc (c : Thread nD τ) ↦[arg9.view.set]{fullShare} X9) ∗ (arg12.view.loc (c : Thread nD τ) ↦[arg12.view.set]{fullShare} arg12.view.writes (Elt F) f12 [⟨Rect.unit (s := S2x17x16x512) ![0, 0, 0, 0] S1x17x16x512.size inb_S2x17x16x512_S1x17x16x512_0_0_0_0, p12⟩])
        ∗ (arg13.view.loc (c : Thread nD τ) ↦[arg13.view.set]{fullShare} f13) ∗ (arg14.view.loc (c : Thread nD τ) ↦[arg14.view.set]{fullShare} f14)
        ∗ (arg15.view.loc (c : Thread nD τ) ↦[arg15.view.set]{fullShare} arg15.view.writes (Elt F) f15 [⟨Rect.unit (s := S2x128x512) ![0, 0, 0] S1x128x512.size inb_S2x128x512_S1x128x512_0_0_0, p15⟩])
        ∗ (arg16.view.loc (c : Thread nD τ) ↦[arg16.view.set]{fullShare} X16)) : sProp 𝕄) ⊢ wp frame (wpE (defs₀ (F := F)) 𝒱₀ (c : Thread nD τ) none) E (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v19 v32 v43 v60 v65 v484 v653 v655 v656)
          (fun r => iprop(⌜r.1 = M.r₀⌝ ∗ ⌜r.2.1 = M.r₁⌝ ∗ ⌜r.2.2.1 = Scalar.muli v60 8#32⌝ ∗ ⌜r.2.2.2 = Scalar.select (Scalar.cmpi .eq 512#32 0#32) 1#32 512#32⌝
            ∗ (arg6.view.loc (c : Thread nD τ) ↦[arg6.view.set]{fullShare} X6) ∗ (arg9.view.loc (c : Thread nD τ) ↦[arg9.view.set]{fullShare} X9) ∗ (arg12.view.loc (c : Thread nD τ) ↦[arg12.view.set]{fullShare} M.y12)
            ∗ (∃ f, (arg13.view.loc (c : Thread nD τ) ↦[arg13.view.set]{fullShare} arg13.view.writes (Elt F) f (piecesS (lo M.u) (hi M.u) (lo M.u') (hi M.u'))))
            ∗ (∃ f, (arg14.view.loc (c : Thread nD τ) ↦[arg14.view.set]{fullShare} arg14.view.writes (Elt F) f (piecesM M.x M.x')))
            ∗ (arg15.view.loc (c : Thread nD τ) ↦[arg15.view.set]{fullShare} M.y15) ∗ (arg16.view.loc (c : Thread nD τ) ↦[arg16.view.set]{fullShare} X16))) } :=
  if h : k0_cond1 i = 1#1 then part41w (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v19 v32 v43 v60 v65 v484 v653 v655 v656 X6 X9 X16 p12 p15 h else part41p (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v19 v32 v43 v60 v65 v484 v653 v655 v656 X6 X9 X16 p12 p15 h

end Cert.Proof.KI

end
-- ==== Proof.KI.Part42.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import proofs.«01_k».proof.Proof.KI.Trip

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

set_option maxHeartbeats 1000000 in
/-- The chunk that holds the queries themselves, whole. -/
@[irreducible] def part42d (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v19 : IVec S1x512 32) (v60 : BitVec 32) (v62 : BitVec 32) (v691 : BitVec 32) (v693 : BitVec 32) (X7 : BufTy.Contents (Elt F) arg7.view.ty) (X15 : BufTy.Contents (Elt F) arg15.view.ty) (X17 : BufTy.Contents (Elt F) arg17.view.ty) (h2 : k0_cond2 i = 1#1) (h3 : k0_cond3 i = 1#1) (h4 : k0_cond4 i = 1#1) : { R : Carry F // ∀ (E : Set ℕ),
      (iprop((arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17)) : sProp 𝕄)
      ⊢ wp frame (wpE (defs₀ (F := F)) 𝒱₀ (c : Thread nD τ) none) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693)
          (fun r => iprop(⌜r.1 = R.1⌝ ∗ ⌜r.2.1 = R.2.1⌝ ∗ ⌜r.2.2.1 = R.2.2.1⌝ ∗ ⌜r.2.2.2.1 = R.2.2.2⌝ ∗ ⌜r.2.2.2.2.1 = Scalar.addi v60 1#32⌝ ∗ ⌜r.2.2.2.2.2.1 = 2#32⌝ ∗ ⌜r.2.2.2.2.2.2.1 = Scalar.divsi (Scalar.addi v60 1#32) 2#32⌝
            ∗ ⌜r.2.2.2.2.2.2.2.1 = Scalar.subi (Scalar.extui (Scalar.cmpi .sgt (Scalar.addi v60 1#32) 0#32)) (Scalar.extui (Scalar.cmpi .slt (Scalar.addi v60 1#32) 0#32))⌝
            ∗ ⌜r.2.2.2.2.2.2.2.2 = Scalar.subi (Scalar.extui (Scalar.cmpi .sgt 2#32 0#32)) (Scalar.extui (Scalar.cmpi .slt 2#32 0#32))⌝
            ∗ (arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17))) } := by
  refine ⟨(?_, ?_, ?_, ?_), fun E => ?run⟩
  case run =>
    rw [k0_part42_eq_skeleton]
    unfold k0_part42_skel
    iintro ⟨H7, H15, H17⟩
    sl_exec
    sl_step
    dsimp only
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H7]; · iexact H7
    isplitl [H15]; · iexact H15
    iexact H17

set_option maxHeartbeats 1000000 in
/-- The chunk that holds the queries themselves, its first three quarters. -/
@[irreducible] def part42c (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v19 : IVec S1x512 32) (v60 : BitVec 32) (v62 : BitVec 32) (v691 : BitVec 32) (v693 : BitVec 32) (X7 : BufTy.Contents (Elt F) arg7.view.ty) (X15 : BufTy.Contents (Elt F) arg15.view.ty) (X17 : BufTy.Contents (Elt F) arg17.view.ty) (h2 : k0_cond2 i = 1#1) (h3 : k0_cond3 i = 1#1) (h4 : ¬ k0_cond4 i = 1#1) : { R : Carry F // ∀ (E : Set ℕ),
      (iprop((arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17)) : sProp 𝕄)
      ⊢ wp frame (wpE (defs₀ (F := F)) 𝒱₀ (c : Thread nD τ) none) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693)
          (fun r => iprop(⌜r.1 = R.1⌝ ∗ ⌜r.2.1 = R.2.1⌝ ∗ ⌜r.2.2.1 = R.2.2.1⌝ ∗ ⌜r.2.2.2.1 = R.2.2.2⌝ ∗ ⌜r.2.2.2.2.1 = Scalar.addi v60 1#32⌝ ∗ ⌜r.2.2.2.2.2.1 = 2#32⌝ ∗ ⌜r.2.2.2.2.2.2.1 = Scalar.divsi (Scalar.addi v60 1#32) 2#32⌝
            ∗ ⌜r.2.2.2.2.2.2.2.1 = Scalar.subi (Scalar.extui (Scalar.cmpi .sgt (Scalar.addi v60 1#32) 0#32)) (Scalar.extui (Scalar.cmpi .slt (Scalar.addi v60 1#32) 0#32))⌝
            ∗ ⌜r.2.2.2.2.2.2.2.2 = Scalar.subi (Scalar.extui (Scalar.cmpi .sgt 2#32 0#32)) (Scalar.extui (Scalar.cmpi .slt 2#32 0#32))⌝
            ∗ (arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17))) } := by
  refine ⟨(?_, ?_, ?_, ?_), fun E => ?run⟩
  case run =>
    rw [k0_part42_eq_skeleton]
    unfold k0_part42_skel
    iintro ⟨H7, H15, H17⟩
    sl_exec
    sl_step
    dsimp only
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H7]; · iexact H7
    isplitl [H15]; · iexact H15
    iexact H17

set_option maxHeartbeats 1000000 in
/-- The chunk that holds the queries themselves, its first half. -/
@[irreducible] def part42b (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v19 : IVec S1x512 32) (v60 : BitVec 32) (v62 : BitVec 32) (v691 : BitVec 32) (v693 : BitVec 32) (X7 : BufTy.Contents (Elt F) arg7.view.ty) (X15 : BufTy.Contents (Elt F) arg15.view.ty) (X17 : BufTy.Contents (Elt F) arg17.view.ty) (h2 : k0_cond2 i = 1#1) (h3 : ¬ k0_cond3 i = 1#1) : { R : Carry F // ∀ (E : Set ℕ),
      (iprop((arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17)) : sProp 𝕄)
      ⊢ wp frame (wpE (defs₀ (F := F)) 𝒱₀ (c : Thread nD τ) none) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693)
          (fun r => iprop(⌜r.1 = R.1⌝ ∗ ⌜r.2.1 = R.2.1⌝ ∗ ⌜r.2.2.1 = R.2.2.1⌝ ∗ ⌜r.2.2.2.1 = R.2.2.2⌝ ∗ ⌜r.2.2.2.2.1 = Scalar.addi v60 1#32⌝ ∗ ⌜r.2.2.2.2.2.1 = 2#32⌝ ∗ ⌜r.2.2.2.2.2.2.1 = Scalar.divsi (Scalar.addi v60 1#32) 2#32⌝
            ∗ ⌜r.2.2.2.2.2.2.2.1 = Scalar.subi (Scalar.extui (Scalar.cmpi .sgt (Scalar.addi v60 1#32) 0#32)) (Scalar.extui (Scalar.cmpi .slt (Scalar.addi v60 1#32) 0#32))⌝
            ∗ ⌜r.2.2.2.2.2.2.2.2 = Scalar.subi (Scalar.extui (Scalar.cmpi .sgt 2#32 0#32)) (Scalar.extui (Scalar.cmpi .slt 2#32 0#32))⌝
            ∗ (arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17))) } := by
  refine ⟨(?_, ?_, ?_, ?_), fun E => ?run⟩
  case run =>
    rw [k0_part42_eq_skeleton]
    unfold k0_part42_skel
    iintro ⟨H7, H15, H17⟩
    sl_exec
    sl_step
    dsimp only
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H7]; · iexact H7
    isplitl [H15]; · iexact H15
    iexact H17

set_option maxHeartbeats 1000000 in
/-- The chunk that holds the queries themselves, its first quarter. -/
@[irreducible] def part42a (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v19 : IVec S1x512 32) (v60 : BitVec 32) (v62 : BitVec 32) (v691 : BitVec 32) (v693 : BitVec 32) (X7 : BufTy.Contents (Elt F) arg7.view.ty) (X15 : BufTy.Contents (Elt F) arg15.view.ty) (X17 : BufTy.Contents (Elt F) arg17.view.ty) (h2 : ¬ k0_cond2 i = 1#1) : { R : Carry F // ∀ (E : Set ℕ),
      (iprop((arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17)) : sProp 𝕄)
      ⊢ wp frame (wpE (defs₀ (F := F)) 𝒱₀ (c : Thread nD τ) none) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693)
          (fun r => iprop(⌜r.1 = R.1⌝ ∗ ⌜r.2.1 = R.2.1⌝ ∗ ⌜r.2.2.1 = R.2.2.1⌝ ∗ ⌜r.2.2.2.1 = R.2.2.2⌝ ∗ ⌜r.2.2.2.2.1 = Scalar.addi v60 1#32⌝ ∗ ⌜r.2.2.2.2.2.1 = 2#32⌝ ∗ ⌜r.2.2.2.2.2.2.1 = Scalar.divsi (Scalar.addi v60 1#32) 2#32⌝
            ∗ ⌜r.2.2.2.2.2.2.2.1 = Scalar.subi (Scalar.extui (Scalar.cmpi .sgt (Scalar.addi v60 1#32) 0#32)) (Scalar.extui (Scalar.cmpi .slt (Scalar.addi v60 1#32) 0#32))⌝
            ∗ ⌜r.2.2.2.2.2.2.2.2 = Scalar.subi (Scalar.extui (Scalar.cmpi .sgt 2#32 0#32)) (Scalar.extui (Scalar.cmpi .slt 2#32 0#32))⌝
            ∗ (arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17))) } := by
  refine ⟨(?_, ?_, ?_, ?_), fun E => ?run⟩
  case run =>
    rw [k0_part42_eq_skeleton]
    unfold k0_part42_skel
    iintro ⟨H7, H15, H17⟩
    sl_exec
    sl_step
    dsimp only
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H7]; · iexact H7
    isplitl [H15]; · iexact H15
    iexact H17

open Classical in
/-- The two heads' running maxima and accumulators after the chunk that holds the queries. -/
def diag (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v0 : BitVec 32) (v19 : IVec S1x512 32) (v60 : BitVec 32) (v62 : BitVec 32) (v691 : BitVec 32) (v693 : BitVec 32) (X7 : BufTy.Contents (Elt F) arg7.view.ty) (X15 : BufTy.Contents (Elt F) arg15.view.ty) (X17 : BufTy.Contents (Elt F) arg17.view.ty) : { R : Carry F // ∀ (E : Set ℕ),
      (iprop((arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17)) : sProp 𝕄)
      ⊢ wp frame (wpE (defs₀ (F := F)) 𝒱₀ (c : Thread nD τ) none) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693)
          (fun r => iprop(⌜r.1 = R.1⌝ ∗ ⌜r.2.1 = R.2.1⌝ ∗ ⌜r.2.2.1 = R.2.2.1⌝ ∗ ⌜r.2.2.2.1 = R.2.2.2⌝ ∗ ⌜r.2.2.2.2.1 = Scalar.addi v60 1#32⌝ ∗ ⌜r.2.2.2.2.2.1 = 2#32⌝ ∗ ⌜r.2.2.2.2.2.2.1 = Scalar.divsi (Scalar.addi v60 1#32) 2#32⌝
            ∗ ⌜r.2.2.2.2.2.2.2.1 = Scalar.subi (Scalar.extui (Scalar.cmpi .sgt (Scalar.addi v60 1#32) 0#32)) (Scalar.extui (Scalar.cmpi .slt (Scalar.addi v60 1#32) 0#32))⌝
            ∗ ⌜r.2.2.2.2.2.2.2.2 = Scalar.subi (Scalar.extui (Scalar.cmpi .sgt 2#32 0#32)) (Scalar.extui (Scalar.cmpi .slt 2#32 0#32))⌝
            ∗ (arg7.view.loc (c : Thread nD τ) ↦[arg7.view.set]{fullShare} X7) ∗ (arg15.view.loc (c : Thread nD τ) ↦[arg15.view.set]{fullShare} X15) ∗ (arg17.view.loc (c : Thread nD τ) ↦[arg17.view.set]{fullShare} X17))) } :=
  if h2 : k0_cond2 i = 1#1 then
    if h3 : k0_cond3 i = 1#1 then
      if h4 : k0_cond4 i = 1#1 then part42d (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693 X7 X15 X17 h2 h3 h4
      else part42c (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693 X7 X15 X17 h2 h3 h4
    else part42b (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693 X7 X15 X17 h2 h3
  else part42a (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693 X7 X15 X17 h2

end Cert.Proof.KI

end
-- ==== Proof.KI.Part43.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import proofs.«01_k».proof.Proof.KI.Trip

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

/-- What the loop goes by: its carried value, and slot 0 of the score buffer and of the maxima buffer. -/
structure Slot (F : FTy → Type) where
  acc : Carry F
  a : Half F
  b : Half F
  a' : Half F
  b' : Half F
  x : Row F
  x' : Row F

/-- The second loop (the rest of a trip count that is not a multiple of the step) has no trips. -/
theorem t2_trips : ∀ i : grid0.Coords, (k0_t2_loop i).trips = 0 := by decide +kernel

/-- One trip as a function of what the loop goes by. -/
def stepSlot (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32)
    (X6 : BufTy.Contents (Elt F) arg6.view.ty) (X7 : BufTy.Contents (Elt F) arg7.view.ty) (X12 : BufTy.Contents (Elt F) arg12.view.ty)
    (k : Fin (k0_t1_loop i).trips) (s : Slot F) : Slot F :=
  let T := trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 k s.acc s.a s.b s.a' s.b' s.x s.x'
  ⟨T.1, T.2.1, T.2.2.1, T.2.2.2.1, T.2.2.2.2.1, T.2.2.2.2.2.1, T.2.2.2.2.2.2.1⟩

/-- What the loop goes by before trip `k`. -/
def slotAt (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32)
    (X6 : BufTy.Contents (Elt F) arg6.view.ty) (X7 : BufTy.Contents (Elt F) arg7.view.ty) (X12 : BufTy.Contents (Elt F) arg12.view.ty)
    (s : Slot F) : ℕ → Slot F
  | 0 => s
  | k + 1 => if h : k < (k0_t1_loop i).trips then
      stepSlot (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨k, h⟩ (slotAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 s k)
    else slotAt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 s k

theorem slotAt_succ (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32)
    (X6 : BufTy.Contents (Elt F) arg6.view.ty) (X7 : BufTy.Contents (Elt F) arg7.view.ty) (X12 : BufTy.Contents (Elt F) arg12.view.ty)
    (s : Slot F) (k : Fin (k0_t1_loop i).trips) :
    slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 s (k.val + 1)
      = stepSlot (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 k (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 s k.val) :=
  dif_pos k.isLt

/-- The first loop's invariant: what it reads stands, slot 0 of the two buffers holds what `slotAt` says. -/
@[sl_loop, reducible] def loop1 (c : Dev nD) (E : Set ℕ) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32)
    (X6 : BufTy.Contents (Elt F) arg6.view.ty) (X7 : BufTy.Contents (Elt F) arg7.view.ty) (X12 : BufTy.Contents (Elt F) arg12.view.ty)
    (a b a' b' : Half F) (x x' : Row F) (init : Carry F) :
    Idealize.ShloMosaic.LoopInv (M := 𝕄) Idealize.ShloMosaic.frame (wpE defs₀ 𝒱₀ (c : Thread nD τ) none) E
      (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734) where
  inv k acc := iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12)
    ∗ (∃ f, (arg13.view.loc (c : Thread nD τ) ↦[arg13.view.set]{fullShare} arg13.view.writes (Elt F) f
        (piecesS (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).a
          (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).b
          (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).a'
          (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).b')))
    ∗ (∃ f, (arg14.view.loc (c : Thread nD τ) ↦[arg14.view.set]{fullShare} arg14.view.writes (Elt F) f
        (piecesM (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).x
          (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).x')))
    ∗ ⌜acc = (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k).acc⌝)
  step k acc := by
    iintro ⟨H6, H7, H12, ⟨%f13, H13⟩, ⟨%f14, H14⟩, %hacc⟩
    subst hacc
    rw [slotAt_succ]
    generalize slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨init, a, b, a', b', x, x'⟩ k.val = s
    iapply (wp_wand_r Idealize.ShloMosaic.frame (wpE (defs₀ (F := F)) 𝒱₀ (c : Thread nD τ) none) E)
    isplitl [H6 H7 H12 H13 H14]
    · iapply ((trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 k s.acc s.a s.b s.a' s.b' s.x s.x').2.2.2.2.2.2.2 E f13 f14)
      isplitl [H6]; · iexact H6
      isplitl [H7]; · iexact H7
      isplitl [H12]; · iexact H12
      isplitl [H13]; · iexact H13
      iexact H14
    · iintro %yld ⟨%hr, H6, H7, H12, H13, H14⟩
      isplitl [H6]; · iexact H6
      isplitl [H7]; · iexact H7
      isplitl [H12]; · iexact H12
      isplitl [H13]; · iexact H13
      isplitl [H14]; · iexact H14
      ipureintro; exact hr

/-- The second loop's invariant: nothing happens. -/
@[sl_loop, reducible] def loop2 (c : Dev nD) (E : Set ℕ) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32) (v745 : BitVec 32) (init : Carry F) :
    Idealize.ShloMosaic.LoopInv (M := 𝕄) Idealize.ShloMosaic.frame (wpE defs₀ 𝒱₀ (c : Thread nD τ) none) E
      (k0_t2_loop i).lb (k0_t2_loop i).ub (k0_t2_loop i).st (k0_t2_ok i) init (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 v745) where
  inv _ acc := iprop(⌜acc = init⌝)
  step k acc := absurd k.isLt (by
    have h := t2_trips i
    change ¬ k.val < (k0_t2_loop i).trips
    omega)

set_option maxHeartbeats 4000000 in
/-- The part with the loops: its results from slot 0 of the two buffers, whatever else they held. -/
theorem part43 (c : Dev nD) (E : Set ℕ) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (v21 : FVec F S32x128 .f32) (v32 : FVec F S128x512 .bf16) (v43 : FVec F S128x512 .bf16) (v60 : BitVec 32) (v172 : FVec F S64x512 .f32) (v689_0 : FVec F S64x512 .f32) (v722_0 : FVec F S1x512 .f32) (v722_1 : FVec F S80x512 .f32) (v722_2 : FVec F S1x512 .f32) (v722_3 : FVec F S80x512 .f32) (v723 : BitVec 32) (c2_i32 : BitVec 32) (v724 : BitVec 32) (v729 : BitVec 32) (v734 : BitVec 32)
    (X6 : BufTy.Contents (Elt F) arg6.view.ty) (X7 : BufTy.Contents (Elt F) arg7.view.ty) (X12 : BufTy.Contents (Elt F) arg12.view.ty)
    (X11 : BufTy.Contents (Elt F) arg11.view.ty)
    (a b a' b' : Half F) (x x' : Row F)
        (f13 : BufTy.Contents (Elt F) arg13.view.ty) (f14 : BufTy.Contents (Elt F) arg14.view.ty) :
      (iprop((arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12)
          ∗ (arg13.view.loc (c : Thread nD τ) ↦[arg13.view.set]{fullShare} arg13.view.writes (Elt F) f13 (piecesS a b a' b')) ∗ (arg14.view.loc (c : Thread nD τ) ↦[arg14.view.set]{fullShare} arg14.view.writes (Elt F) f14 (piecesM x x'))) : sProp 𝕄)
      ⊢ wp frame (wpE (defs₀ (F := F)) 𝒱₀ (c : Thread nD τ) none) E (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734)
          (fun r => iprop(⌜r.1 = (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨(v722_0, v722_1, v722_2, v722_3), a, b, a', b', x, x'⟩ (k0_t1_loop i).trips).acc.2.2.2⌝
            ∗ ⌜r.2.1 = k0_pay272 v21 v172 v689_0 (slotAt (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 ⟨(v722_0, v722_1, v722_2, v722_3), a, b, a', b', x, x'⟩ (k0_t1_loop i).trips).acc.2.1⌝
            ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg12.view.loc (c : Thread nD τ) ↦[arg12.view.set]{fullShare} X12)
            ∗ (∃ f, (arg13.view.loc (c : Thread nD τ) ↦[arg13.view.set]{fullShare} f)) ∗ (∃ f, (arg14.view.loc (c : Thread nD τ) ↦[arg14.view.set]{fullShare} f)))) := by
  rw [k0_part43_eq_skeleton]
  unfold k0_part43_skel
  iintro ⟨H6, H7, H11, H12, H13, H14⟩
  sl_exec
  sl_step
  isplitr; · ipureintro; rfl
  isplitr; · ipureintro; rfl
  isplitl [H6]; · iexact H6
  isplitl [H7]; · iexact H7
  isplitl [H11]; · iexact H11
  isplitl [H12]; · iexact H12
  isplitl [H13]
  · iexists _; iexact H13
  iexists _; iexact H14

end Cert.Proof.KI

end
-- ==== Proof.KI.Run.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import proofs.«01_k».proof.Proof.KI.Part41
public import proofs.«01_k».proof.Proof.KI.Part42
public import proofs.«01_k».proof.Proof.KI.Part43

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

set_option maxHeartbeats 4000000 in
/-- What the body leaves in the result's block, with the proof that from any staging memrefs, the inputs' at their blocks and
    the result's and the six scratch buffers at anything, the body runs to the continuation with the result's block at it. -/
def kernelRun (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x8192x144 .bf16) (harg6 : arg6.IsWhole) (arg7 : Memref sig .tc .vmem S1x160x8192 .bf16) (harg7 : arg7.IsWhole) (arg8 : Memref sig .tc .vmem S1x8192x128 .bf16) (harg8 : arg8.IsWhole) (arg9 : Memref sig .tc .vmem S1x160x8192 .bf16) (harg9 : arg9.IsWhole) (arg10 : Memref sig .tc .vmem S1x32x128 .f32) (harg10 : arg10.IsWhole) (arg11 : Memref sig .tc .vmem S1x128x512 .bf16) (harg11 : arg11.IsWhole) (arg12 : Memref sig .tc .vmem S2x17x16x512 .bf16) (harg12 : arg12.IsWhole) (arg13 : Memref sig .tc .vmem S2x2x512x512 .f32) (harg13 : arg13.IsWhole) (arg14 : Memref sig .tc .vmem S2x2x1x512 .f32) (harg14 : arg14.IsWhole) (arg15 : Memref sig .tc .vmem S2x128x512 .f32) (harg15 : arg15.IsWhole) (arg16 : Memref sig .tc .vmem S2x640x512 .f32) (harg16 : arg16.IsWhole) (arg17 : Memref sig .tc .vmem S2x512x512 .f32) (harg17 : arg17.IsWhole) (x2 : Vec F S1x512x128 .bf16) (x3 : Vec F S1x512x128 .bf16) (x4 : Vec F S1x128x128 .bf16) (x5 : Vec F S1x128x128 .bf16) (x6 : Vec F S1x8192x144 .bf16) (x7 : Vec F S1x160x8192 .bf16) (x8 : Vec F S1x8192x128 .bf16) (x9 : Vec F S1x160x8192 .bf16) (x10 : Vec F S1x32x128 .f32) :
    { Y : Vec F S1x128x512 .bf16 // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare Y ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) 𝒱₀ c none) E (cc0_nsa_prompt (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    have hcut41 := fun v0 v1 v19 v32 v43 v60 v65 v484 v653 v655 v656 X6 X9 X16 p12 p15 => (mid (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v19 v32 v43 v60 v65 v484 v653 v655 v656 X6 X9 X16 p12 p15).2 E
    have hcut42 := fun v0 v19 v60 v62 v691 v693 X7 X15 X17 => (diag (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v19 v60 v62 v691 v693 X7 X15 X17).2 E
    have hcut43 := fun v21 v32 v43 v60 v172 v689_0 v722_0 v722_1 v722_2 v722_3 v723 c2_i32 v724 v729 v734 X6 X7 X12 X11 a b a' b' x x' f13 f14 => part43 (F := F) c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v21 v32 v43 v60 v172 v689_0 v722_0 v722_1 v722_2 v722_3 v723 c2_i32 v724 v729 v734 X6 X7 X12 X11 a b a' b' x x' f13 f14
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, H12⟩, ⟨%f13, H13⟩, ⟨%f14, H14⟩, ⟨%f15, H15⟩, ⟨%f16, H16⟩, ⟨%f17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_unfold [cc0_nsa_prompt]
    sl_exec!
    sl_step
    dsimp only at hk0_part41_0 hk0_part41_1 hk0_part41_2 hk0_part41_3 hk0_part42_0 hk0_part42_1 hk0_part42_2 hk0_part42_3 hk0_part42_4 hk0_part42_5 hk0_part42_6 hk0_part42_7 hk0_part42_8 hk0_part43_0 hk0_part43_1
    subst hk0_part41_0 hk0_part41_1 hk0_part41_2 hk0_part41_3 hk0_part42_0 hk0_part42_1 hk0_part42_2 hk0_part42_3 hk0_part42_4 hk0_part42_5 hk0_part42_6 hk0_part42_7 hk0_part42_8 hk0_part43_0 hk0_part43_1
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [Hk0_part43_2]
    · iexists _; isplitr; · ipureintro; exact harg6.read_unread _
      iexact Hk0_part43_2
    isplitl [Hk0_part43_3]
    · iexists _; isplitr; · ipureintro; exact harg7.read_unread _
      iexact Hk0_part43_3
    isplitl [H8]
    · iexists _; isplitr; · ipureintro; exact harg8.read_unread _
      iexact H8
    isplitl [Hk0_part41_5]
    · iexists _; isplitr; · ipureintro; exact harg9.read_unread _
      iexact Hk0_part41_5
    isplitl [H10]
    · iexists _; isplitr; · ipureintro; exact harg10.read_unread _
      iexact H10
    isplitl [Hk0_part43_4]
    · iexists _; isplitr; swap; · iexact Hk0_part43_4
      ipureintro; rfl
    isplitl [Hk0_part43_5]; · iexists _; iexact Hk0_part43_5
    isplitl [Hk0_part43_6]; · iexists _; iexact Hk0_part43_6
    isplitl [Hk0_part43_7]; · iexists _; iexact Hk0_part43_7
    isplitl [Hk0_part42_10]; · iexists _; iexact Hk0_part42_10
    isplitl [Hk0_part41_10]; · iexists _; iexact Hk0_part41_10
    iexists _; iexact Hk0_part42_11

end Cert.Proof.KI

end
-- ==== Proof.KI.Frame.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import proofs.«01_k».proof.Proof.KI.Run

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x144 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x160x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8192x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x160x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x512 .bf16 := win0_9.stage (cfg0.slots t 9)
abbrev hs0_9 (t : Fin cfg0.N) : (ms0_9 t).IsWhole := hstage0_9 ((cfg0.slots t 9).cast nbuf0_9)

/-- What the body leaves in the result's block at a point: what `kernelRun` finds at the point's memrefs and blocks. -/
def outsAt (c : Dev nD) (t : Fin cfg0.N) : Vec F S1x128x512 .bf16 :=
  (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t)).1

/-! ## The pipeline's proof data -/

/-- Each array as the region finds it; after the body each input's buffer at its block and the result's at `outsAt`;
    between points the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

set_option maxHeartbeats 2000000 in
/-- At every point the body, given the blocks and the scratch buffers, gives them back with the result's block at `outsAt`. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9]
  rw [show (dats m 0 c).Φ t.castSucc = Pipeline.ΦA spec0 c from rfl]
  unfold outsAt Pipeline.ΦA
  rw [scopedRest0_eq]
  iintro ⟨⟨⟨⟨%s0, S0⟩, ⟨%s1, S1⟩, ⟨%s2, S2⟩, ⟨%s3, S3⟩, ⟨%s4, S4⟩, ⟨%s5, S5⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexists s0; rw [show (Memref.whole cc0_scratch0).view.set = Finset.univ from View.set_whole _]; iexact S0
  isplitl [S1]; · iexists s1; rw [show (Memref.whole cc0_scratch1).view.set = Finset.univ from View.set_whole _]; iexact S1
  isplitl [S2]; · iexists s2; rw [show (Memref.whole cc0_scratch2).view.set = Finset.univ from View.set_whole _]; iexact S2
  isplitl [S3]; · iexists s3; rw [show (Memref.whole cc0_scratch3).view.set = Finset.univ from View.set_whole _]; iexact S3
  isplitl [S4]; · iexists s4; rw [show (Memref.whole cc0_scratch4).view.set = Finset.univ from View.set_whole _]; iexact S4
  isplitl [S5]; · iexists s5; rw [show (Memref.whole cc0_scratch5).view.set = Finset.univ from View.set_whole _]; iexact S5
  iintro ⟨H0, H1, H2, H3, H4, H5, H6, H7, H8, H9, ⟨%r0, S0⟩, ⟨%r1, S1⟩, ⟨%r2, S2⟩, ⟨%r3, S3⟩, ⟨%r4, S4⟩, ⟨%r5, S5⟩⟩
  isplitl [S0 S1 S2 S3 S4 S5 HP]
  · isplitr [HP]; swap; · iexact HP
    isplitl [S0]; · iexists r0; rw [show (Memref.whole cc0_scratch0).view.set = Finset.univ from View.set_whole _]; iexact S0
    isplitl [S1]; · iexists r1; rw [show (Memref.whole cc0_scratch1).view.set = Finset.univ from View.set_whole _]; iexact S1
    isplitl [S2]; · iexists r2; rw [show (Memref.whole cc0_scratch2).view.set = Finset.univ from View.set_whole _]; iexact S2
    isplitl [S3]; · iexists r3; rw [show (Memref.whole cc0_scratch3).view.set = Finset.univ from View.set_whole _]; iexact S3
    isplitl [S4]; · iexists r4; rw [show (Memref.whole cc0_scratch4).view.set = Finset.univ from View.set_whole _]; iexact S4
    iexists r5; rw [show (Memref.whole cc0_scratch5).view.set = Finset.univ from View.set_whole _]; iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run and the frame -/

set_option backward.isDefEq.respectTransparency.types false in
/-- At the compiled mesh, for any values, from any memory with zero counters: every weakly fair execution of @main
    terminates, and every final state has every array of the pipeline at what the proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame: every run ends, the arguments are as they were, and the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  θ_run_with_sems (frame_of m ρ (dats m) fun _ _ => rfl) (run_main m ρ)

end Cert.Proof.KI

end
-- ==== Proof.BK.Spec.lean ====
module

public import Idealize.ShloMosaic.PureOps.Ideal

@[expose] public section

noncomputable section

/-! One token's row of the layer's tail, over the extended reals: the attention's output projected and merged with the
convolution branch, projected and added to the residual; then the adaptive RMS norm and the gated feed-forward network.
Both programs' results are read as `ffn` of the same row. -/

namespace Cert.Proof.BK

open Idealize.ShloMosaic

/-- The residual after the merged branches: `x + g1 * ((gc * u + gn * (o Wo)) Wout)`. -/
def resid (x g1 gc gn u : Fin 1024 → EReal) (o : Fin 512 → EReal) (wno : Fin 512 → Fin 1024 → EReal)
    (wout : Fin 1024 → Fin 1024 → EReal) (n : Fin 1024) : EReal :=
  x n + g1 n * ∑ k, (gc k * u k + gn k * ∑ l, o l * wno l k) * wout k n

/-- The reciprocal root of a row's mean square, the width 1024 and the small addend as the programs' own words. -/
def invRms (y : Fin 1024 → EReal) : EReal :=
  Ideal.rsqrt (Ideal.div (∑ k, y k * y k) (Ideal.ofBits FTy.f32 0x44800000#32) + Ideal.ofBits FTy.f32 0x358637BD#32)

/-- The normalised row, scaled and shifted. -/
def normed (y fg sc sh : Fin 1024 → EReal) (n : Fin 1024) : EReal :=
  y n * invRms y * fg n * (1 + sc n) + sh n

/-- A row times a matrix. -/
def rowMul {a b : ℕ} (h : Fin a → EReal) (w : Fin a → Fin b → EReal) (j : Fin b) : EReal := ∑ k, h k * w k j

/-- The gated hidden layer: `silu (h Wg) * (h Wu)`. -/
def hidden (h : Fin 1024 → EReal) (wg wu : Fin 1024 → Fin 2816 → EReal) (j : Fin 2816) : EReal :=
  rowMul h wg j * Ideal.logistic (rowMul h wg j) * rowMul h wu j

/-- The feed-forward network added to its residual `y`. -/
def ffn (y fg sc sh g2 : Fin 1024 → EReal) (wg wu : Fin 1024 → Fin 2816 → EReal) (wd : Fin 2816 → Fin 1024 → EReal)
    (n : Fin 1024) : EReal :=
  y n + g2 n * rowMul (hidden (normed y fg sc sh) wg wu) wd n

end Cert.Proof.BK

end
-- ==== Proof.BK.Block.lean ====
module

public import proofs.«01_k».proof.Proof.Gen.BackIdeal.Value
public import proofs.«01_k».proof.Proof.BK.Spec
public import Idealize.ShloMosaic.Lib.Pointwise

@[expose] public section

noncomputable section

/-! What the kernel's body computes from its blocks, read at an entry: `ffn` of the block's row. -/

namespace Cert.Proof.BK

open Idealize.ShloMosaic Cert.BackIdeal Cert.BackIdeal.Gen

/-- The stored block is the result with a unit axis in front. -/
theorem pay1_apply (v : FVec Ideal S256x1024 .f32) (y : S1x256x1024.Idx) : k0_pay1 v y = v (ix2 (y 1) (y 2)) := by
  pointwise [k0_pay1]

/-- The residual the body computes, at row `r` and column `n`. -/
theorem pay2_apply (P0 : Vec Ideal S1x256x512 .bf16) (P1 : Vec Ideal S512x1024 .bf16) (P2 : Vec Ideal S1x256x2048 .f32)
    (P3 : Vec Ideal S1x256x1024 .f32) (P4 : Vec Ideal S1024x1024 .bf16) (P5 : Vec Ideal S1x256x1024 .f32)
    (P6 : Vec Ideal S1x1x1024 .f32) (r : Fin 256) (n : Fin 1024) :
    k0_pay2 P0 P1 P2 P3 P4 P5 P6 (ix2 r n) =
      resid (fun k => P5 (ix3 0 r k)) (fun k => P6 (ix3 0 0 k))
        (fun k => P2 (ix3 0 r ⟨k.val, by omega⟩)) (fun k => P2 (ix3 0 r ⟨1024 + k.val, by omega⟩))
        (fun k => P3 (ix3 0 r k)) (fun l => P0 (ix3 0 r l)) (fun l k => P1 (ix2 l k)) (fun k j => P4 (ix2 k j)) n := by
  unfold resid
  pointwise [k0_pay2]

/-- The reciprocal root the body computes from its residual, at row `r`. -/
theorem pay3_apply (P0 : Vec Ideal S1x256x512 .bf16) (P1 : Vec Ideal S512x1024 .bf16) (P2 : Vec Ideal S1x256x2048 .f32)
    (P3 : Vec Ideal S1x256x1024 .f32) (P4 : Vec Ideal S1024x1024 .bf16) (P5 : Vec Ideal S1x256x1024 .f32)
    (P6 : Vec Ideal S1x1x1024 .f32) (r : Fin 256) (n : Fin 1024) :
    k0_pay3 P0 P1 P2 P3 P4 P5 P6 (ix2 r n) = invRms fun k => k0_pay2 P0 P1 P2 P3 P4 P5 P6 (ix2 r k) := by
  unfold invRms
  pointwise [k0_pay3]

/-- The body's result from its residual and the reciprocal root, at row `r` and column `n`. -/
theorem pay4_apply (v24 v33 : FVec Ideal S256x1024 .f32) (P7 : Vec Ideal S1x1024 .f32) (P8 P9 : Vec Ideal S1x1x1024 .f32)
    (P10 P11 : Vec Ideal S1024x2816 .bf16) (P12 : Vec Ideal S2816x1024 .bf16) (P13 : Vec Ideal S1x1x1024 .f32)
    (y : Fin 1024 → EReal) (r : Fin 256) (n : Fin 1024) (hy : ∀ k, v24 (ix2 r k) = y k) (hr : ∀ k, v33 (ix2 r k) = invRms y) :
    k0_pay4 v24 v33 P7 P8 P9 P10 P11 P12 P13 (ix2 r n) =
      ffn y (fun k => P7 (ix2 0 k)) (fun k => P8 (ix3 0 0 k)) (fun k => P9 (ix3 0 0 k)) (fun k => P13 (ix3 0 0 k))
        (fun k j => P10 (ix2 k j)) (fun k j => P11 (ix2 k j)) (fun k j => P12 (ix2 k j)) n := by
  unfold ffn hidden normed rowMul
  simp only [← hy]
  pointwise [k0_pay4]
  simp only [hr]

end Cert.Proof.BK

end
-- ==== Proof.BK.Ref.lean ====
module

public import proofs.«01_k».proof.Proof.Gen.BackReferenceIdeal.Read
public import proofs.«01_k».proof.Proof.BK.Spec
public import Idealize.ShloMosaic.Lib.Pointwise

@[expose] public section

noncomputable section

/-! The reference's result read at an entry: `ffn` of the token's row. -/

namespace Cert.Proof.BK

open Idealize.ShloMosaic Cert.BackReferenceIdeal Cert.BackReferenceIdeal.Gen Cert.BackReferenceIdeal.Read

variable (x0 x2 : (⟨S4x8192x1024, .f32⟩ : BufTy).Contents (Elt Ideal)) (x1 : (⟨S4x8192x2x4x64, .f32⟩ : BufTy).Contents (Elt Ideal))
  (x3 : (⟨S4x8192x2048, .f32⟩ : BufTy).Contents (Elt Ideal)) (x4 : (⟨S4x6144, .f32⟩ : BufTy).Contents (Elt Ideal))
  (x5 : (⟨S1024, .f32⟩ : BufTy).Contents (Elt Ideal)) (x6 : (⟨S512x1024, .f32⟩ : BufTy).Contents (Elt Ideal))
  (x7 : (⟨S1024x1024, .f32⟩ : BufTy).Contents (Elt Ideal)) (x8 x9 : (⟨S1024x2816, .f32⟩ : BufTy).Contents (Elt Ideal))
  (x10 : (⟨S2816x1024, .f32⟩ : BufTy).Contents (Elt Ideal))

/-- The residual of the merged branches. -/
theorem v17_apply (b : Fin 4) (t : Fin 8192) (n : Fin 1024) :
    val_main_v17 (F := Ideal) x0 x1 x2 x3 x4 x6 x7 (ix3 b t n) =
      resid (fun k => x0 (ix3 b t k)) (fun k => x4 (ix2 b ⟨2048 + k.val, by omega⟩))
        (fun k => x3 (ix3 b t ⟨k.val, by omega⟩)) (fun k => x3 (ix3 b t ⟨1024 + k.val, by omega⟩))
        (fun k => x2 (ix3 b t k)) (fun l => val_main_v9 (F := Ideal) x1 (ix3 b t l)) (fun l k => x6 (ix2 l k)) (fun k j => x7 (ix2 k j)) n := by
  unfold resid
  pointwise [val_main_v17, val_main_v16, val_main_v15, val_main_v14, val_main_v13, val_main_v12, val_main_v11, val_main_v10,
    val_main_v8, val_main_v7, val_main_v3, val_main_v0]

/-- The reciprocal root of its mean square. -/
theorem v25_apply (b : Fin 4) (t : Fin 8192) :
    val_main_v25 (F := Ideal) x0 x1 x2 x3 x4 x6 x7 (ix3 b t 0) =
      invRms fun k => val_main_v17 (F := Ideal) x0 x1 x2 x3 x4 x6 x7 (ix3 b t k) := by
  unfold invRms
  pointwise [val_main_v25, val_main_v24, val_main_v23, val_main_v22, val_main_v21, val_main_v20, val_main_v19, val_main_v18,
    val_main_cst, val_main_cst_0, val_main_cst_1]

/-- The normalised row. -/
theorem v36_apply (b : Fin 4) (t : Fin 8192) (n : Fin 1024) :
    val_main_v36 (F := Ideal) x0 x1 x2 x3 x4 x5 x6 x7 (ix3 b t n) =
      normed (fun k => val_main_v17 (F := Ideal) x0 x1 x2 x3 x4 x6 x7 (ix3 b t k)) (fun k => x5 (ix1 k))
        (fun k => x4 (ix2 b ⟨4096 + k.val, by omega⟩)) (fun k => x4 (ix2 b ⟨3072 + k.val, by omega⟩)) n := by
  unfold normed
  rw [← v25_apply]
  pointwise [val_main_v36, val_main_v35, val_main_v34, val_main_v33, val_main_v32, val_main_v31, val_main_v30, val_main_v29,
    val_main_v28, val_main_v27, val_main_v26, val_main_v4, val_main_v5, val_main_cst_2, val_main_v0]

/-- The reference's result. -/
theorem v44_apply (b : Fin 4) (t : Fin 8192) (n : Fin 1024) :
    val_main_v44 (F := Ideal) x0 x1 x2 x3 x4 x5 x6 x7 x8 x9 x10 (ix3 b t n) =
      ffn (fun k => val_main_v17 (F := Ideal) x0 x1 x2 x3 x4 x6 x7 (ix3 b t k)) (fun k => x5 (ix1 k))
        (fun k => x4 (ix2 b ⟨4096 + k.val, by omega⟩)) (fun k => x4 (ix2 b ⟨3072 + k.val, by omega⟩))
        (fun k => x4 (ix2 b ⟨5120 + k.val, by omega⟩)) (fun k j => x8 (ix2 k j)) (fun k j => x9 (ix2 k j))
        (fun k j => x10 (ix2 k j)) n := by
  unfold ffn hidden rowMul Ideal.logistic
  simp only [← v36_apply]
  pointwise [val_main_v44, val_main_v43, val_main_v42, val_main_v41, val_main_v40, val_main_v39, val_main_v38,
    val_main_call0_v5, val_main_call0_v4, val_main_call0_cst_0, val_main_call0_v3, val_main_call0_v2, val_main_call0_cst,
    val_main_call0_v1, val_main_call0_v0, val_main_v37, val_main_v6, val_main_v0]

end Cert.Proof.BK

end
-- ==== Proof.BK.Array.lean ====
module

public import proofs.«01_k».proof.Proof.BK.Block
public import proofs.«01_k».proof.Proof.BK.Ref
public import Idealize.ShloMosaic.Lib.Pipeline.ValueKit
public import Idealize.ShloMosaic.Lib.Claim

@[expose] public section

set_option maxRecDepth 16384

noncomputable section

/-! The kernel's result array after the run is the reference's result of the kernel's arguments. -/

namespace Cert.Proof.BK

open Idealize.ShloMosaic Idealize.ShloMosaic.TcCoe Cert.BackIdeal Cert.BackIdeal.Gen
open Idealize.ShloMosaic.Pipeline (Dat)

variable (m : (ℓ : Loc nD τ sig) → Buf (Elt Ideal) ℓ)

/-- Every window's block index at point `t`: 32 token tiles for each of 4 sequences. -/
theorem idx : ∀ t : Fin cfg0.N, win0_0.index t = ![t.val / 32, t.val % 32, 0] ∧ win0_1.index t = ![t.val / 32, t.val % 32, 0] ∧
    win0_2.index t = ![t.val / 32, t.val % 32, 0] ∧ win0_3.index t = ![t.val / 32, t.val % 32, 0] ∧
    win0_4.index t = ![t.val / 32, 0, 2] ∧ win0_5.index t = ![t.val / 32, 0, 3] ∧ win0_6.index t = ![t.val / 32, 0, 4] ∧
    win0_7.index t = ![t.val / 32, 0, 5] ∧ win0_8.index t = ![0, 0] ∧ win0_9.index t = ![0, 0] ∧ win0_10.index t = ![0, 0] ∧
    win0_11.index t = ![0, 0] ∧ win0_12.index t = ![0, 0] ∧ win0_13.index t = ![0, 0] ∧
    win0_14.index t = ![t.val / 32, t.val % 32, 0] :=
  (by decide +kernel : ∀ t : Fin grid0.N, _)

/-- The sequence of grid point `t`. -/
def seq (t : Fin cfg0.N) : Fin 4 := ⟨t.val / 32, by have h : t.val < 128 := t.isLt; omega⟩

/-- The token at row `r` of grid point `t`'s tile. -/
def tok (t : Fin cfg0.N) (r : Fin 256) : Fin 8192 := ⟨t.val % 32 * 256 + r.val, by have := r.isLt; omega⟩

variable (c : Dev nD) (t : Fin cfg0.N)

/-! Each input block read at an entry: the argument array there. -/

theorem blk0 (r : Fin 256) (k : Fin 1024) :
    iblk m c 0 t (ix3 0 r k) = (m ((c : Thread nD τ).loc main_arg0)) (ix3 (seq t) (tok t r) k) := by
  unfold seq tok
  blk_ext [iblk, V, idx t]

theorem blk2 (r : Fin 256) (k : Fin 1024) :
    iblk m c 2 t (ix3 0 r k) = (m ((c : Thread nD τ).loc main_arg2)) (ix3 (seq t) (tok t r) k) := by
  unfold seq tok
  blk_ext [iblk, V, idx t]

theorem blk3 (r : Fin 256) (k : Fin 2048) :
    iblk m c 3 t (ix3 0 r k) = (m ((c : Thread nD τ).loc main_arg3)) (ix3 (seq t) (tok t r) k) := by
  unfold seq tok
  blk_ext [iblk, V, idx t]

theorem blk1 (r : Fin 256) (k : Fin 512) :
    iblk m c 1 t (ix3 0 r k) =
      Cert.BackReferenceIdeal.Read.val_main_v9 (F := Ideal) (m ((c : Thread nD τ).loc main_arg1)) (ix3 (seq t) (tok t r) k) := by
  unfold seq tok
  blk_simp [iblk, idx t]
  entry_read
  show Cert.BackReferenceIdeal.Read.val_main_v9 (F := Ideal) (m ((c : Thread nD τ).loc main_arg1)) _ = _
  blk_ext [idx t]

theorem blk4 (k : Fin 1024) :
    iblk m c 4 t (ix3 0 0 k) = (m ((c : Thread nD τ).loc main_arg4)) (ix2 (seq t) ⟨2048 + k.val, by omega⟩) := by
  unfold seq
  blk_simp [iblk, idx t]
  entry_read
  pointwise
  blk_ext [idx t]

theorem blk5 (k : Fin 1024) :
    iblk m c 5 t (ix3 0 0 k) = (m ((c : Thread nD τ).loc main_arg4)) (ix2 (seq t) ⟨3072 + k.val, by omega⟩) := by
  unfold seq
  blk_simp [iblk, idx t]
  entry_read
  pointwise
  blk_ext [idx t]

theorem blk6 (k : Fin 1024) :
    iblk m c 6 t (ix3 0 0 k) = (m ((c : Thread nD τ).loc main_arg4)) (ix2 (seq t) ⟨4096 + k.val, by omega⟩) := by
  unfold seq
  blk_simp [iblk, idx t]
  entry_read
  pointwise
  blk_ext [idx t]

theorem blk7 (k : Fin 1024) :
    iblk m c 7 t (ix3 0 0 k) = (m ((c : Thread nD τ).loc main_arg4)) (ix2 (seq t) ⟨5120 + k.val, by omega⟩) := by
  unfold seq
  blk_simp [iblk, idx t]
  entry_read
  pointwise
  blk_ext [idx t]

theorem blk8 (k : Fin 1024) :
    iblk m c 8 t (ix2 0 k) = (m ((c : Thread nD τ).loc main_arg5)) (ix1 k) := by
  blk_simp [iblk, idx t]
  entry_read
  pointwise
  blk_ext [idx t]

theorem blk9 (l : Fin 512) (k : Fin 1024) :
    iblk m c 9 t (ix2 l k) = (m ((c : Thread nD τ).loc main_arg6)) (ix2 l k) := by
  blk_simp [iblk, idx t]
  entry_read
  pointwise
  blk_ext [idx t]

theorem blk10 (l : Fin 1024) (k : Fin 1024) :
    iblk m c 10 t (ix2 l k) = (m ((c : Thread nD τ).loc main_arg7)) (ix2 l k) := by
  blk_simp [iblk, idx t]
  entry_read
  pointwise
  blk_ext [idx t]

theorem blk11 (l : Fin 1024) (k : Fin 2816) :
    iblk m c 11 t (ix2 l k) = (m ((c : Thread nD τ).loc main_arg8)) (ix2 l k) := by
  blk_simp [iblk, idx t]
  entry_read
  pointwise
  blk_ext [idx t]

theorem blk12 (l : Fin 1024) (k : Fin 2816) :
    iblk m c 12 t (ix2 l k) = (m ((c : Thread nD τ).loc main_arg9)) (ix2 l k) := by
  blk_simp [iblk, idx t]
  entry_read
  pointwise
  blk_ext [idx t]

theorem blk13 (l : Fin 2816) (k : Fin 1024) :
    iblk m c 13 t (ix2 l k) = (m ((c : Thread nD τ).loc main_arg10)) (ix2 l k) := by
  blk_simp [iblk, idx t]
  entry_read
  pointwise
  blk_ext [idx t]

/-- What the body leaves at row `r` and column `n` of point `t`'s tile: the reference's result at that token. -/
theorem body (r : Fin 256) (n : Fin 1024) :
    k0_pay4 (k0_pay2 (iblk m c 1 t) (iblk m c 9 t) (iblk m c 3 t) (iblk m c 2 t) (iblk m c 10 t) (iblk m c 0 t) (iblk m c 4 t))
      (k0_pay3 (iblk m c 1 t) (iblk m c 9 t) (iblk m c 3 t) (iblk m c 2 t) (iblk m c 10 t) (iblk m c 0 t) (iblk m c 4 t))
      (iblk m c 8 t) (iblk m c 6 t) (iblk m c 5 t) (iblk m c 11 t) (iblk m c 12 t) (iblk m c 13 t) (iblk m c 7 t) (ix2 r n) =
    Cert.BackReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (seq t) (tok t r) n) := by
  have hres : ∀ k, k0_pay2 (iblk m c 1 t) (iblk m c 9 t) (iblk m c 3 t) (iblk m c 2 t) (iblk m c 10 t) (iblk m c 0 t) (iblk m c 4 t) (ix2 r k) =
      Cert.BackReferenceIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (ix3 (seq t) (tok t r) k) := fun k => by
    refine (pay2_apply _ _ _ _ _ _ _ r k).trans (Eq.trans ?_ (v17_apply _ _ _ _ _ _ _ (seq t) (tok t r) k).symm)
    simp only [blk0, blk1, blk2, blk3, blk4, blk9, blk10]
  refine (pay4_apply _ _ _ _ _ _ _ _ _ _ r n hres fun k => ?_).trans (Eq.trans ?_ (v44_apply _ _ _ _ _ _ _ _ _ _ _ (seq t) (tok t r) n).symm)
  · refine (pay3_apply _ _ _ _ _ _ _ r k).trans ?_
    simp only [hres]
  · simp only [blk5, blk6, blk7, blk8, blk11, blk12, blk13]

/-- The result array after the run. -/
theorem final : (dats m 0 c).arrAt 14 cfg0.N =
    Cert.BackReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  frame_out
  refine (pay1_apply _ y).trans ((body m c t (y 1) (y 2)).trans (congrArg _ ?_))
  unfold seq tok
  blk_ext [idx t]

end Cert.Proof.BK

end
-- ==== Proof.CV.Loads.lean ====
module

public import proofs.«01_k».proof.Proof.Gen.ConvIdeal.Frame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Proof.CV

open Idealize.ShloMosaic Idealize.ShloMosaic.TcCoe Cert.ConvIdeal Cert.ConvIdeal.Gen
open Idealize.ShloMosaic.Pipeline (Dat)

/-- The rows `a` to `a + 255` of a buffer of 280 rows, with a unit axis in front. -/
def win3 (v : Vec Ideal S280x512 .f32) (a : ℕ) (ha : a + 256 ≤ 280) : Vec Ideal S1x256x512 .f32 := fun y =>
  v (ix2 ⟨a + (y 1).val, by have h : (y 1).val < 256 := (y 1).isLt; omega⟩ (y 2))

/-- A load that lies within the last store reads that store's payload. -/
theorem readCov_in {sig : RefSig} {κ : Kind} {sp : Space} {s : Shape} {e : EltTy} (v : View sig κ sp s e) (r : Rect s)
    (w : r.shape.Idx → Elt Ideal e) (L : List (View.Piece (Elt Ideal) s e)) (B : LoadRect s) (g : B.shape.Idx → r.shape.Idx)
    (h : ∀ j, B.idx j = r.emb (g j)) : v.readCov (⟨r, w⟩ :: L) B = fun j => w (g j) := by
  rw [View.readCov_eq_canon']
  funext j
  rw [h j]
  exact View.canon_cons_emb r w L (g j)

theorem sh6 {sp : Space} (v : View sig .tc sp S7x280x512 .f32) (w : Vec Ideal S280x512 .f32) (a : ℕ)
    (inb : ∀ a, (![0, 0, 0] : Fin 3 → ℕ) a + (![1, 280, 512] : Fin 3 → ℕ) a ≤ S7x280x512.size a)
    (inb' : ∀ b, (![0, a, 0] : Fin 3 → ℕ) b + (![1, 256, 512] : Fin 3 → ℕ) b ≤ S7x280x512.size b)
    (L : List (View.Piece (Elt Ideal) S7x280x512 .f32)) :
    v.readCov (⟨Rect.unit (s := S7x280x512) ![0, 0, 0] ![1, 280, 512] inb, k0_pay6 w⟩ :: L)
      (Rect.unit (s := S7x280x512) ![0, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 0 + 1 * (y 0).val = 0 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay6]

theorem sh7 {sp : Space} (v : View sig .tc sp S7x280x512 .f32) (w : Vec Ideal S280x512 .f32) (a : ℕ)
    (inb : ∀ a, (![1, 0, 0] : Fin 3 → ℕ) a + (![1, 280, 512] : Fin 3 → ℕ) a ≤ S7x280x512.size a)
    (inb' : ∀ b, (![1, a, 0] : Fin 3 → ℕ) b + (![1, 256, 512] : Fin 3 → ℕ) b ≤ S7x280x512.size b)
    (L : List (View.Piece (Elt Ideal) S7x280x512 .f32)) :
    v.readCov (⟨Rect.unit (s := S7x280x512) ![1, 0, 0] ![1, 280, 512] inb, k0_pay7 w⟩ :: L)
      (Rect.unit (s := S7x280x512) ![1, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 1 + 1 * (y 0).val = 1 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay7]

theorem sh8 {sp : Space} (v : View sig .tc sp S7x280x512 .f32) (w : Vec Ideal S280x512 .f32) (a : ℕ)
    (inb : ∀ a, (![2, 0, 0] : Fin 3 → ℕ) a + (![1, 280, 512] : Fin 3 → ℕ) a ≤ S7x280x512.size a)
    (inb' : ∀ b, (![2, a, 0] : Fin 3 → ℕ) b + (![1, 256, 512] : Fin 3 → ℕ) b ≤ S7x280x512.size b)
    (L : List (View.Piece (Elt Ideal) S7x280x512 .f32)) :
    v.readCov (⟨Rect.unit (s := S7x280x512) ![2, 0, 0] ![1, 280, 512] inb, k0_pay8 w⟩ :: L)
      (Rect.unit (s := S7x280x512) ![2, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 2 + 1 * (y 0).val = 2 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay8]

theorem sh9 {sp : Space} (v : View sig .tc sp S7x280x512 .f32) (w : Vec Ideal S280x512 .f32) (a : ℕ)
    (inb : ∀ a, (![3, 0, 0] : Fin 3 → ℕ) a + (![1, 280, 512] : Fin 3 → ℕ) a ≤ S7x280x512.size a)
    (inb' : ∀ b, (![3, a, 0] : Fin 3 → ℕ) b + (![1, 256, 512] : Fin 3 → ℕ) b ≤ S7x280x512.size b)
    (L : List (View.Piece (Elt Ideal) S7x280x512 .f32)) :
    v.readCov (⟨Rect.unit (s := S7x280x512) ![3, 0, 0] ![1, 280, 512] inb, k0_pay9 w⟩ :: L)
      (Rect.unit (s := S7x280x512) ![3, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 3 + 1 * (y 0).val = 3 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay9]

theorem sh10 {sp : Space} (v : View sig .tc sp S7x280x512 .f32) (w : Vec Ideal S280x512 .f32) (a : ℕ)
    (inb : ∀ a, (![4, 0, 0] : Fin 3 → ℕ) a + (![1, 280, 512] : Fin 3 → ℕ) a ≤ S7x280x512.size a)
    (inb' : ∀ b, (![4, a, 0] : Fin 3 → ℕ) b + (![1, 256, 512] : Fin 3 → ℕ) b ≤ S7x280x512.size b)
    (L : List (View.Piece (Elt Ideal) S7x280x512 .f32)) :
    v.readCov (⟨Rect.unit (s := S7x280x512) ![4, 0, 0] ![1, 280, 512] inb, k0_pay10 w⟩ :: L)
      (Rect.unit (s := S7x280x512) ![4, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 4 + 1 * (y 0).val = 4 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay10]

theorem sh11 {sp : Space} (v : View sig .tc sp S7x280x512 .f32) (w : Vec Ideal S280x512 .f32) (a : ℕ)
    (inb : ∀ a, (![5, 0, 0] : Fin 3 → ℕ) a + (![1, 280, 512] : Fin 3 → ℕ) a ≤ S7x280x512.size a)
    (inb' : ∀ b, (![5, a, 0] : Fin 3 → ℕ) b + (![1, 256, 512] : Fin 3 → ℕ) b ≤ S7x280x512.size b)
    (L : List (View.Piece (Elt Ideal) S7x280x512 .f32)) :
    v.readCov (⟨Rect.unit (s := S7x280x512) ![5, 0, 0] ![1, 280, 512] inb, k0_pay11 w⟩ :: L)
      (Rect.unit (s := S7x280x512) ![5, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 5 + 1 * (y 0).val = 5 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay11]

theorem sh12 {sp : Space} (v : View sig .tc sp S7x280x512 .f32) (w : Vec Ideal S280x512 .f32) (a : ℕ)
    (inb : ∀ a, (![6, 0, 0] : Fin 3 → ℕ) a + (![1, 280, 512] : Fin 3 → ℕ) a ≤ S7x280x512.size a)
    (inb' : ∀ b, (![6, a, 0] : Fin 3 → ℕ) b + (![1, 256, 512] : Fin 3 → ℕ) b ≤ S7x280x512.size b)
    (L : List (View.Piece (Elt Ideal) S7x280x512 .f32)) :
    v.readCov (⟨Rect.unit (s := S7x280x512) ![6, 0, 0] ![1, 280, 512] inb, k0_pay12 w⟩ :: L)
      (Rect.unit (s := S7x280x512) ![6, a, 0] ![1, 256, 512] inb').toLoadRect = win3 w a (inb' 1) := by
  refine (readCov_in v _ _ L _ (fun y => ix3 0 ⟨a + (y 1).val, ?_⟩ (y 2)) fun y => ?_).trans ?_
  · have h : a + 256 ≤ 280 := inb' 1
    have h' : (y 1).val < 256 := (y 1).isLt
    omega
  · funext b
    apply Fin.ext
    match b with
    | ⟨0, _⟩ => show 6 + 1 * (y 0).val = 6 + 1 * 0; have h' : (y 0).val < 1 := (y 0).isLt; omega
    | ⟨1, _⟩ => show a + 1 * (y 1).val = 0 + 1 * (a + (y 1).val); omega
    | ⟨2, _⟩ => show 0 + 1 * (y 2).val = 0 + 1 * (y 2).val; rfl
  · funext y
    unfold win3
    pointwise [k0_pay12]

/-- The load of the tile's rows 226 to 255. -/
theorem ext_hit30 {sp : Space} (v : View sig .tc sp S288x512 .f32) (w : FVec Ideal S256x512 .f32)
    (inb : ∀ a, (![32, 0] : Fin 2 → ℕ) a + (![256, 512] : Fin 2 → ℕ) a ≤ S288x512.size a)
    (inb' : ∀ a, (![258, 0] : Fin 2 → ℕ) a + (![30, 512] : Fin 2 → ℕ) a ≤ S288x512.size a)
    (L : List (View.Piece (Elt Ideal) S288x512 .f32)) :
    v.readCov (⟨Rect.unit (s := S288x512) ![32, 0] ![256, 512] inb, w⟩ :: L) (Rect.unit (s := S288x512) ![258, 0] ![30, 512] inb').toLoadRect =
      fun y : S30x512.Idx => w (ix2 ⟨226 + (y 0).val, by have h' : (y 0).val < 30 := (y 0).isLt; omega⟩ (y 1)) := by
  refine (readCov_in v _ _ L _ (fun y : S30x512.Idx => ix2 ⟨226 + (y 0).val, ?_⟩ (y 1)) fun y => ?_).trans ?_
  · have h' : (y 0).val < 30 := (y 0).isLt
    omega
  · funext a
    apply Fin.ext
    match a with
    | ⟨0, _⟩ => show 258 + 1 * (y 0).val = 32 + 1 * (226 + (y 0).val); omega
    | ⟨1, _⟩ => show 0 + 1 * (y 1).val = 0 + 1 * (y 1).val; rfl
  · rfl

/-- The load of the tile's rows 224 to 255. -/
theorem ext_hit32 {sp : Space} (v : View sig .tc sp S288x512 .f32) (w : FVec Ideal S256x512 .f32)
    (inb : ∀ a, (![32, 0] : Fin 2 → ℕ) a + (![256, 512] : Fin 2 → ℕ) a ≤ S288x512.size a)
    (inb' : ∀ a, (![256, 0] : Fin 2 → ℕ) a + (![32, 512] : Fin 2 → ℕ) a ≤ S288x512.size a)
    (L : List (View.Piece (Elt Ideal) S288x512 .f32)) :
    v.readCov (⟨Rect.unit (s := S288x512) ![32, 0] ![256, 512] inb, w⟩ :: L) (Rect.unit (s := S288x512) ![256, 0] ![32, 512] inb').toLoadRect =
      fun y : S32x512.Idx => w (ix2 ⟨224 + (y 0).val, by have h' : (y 0).val < 32 := (y 0).isLt; omega⟩ (y 1)) := by
  refine (readCov_in v _ _ L _ (fun y : S32x512.Idx => ix2 ⟨224 + (y 0).val, ?_⟩ (y 1)) fun y => ?_).trans ?_
  · have h' : (y 0).val < 32 := (y 0).isLt
    omega
  · funext a
    apply Fin.ext
    match a with
    | ⟨0, _⟩ => show 256 + 1 * (y 0).val = 32 + 1 * (224 + (y 0).val); omega
    | ⟨1, _⟩ => show 0 + 1 * (y 1).val = 0 + 1 * (y 1).val; rfl
  · rfl

/-- The extended rows at a tile that is not a sequence's first: the 32 rows carried, then the tile. -/
def extB (xs : Vec Ideal S288x512 .f32) (w : FVec Ideal S256x512 .f32) : Vec Ideal S288x512 .f32 := fun y =>
  if h : (y 0).val < 32 then xs y else
    w (ix2 ⟨(y 0).val - 32, by have h' : (y 0).val < 288 := (y 0).isLt; omega⟩ (y 1))

/-- The extended rows at a sequence's first tile: two rows of zeros, the state's 30, then the tile. -/
def extA (x1 : Vec Ideal S1x30x512 .f32) (w : FVec Ideal S256x512 .f32) : Vec Ideal S288x512 .f32 := fun y =>
  if h : (y 0).val < 32 then
    if h2 : (y 0).val < 2 then 0 else x1 (ix3 0 ⟨(y 0).val - 2, by omega⟩ (y 1))
  else w (ix2 ⟨(y 0).val - 32, by have h' : (y 0).val < 288 := (y 0).isLt; omega⟩ (y 1))

theorem pay3_apply (y : S2x512.Idx) : k0_pay3 (F := Ideal) y = 0 := by
  pointwise [k0_pay3]

theorem pay4_apply (v : Vec Ideal S1x30x512 .f32) (y : S30x512.Idx) : k0_pay4 v y = v (ix3 0 (y 0) (y 1)) := by
  pointwise [k0_pay4]

theorem pay5_apply (v : Vec Ideal S1x256x512 .f32) (y : S256x512.Idx) : k0_pay5 v y = v (ix3 0 (y 0) (y 1)) := by
  pointwise [k0_pay5]

theorem extA_eq (x1 : Vec Ideal S1x30x512 .f32) (w : FVec Ideal S256x512 .f32) (i32 i2 i0) :
    View.canon [⟨Rect.unit (s := S288x512) ![32, 0] ![256, 512] i32, w⟩, ⟨Rect.unit (s := S288x512) ![2, 0] ![30, 512] i2, k0_pay4 x1⟩,
      ⟨Rect.unit (s := S288x512) ![0, 0] ![2, 512] i0, k0_pay3 (F := Ideal)⟩] = extA x1 w := by
  funext y
  canon_tiles x h using View.cover_of_tiledBy _ ![2, 512] (by sl_kernel_rfl) y
  · have hx : (x 0).val < 256 := (x 0).isLt
    unfold extA
    rw [dif_neg (by omega)]
    congr 1
    funext a
    match a with
    | ⟨0, _⟩ => apply Fin.ext; show (x 0).val = (y 0).val - 32; omega
    | ⟨1, _⟩ => exact Fin.ext h1.symm
  · have hx : (x 0).val < 30 := (x 0).isLt
    unfold extA
    rw [dif_pos (by omega), dif_neg (by omega), pay4_apply]
    congr 1
    funext a
    match a with
    | ⟨0, _⟩ => rfl
    | ⟨1, _⟩ => apply Fin.ext; show (x 0).val = (y 0).val - 2; omega
    | ⟨2, _⟩ => exact Fin.ext h1.symm
  · have hx : (x 0).val < 2 := (x 0).isLt
    unfold extA
    rw [dif_pos (by omega), dif_pos (by omega), pay3_apply]

theorem extB_eq {sp : Space} (v : View sig .tc sp S288x512 .f32) (f : v.ty.Contents (Elt Ideal)) (xs : Vec Ideal S288x512 .f32) (w : FVec Ideal S256x512 .f32) (i32)
    (hf : v.read (Elt Ideal) f = xs) :
    v.read (Elt Ideal) (v.writes (Elt Ideal) f [⟨Rect.unit (s := S288x512) ![32, 0] ![256, 512] i32, w⟩]) = extB xs w := by
  subst hf
  funext y
  by_cases h : (y 0).val < 32
  · rw [View.writes_cons, View.read_slice_write_of_not_mem, extB, dif_pos h, View.writes_nil]
    rw [Rect.map_emb_univ, Rect.mem_set_unit]
    intro hh
    have := (hh 0).1
    have h3 : 32 ≤ (y 0).val := this
    omega
  · rw [extB, dif_neg h]
    have e : y = (Rect.unit (s := S288x512) ![32, 0] ![256, 512] i32).emb
        (ix2 ⟨(y 0).val - 32, by have h' : (y 0).val < 288 := (y 0).isLt; omega⟩ (y 1)) := by
      funext a
      apply Fin.ext
      match a with
      | ⟨0, _⟩ => show (y 0).val = 32 + 1 * ((y 0).val - 32); omega
      | ⟨1, _⟩ => show (y 1).val = 0 + 1 * (y 1).val; omega
    conv_lhs => rw [e]
    exact View.read_writes_cons_emb _ _ _ _ _ _

/-- The rows `o` to `o + n - 1` of the extended rows. -/
def rows (n : ℕ) (e : Vec Ideal S288x512 .f32) (o : ℕ) (h : o + n ≤ 288) : Vec Ideal ⟨2, ![n, 512]⟩ .f32 := fun y =>
  e (ix2 ⟨o + (y 0).val, by have h' : (y 0).val < n := (y 0).isLt; omega⟩ (y 1))

/-- One tap's weights, as a row. -/
def wrow (w : Vec Ideal S31x512 .f32) (k : ℕ) (h : k + 1 ≤ 31) : Vec Ideal S1x512 .f32 := fun y => w (ix2 ⟨k, h⟩ (y 1))

theorem ld_wrow (w : Vec Ideal S31x512 .f32) (k : ℕ) (inb : ∀ a, (![k, 0] : Fin 2 → ℕ) a + (![1, 512] : Fin 2 → ℕ) a ≤ S31x512.size a) :
    View.ld w (Rect.unit (s := S31x512) ![k, 0] ![1, 512] inb) = wrow w k (inb 0) := by
  funext y
  show w _ = w _
  congr 1
  funext a
  apply Fin.ext
  match a with
  | ⟨0, _⟩ => show k + 1 * (y 0).val = k; have h' : (y 0).val < 1 := (y 0).isLt; omega
  | ⟨1, _⟩ => show 0 + 1 * (y 1).val = (y 1).val; omega

theorem ld_rows280 (e : Vec Ideal S288x512 .f32) (o : ℕ) (inb : ∀ a, (![o, 0] : Fin 2 → ℕ) a + (![280, 512] : Fin 2 → ℕ) a ≤ S288x512.size a) :
    (fun y => e ((Rect.unit (s := S288x512) ![o, 0] ![280, 512] inb).toLoadRect.idx y)) = rows 280 e o (inb 0) := by
  funext y
  unfold rows
  congr 1
  funext a
  apply Fin.ext
  match a with
  | ⟨0, _⟩ => show o + 1 * (y 0).val = o + (y 0).val; omega
  | ⟨1, _⟩ => show 0 + 1 * (y 1).val = (y 1).val; omega

theorem ld_rows256 (e : Vec Ideal S288x512 .f32) (o : ℕ) (inb : ∀ a, (![o, 0] : Fin 2 → ℕ) a + (![256, 512] : Fin 2 → ℕ) a ≤ S288x512.size a) :
    (fun y => e ((Rect.unit (s := S288x512) ![o, 0] ![256, 512] inb).toLoadRect.idx y)) = rows 256 e o (inb 0) := by
  funext y
  unfold rows
  congr 1
  funext a
  apply Fin.ext
  match a with
  | ⟨0, _⟩ => show o + 1 * (y 0).val = o + (y 0).val; omega
  | ⟨1, _⟩ => show 0 + 1 * (y 1).val = (y 1).val; omega

theorem extA_load280 {sp : Space} (v : View sig .tc sp S288x512 .f32) (x1 : Vec Ideal S1x30x512 .f32) (w : FVec Ideal S256x512 .f32) (i32 i2 i0) (o : ℕ)
    (inb : ∀ a, (![o, 0] : Fin 2 → ℕ) a + (![280, 512] : Fin 2 → ℕ) a ≤ S288x512.size a) :
    v.readCov [⟨Rect.unit (s := S288x512) ![32, 0] ![256, 512] i32, w⟩, ⟨Rect.unit (s := S288x512) ![2, 0] ![30, 512] i2, k0_pay4 x1⟩,
      ⟨Rect.unit (s := S288x512) ![0, 0] ![2, 512] i0, k0_pay3 (F := Ideal)⟩] (Rect.unit (s := S288x512) ![o, 0] ![280, 512] inb).toLoadRect =
      rows 280 (extA x1 w) o (inb 0) := by
  rw [View.readCov_eq_canon', extA_eq]
  exact ld_rows280 _ o inb

theorem extB_load280 {sp : Space} (M : Memref sig .tc sp S288x512 .f32) (h : M.IsWhole) (xs : Vec Ideal S288x512 .f32) (w : FVec Ideal S256x512 .f32) (i32) (o : ℕ)
    (inb : ∀ a, (![o, 0] : Fin 2 → ℕ) a + (![280, 512] : Fin 2 → ℕ) a ≤ S288x512.size a) :
    View.readAt (Elt Ideal) M.view (Rect.unit (s := S288x512) ![o, 0] ![280, 512] inb).toLoadRect
      (M.view.writes (Elt Ideal) (h.unread xs) [⟨Rect.unit (s := S288x512) ![32, 0] ![256, 512] i32, w⟩]) =
      rows 280 (extB xs w) o (inb 0) := by
  rw [← ld_rows280 _ o inb, ← extB_eq M.view (h.unread xs) xs w i32 (h.read_unread xs)]
  rfl

theorem extA_load256 {sp : Space} (v : View sig .tc sp S288x512 .f32) (x1 : Vec Ideal S1x30x512 .f32) (w : FVec Ideal S256x512 .f32) (i32 i2 i0) (o : ℕ)
    (inb : ∀ a, (![o, 0] : Fin 2 → ℕ) a + (![256, 512] : Fin 2 → ℕ) a ≤ S288x512.size a) :
    v.readCov [⟨Rect.unit (s := S288x512) ![32, 0] ![256, 512] i32, w⟩, ⟨Rect.unit (s := S288x512) ![2, 0] ![30, 512] i2, k0_pay4 x1⟩,
      ⟨Rect.unit (s := S288x512) ![0, 0] ![2, 512] i0, k0_pay3 (F := Ideal)⟩] (Rect.unit (s := S288x512) ![o, 0] ![256, 512] inb).toLoadRect =
      rows 256 (extA x1 w) o (inb 0) := by
  rw [View.readCov_eq_canon', extA_eq]
  exact ld_rows256 _ o inb

theorem extB_load256 {sp : Space} (M : Memref sig .tc sp S288x512 .f32) (h : M.IsWhole) (xs : Vec Ideal S288x512 .f32) (w : FVec Ideal S256x512 .f32) (i32) (o : ℕ)
    (inb : ∀ a, (![o, 0] : Fin 2 → ℕ) a + (![256, 512] : Fin 2 → ℕ) a ≤ S288x512.size a) :
    View.readAt (Elt Ideal) M.view (Rect.unit (s := S288x512) ![o, 0] ![256, 512] inb).toLoadRect
      (M.view.writes (Elt Ideal) (h.unread xs) [⟨Rect.unit (s := S288x512) ![32, 0] ![256, 512] i32, w⟩]) =
      rows 256 (extB xs w) o (inb 0) := by
  rw [← ld_rows256 _ o inb, ← extB_eq M.view (h.unread xs) xs w i32 (h.read_unread xs)]
  rfl

theorem carry_apply (w : FVec Ideal S32x512 .f32) (i) (L : List (View.Piece (Elt Ideal) S288x512 .f32)) (j : Fin 32) (ch : Fin 512) :
    View.canon (⟨Rect.unit (s := S288x512) ![0, 0] ![32, 512] i, w⟩ :: L) (ix2 ⟨j.val, by omega⟩ ch) = w (ix2 j ch) := by
  refine Eq.trans ?_ (View.canon_cons_emb (Rect.unit (s := S288x512) ![0, 0] ![32, 512] i) w L (ix2 j ch))
  congr 1
  funext a
  apply Fin.ext
  match a with
  | ⟨0, _⟩ => show j.val = 0 + 1 * j.val; omega
  | ⟨1, _⟩ => show ch.val = 0 + 1 * ch.val; omega

end Cert.Proof.CV

end
-- ==== Proof.CV.Spec.lean ====
module

public import Idealize.ShloMosaic.PureOps.Ideal

@[expose] public section

noncomputable section

/-! One token's row of the convolution branch, over the extended reals: 31 taps down the sequence, one weight per channel
and tap; the layer norm over the channels; the silu; the product with the pointwise weights. -/

namespace Cert.Proof.CV

open Idealize.ShloMosaic

/-- One channel's taps, added to the bias one after the other. -/
def taps (f w : Fin 31 → EReal) (b : EReal) : EReal :=
  0 + b + f 0 * w 0 + f 1 * w 1 + f 2 * w 2 + f 3 * w 3 + f 4 * w 4 + f 5 * w 5
     + f 6 * w 6 + f 7 * w 7 + f 8 * w 8 + f 9 * w 9 + f 10 * w 10 + f 11 * w 11
     + f 12 * w 12 + f 13 * w 13 + f 14 * w 14 + f 15 * w 15 + f 16 * w 16 + f 17 * w 17
     + f 18 * w 18 + f 19 * w 19 + f 20 * w 20 + f 21 * w 21 + f 22 * w 22 + f 23 * w 23
     + f 24 * w 24 + f 25 * w 25 + f 26 * w 26 + f 27 * w 27 + f 28 * w 28 + f 29 * w 29
     + f 30 * w 30

/-- A row's mean, the width 512 as the programs' own word. -/
def mean (y : Fin 512 → EReal) : EReal := Ideal.div (∑ k, y k) (Ideal.ofBits FTy.f32 0x44000000#32)

/-- The layer norm of a row, scaled and shifted. -/
def normed (y g b : Fin 512 → EReal) (k : Fin 512) : EReal :=
  (y k - mean y) * Ideal.rsqrt (mean (fun j => (y j - mean y) * (y j - mean y)) + Ideal.ofBits FTy.f32 0x358637BD#32) * g k + b k

/-- The silu of the normalised row, times the pointwise weights. -/
def out (y g b : Fin 512 → EReal) (w : Fin 512 → Fin 1024 → EReal) (n : Fin 1024) : EReal :=
  ∑ k, normed y g b k * Ideal.logistic (normed y g b k) * w k n

end Cert.Proof.CV

end
-- ==== Proof.CV.Block.lean ====
module

public import proofs.«01_k».proof.Proof.CV.Loads
public import proofs.«01_k».proof.Proof.CV.Spec
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Proof.CV

open Idealize.ShloMosaic Idealize.ShloMosaic.TcCoe Cert.ConvIdeal Cert.ConvIdeal.Gen
open Idealize.ShloMosaic.Pipeline (Dat)

/-- The body's result from the three last addends of a row's taps. -/
theorem pay24_apply (v211 v216 : FVec Ideal S256x512 .f32) (v218 : Vec Ideal S256x512 .f32) (v219 v239 v243 : Vec Ideal S1x512 .f32)
    (v250 : Vec Ideal S512x1024 .bf16) (y : Fin 512 → EReal) (r : Fin 256) (n : Fin 1024)
    (hy : ∀ ch, v211 (ix2 r ch) + v216 (ix2 r ch) + v218 (ix2 r ch) * v219 (ix2 0 ch) = y ch) :
    k0_pay24 v211 v216 v218 v219 v239 v243 v250 (ix3 0 r n) =
      out y (fun k => v239 (ix2 0 k)) (fun k => v243 (ix2 0 k)) (fun k n => v250 (ix2 k n)) n := by
  unfold out normed mean
  simp only [← hy]
  pointwise [k0_pay24]

theorem pay13_apply (v37 : Vec Ideal S1x512 .f32) (v41 : Vec Ideal S1x256x512 .f32) (v43 : Vec Ideal S1x512 .f32) (v47 : Vec Ideal S1x256x512 .f32) (v49 : Vec Ideal S1x512 .f32) (r : Fin 256) (ch : Fin 512) :
    k0_pay13 v37 v41 v43 v47 v49 (ix2 r ch) = 0 + v37 (ix2 0 ch) + v41 (ix3 0 r ch) * v43 (ix2 0 ch) + v47 (ix3 0 r ch) * v49 (ix2 0 ch) := by
  pointwise [k0_pay13]

theorem pay14_apply (v52 : FVec Ideal S256x512 .f32) (v53 : Vec Ideal S1x256x512 .f32) (v55 : Vec Ideal S1x512 .f32) (v59 : Vec Ideal S1x256x512 .f32) (v61 : Vec Ideal S1x512 .f32) (v65 : Vec Ideal S1x256x512 .f32) (v67 : Vec Ideal S1x512 .f32) (v71 : Vec Ideal S1x256x512 .f32) (v73 : Vec Ideal S1x512 .f32) (v77 : Vec Ideal S256x512 .f32) (v78 : Vec Ideal S1x512 .f32) (r : Fin 256) (ch : Fin 512) :
    k0_pay14 v52 v53 v55 v59 v61 v65 v67 v71 v73 v77 v78 (ix2 r ch) = v52 (ix2 r ch) + v53 (ix3 0 r ch) * v55 (ix2 0 ch) + v59 (ix3 0 r ch) * v61 (ix2 0 ch) + v65 (ix3 0 r ch) * v67 (ix2 0 ch) + v71 (ix3 0 r ch) * v73 (ix2 0 ch) + v77 (ix2 r ch) * v78 (ix2 0 ch) := by
  pointwise [k0_pay14]

theorem pay15_apply (v82 : Vec Ideal S1x256x512 .f32) (r : Fin 256) (ch : Fin 512) :
    k0_pay15 v82 (ix2 r ch) = v82 (ix3 0 r ch) := by
  pointwise [k0_pay15]

theorem pay16_apply (v81 : FVec Ideal S256x512 .f32) (v83 : FVec Ideal S256x512 .f32) (v84 : Vec Ideal S1x512 .f32) (v88 : Vec Ideal S1x256x512 .f32) (v90 : Vec Ideal S1x512 .f32) (v94 : Vec Ideal S1x256x512 .f32) (v96 : Vec Ideal S1x512 .f32) (v100 : Vec Ideal S1x256x512 .f32) (v102 : Vec Ideal S1x512 .f32) (v106 : Vec Ideal S1x256x512 .f32) (v108 : Vec Ideal S1x512 .f32) (v112 : Vec Ideal S1x256x512 .f32) (v114 : Vec Ideal S1x512 .f32) (r : Fin 256) (ch : Fin 512) :
    k0_pay16 v81 v83 v84 v88 v90 v94 v96 v100 v102 v106 v108 v112 v114 (ix2 r ch) = v81 (ix2 r ch) + v83 (ix2 r ch) * v84 (ix2 0 ch) + v88 (ix3 0 r ch) * v90 (ix2 0 ch) + v94 (ix3 0 r ch) * v96 (ix2 0 ch) + v100 (ix3 0 r ch) * v102 (ix2 0 ch) + v106 (ix3 0 r ch) * v108 (ix2 0 ch) + v112 (ix3 0 r ch) * v114 (ix2 0 ch) := by
  pointwise [k0_pay16]

theorem pay17_apply (v117 : FVec Ideal S256x512 .f32) (v118 : Vec Ideal S1x256x512 .f32) (v120 : Vec Ideal S1x512 .f32) (v124 : Vec Ideal S256x512 .f32) (v125 : Vec Ideal S1x512 .f32) (v129 : Vec Ideal S1x256x512 .f32) (v131 : Vec Ideal S1x512 .f32) (v135 : Vec Ideal S1x256x512 .f32) (v137 : Vec Ideal S1x512 .f32) (v141 : Vec Ideal S1x256x512 .f32) (v143 : Vec Ideal S1x512 .f32) (r : Fin 256) (ch : Fin 512) :
    k0_pay17 v117 v118 v120 v124 v125 v129 v131 v135 v137 v141 v143 (ix2 r ch) = v117 (ix2 r ch) + v118 (ix3 0 r ch) * v120 (ix2 0 ch) + v124 (ix2 r ch) * v125 (ix2 0 ch) + v129 (ix3 0 r ch) * v131 (ix2 0 ch) + v135 (ix3 0 r ch) * v137 (ix2 0 ch) + v141 (ix3 0 r ch) * v143 (ix2 0 ch) := by
  pointwise [k0_pay17]

theorem pay18_apply (v147 : Vec Ideal S1x256x512 .f32) (r : Fin 256) (ch : Fin 512) :
    k0_pay18 v147 (ix2 r ch) = v147 (ix3 0 r ch) := by
  pointwise [k0_pay18]

theorem pay19_apply (v149 : Vec Ideal S1x512 .f32) (r : Fin 256) (ch : Fin 512) :
    k0_pay19 v149 (ix2 r ch) = v149 (ix2 0 ch) := by
  pointwise [k0_pay19]

theorem pay20_apply (v146 : FVec Ideal S256x512 .f32) (v148 : FVec Ideal S256x512 .f32) (v150 : FVec Ideal S256x512 .f32) (v153 : Vec Ideal S1x256x512 .f32) (v155 : Vec Ideal S1x512 .f32) (v159 : Vec Ideal S1x256x512 .f32) (v161 : Vec Ideal S1x512 .f32) (v165 : Vec Ideal S1x256x512 .f32) (v167 : Vec Ideal S1x512 .f32) (v171 : Vec Ideal S256x512 .f32) (v172 : Vec Ideal S1x512 .f32) (v176 : Vec Ideal S1x256x512 .f32) (v178 : Vec Ideal S1x512 .f32) (r : Fin 256) (ch : Fin 512) :
    k0_pay20 v146 v148 v150 v153 v155 v159 v161 v165 v167 v171 v172 v176 v178 (ix2 r ch) = v146 (ix2 r ch) + v148 (ix2 r ch) * v150 (ix2 r ch) + v153 (ix3 0 r ch) * v155 (ix2 0 ch) + v159 (ix3 0 r ch) * v161 (ix2 0 ch) + v165 (ix3 0 r ch) * v167 (ix2 0 ch) + v171 (ix2 r ch) * v172 (ix2 0 ch) + v176 (ix3 0 r ch) * v178 (ix2 0 ch) := by
  pointwise [k0_pay20]

theorem pay21_apply (v182 : Vec Ideal S1x256x512 .f32) (r : Fin 256) (ch : Fin 512) :
    k0_pay21 v182 (ix2 r ch) = v182 (ix3 0 r ch) := by
  pointwise [k0_pay21]

theorem pay22_apply (v181 : FVec Ideal S256x512 .f32) (v183 : FVec Ideal S256x512 .f32) (v184 : Vec Ideal S1x512 .f32) (v188 : Vec Ideal S1x256x512 .f32) (v190 : Vec Ideal S1x512 .f32) (v194 : Vec Ideal S1x256x512 .f32) (v196 : Vec Ideal S1x512 .f32) (v200 : Vec Ideal S1x256x512 .f32) (v202 : Vec Ideal S1x512 .f32) (v206 : Vec Ideal S1x256x512 .f32) (v208 : Vec Ideal S1x512 .f32) (r : Fin 256) (ch : Fin 512) :
    k0_pay22 v181 v183 v184 v188 v190 v194 v196 v200 v202 v206 v208 (ix2 r ch) = v181 (ix2 r ch) + v183 (ix2 r ch) * v184 (ix2 0 ch) + v188 (ix3 0 r ch) * v190 (ix2 0 ch) + v194 (ix3 0 r ch) * v196 (ix2 0 ch) + v200 (ix3 0 r ch) * v202 (ix2 0 ch) + v206 (ix3 0 r ch) * v208 (ix2 0 ch) := by
  pointwise [k0_pay22]

theorem pay23_apply (v212 : Vec Ideal S1x256x512 .f32) (v214 : Vec Ideal S1x512 .f32) (r : Fin 256) (ch : Fin 512) :
    k0_pay23 v212 v214 (ix2 r ch) = v212 (ix3 0 r ch) * v214 (ix2 0 ch) := by
  pointwise [k0_pay23]

theorem win_at (e : Vec Ideal S288x512 .f32) (o a : ℕ) (h h') (k : Fin 31) (hk : o + a = 2 + k.val) (r : Fin 256) (ch : Fin 512) :
    win3 (rows 280 e o h) a h' (ix3 0 r ch) = e (ix2 ⟨2 + k.val + r.val, by omega⟩ ch) := by
  unfold win3 rows
  congr 1
  funext b
  apply Fin.ext
  match b with
  | ⟨0, _⟩ => show o + (a + r.val) = 2 + k.val + r.val; omega
  | ⟨1, _⟩ => rfl

theorem rows_at (e : Vec Ideal S288x512 .f32) (o : ℕ) (h) (k : Fin 31) (hk : o = 2 + k.val) (r : Fin 256) (ch : Fin 512) :
    rows 256 e o h (ix2 r ch) = e (ix2 ⟨2 + k.val + r.val, by omega⟩ ch) := by
  unfold rows
  congr 1
  funext b
  apply Fin.ext
  match b with
  | ⟨0, _⟩ => show o + r.val = 2 + k.val + r.val; omega
  | ⟨1, _⟩ => rfl

theorem wrow_at (w : Vec Ideal S31x512 .f32) (k : Fin 31) (h) (ch : Fin 512) : wrow w k.val h (ix2 0 ch) = w (ix2 k ch) := rfl

/-- What the body stores for the result, from the extended rows, the taps' weights and the rest. -/
def body (e : Vec Ideal S288x512 .f32) (x2 : Vec Ideal S31x512 .f32) (x3 x4 x5 : Vec Ideal S1x512 .f32) (x6 : Vec Ideal S512x1024 .bf16) :
    FVec Ideal S1x256x1024 .f32 :=
    k0_pay24
      (k0_pay22
        (k0_pay20
          (k0_pay17
            (k0_pay16
              (k0_pay14
                (k0_pay13 x3 (win3 (rows 280 e 2 (by decide)) 0 (by decide)) (wrow x2 0 (by decide))
                  (win3 (rows 280 e 3 (by decide)) 0 (by decide)) (wrow x2 1 (by decide)))
                (win3 (rows 280 e 4 (by decide)) 0 (by decide)) (wrow x2 2 (by decide))
                (win3 (rows 280 e 5 (by decide)) 0 (by decide)) (wrow x2 3 (by decide))
                (win3 (rows 280 e 6 (by decide)) 0 (by decide)) (wrow x2 4 (by decide))
                (win3 (rows 280 e 7 (by decide)) 0 (by decide)) (wrow x2 5 (by decide)) (rows 256 e 8 (by decide))
                (wrow x2 6 (by decide)))
              (k0_pay15 (win3 (rows 280 e 1 (by decide)) 8 (by decide))) (wrow x2 7 (by decide))
              (win3 (rows 280 e 2 (by decide)) 8 (by decide)) (wrow x2 8 (by decide))
              (win3 (rows 280 e 3 (by decide)) 8 (by decide)) (wrow x2 9 (by decide))
              (win3 (rows 280 e 4 (by decide)) 8 (by decide)) (wrow x2 10 (by decide))
              (win3 (rows 280 e 5 (by decide)) 8 (by decide)) (wrow x2 11 (by decide))
              (win3 (rows 280 e 6 (by decide)) 8 (by decide)) (wrow x2 12 (by decide)))
            (win3 (rows 280 e 7 (by decide)) 8 (by decide)) (wrow x2 13 (by decide)) (rows 256 e 16 (by decide))
            (wrow x2 14 (by decide)) (win3 (rows 280 e 1 (by decide)) 16 (by decide)) (wrow x2 15 (by decide))
            (win3 (rows 280 e 2 (by decide)) 16 (by decide)) (wrow x2 16 (by decide))
            (win3 (rows 280 e 3 (by decide)) 16 (by decide)) (wrow x2 17 (by decide)))
          (k0_pay18 (win3 (rows 280 e 4 (by decide)) 16 (by decide))) (k0_pay19 (wrow x2 18 (by decide)))
          (win3 (rows 280 e 5 (by decide)) 16 (by decide)) (wrow x2 19 (by decide))
          (win3 (rows 280 e 6 (by decide)) 16 (by decide)) (wrow x2 20 (by decide))
          (win3 (rows 280 e 7 (by decide)) 16 (by decide)) (wrow x2 21 (by decide)) (rows 256 e 24 (by decide))
          (wrow x2 22 (by decide)) (win3 (rows 280 e 1 (by decide)) 24 (by decide)) (wrow x2 23 (by decide)))
        (k0_pay21 (win3 (rows 280 e 2 (by decide)) 24 (by decide))) (wrow x2 24 (by decide))
        (win3 (rows 280 e 3 (by decide)) 24 (by decide)) (wrow x2 25 (by decide))
        (win3 (rows 280 e 4 (by decide)) 24 (by decide)) (wrow x2 26 (by decide))
        (win3 (rows 280 e 5 (by decide)) 24 (by decide)) (wrow x2 27 (by decide))
        (win3 (rows 280 e 6 (by decide)) 24 (by decide)) (wrow x2 28 (by decide)))
      (k0_pay23 (win3 (rows 280 e 7 (by decide)) 24 (by decide)) (wrow x2 29 (by decide))) (rows 256 e 32 (by decide)) (wrow x2 30 (by decide)) x4 x5
      x6

theorem body_apply (e : Vec Ideal S288x512 .f32) (x2 : Vec Ideal S31x512 .f32) (x3 x4 x5 : Vec Ideal S1x512 .f32) (x6 : Vec Ideal S512x1024 .bf16)
    (r : Fin 256) (n : Fin 1024) :
    body e x2 x3 x4 x5 x6 (ix3 0 r n) =
      out (fun ch => taps (fun k => e (ix2 ⟨2 + k.val + r.val, by omega⟩ ch)) (fun k => x2 (ix2 k ch)) (x3 (ix2 0 ch)))
        (fun k => x4 (ix2 0 k)) (fun k => x5 (ix2 0 k)) (fun k n => x6 (ix2 k n)) n := by
  unfold body
  refine pay24_apply _ _ _ _ _ _ _ _ r n fun ch => ?_
  rw [pay22_apply, pay20_apply, pay17_apply, pay16_apply, pay14_apply, pay13_apply, pay15_apply, pay18_apply, pay19_apply, pay21_apply, pay23_apply]
  rw [win_at e 2 0 _ _ 0 rfl, win_at e 3 0 _ _ 1 rfl, win_at e 4 0 _ _ 2 rfl, win_at e 5 0 _ _ 3 rfl, win_at e 6 0 _ _ 4 rfl, win_at e 7 0 _ _ 5 rfl, rows_at e 8 _ 6 rfl, win_at e 1 8 _ _ 7 rfl, win_at e 2 8 _ _ 8 rfl, win_at e 3 8 _ _ 9 rfl, win_at e 4 8 _ _ 10 rfl, win_at e 5 8 _ _ 11 rfl, win_at e 6 8 _ _ 12 rfl, win_at e 7 8 _ _ 13 rfl, rows_at e 16 _ 14 rfl, win_at e 1 16 _ _ 15 rfl, win_at e 2 16 _ _ 16 rfl, win_at e 3 16 _ _ 17 rfl, win_at e 4 16 _ _ 18 rfl, win_at e 5 16 _ _ 19 rfl, win_at e 6 16 _ _ 20 rfl, win_at e 7 16 _ _ 21 rfl, rows_at e 24 _ 22 rfl, win_at e 1 24 _ _ 23 rfl, win_at e 2 24 _ _ 24 rfl, win_at e 3 24 _ _ 25 rfl, win_at e 4 24 _ _ 26 rfl, win_at e 5 24 _ _ 27 rfl, win_at e 6 24 _ _ 28 rfl, win_at e 7 24 _ _ 29 rfl, rows_at e 32 _ 30 rfl]
  rfl

end Cert.Proof.CV

end
-- ==== Proof.CV.Open.lean ====
module

public import proofs.«01_k».proof.Proof.CV.Block
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Proof.CV

open Idealize.ShloMosaic Idealize.ShloMosaic.TcCoe Cert.ConvIdeal Cert.ConvIdeal.Gen
open Idealize.ShloMosaic.Pipeline (Dat)

variable (c : Dev nD) (i : grid0.Coords) (arg2 : Memref sig .tc .vmem S1x256x512 .f32) (harg2 : arg2.IsWhole) (arg3 : Memref sig .tc .vmem S1x30x512 .f32) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S1x256x1024 .f32) (harg9 : arg9.IsWhole) (arg10 : Memref sig .tc .vmem S1x30x512 .f32) (harg10 : arg10.IsWhole) (arg11 : Memref sig .tc .vmem S288x512 .f32) (harg11 : arg11.IsWhole) (arg12 : Memref sig .tc .vmem S7x280x512 .f32) (harg12 : arg12.IsWhole)
    (x0 : Vec Ideal S1x256x512 .f32) (x1 : Vec Ideal S1x30x512 .f32) (x2 : Vec Ideal S31x512 .f32) (x3 : Vec Ideal S1x512 .f32) (x4 : Vec Ideal S1x512 .f32) (x5 : Vec Ideal S1x512 .f32) (x6 : Vec Ideal S512x1024 .bf16) (xs0 : Vec Ideal S288x512 .f32)

theorem openA8 (hc0 : cond0_0 i) (j : Fin 30) (ch : Fin 512) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 (ix3 0 j ch) = x0 (ix3 0 ⟨226 + j.val, by omega⟩ ch) := by
  unfold out0_A_8
  frame_out
  rw [ext_hit30]
  pointwise [k0_pay1, k0_pay5]

theorem openAs (hc0 : cond0_0 i) (j : Fin 32) (ch : Fin 512) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 (ix2 ⟨j.val, by omega⟩ ch) = x0 (ix3 0 ⟨224 + j.val, by omega⟩ ch) := by
  unfold sout0_A_0
  frame_out
  rw [ext_hit32]
  refine (carry_apply _ _ _ j ch).trans ?_
  pointwise [k0_pay2, k0_pay5]

theorem openA7 (hc0 : cond0_0 i) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = body (extA x1 (k0_pay5 x0)) x2 x3 x4 x5 x6 := by
  unfold out0_A_7
  frame_open
  simp (disch := decide) only [↓ View.readCov_skip, ↓ View.readCov_cons_toLoadRect, ↓ View.readCov_fill]
  simp only [sh6, sh7, sh8, sh9, sh10, sh11, sh12, extA_load280, extA_load256]
  frame_out
  simp only [ld_wrow]
  have e : rows 256 (extA x1 (k0_pay5 x0)) 32 (by decide) = k0_pay5 x0 := by
    funext y
    unfold rows extA
    rw [dif_neg (by show ¬ 32 + (y 0).val < 32; omega)]
    congr 1
    funext a
    match a with
    | ⟨0, _⟩ => apply Fin.ext; show 32 + (y 0).val - 32 = (y 0).val; omega
    | ⟨1, _⟩ => rfl
  unfold body
  rw [e]

theorem openB8 (hc0 : ¬cond0_0 i) (j : Fin 30) (ch : Fin 512) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xs0 (ix3 0 j ch) = x0 (ix3 0 ⟨226 + j.val, by omega⟩ ch) := by
  unfold out0_B_8
  frame_out
  rw [ext_hit30]
  pointwise [k0_pay1, k0_pay5]

theorem openBs (hc0 : ¬cond0_0 i) (j : Fin 32) (ch : Fin 512) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 (ix2 ⟨j.val, by omega⟩ ch) = x0 (ix3 0 ⟨224 + j.val, by omega⟩ ch) := by
  unfold sout0_B_0
  frame_out
  rw [ext_hit32]
  refine (carry_apply _ _ _ j ch).trans ?_
  pointwise [k0_pay2, k0_pay5]

theorem openB7 (hc0 : ¬cond0_0 i) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 = body (extB xs0 (k0_pay5 x0)) x2 x3 x4 x5 x6 := by
  unfold out0_B_7
  frame_open
  simp (disch := decide) only [↓ View.readCov_skip, ↓ View.readCov_cons_toLoadRect, ↓ View.readCov_fill]
  simp only [sh6, sh7, sh8, sh9, sh10, sh11, sh12, extB_load280, extB_load256]
  frame_out
  simp only [ld_wrow]
  have e : rows 256 (extB xs0 (k0_pay5 x0)) 32 (by decide) = k0_pay5 x0 := by
    funext y
    unfold rows extB
    rw [dif_neg (by show ¬ 32 + (y 0).val < 32; omega)]
    congr 1
    funext a
    match a with
    | ⟨0, _⟩ => apply Fin.ext; show 32 + (y 0).val - 32 = (y 0).val; omega
    | ⟨1, _⟩ => rfl
  unfold body
  rw [e]

end Cert.Proof.CV

end
-- ==== Proof.CV.Ref.lean ====
module

public import proofs.«01_k».proof.Proof.Gen.ConvReferenceIdeal.Read
public import proofs.«01_k».proof.Proof.CV.Spec
public import Idealize.ShloMosaic.Lib.Pointwise

@[expose] public section

noncomputable section

/-! The reference's results read at an entry: `out` of the token's taps, and the last 30 rows. -/

namespace Cert.Proof.CV

open Idealize.ShloMosaic Cert.ConvReferenceIdeal Cert.ConvReferenceIdeal.Gen Cert.ConvReferenceIdeal.Read

variable (x0 : (⟨S4x8192x512, .f32⟩ : BufTy).Contents (Elt Ideal)) (x1 : (⟨S31x512, .f32⟩ : BufTy).Contents (Elt Ideal))
  (x2 x3 x4 : (⟨S512, .f32⟩ : BufTy).Contents (Elt Ideal)) (x5 : (⟨S512x1024, .f32⟩ : BufTy).Contents (Elt Ideal))

/-- A sequence behind 30 rows of zeros. -/
def padded (u : FVec Ideal S4x8192x512 .f32) (b : Fin 4) (j : ℕ) (h : j < 8222) (ch : Fin 512) : EReal :=
  if h' : j < 30 then 0 else u (ix3 b ⟨j - 30, by omega⟩ ch)

theorem cat_apply (z : FVec Ideal S4x30x512 .f32) (u : FVec Ideal S4x8192x512 .f32) (b : Fin 4) (j : Fin 8222) (ch : Fin 512) :
    concatenate S4x8222x512 1 [⟨S4x30x512, z⟩, ⟨S4x8192x512, u⟩] concatenates_S4x30x512_S4x8192x512_S4x8222x512_d1 (ix3 b j ch) =
      if h : j.val < 30 then z (ix3 b ⟨j.val, h⟩ ch) else u (ix3 b ⟨j.val - 30, by omega⟩ ch) := by
  pointwise

theorem v1_apply (b : Fin 4) (j : Fin 8222) (ch : Fin 512) :
    val_main_v1 (F := Ideal) x0 (ix3 b j ch) = padded x0 b j.val j.isLt ch := by
  have e : ∀ i, val_main_v0 (F := Ideal) i = 0 := by
    intro i
    pointwise [val_main_v0, val_main_cst]
  unfold val_main_v1 padded
  refine (cat_apply _ _ b j ch).trans ?_
  simp only [e]

theorem tap0 (b : Fin 4) (t : Fin 8192) (ch : Fin 512) :
    val_main_v7 (F := Ideal) x0 x1 (ix3 b t ch) = padded x0 b (0 + t.val) (by omega) ch * x1 (ix2 0 ch) := by
  refine Eq.trans ?_ (congrArg (· * x1 (ix2 0 ch)) (v1_apply x0 b ⟨0 + t.val, by omega⟩ ch))
  pointwise [val_main_v7, val_main_v6, val_main_v5, val_main_v4, val_main_v3, val_main_v2]

theorem tap1 (b : Fin 4) (t : Fin 8192) (ch : Fin 512) :
    val_main_v15 (F := Ideal) x0 x1 (ix3 b t ch) = padded x0 b (1 + t.val) (by omega) ch * x1 (ix2 1 ch) := by
  refine Eq.trans ?_ (congrArg (· * x1 (ix2 1 ch)) (v1_apply x0 b ⟨1 + t.val, by omega⟩ ch))
  pointwise [val_main_v15, val_main_v14, val_main_v13, val_main_v12, val_main_v11, val_main_v10]

theorem tap2 (b : Fin 4) (t : Fin 8192) (ch : Fin 512) :
    val_main_v22 (F := Ideal) x0 x1 (ix3 b t ch) = padded x0 b (2 + t.val) (by omega) ch * x1 (ix2 2 ch) := by
  refine Eq.trans ?_ (congrArg (· * x1 (ix2 2 ch)) (v1_apply x0 b ⟨2 + t.val, by omega⟩ ch))
  pointwise [val_main_v22, val_main_v21, val_main_v20, val_main_v19, val_main_v18, val_main_v17]

theorem tap3 (b : Fin 4) (t : Fin 8192) (ch : Fin 512) :
    val_main_v29 (F := Ideal) x0 x1 (ix3 b t ch) = padded x0 b (3 + t.val) (by omega) ch * x1 (ix2 3 ch) := by
  refine Eq.trans ?_ (congrArg (· * x1 (ix2 3 ch)) (v1_apply x0 b ⟨3 + t.val, by omega⟩ ch))
  pointwise [val_main_v29, val_main_v28, val_main_v27, val_main_v26, val_main_v25, val_main_v24]

theorem tap4 (b : Fin 4) (t : Fin 8192) (ch : Fin 512) :
    val_main_v36 (F := Ideal) x0 x1 (ix3 b t ch) = padded x0 b (4 + t.val) (by omega) ch * x1 (ix2 4 ch) := by
  refine Eq.trans ?_ (congrArg (· * x1 (ix2 4 ch)) (v1_apply x0 b ⟨4 + t.val, by omega⟩ ch))
  pointwise [val_main_v36, val_main_v35, val_main_v34, val_main_v33, val_main_v32, val_main_v31]

theorem tap5 (b : Fin 4) (t : Fin 8192) (ch : Fin 512) :
    val_main_v43 (F := Ideal) x0 x1 (ix3 b t ch) = padded x0 b (5 + t.val) (by omega) ch * x1 (ix2 5 ch) := by
  refine Eq.trans ?_ (congrArg (· * x1 (ix2 5 ch)) (v1_apply x0 b ⟨5 + t.val, by omega⟩ ch))
  pointwise [val_main_v43, val_main_v42, val_main_v41, val_main_v40, val_main_v39, val_main_v38]

theorem tap6 (b : Fin 4) (t : Fin 8192) (ch : Fin 512) :
    val_main_v50 (F := Ideal) x0 x1 (ix3 b t ch) = padded x0 b (6 + t.val) (by omega) ch * x1 (ix2 6 ch) := by
  refine Eq.trans ?_ (congrArg (· * x1 (ix2 6 ch)) (v1_apply x0 b ⟨6 + t.val, by omega⟩ ch))
  pointwise [val_main_v50, val_main_v49, val_main_v48, val_main_v47, val_main_v46, val_main_v45]

theorem tap7 (b : Fin 4) (t : Fin 8192) (ch : Fin 512) :
    val_main_v57 (F := Ideal) x0 x1 (ix3 b t ch) = padded x0 b (7 + t.val) (by omega) ch * x1 (ix2 7 ch) := by
  refine Eq.trans ?_ (congrArg (· * x1 (ix2 7 ch)) (v1_apply x0 b ⟨7 + t.val, by omega⟩ ch))
  pointwise [val_main_v57, val_main_v56, val_main_v55, val_main_v54, val_main_v53, val_main_v52]

theorem tap8 (b : Fin 4) (t : Fin 8192) (ch : Fin 512) :
    val_main_v64 (F := Ideal) x0 x1 (ix3 b t ch) = padded x0 b (8 + t.val) (by omega) ch * x1 (ix2 8 ch) := by
  refine Eq.trans ?_ (congrArg (· * x1 (ix2 8 ch)) (v1_apply x0 b ⟨8 + t.val, by omega⟩ ch))
  pointwise [val_main_v64, val_main_v63, val_main_v62, val_main_v61, val_main_v60, val_main_v59]

theorem tap9 (b : Fin 4) (t : Fin 8192) (ch : Fin 512) :
    val_main_v71 (F := Ideal) x0 x1 (ix3 b t ch) = padded x0 b (9 + t.val) (by omega) ch * x1 (ix2 9 ch) := by
  refine Eq.trans ?_ (congrArg (· * x1 (ix2 9 ch)) (v1_apply x0 b ⟨9 + t.val, by omega⟩ ch))
  pointwise [val_main_v71, val_main_v70, val_main_v69, val_main_v68, val_main_v67, val_main_v66]

theorem tap10 (b : Fin 4) (t : Fin 8192) (ch : Fin 512) :
    val_main_v78 (F := Ideal) x0 x1 (ix3 b t ch) = padded x0 b (10 + t.val) (by omega) ch * x1 (ix2 10 ch) := by
  refine Eq.trans ?_ (congrArg (· * x1 (ix2 10 ch)) (v1_apply x0 b ⟨10 + t.val, by omega⟩ ch))
  pointwise [val_main_v78, val_main_v77, val_main_v76, val_main_v75, val_main_v74, val_main_v73]

theorem tap11 (b : Fin 4) (t : Fin 8192) (ch : Fin 512) :
    val_main_v85 (F := Ideal) x0 x1 (ix3 b t ch) = padded x0 b (11 + t.val) (by omega) ch * x1 (ix2 11 ch) := by
  refine Eq.trans ?_ (congrArg (· * x1 (ix2 11 ch)) (v1_apply x0 b ⟨11 + t.val, by omega⟩ ch))
  pointwise [val_main_v85, val_main_v84, val_main_v83, val_main_v82, val_main_v81, val_main_v80]

theorem tap12 (b : Fin 4) (t : Fin 8192) (ch : Fin 512) :
    val_main_v92 (F := Ideal) x0 x1 (ix3 b t ch) = padded x0 b (12 + t.val) (by omega) ch * x1 (ix2 12 ch) := by
  refine Eq.trans ?_ (congrArg (· * x1 (ix2 12 ch)) (v1_apply x0 b ⟨12 + t.val, by omega⟩ ch))
  pointwise [val_main_v92, val_main_v91, val_main_v90, val_main_v89, val_main_v88, val_main_v87]

theorem tap13 (b : Fin 4) (t : Fin 8192) (ch : Fin 512) :
    val_main_v99 (F := Ideal) x0 x1 (ix3 b t ch) = padded x0 b (13 + t.val) (by omega) ch * x1 (ix2 13 ch) := by
  refine Eq.trans ?_ (congrArg (· * x1 (ix2 13 ch)) (v1_apply x0 b ⟨13 + t.val, by omega⟩ ch))
  pointwise [val_main_v99, val_main_v98, val_main_v97, val_main_v96, val_main_v95, val_main_v94]

theorem tap14 (b : Fin 4) (t : Fin 8192) (ch : Fin 512) :
    val_main_v106 (F := Ideal) x0 x1 (ix3 b t ch) = padded x0 b (14 + t.val) (by omega) ch * x1 (ix2 14 ch) := by
  refine Eq.trans ?_ (congrArg (· * x1 (ix2 14 ch)) (v1_apply x0 b ⟨14 + t.val, by omega⟩ ch))
  pointwise [val_main_v106, val_main_v105, val_main_v104, val_main_v103, val_main_v102, val_main_v101]

theorem tap15 (b : Fin 4) (t : Fin 8192) (ch : Fin 512) :
    val_main_v113 (F := Ideal) x0 x1 (ix3 b t ch) = padded x0 b (15 + t.val) (by omega) ch * x1 (ix2 15 ch) := by
  refine Eq.trans ?_ (congrArg (· * x1 (ix2 15 ch)) (v1_apply x0 b ⟨15 + t.val, by omega⟩ ch))
  pointwise [val_main_v113, val_main_v112, val_main_v111, val_main_v110, val_main_v109, val_main_v108]

theorem tap16 (b : Fin 4) (t : Fin 8192) (ch : Fin 512) :
    val_main_v120 (F := Ideal) x0 x1 (ix3 b t ch) = padded x0 b (16 + t.val) (by omega) ch * x1 (ix2 16 ch) := by
  refine Eq.trans ?_ (congrArg (· * x1 (ix2 16 ch)) (v1_apply x0 b ⟨16 + t.val, by omega⟩ ch))
  pointwise [val_main_v120, val_main_v119, val_main_v118, val_main_v117, val_main_v116, val_main_v115]

theorem tap17 (b : Fin 4) (t : Fin 8192) (ch : Fin 512) :
    val_main_v127 (F := Ideal) x0 x1 (ix3 b t ch) = padded x0 b (17 + t.val) (by omega) ch * x1 (ix2 17 ch) := by
  refine Eq.trans ?_ (congrArg (· * x1 (ix2 17 ch)) (v1_apply x0 b ⟨17 + t.val, by omega⟩ ch))
  pointwise [val_main_v127, val_main_v126, val_main_v125, val_main_v124, val_main_v123, val_main_v122]

theorem tap18 (b : Fin 4) (t : Fin 8192) (ch : Fin 512) :
    val_main_v134 (F := Ideal) x0 x1 (ix3 b t ch) = padded x0 b (18 + t.val) (by omega) ch * x1 (ix2 18 ch) := by
  refine Eq.trans ?_ (congrArg (· * x1 (ix2 18 ch)) (v1_apply x0 b ⟨18 + t.val, by omega⟩ ch))
  pointwise [val_main_v134, val_main_v133, val_main_v132, val_main_v131, val_main_v130, val_main_v129]

theorem tap19 (b : Fin 4) (t : Fin 8192) (ch : Fin 512) :
    val_main_v141 (F := Ideal) x0 x1 (ix3 b t ch) = padded x0 b (19 + t.val) (by omega) ch * x1 (ix2 19 ch) := by
  refine Eq.trans ?_ (congrArg (· * x1 (ix2 19 ch)) (v1_apply x0 b ⟨19 + t.val, by omega⟩ ch))
  pointwise [val_main_v141, val_main_v140, val_main_v139, val_main_v138, val_main_v137, val_main_v136]

theorem tap20 (b : Fin 4) (t : Fin 8192) (ch : Fin 512) :
    val_main_v148 (F := Ideal) x0 x1 (ix3 b t ch) = padded x0 b (20 + t.val) (by omega) ch * x1 (ix2 20 ch) := by
  refine Eq.trans ?_ (congrArg (· * x1 (ix2 20 ch)) (v1_apply x0 b ⟨20 + t.val, by omega⟩ ch))
  pointwise [val_main_v148, val_main_v147, val_main_v146, val_main_v145, val_main_v144, val_main_v143]

theorem tap21 (b : Fin 4) (t : Fin 8192) (ch : Fin 512) :
    val_main_v155 (F := Ideal) x0 x1 (ix3 b t ch) = padded x0 b (21 + t.val) (by omega) ch * x1 (ix2 21 ch) := by
  refine Eq.trans ?_ (congrArg (· * x1 (ix2 21 ch)) (v1_apply x0 b ⟨21 + t.val, by omega⟩ ch))
  pointwise [val_main_v155, val_main_v154, val_main_v153, val_main_v152, val_main_v151, val_main_v150]

theorem tap22 (b : Fin 4) (t : Fin 8192) (ch : Fin 512) :
    val_main_v162 (F := Ideal) x0 x1 (ix3 b t ch) = padded x0 b (22 + t.val) (by omega) ch * x1 (ix2 22 ch) := by
  refine Eq.trans ?_ (congrArg (· * x1 (ix2 22 ch)) (v1_apply x0 b ⟨22 + t.val, by omega⟩ ch))
  pointwise [val_main_v162, val_main_v161, val_main_v160, val_main_v159, val_main_v158, val_main_v157]

theorem tap23 (b : Fin 4) (t : Fin 8192) (ch : Fin 512) :
    val_main_v169 (F := Ideal) x0 x1 (ix3 b t ch) = padded x0 b (23 + t.val) (by omega) ch * x1 (ix2 23 ch) := by
  refine Eq.trans ?_ (congrArg (· * x1 (ix2 23 ch)) (v1_apply x0 b ⟨23 + t.val, by omega⟩ ch))
  pointwise [val_main_v169, val_main_v168, val_main_v167, val_main_v166, val_main_v165, val_main_v164]

theorem tap24 (b : Fin 4) (t : Fin 8192) (ch : Fin 512) :
    val_main_v176 (F := Ideal) x0 x1 (ix3 b t ch) = padded x0 b (24 + t.val) (by omega) ch * x1 (ix2 24 ch) := by
  refine Eq.trans ?_ (congrArg (· * x1 (ix2 24 ch)) (v1_apply x0 b ⟨24 + t.val, by omega⟩ ch))
  pointwise [val_main_v176, val_main_v175, val_main_v174, val_main_v173, val_main_v172, val_main_v171]

theorem tap25 (b : Fin 4) (t : Fin 8192) (ch : Fin 512) :
    val_main_v183 (F := Ideal) x0 x1 (ix3 b t ch) = padded x0 b (25 + t.val) (by omega) ch * x1 (ix2 25 ch) := by
  refine Eq.trans ?_ (congrArg (· * x1 (ix2 25 ch)) (v1_apply x0 b ⟨25 + t.val, by omega⟩ ch))
  pointwise [val_main_v183, val_main_v182, val_main_v181, val_main_v180, val_main_v179, val_main_v178]

theorem tap26 (b : Fin 4) (t : Fin 8192) (ch : Fin 512) :
    val_main_v190 (F := Ideal) x0 x1 (ix3 b t ch) = padded x0 b (26 + t.val) (by omega) ch * x1 (ix2 26 ch) := by
  refine Eq.trans ?_ (congrArg (· * x1 (ix2 26 ch)) (v1_apply x0 b ⟨26 + t.val, by omega⟩ ch))
  pointwise [val_main_v190, val_main_v189, val_main_v188, val_main_v187, val_main_v186, val_main_v185]

theorem tap27 (b : Fin 4) (t : Fin 8192) (ch : Fin 512) :
    val_main_v197 (F := Ideal) x0 x1 (ix3 b t ch) = padded x0 b (27 + t.val) (by omega) ch * x1 (ix2 27 ch) := by
  refine Eq.trans ?_ (congrArg (· * x1 (ix2 27 ch)) (v1_apply x0 b ⟨27 + t.val, by omega⟩ ch))
  pointwise [val_main_v197, val_main_v196, val_main_v195, val_main_v194, val_main_v193, val_main_v192]

theorem tap28 (b : Fin 4) (t : Fin 8192) (ch : Fin 512) :
    val_main_v204 (F := Ideal) x0 x1 (ix3 b t ch) = padded x0 b (28 + t.val) (by omega) ch * x1 (ix2 28 ch) := by
  refine Eq.trans ?_ (congrArg (· * x1 (ix2 28 ch)) (v1_apply x0 b ⟨28 + t.val, by omega⟩ ch))
  pointwise [val_main_v204, val_main_v203, val_main_v202, val_main_v201, val_main_v200, val_main_v199]

theorem tap29 (b : Fin 4) (t : Fin 8192) (ch : Fin 512) :
    val_main_v211 (F := Ideal) x0 x1 (ix3 b t ch) = padded x0 b (29 + t.val) (by omega) ch * x1 (ix2 29 ch) := by
  refine Eq.trans ?_ (congrArg (· * x1 (ix2 29 ch)) (v1_apply x0 b ⟨29 + t.val, by omega⟩ ch))
  pointwise [val_main_v211, val_main_v210, val_main_v209, val_main_v208, val_main_v207, val_main_v206]

theorem tap30 (b : Fin 4) (t : Fin 8192) (ch : Fin 512) :
    val_main_v218 (F := Ideal) x0 x1 (ix3 b t ch) = padded x0 b (30 + t.val) (by omega) ch * x1 (ix2 30 ch) := by
  refine Eq.trans ?_ (congrArg (· * x1 (ix2 30 ch)) (v1_apply x0 b ⟨30 + t.val, by omega⟩ ch))
  pointwise [val_main_v218, val_main_v217, val_main_v216, val_main_v215, val_main_v214, val_main_v213]

/-- The taps' sum and the bias. -/
theorem v222_apply (b : Fin 4) (t : Fin 8192) (ch : Fin 512) :
    val_main_v222 (F := Ideal) x0 x1 x2 (ix3 b t ch) =
      taps (fun k => padded x0 b (k.val + t.val) (by omega) ch) (fun k => x1 (ix2 k ch)) (x2 (ix1 ch)) := by
  have e : val_main_v222 (F := Ideal) x0 x1 x2 (ix3 b t ch) = (((((((((((((((((((((((((((((( 0 + val_main_v7 (F := Ideal) x0 x1 (ix3 b t ch)) + val_main_v15 (F := Ideal) x0 x1 (ix3 b t ch)) + val_main_v22 (F := Ideal) x0 x1 (ix3 b t ch)) + val_main_v29 (F := Ideal) x0 x1 (ix3 b t ch)) + val_main_v36 (F := Ideal) x0 x1 (ix3 b t ch)) + val_main_v43 (F := Ideal) x0 x1 (ix3 b t ch)) + val_main_v50 (F := Ideal) x0 x1 (ix3 b t ch)) + val_main_v57 (F := Ideal) x0 x1 (ix3 b t ch)) + val_main_v64 (F := Ideal) x0 x1 (ix3 b t ch)) + val_main_v71 (F := Ideal) x0 x1 (ix3 b t ch)) + val_main_v78 (F := Ideal) x0 x1 (ix3 b t ch)) + val_main_v85 (F := Ideal) x0 x1 (ix3 b t ch)) + val_main_v92 (F := Ideal) x0 x1 (ix3 b t ch)) + val_main_v99 (F := Ideal) x0 x1 (ix3 b t ch)) + val_main_v106 (F := Ideal) x0 x1 (ix3 b t ch)) + val_main_v113 (F := Ideal) x0 x1 (ix3 b t ch)) + val_main_v120 (F := Ideal) x0 x1 (ix3 b t ch)) + val_main_v127 (F := Ideal) x0 x1 (ix3 b t ch)) + val_main_v134 (F := Ideal) x0 x1 (ix3 b t ch)) + val_main_v141 (F := Ideal) x0 x1 (ix3 b t ch)) + val_main_v148 (F := Ideal) x0 x1 (ix3 b t ch)) + val_main_v155 (F := Ideal) x0 x1 (ix3 b t ch)) + val_main_v162 (F := Ideal) x0 x1 (ix3 b t ch)) + val_main_v169 (F := Ideal) x0 x1 (ix3 b t ch)) + val_main_v176 (F := Ideal) x0 x1 (ix3 b t ch)) + val_main_v183 (F := Ideal) x0 x1 (ix3 b t ch)) + val_main_v190 (F := Ideal) x0 x1 (ix3 b t ch)) + val_main_v197 (F := Ideal) x0 x1 (ix3 b t ch)) + val_main_v204 (F := Ideal) x0 x1 (ix3 b t ch)) + val_main_v211 (F := Ideal) x0 x1 (ix3 b t ch)) + val_main_v218 (F := Ideal) x0 x1 (ix3 b t ch) + x2 (ix1 ch) := by
    pointwise [val_main_v222, val_main_v221, val_main_v220, val_main_v219, val_main_v212, val_main_v205, val_main_v198, val_main_v191, val_main_v184, val_main_v177, val_main_v170, val_main_v163, val_main_v156, val_main_v149, val_main_v142, val_main_v135, val_main_v128, val_main_v121, val_main_v114, val_main_v107, val_main_v100, val_main_v93, val_main_v86, val_main_v79, val_main_v72, val_main_v65, val_main_v58, val_main_v51, val_main_v44, val_main_v37, val_main_v30, val_main_v23, val_main_v16, val_main_v9, val_main_v8, val_main_cst_0]
  rw [e, zero_add, tap0, tap1, tap2, tap3, tap4, tap5, tap6, tap7, tap8, tap9, tap10, tap11, tap12, tap13, tap14, tap15, tap16, tap17, tap18, tap19, tap20, tap21, tap22, tap23, tap24, tap25, tap26, tap27, tap28, tap29, tap30]
  unfold taps
  rw [zero_add (x2 (ix1 ch)), add_comm]
  simp only [← add_assoc]
  rfl

/-- The row's mean. -/
theorem v226_apply (b : Fin 4) (t : Fin 8192) :
    val_main_v226 (F := Ideal) x0 x1 x2 (ix3 b t 0) = mean fun k => val_main_v222 (F := Ideal) x0 x1 x2 (ix3 b t k) := by
  unfold mean
  pointwise [val_main_v226, val_main_v225, val_main_v224, val_main_v223, val_main_cst_1, val_main_cst_2]

theorem v229_apply (b : Fin 4) (t : Fin 8192) (ch : Fin 512) :
    val_main_v229 (F := Ideal) x0 x1 x2 (ix3 b t ch) =
      (val_main_v222 (F := Ideal) x0 x1 x2 (ix3 b t ch) - val_main_v226 (F := Ideal) x0 x1 x2 (ix3 b t 0)) *
        (val_main_v222 (F := Ideal) x0 x1 x2 (ix3 b t ch) - val_main_v226 (F := Ideal) x0 x1 x2 (ix3 b t 0)) := by
  pointwise [val_main_v229, val_main_v228, val_main_v227]

/-- The row's centred squares' mean. -/
theorem v233_apply (b : Fin 4) (t : Fin 8192) :
    val_main_v233 (F := Ideal) x0 x1 x2 (ix3 b t 0) = mean fun k =>
      (val_main_v222 (F := Ideal) x0 x1 x2 (ix3 b t k) - val_main_v226 (F := Ideal) x0 x1 x2 (ix3 b t 0)) *
        (val_main_v222 (F := Ideal) x0 x1 x2 (ix3 b t k) - val_main_v226 (F := Ideal) x0 x1 x2 (ix3 b t 0)) := by
  refine Eq.trans ?_ (congrArg mean (funext fun k => v229_apply x0 x1 x2 b t k))
  unfold mean
  pointwise [val_main_v233, val_main_v232, val_main_v231, val_main_v230, val_main_cst_3, val_main_cst_4]

/-- The layer norm. -/
theorem v246_apply (b : Fin 4) (t : Fin 8192) (ch : Fin 512) :
    val_main_v246 (F := Ideal) x0 x1 x2 x3 x4 (ix3 b t ch) =
      normed (fun k => val_main_v222 (F := Ideal) x0 x1 x2 (ix3 b t k)) (fun k => x3 (ix1 k)) (fun k => x4 (ix1 k)) ch := by
  unfold normed
  rw [← v226_apply]
  rw [← v233_apply]
  pointwise [val_main_v246, val_main_v245, val_main_v244, val_main_v243, val_main_v242, val_main_v241, val_main_v240, val_main_v239,
    val_main_v238, val_main_v237, val_main_v236, val_main_v235, val_main_v234, val_main_cst_5]

/-- The reference's result. -/
theorem v248_apply (b : Fin 4) (t : Fin 8192) (n : Fin 1024) :
    val_main_v248 (F := Ideal) x0 x1 x2 x3 x4 x5 (ix3 b t n) =
      out (fun ch => taps (fun k => padded x0 b (k.val + t.val) (by omega) ch) (fun k => x1 (ix2 k ch)) (x2 (ix1 ch)))
        (fun k => x3 (ix1 k)) (fun k => x4 (ix1 k)) (fun k n => x5 (ix2 k n)) n := by
  simp only [← v222_apply]
  unfold out Ideal.logistic
  simp only [← v246_apply]
  pointwise [val_main_v248, val_main_v247, val_main_call0_v5, val_main_call0_v4, val_main_call0_cst_0, val_main_call0_v3,
    val_main_call0_v2, val_main_call0_cst, val_main_call0_v1, val_main_call0_v0]

/-- The reference's last 30 rows. -/
theorem v249_apply (b : Fin 4) (j : Fin 30) (ch : Fin 512) :
    val_main_v249 (F := Ideal) x0 (ix3 b j ch) = x0 (ix3 b ⟨8162 + j.val, by omega⟩ ch) := by
  refine Eq.trans ?_ ((v1_apply x0 b ⟨8192 + j.val, by omega⟩ ch).trans ?_)
  · pointwise [val_main_v249]
  · unfold padded
    rw [dif_neg (by dsimp only; omega)]
    exact congrArg (fun s => x0 (ix3 b s ch)) (Fin.ext (by dsimp only; omega))

end Cert.Proof.CV

end
-- ==== Proof.CV.Array.lean ====
module

public import proofs.«01_k».proof.Proof.CV.Open
public import proofs.«01_k».proof.Proof.CV.Ref
public import proofs.«01_k».proof.Proof.Gen.ConvIdeal.Value

@[expose] public section

set_option maxRecDepth 16384

noncomputable section

/-! The kernel's two result arrays after the run are the reference's results of the kernel's arguments: every tile's extended
rows are the padded sequence's, the first tile's from the state of zeros, a later tile's from the rows the tile before carried. -/

namespace Cert.Proof.CV

open Idealize.ShloMosaic Idealize.ShloMosaic.TcCoe Cert.ConvIdeal Cert.ConvIdeal.Gen
open Idealize.ShloMosaic.Pipeline (Dat)

variable (m : (ℓ : Loc nD τ sig) → Buf (Elt Ideal) ℓ) (c : Dev nD) (t : Fin cfg0.N)

/-- The sequence of grid point `t`. -/
def seq (t : Fin cfg0.N) : Fin 4 := ⟨t.val / 32, by have h : t.val < 128 := t.isLt; omega⟩

/-- The token at row `r` of grid point `t`'s tile. -/
def tok (t : Fin cfg0.N) (r : Fin 256) : Fin 8192 := ⟨t.val % 32 * 256 + r.val, by have := r.isLt; omega⟩

/-- The arguments. -/
abbrev A0 : FVec Ideal S4x8192x512 .f32 := m ((c : Thread nD τ).loc main_arg0)
abbrev A1 : FVec Ideal S31x512 .f32 := m ((c : Thread nD τ).loc main_arg1)
abbrev A2 : FVec Ideal S512 .f32 := m ((c : Thread nD τ).loc main_arg2)
abbrev A3 : FVec Ideal S512 .f32 := m ((c : Thread nD τ).loc main_arg3)
abbrev A4 : FVec Ideal S512 .f32 := m ((c : Thread nD τ).loc main_arg4)
abbrev A5 : FVec Ideal S512x1024 .f32 := m ((c : Thread nD τ).loc main_arg5)

/-- Every window's block index at point `t`: 32 token tiles for each of 4 sequences. -/
theorem idx : ∀ t : Fin cfg0.N, win0_0.index t = ![t.val / 32, t.val % 32, 0] ∧ win0_1.index t = ![t.val / 32, 0, 0] ∧
    win0_2.index t = ![0, 0] ∧ win0_3.index t = ![0, 0] ∧ win0_4.index t = ![0, 0] ∧ win0_5.index t = ![0, 0] ∧
    win0_6.index t = ![0, 0] ∧ win0_7.index t = ![t.val / 32, t.val % 32, 0] ∧ win0_8.index t = ![t.val / 32, 0, 0] :=
  (by decide +kernel : ∀ t : Fin grid0.N, _)

theorem blk0 (r : Fin 256) (k : Fin 512) : iblk m c 0 t (ix3 0 r k) = A0 m c (ix3 (seq t) (tok t r) k) := by
  unfold seq tok
  blk_ext [iblk, V, idx t]

theorem blk1 (j : Fin 30) (k : Fin 512) : iblk m c 1 t (ix3 0 j k) = (0 : EReal) := by
  blk_simp [iblk, idx t]
  entry_read
  pointwise

theorem blk2 (k : Fin 31) (ch : Fin 512) : iblk m c 2 t (ix2 k ch) = A1 m c (ix2 k ch) := by
  blk_ext [iblk, V, idx t]

theorem blk3 (k : Fin 512) : iblk m c 3 t (ix2 0 k) = A2 m c (ix1 k) := by
  blk_simp [iblk, idx t]
  entry_read
  pointwise
  blk_ext [idx t]

theorem blk4 (k : Fin 512) : iblk m c 4 t (ix2 0 k) = A3 m c (ix1 k) := by
  blk_simp [iblk, idx t]
  entry_read
  pointwise
  blk_ext [idx t]

theorem blk5 (k : Fin 512) : iblk m c 5 t (ix2 0 k) = A4 m c (ix1 k) := by
  blk_simp [iblk, idx t]
  entry_read
  pointwise
  blk_ext [idx t]

theorem blk6 (k : Fin 512) (n : Fin 1024) : iblk m c 6 t (ix2 k n) = A5 m c (ix2 k n) := by
  blk_simp [iblk, idx t]
  entry_read
  pointwise
  blk_ext [idx t]

/-- The rows a point carries to the next: its tile's last 32. -/
theorem carried (j : Fin 32) (ch : Fin 512) :
    (outsAt0 m c t.val t.isLt).2.2 (ix2 ⟨j.val, by omega⟩ ch) = A0 m c (ix3 (seq t) (tok t ⟨224 + j.val, by omega⟩) ch) := by
  by_cases h0 : t.val % 32 = 0
  · rw [outsAt0_A m c t h0]
    dsimp only
    rw [openAs]
    exact blk0 m c t _ ch
  · rw [outsAt0_B m c t h0]
    dsimp only
    rw [openBs]
    exact blk0 m c t _ ch

/-- The first tile's extended rows. -/
theorem rowA (h0 : t.val % 32 = 0) (k : Fin 31) (r : Fin 256) (ch : Fin 512) (h : 2 + k.val + r.val < 288) :
    extA (iblk m c 1 t) (k0_pay5 (iblk m c 0 t)) (ix2 ⟨2 + k.val + r.val, h⟩ ch) =
      padded (A0 m c) (seq t) (k.val + (tok t r).val) (by omega) ch := by
  have e : (tok t r).val = r.val := by unfold tok; dsimp only; omega
  unfold extA padded
  dsimp only
  by_cases hk : k.val + r.val < 30
  · rw [dif_pos (by show 2 + k.val + r.val < 32; omega), dif_neg (by show ¬ 2 + k.val + r.val < 2 ; omega), dif_pos (by omega)]
    exact blk1 m c t _ _
  · rw [dif_neg (by show ¬ 2 + k.val + r.val < 32; omega), dif_neg (by omega), pay5_apply]
    refine (blk0 m c t _ _).trans (congrArg (fun s => A0 m c (ix3 (seq t) s ch)) (Fin.ext ?_))
    show t.val % 32 * 256 + (2 + k.val + r.val - 32) = k.val + (tok t r).val - 30
    omega

/-- A later tile's extended rows. -/
theorem rowB (h0 : ¬ t.val % 32 = 0) (k : Fin 31) (r : Fin 256) (ch : Fin 512) (h : 2 + k.val + r.val < 288) :
    extB (outsAt0 m c (t.val - 1) (Nat.lt_of_le_of_lt (Nat.sub_le _ _) t.isLt)).2.2 (k0_pay5 (iblk m c 0 t)) (ix2 ⟨2 + k.val + r.val, h⟩ ch) =
      padded (A0 m c) (seq t) (k.val + (tok t r).val) (by omega) ch := by
  have e : (tok t r).val = t.val % 32 * 256 + r.val := rfl
  have hr := r.isLt
  unfold extB padded
  dsimp only
  rw [dif_neg (show ¬ k.val + (tok t r).val < 30 by omega)]
  by_cases hk : k.val + r.val < 30
  · rw [dif_pos (by show 2 + k.val + r.val < 32; omega)]
    refine (carried m c ⟨t.val - 1, Nat.lt_of_le_of_lt (Nat.sub_le _ _) t.isLt⟩ ⟨2 + k.val + r.val, by omega⟩ ch).trans ?_
    refine congrArg₂ (fun b s => A0 m c (ix3 b s ch)) (Fin.ext ?_) (Fin.ext ?_)
    · show (t.val - 1) / 32 = t.val / 32
      omega
    · show (t.val - 1) % 32 * 256 + (224 + (2 + k.val + r.val)) = k.val + (tok t r).val - 30
      omega
  · rw [dif_neg (by show ¬ 2 + k.val + r.val < 32; omega), pay5_apply]
    refine (blk0 m c t _ _).trans (congrArg (fun s => A0 m c (ix3 (seq t) s ch)) (Fin.ext ?_))
    show t.val % 32 * 256 + (2 + k.val + r.val - 32) = k.val + (tok t r).val - 30
    omega

/-- A point's first result block. -/
theorem point7 (r : Fin 256) (n : Fin 1024) : (outsAt0 m c t.val t.isLt).1 (ix3 0 r n) =
    Cert.ConvReferenceIdeal.Read.val_main_v248 (F := Ideal) (A0 m c) (A1 m c) (A2 m c) (A3 m c) (A4 m c) (A5 m c) (ix3 (seq t) (tok t r) n) := by
  refine Eq.trans ?_ (v248_apply _ _ _ _ _ _ (seq t) (tok t r) n).symm
  by_cases h0 : t.val % 32 = 0
  · rw [outsAt0_A m c t h0]
    dsimp only
    rw [openA7]
    refine (body_apply _ _ _ _ _ _ r n).trans ?_
    simp only [rowA m c t h0, blk2, blk3, blk4, blk5, blk6]
  · rw [outsAt0_B m c t h0]
    dsimp only
    rw [openB7]
    refine (body_apply _ _ _ _ _ _ r n).trans ?_
    simp only [rowB m c t h0, blk2, blk3, blk4, blk5, blk6]

/-- A sequence's last point's second result block. -/
theorem point8 (hf : t.val % 32 = 31) (j : Fin 30) (ch : Fin 512) : (outsAt0 m c t.val t.isLt).2.1 (ix3 0 j ch) =
    Cert.ConvReferenceIdeal.Read.val_main_v249 (F := Ideal) (A0 m c) (ix3 (seq t) j ch) := by
  refine Eq.trans ?_ (v249_apply _ (seq t) j ch).symm
  rw [outsAt0_B m c t (by omega)]
  dsimp only
  rw [openB8]
  refine (blk0 m c t _ ch).trans ?_
  refine congrArg (fun s => A0 m c (ix3 (seq t) s ch)) (Fin.ext ?_)
  show t.val % 32 * 256 + (226 + j.val) = 8162 + j.val
  omega

/-- The first result array after the run. -/
theorem final7 : (dats m 0 c).arrAt 7 cfg0.N =
    Cert.ConvReferenceIdeal.Read.val_main_v248 (F := Ideal) (A0 m c) (A1 m c) (A2 m c) (A3 m c) (A4 m c) (A5 m c) := by
  refine (dats m 0 c).arrAt_eq_of_covers 7 _ (by decide +kernel) fun t _ y => ?_
  blk_simp
  rw [after0_7]
  obtain ⟨a, b, rfl⟩ : ∃ (a : Fin 256) (b : Fin 1024), y = ix3 0 a b := ⟨y 1, y 2, by blk_ext⟩
  refine (point7 m c t a b).trans (congrArg _ ?_)
  unfold seq tok
  blk_ext [idx t]

/-- The second result array after the run. -/
theorem final8 : (dats m 0 c).arrAt 8 cfg0.N = Cert.ConvReferenceIdeal.Read.val_main_v249 (F := Ideal) (A0 m c) := by
  refine (dats m 0 c).arrAt_eq_of_covers 8 _ (by decide +kernel) fun t hf y => ?_
  blk_simp
  rw [after0_8]
  obtain ⟨a, b, rfl⟩ : ∃ (a : Fin 30) (b : Fin 512), y = ix3 0 a b := ⟨y 1, y 2, by blk_ext⟩
  refine (point8 m c t ((flush0_8 t).mp hf) a b).trans (congrArg _ ?_)
  unfold seq
  blk_ext [idx t]

end Cert.Proof.CV

end
-- ==== Proof.AD.Array.lean ====
module

public import proofs.«01_k».proof.Proof.Gen.AdaIdeal.Value
public import proofs.«01_k».proof.Proof.Gen.AdaReferenceIdeal.Read
public import Idealize.ShloMosaic.Lib.Pipeline.ValueKit
public import Idealize.ShloMosaic.Lib.Claim
public import Idealize.ShloMosaic.Lib.Pointwise

@[expose] public section

set_option maxRecDepth 16384

noncomputable section

/-! The six modulations: the silu of a row of conditions, times the weights, plus the bias. The kernel takes 1024 columns at
each of six points, and its result array after the run is the reference's result. -/

namespace Cert.Proof.AD

open Idealize.ShloMosaic Idealize.ShloMosaic.TcCoe Cert.AdaIdeal Cert.AdaIdeal.Gen
open Idealize.ShloMosaic.Pipeline (Dat)

/-- One column of a row of conditions. -/
def col (c w : Fin 1024 → EReal) (b : EReal) : EReal := (∑ k, c k * Ideal.logistic (c k) * w k) + b

variable (m : (ℓ : Loc nD τ sig) → Buf (Elt Ideal) ℓ) (c : Dev nD) (t : Fin cfg0.N)

/-- Column `n` of grid point `t`'s block, in the result. -/
def at' (t : Fin cfg0.N) (n : Fin 1024) : Fin 6144 := ⟨t.val * 1024 + n.val, by have h : t.val < 6 := t.isLt; omega⟩

/-- The arguments. -/
abbrev A0 : FVec Ideal S36x1024 .f32 := m ((c : Thread nD τ).loc main_arg0)
abbrev A1 : FVec Ideal S1024x6144 .f32 := m ((c : Thread nD τ).loc main_arg1)
abbrev A2 : FVec Ideal S6144 .f32 := m ((c : Thread nD τ).loc main_arg2)

/-- What the body computes from its blocks, at row `r` and column `n`. -/
theorem pay1_apply (P0 : Vec Ideal S36x1024 .f32) (P1 : Vec Ideal S1024x1024 .f32) (P2 : Vec Ideal S1x1024 .f32)
    (r : Fin 36) (n : Fin 1024) :
    k0_pay1 P0 P1 P2 (ix2 r n) = col (fun k => P0 (ix2 r k)) (fun k => P1 (ix2 k n)) (P2 (ix2 0 n)) := by
  unfold col
  pointwise [k0_pay1]

/-- The reference's result, at row `r` and column `n`. -/
theorem v4_apply (x0 : FVec Ideal S36x1024 .f32) (x1 : FVec Ideal S1024x6144 .f32) (x2 : FVec Ideal S6144 .f32)
    (r : Fin 36) (n : Fin 6144) :
    Cert.AdaReferenceIdeal.Read.val_main_v4 (F := Ideal) x0 x1 x2 (ix2 r n) =
      col (fun k => x0 (ix2 r k)) (fun k => x1 (ix2 k n)) (x2 (ix1 n)) := by
  unfold col Ideal.logistic
  pointwise [Cert.AdaReferenceIdeal.Read.val_main_v4, Cert.AdaReferenceIdeal.Read.val_main_v3,
    Cert.AdaReferenceIdeal.Read.val_main_v2, Cert.AdaReferenceIdeal.Read.val_main_v1, Cert.AdaReferenceIdeal.Read.val_main_v0,
    Cert.AdaReferenceIdeal.Read.val_main_call0_v5, Cert.AdaReferenceIdeal.Read.val_main_call0_v4,
    Cert.AdaReferenceIdeal.Read.val_main_call0_cst_0, Cert.AdaReferenceIdeal.Read.val_main_call0_v3,
    Cert.AdaReferenceIdeal.Read.val_main_call0_v2, Cert.AdaReferenceIdeal.Read.val_main_call0_cst,
    Cert.AdaReferenceIdeal.Read.val_main_call0_v1, Cert.AdaReferenceIdeal.Read.val_main_call0_v0]

/-- Every window's block index at point `t`. -/
theorem idx : ∀ t : Fin cfg0.N, win0_0.index t = ![0, 0] ∧ win0_1.index t = ![0, t.val] ∧ win0_2.index t = ![0, t.val] ∧
    win0_3.index t = ![0, t.val] :=
  (by decide +kernel : ∀ t : Fin grid0.N, _)

theorem blk0 (r : Fin 36) (k : Fin 1024) : iblk m c 0 t (ix2 r k) = A0 m c (ix2 r k) := by
  blk_ext [iblk, V, idx t]

theorem blk1 (k n : Fin 1024) : iblk m c 1 t (ix2 k n) = A1 m c (ix2 k (at' t n)) := by
  unfold at'
  blk_ext [iblk, V, idx t]

theorem blk2 (n : Fin 1024) : iblk m c 2 t (ix2 0 n) = A2 m c (ix1 (at' t n)) := by
  unfold at'
  blk_simp [iblk, idx t]
  entry_read
  pointwise
  blk_ext [idx t]

/-- A point's result block. -/
theorem point (r : Fin 36) (n : Fin 1024) : k0_pay1 (iblk m c 0 t) (iblk m c 1 t) (iblk m c 2 t) (ix2 r n) =
    Cert.AdaReferenceIdeal.Read.val_main_v4 (F := Ideal) (A0 m c) (A1 m c) (A2 m c) (ix2 r (at' t n)) := by
  refine (pay1_apply _ _ _ r n).trans (Eq.trans ?_ (v4_apply _ _ _ r (at' t n)).symm)
  simp only [blk0, blk1, blk2]

/-- The result array after the run. -/
theorem final : (dats m 0 c).arrAt 3 cfg0.N =
    Cert.AdaReferenceIdeal.Read.val_main_v4 (F := Ideal) (A0 m c) (A1 m c) (A2 m c) := by
  refine (dats m 0 c).arrAt_eq_of_covers 3 _ (by decide +kernel) fun t _ y => ?_
  blk_simp
  rw [after0_3]
  frame_out
  obtain ⟨a, b, rfl⟩ : ∃ (a : Fin 36) (b : Fin 1024), y = ix2 a b := ⟨y 0, y 1, by blk_ext⟩
  refine (point m c t a b).trans (congrArg _ ?_)
  unfold at'
  blk_ext [idx t]

end Cert.Proof.AD

end
-- ==== Proof.CM.Spec.lean ====
module

public import Idealize.ShloMosaic.Lib.ValueIdx
public import Idealize.ShloMosaic.Lib.Pointwise

@[expose] public section

noncomputable section

/-! Block summaries as sums: a tile's rows against the placing matrix are the mean of the block that the column stands for, and
the two-head weights against a column are the one head's weights against its half. -/

namespace Cert.Proof.CM

open Idealize.ShloMosaic

/-- One 64th, as the placing matrix holds it. -/
abbrev part : EReal := Ideal.ofBits FTy.f32 0x3C800000#32

/-- The mean of 64 values. -/
def mean (f : Fin 64 → EReal) : EReal := Ideal.div (∑ i, f i) (Ideal.ofBits FTy.f32 0x42800000#32)

theorem part_eq : part = ((1 / 64 : ℝ) : EReal) := by
  unfold part
  simp [Ideal.ofBits, Ideal.ieee, -EReal.coe_mul]
  norm_num

theorem sixtyfour : Ideal.ofBits FTy.f32 0x42800000#32 = ((64 : ℝ) : EReal) := by
  simp [Ideal.ofBits, Ideal.ieee, -EReal.coe_mul]
  norm_num

/-- A sum of values each times a 64th. -/
theorem sum_part (s : Finset (Fin 64)) (f : Fin 64 → EReal) : ∑ i ∈ s, f i * part = (∑ i ∈ s, f i) * part := by
  induction s using Finset.induction_on with
  | empty => simp
  | insert a s ha ih =>
    rw [Finset.sum_insert ha, Finset.sum_insert ha, ih, part_eq,
      EReal.right_distrib_of_nonneg_of_ne_top (by exact_mod_cast (by norm_num : (0:ℝ) ≤ 1 / 64)) (EReal.coe_ne_top _)]

theorem mean_eq (f : Fin 64 → EReal) : ∑ i, f i * part = mean f := by
  unfold mean
  rw [sum_part, sixtyfour, Ideal.div_coe (by norm_num), part_eq]

/-- A sum over 2048 rows, block by block. -/
theorem sum_blocks (f : Fin 2048 → EReal) : ∑ r, f r = ∑ a : Fin 32, ∑ i : Fin 64, f ⟨a.val * 64 + i.val, by omega⟩ := by
  rw [← Fintype.sum_prod_type']
  refine (Fintype.sum_equiv (finProdFinEquiv (m := 32) (n := 64)) _ _ fun x => ?_).symm
  congr 1
  apply Fin.ext
  show x.1.val * 64 + x.2.val = x.2.val + 64 * x.1.val
  omega

/-- A sum over 128 channels, head by head. -/
theorem sum_heads (f : Fin 128 → EReal) : ∑ r, f r = ∑ a : Fin 2, ∑ i : Fin 64, f ⟨a.val * 64 + i.val, by omega⟩ := by
  rw [← Fintype.sum_prod_type']
  refine (Fintype.sum_equiv (finProdFinEquiv (m := 2) (n := 64)) _ _ fun x => ?_).symm
  congr 1
  apply Fin.ext
  show x.1.val * 64 + x.2.val = x.2.val + 64 * x.1.val
  omega

/-- A tile's rows against the placing matrix: the mean of column `n`'s block, if the block is in tile `j`. -/
theorem placed (f : Fin 2048 → EReal) (j n : ℕ) (hn : n < 128) :
    ∑ r, f r * (if n = j * 32 + r.val / 64 then part else 0) =
      if n / 32 = j then mean (fun i => f ⟨n % 32 * 64 + i.val, by omega⟩) else 0 := by
  rw [sum_blocks]
  have e : ∀ (a : Fin 32) (i : Fin 64), (a.val * 64 + i.val) / 64 = a.val := fun a i => by omega
  simp only [e]
  split
  · next h =>
    rw [Finset.sum_eq_single (⟨n % 32, by omega⟩ : Fin 32)]
    · rw [← mean_eq]
      refine Finset.sum_congr rfl fun i _ => ?_
      rw [if_pos (by dsimp only; omega)]
    · intro a _ ha
      refine Finset.sum_eq_zero fun i _ => ?_
      rw [if_neg (fun h' => ha (Fin.ext (by dsimp only; omega))), mul_zero]
    · intro h'
      exact absurd (Finset.mem_univ _) h'
  · next h =>
    refine Finset.sum_eq_zero fun a _ => Finset.sum_eq_zero fun i _ => ?_
    rw [if_neg (by have := a.isLt; omega), mul_zero]

/-- The two-head weights against a column: only the row's head counts. -/
theorem headed (w : Fin 64 → EReal) (f : Fin 128 → EReal) (h : Fin 2) :
    ∑ k : Fin 128, ((if h.val = k.val / 64 then (1 : EReal) else 0) * w ⟨k.val % 64, by omega⟩) * f k =
      ∑ d : Fin 64, f ⟨h.val * 64 + d.val, by omega⟩ * w d := by
  rw [sum_heads, Finset.sum_eq_single h]
  · refine Finset.sum_congr rfl fun d _ => ?_
    rw [if_pos (by dsimp only; omega), one_mul, mul_comm]
    congr 2
    apply Fin.ext
    show (h.val * 64 + d.val) % 64 = d.val
    omega
  · intro a _ ha
    refine Finset.sum_eq_zero fun d _ => ?_
    rw [if_neg (fun h' => ha (Fin.ext (by dsimp only at h'; omega))), zero_mul, zero_mul]
  · intro h'
    exact absurd (Finset.mem_univ _) h'

end Cert.Proof.CM

end
-- ==== Proof.CM.Block.lean ====
module

public import proofs.«01_k».proof.Proof.Gen.CompressIdeal.Frame
public import proofs.«01_k».proof.Proof.CM.Spec
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

/-! The body's stored values read at an entry. -/

namespace Cert.Proof.CM

open Idealize.ShloMosaic Idealize.ShloMosaic.TcCoe Cert.CompressIdeal Cert.CompressIdeal.Gen
open Idealize.ShloMosaic.Pipeline (Dat)

theorem pay2_apply (s : Fin 2) (k n : Fin 128) : k0_pay2 (F := Ideal) (ix3 s k n) = (0 : EReal) := by
  pointwise [k0_pay2]

theorem pay3_lo (v0 v2 : Vec Ideal S1x128x2048 .f32) (v18 : Vec Ideal S1x2048x128 .bf16) (v20 v26 : Vec Ideal S128x2048 .f32)
    (k n : Fin 128) : k0_pay3 v0 v2 v18 v20 v26 (ix2 ⟨k.val, by omega⟩ n) =
      ∑ r : Fin 2048, (v0 (ix3 0 k r) * (1 + v20 (ix2 k r))) * v18 (ix3 0 r n) := by
  pointwise [k0_pay3]

theorem pay3_hi (v0 v2 : Vec Ideal S1x128x2048 .f32) (v18 : Vec Ideal S1x2048x128 .bf16) (v20 v26 : Vec Ideal S128x2048 .f32)
    (k n : Fin 128) : k0_pay3 v0 v2 v18 v20 v26 (ix2 ⟨128 + k.val, by omega⟩ n) =
      ∑ r : Fin 2048, (v2 (ix3 0 k r) * (1 + v26 (ix2 k r))) * v18 (ix3 0 r n) := by
  pointwise [k0_pay3]

theorem pay4_apply (v33 : FVec Ideal S256x128 .f32) (v34 : Vec Ideal S1x128x128 .f32) (k n : Fin 128) :
    k0_pay4 v33 v34 (ix3 0 k n) = v34 (ix3 0 k n) + v33 (ix2 ⟨k.val, by omega⟩ n) := by
  pointwise [k0_pay4]

theorem pay6_apply (v33 : FVec Ideal S256x128 .f32) (v50 : Vec Ideal S1x128x128 .f32) (k n : Fin 128) :
    k0_pay6 v33 v50 (ix3 0 k n) = v50 (ix3 0 k n) + v33 (ix2 ⟨128 + k.val, by omega⟩ n) := by
  pointwise [k0_pay6]

theorem pay5_apply (v41 : Vec Ideal S128x128 .bf16) (v43 : Vec Ideal S1x128x128 .f32) (o n : Fin 128) :
    k0_pay5 v41 v43 (ix3 0 o n) = ∑ k : Fin 128, v41 (ix2 o k) * v43 (ix3 0 k n) := by
  pointwise [k0_pay5]

theorem pay7_apply (v57 : Vec Ideal S128x128 .bf16) (v59 : Vec Ideal S1x128x128 .f32) (o n : Fin 128) :
    k0_pay1 (k0_pay7 v57 v59) (ix3 0 o n) = ∑ k : Fin 128, v57 (ix2 o k) * v59 (ix3 0 k n) := by
  pointwise [k0_pay1, k0_pay7]

end Cert.Proof.CM

end
-- ==== Proof.CM.Open.lean ====
module

public import proofs.«01_k».proof.Proof.CM.Block

@[expose] public section

set_option maxRecDepth 16384

noncomputable section

/-! What a grid point leaves in its two result blocks and in the carried sums, read at an entry. -/

namespace Cert.Proof.CM

open Idealize.ShloMosaic Idealize.ShloMosaic.TcCoe Cert.CompressIdeal Cert.CompressIdeal.Gen
open Idealize.ShloMosaic.Pipeline (Dat)

variable (c : Dev nD) (i : grid0.Coords) (arg2 : Memref sig .tc .vmem S1x128x2048 .f32) (harg2 : arg2.IsWhole) (arg3 : Memref sig .tc .vmem S1x128x2048 .f32) (harg3 : arg3.IsWhole) (arg4 : Memref sig .tc .vmem S128x2048 .f32) (harg4 : arg4.IsWhole) (arg5 : Memref sig .tc .vmem S128x128 .bf16) (harg5 : arg5.IsWhole) (arg6 : Memref sig .tc .vmem S128x2048 .f32) (harg6 : arg6.IsWhole) (arg7 : Memref sig .tc .vmem S128x128 .bf16) (harg7 : arg7.IsWhole) (arg8 : Memref sig .tc .vmem S4x2048x128 .bf16) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S2x128x128 .f32) (harg11 : arg11.IsWhole)
    (x0 : Vec Ideal S1x128x2048 .f32) (x1 : Vec Ideal S1x128x2048 .f32) (x2 : Vec Ideal S128x2048 .f32) (x3 : Vec Ideal S128x128 .bf16) (x4 : Vec Ideal S128x2048 .f32) (x5 : Vec Ideal S128x128 .bf16) (x6 : Vec Ideal S4x2048x128 .bf16) (xs0 : Vec Ideal S2x128x128 .f32)

/-- A tile's rows against the tile's part of the placing matrix. -/
def gained (x : Vec Ideal S1x128x2048 .f32) (g : Vec Ideal S128x2048 .f32) (p : Vec Ideal S4x2048x128 .bf16) (j : Fin 4) (k n : Fin 128) : EReal :=
  ∑ r : Fin 2048, (x (ix3 0 k r) * (1 + g (ix2 k r))) * p (ix3 j r n)

/-- One of the two carried sums. -/
def half (x : Vec Ideal S2x128x128 .f32) (s : Fin 2) : Vec Ideal S1x128x128 .f32 := fun y => x (ix3 s (y 1) (y 2))

/-- A load that lies within the last store reads that store's payload. -/
theorem readCov_in {sig : RefSig} {κ : Kind} {sp : Space} {s : Shape} {e : EltTy} (v : View sig κ sp s e) (r : Rect s)
    (w : r.shape.Idx → Elt Ideal e) (L : List (View.Piece (Elt Ideal) s e)) (B : LoadRect s) (g : B.shape.Idx → r.shape.Idx)
    (h : ∀ j, B.idx j = r.emb (g j)) : v.readCov (⟨r, w⟩ :: L) B = fun j => w (g j) := by
  rw [View.readCov_eq_canon']
  funext j
  rw [h j]
  exact View.canon_cons_emb r w L (g j)

theorem ld_lo (x : Vec Ideal S2x128x128 .f32) (inb : ∀ a, (![0, 0, 0] : Fin 3 → ℕ) a + (![1, 128, 128] : Fin 3 → ℕ) a ≤ S2x128x128.size a) :
    View.ld x (Rect.unit (s := S2x128x128) ![0, 0, 0] ![1, 128, 128] inb) = half x 0 := by
  funext y
  show x _ = x _
  congr 1
  funext a
  apply Fin.ext
  match a with
  | ⟨0, _⟩ => show 0 + 1 * (y 0).val = 0; have h' : (y 0).val < 1 := (y 0).isLt; omega
  | ⟨1, _⟩ => show 0 + 1 * (y 1).val = (y 1).val; omega
  | ⟨2, _⟩ => show 0 + 1 * (y 2).val = (y 2).val; omega

theorem ld_hi (x : Vec Ideal S2x128x128 .f32) (inb : ∀ a, (![1, 0, 0] : Fin 3 → ℕ) a + (![1, 128, 128] : Fin 3 → ℕ) a ≤ S2x128x128.size a) :
    View.ld x (Rect.unit (s := S2x128x128) ![1, 0, 0] ![1, 128, 128] inb) = half x 1 := by
  funext y
  show x _ = x _
  congr 1
  funext a
  apply Fin.ext
  match a with
  | ⟨0, _⟩ => show 1 + 1 * (y 0).val = 1; have h' : (y 0).val < 1 := (y 0).isLt; omega
  | ⟨1, _⟩ => show 0 + 1 * (y 1).val = (y 1).val; omega
  | ⟨2, _⟩ => show 0 + 1 * (y 2).val = (y 2).val; omega

/-- The offset of a tile's part of the placing matrix. -/
theorem off_eq : k0_off1 i = ![(i 1).val, 0, 0] := by
  have e : ∀ j : Fin 4, (Scalar.indexCast (Scalar.select (Scalar.andi (Scalar.xori (Scalar.cmpi .slt (Scalar.remsi (BitVec.ofNat 32 j.val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 j.val) (Scalar.select (Scalar.cmpi .eq 4#32 0#32) 1#32 4#32)) 0#32)) (Scalar.addi (Scalar.remsi (BitVec.ofNat 32 j.val) (Scalar.select (Scalar.cmpi .eq 4#32 0#32) 1#32 4#32)) (Scalar.select (Scalar.cmpi .eq 4#32 0#32) 1#32 4#32)) (Scalar.remsi (BitVec.ofNat 32 j.val) (Scalar.select (Scalar.cmpi .eq 4#32 0#32) 1#32 4#32)))).toNat = j.val := by
    decide +kernel
  exact congrArg (fun q => (![q, 0, 0] : Fin 3 → ℕ)) (e (i 1))

theorem ld_place (p : Vec Ideal S4x2048x128 .bf16) (inb : ∀ a, (k0_off1 i) a + (![1, 2048, 128] : Fin 3 → ℕ) a ≤ S4x2048x128.size a)
    (r : Fin 2048) (n : Fin 128) :
    View.ld p (Rect.unit (s := S4x2048x128) (k0_off1 i) ![1, 2048, 128] inb) (ix3 0 r n) = p (ix3 (i 1) r n) := by
  show p _ = p _
  congr 1
  funext a
  apply Fin.ext
  match a with
  | ⟨0, _⟩ => show k0_off1 i 0 + 1 * 0 = (i 1).val; rw [off_eq]; rfl
  | ⟨1, _⟩ => show k0_off1 i 1 + 1 * r.val = r.val; rw [off_eq]; show 0 + 1 * r.val = r.val; omega
  | ⟨2, _⟩ => show k0_off1 i 2 + 1 * n.val = n.val; rw [off_eq]; show 0 + 1 * n.val = n.val; omega

theorem gained_lo (inb : ∀ a, (k0_off1 i) a + (![1, 2048, 128] : Fin 3 → ℕ) a ≤ S4x2048x128.size a) (k n : Fin 128) :
    k0_pay3 x0 x1 (View.ld x6 (Rect.unit (s := S4x2048x128) (k0_off1 i) ![1, 2048, 128] inb)) x2 x4 (ix2 ⟨k.val, by omega⟩ n) =
      gained x0 x2 x6 (i 1) k n :=
  (pay3_lo _ _ _ _ _ k n).trans (Finset.sum_congr rfl fun r _ => congrArg _ (ld_place i x6 inb r n))

theorem gained_hi (inb : ∀ a, (k0_off1 i) a + (![1, 2048, 128] : Fin 3 → ℕ) a ≤ S4x2048x128.size a) (k n : Fin 128) :
    k0_pay3 x0 x1 (View.ld x6 (Rect.unit (s := S4x2048x128) (k0_off1 i) ![1, 2048, 128] inb)) x2 x4 (ix2 ⟨128 + k.val, by omega⟩ n) =
      gained x1 x4 x6 (i 1) k n :=
  (pay3_hi _ _ _ _ _ k n).trans (Finset.sum_congr rfl fun r _ => congrArg _ (ld_place i x6 inb r n))

theorem full_lo {sp : Space} (v : View sig .tc sp S2x128x128 .f32) (w : Vec Ideal S2x128x128 .f32)
    (inb : ∀ a, (![0, 0, 0] : Fin 3 → ℕ) a + (![2, 128, 128] : Fin 3 → ℕ) a ≤ S2x128x128.size a)
    (inb' : ∀ a, (![0, 0, 0] : Fin 3 → ℕ) a + (![1, 128, 128] : Fin 3 → ℕ) a ≤ S2x128x128.size a)
    (L : List (View.Piece (Elt Ideal) S2x128x128 .f32)) :
    v.readCov (⟨Rect.unit (s := S2x128x128) ![0, 0, 0] ![2, 128, 128] inb, w⟩ :: L) (Rect.unit (s := S2x128x128) ![0, 0, 0] ![1, 128, 128] inb').toLoadRect = half w 0 := by
  refine (readCov_in v _ _ L _ (fun y : S1x128x128.Idx => ix3 0 (y 1) (y 2)) fun y => ?_).trans rfl
  funext a
  apply Fin.ext
  match a with
  | ⟨0, _⟩ => show 0 + 1 * (y 0).val = 0 + 1 * 0; have h' : (y 0).val < 1 := (y 0).isLt; omega
  | ⟨1, _⟩ => rfl
  | ⟨2, _⟩ => rfl

theorem full_hi {sp : Space} (v : View sig .tc sp S2x128x128 .f32) (w : Vec Ideal S2x128x128 .f32)
    (inb : ∀ a, (![0, 0, 0] : Fin 3 → ℕ) a + (![2, 128, 128] : Fin 3 → ℕ) a ≤ S2x128x128.size a)
    (inb' : ∀ a, (![1, 0, 0] : Fin 3 → ℕ) a + (![1, 128, 128] : Fin 3 → ℕ) a ≤ S2x128x128.size a)
    (L : List (View.Piece (Elt Ideal) S2x128x128 .f32)) :
    v.readCov (⟨Rect.unit (s := S2x128x128) ![0, 0, 0] ![2, 128, 128] inb, w⟩ :: L) (Rect.unit (s := S2x128x128) ![1, 0, 0] ![1, 128, 128] inb').toLoadRect = half w 1 := by
  refine (readCov_in v _ _ L _ (fun y : S1x128x128.Idx => ix3 1 (y 1) (y 2)) fun y => ?_).trans rfl
  funext a
  apply Fin.ext
  match a with
  | ⟨0, _⟩ => show 1 + 1 * (y 0).val = 0 + 1 * 1; have h' : (y 0).val < 1 := (y 0).isLt; omega
  | ⟨1, _⟩ => show 0 + 1 * (y 1).val = 0 + 1 * (y 1).val; rfl
  | ⟨2, _⟩ => show 0 + 1 * (y 2).val = 0 + 1 * (y 2).val; rfl

/-- The carried sums after a store of each. -/
theorem two_stores (u w : Vec Ideal S1x128x128 .f32)
    (inb : ∀ a, (![1, 0, 0] : Fin 3 → ℕ) a + (![1, 128, 128] : Fin 3 → ℕ) a ≤ S2x128x128.size a)
    (inb' : ∀ a, (![0, 0, 0] : Fin 3 → ℕ) a + (![1, 128, 128] : Fin 3 → ℕ) a ≤ S2x128x128.size a)
    (L : List (View.Piece (Elt Ideal) S2x128x128 .f32)) (s : Fin 2) (k n : Fin 128) :
    View.canon (⟨Rect.unit (s := S2x128x128) ![1, 0, 0] ![1, 128, 128] inb, w⟩ :: ⟨Rect.unit (s := S2x128x128) ![0, 0, 0] ![1, 128, 128] inb', u⟩ :: L) (ix3 s k n) =
      if s = 0 then u (ix3 0 k n) else w (ix3 0 k n) := by
  split
  · next h =>
    subst h
    rw [View.canon_cons_of_not_mem]
    · refine Eq.trans (congrArg _ ?_) (View.canon_cons_emb (Rect.unit (s := S2x128x128) ![0, 0, 0] ![1, 128, 128] inb') u L (ix3 0 k n))
      funext a
      apply Fin.ext
      match a with
      | ⟨0, _⟩ => rfl
      | ⟨1, _⟩ => show k.val = 0 + 1 * k.val; omega
      | ⟨2, _⟩ => show n.val = 0 + 1 * n.val; omega
    · intro hm
      obtain ⟨x, hx⟩ := LoadRect.exists_idx_of_mem _ hm
      have h0 : 1 + 1 * (x 0).val = 0 := congrArg (fun q : S2x128x128.Idx => (q 0).val) hx
      omega
  · next h =>
    have h1 : s = 1 := by omega
    subst h1
    refine Eq.trans (congrArg _ ?_) (View.canon_cons_emb (Rect.unit (s := S2x128x128) ![1, 0, 0] ![1, 128, 128] inb) w _ (ix3 0 k n))
    funext a
    apply Fin.ext
    match a with
    | ⟨0, _⟩ => rfl
    | ⟨1, _⟩ => show k.val = 0 + 1 * k.val; omega
    | ⟨2, _⟩ => show n.val = 0 + 1 * n.val; omega

theorem openB7 (hc0 : ¬cond0_0 i) (o n : Fin 128) :
    out0_B_7 c i arg2 harg2 arg3 harg3 arg4 harg4 arg5 harg5 arg6 harg6 arg7 harg7 arg8 harg8 arg9 harg9 arg10 harg10 arg11 harg11 hc0 x0 x1 x2 x3 x4 x5 x6 xs0 (ix3 0 o n) =
      ∑ k, x3 (ix2 o k) * (xs0 (ix3 0 k n) + gained x0 x2 x6 (i 1) k n) := by
  unfold out0_B_7
  frame_out
  simp (disch := decide) only [↓ View.readCov_skip, ↓ View.readCov_cons_toLoadRect, ↓ View.readCov_fill]
  rw [ld_lo, pay5_apply]
  exact Finset.sum_congr rfl fun k _ => congrArg (x3 (ix2 o k) * ·)
    ((pay4_apply _ _ k n).trans (congrArg₂ (· + ·) rfl (gained_lo i x0 x1 x2 x4 x6 _ k n)))

theorem openB8 (hc0 : ¬cond0_0 i) (o n : Fin 128) :
    out0_B_8 c i arg2 harg2 arg3 harg3 arg4 harg4 arg5 harg5 arg6 harg6 arg7 harg7 arg8 harg8 arg9 harg9 arg10 harg10 arg11 harg11 hc0 x0 x1 x2 x3 x4 x5 x6 xs0 (ix3 0 o n) =
      ∑ k, x5 (ix2 o k) * (xs0 (ix3 1 k n) + gained x1 x4 x6 (i 1) k n) := by
  unfold out0_B_8
  frame_out
  simp (disch := decide) only [↓ View.readCov_skip, ↓ View.readCov_cons_toLoadRect, ↓ View.readCov_fill]
  rw [ld_hi, pay7_apply]
  exact Finset.sum_congr rfl fun k _ => congrArg (x5 (ix2 o k) * ·)
    ((pay6_apply _ _ k n).trans (congrArg₂ (· + ·) rfl (gained_hi i x0 x1 x2 x4 x6 _ k n)))

theorem openAs (hc0 : cond0_0 i) (s : Fin 2) (k n : Fin 128) :
    sout0_A_0 c i arg2 harg2 arg3 harg3 arg4 harg4 arg5 harg5 arg6 harg6 arg7 harg7 arg8 harg8 arg9 harg9 arg10 harg10 arg11 harg11 hc0 x0 x1 x2 x3 x4 x5 x6 (ix3 s k n) =
      (if s = 0 then gained x0 x2 x6 (i 1) k n else gained x1 x4 x6 (i 1) k n) := by
  unfold sout0_A_0
  frame_out
  refine (two_stores _ _ _ _ _ s k n).trans ?_
  simp (disch := decide) only [↓ View.readCov_skip]
  rw [full_lo, full_hi]
  refine congrArg₂ (fun u w : EReal => if s = 0 then u else w) ?_ ?_
  · exact (pay4_apply _ _ k n).trans ((congrArg₂ (· + ·) (pay2_apply 0 k n) (gained_lo i x0 x1 x2 x4 x6 _ k n)).trans (zero_add _))
  · exact (pay6_apply _ _ k n).trans ((congrArg₂ (· + ·) (pay2_apply 1 k n) (gained_hi i x0 x1 x2 x4 x6 _ k n)).trans (zero_add _))

theorem openBs (hc0 : ¬cond0_0 i) (s : Fin 2) (k n : Fin 128) :
    sout0_B_0 c i arg2 harg2 arg3 harg3 arg4 harg4 arg5 harg5 arg6 harg6 arg7 harg7 arg8 harg8 arg9 harg9 arg10 harg10 arg11 harg11 hc0 x0 x1 x2 x3 x4 x5 x6 xs0 (ix3 s k n) =
      xs0 (ix3 s k n) + (if s = 0 then gained x0 x2 x6 (i 1) k n else gained x1 x4 x6 (i 1) k n) := by
  unfold sout0_B_0
  frame_out
  refine (two_stores _ _ _ _ _ s k n).trans ?_
  rw [ld_lo, ld_hi]
  split
  · next h =>
    subst h
    exact (pay4_apply _ _ k n).trans (congrArg₂ (· + ·) rfl (gained_lo i x0 x1 x2 x4 x6 _ k n))
  · next h =>
    have h1 : s = 1 := by omega
    subst h1
    exact (pay6_apply _ _ k n).trans (congrArg₂ (· + ·) rfl (gained_hi i x0 x1 x2 x4 x6 _ k n))

end Cert.Proof.CM

end
-- ==== Proof.CM.Ref.lean ====
module

public import proofs.«01_k».proof.Proof.Gen.CompressReferenceIdeal.Read
public import proofs.«01_k».proof.Proof.CM.Spec
public import Idealize.ShloMosaic.Lib.Pointwise

@[expose] public section

noncomputable section

/-! The reference's two results read at an entry. -/

namespace Cert.Proof.CM

open Idealize.ShloMosaic Cert.CompressReferenceIdeal Cert.CompressReferenceIdeal.Gen Cert.CompressReferenceIdeal.Read

/-- The mean of block `n` of a sequence's tokens, at a head's channel, each token's value times one more than its modulation. -/
def block (x : FVec Ideal S4x8192x2x64 .f32) (g : FVec Ideal S64x64 .f32) (b : Fin 4) (h : Fin 2) (d : Fin 64) (n : Fin 128) : EReal :=
  mean fun i => x (ix4 b ⟨n.val * 64 + i.val, by omega⟩ h d) * (1 + g (ix2 i d))

/-- A block's summary: its mean times the weights. -/
def summary (x : FVec Ideal S4x8192x2x64 .f32) (g w : FVec Ideal S64x64 .f32) (b : Fin 4) (h : Fin 2) (e : Fin 64) (n : Fin 128) : EReal :=
  ∑ d, block x g b h d n * w (ix2 d e)

theorem v11_apply (x0 : FVec Ideal S4x8192x2x64 .f32) (x2 x3 : FVec Ideal S64x64 .f32) (b : Fin 4) (k : Fin 128) (n : Fin 128) :
    val_main_v11 (F := Ideal) x0 x2 x3 (ix3 b k n) =
      summary x0 x2 x3 b ⟨k.val / 64, by omega⟩ ⟨k.val % 64, by omega⟩ n := by
  unfold summary block mean
  pointwise [val_main_v11, val_main_v10, val_main_v9, val_main_v8, val_main_v7, val_main_cst_1, val_main_v6, val_main_cst_0,
    val_main_v5, val_main_v4, val_main_v3, val_main_v2, val_main_v1, val_main_cst, val_main_v0]

theorem v23_apply (x1 : FVec Ideal S4x8192x2x64 .f32) (x4 x5 : FVec Ideal S64x64 .f32) (b : Fin 4) (k : Fin 128) (n : Fin 128) :
    val_main_v23 (F := Ideal) x1 x4 x5 (ix3 b k n) =
      summary x1 x4 x5 b ⟨k.val / 64, by omega⟩ ⟨k.val % 64, by omega⟩ n := by
  unfold summary block mean
  pointwise [val_main_v23, val_main_v22, val_main_v21, val_main_v20, val_main_v19, val_main_cst_4, val_main_v18, val_main_cst_3,
    val_main_v17, val_main_v16, val_main_v15, val_main_v14, val_main_v13, val_main_cst_2, val_main_v12]

end Cert.Proof.CM

end
-- ==== Proof.CM.Array.lean ====
module

public import proofs.«01_k».proof.Proof.CM.Open
public import proofs.«01_k».proof.Proof.CM.Ref
public import proofs.«01_k».proof.Proof.Gen.CompressIdeal.Value
public import Idealize.ShloMosaic.Lib.StableHlo.ReadAt

@[expose] public section

set_option maxRecDepth 16384

noncomputable section

/-! The kernel's two result arrays after the run are the reference's block summaries of the kernel's arguments: after a sequence's
tile `j` the carried sums hold the means of the blocks of tiles 0 to `j`, and zero in the columns of the later ones. -/

namespace Cert.Proof.CM

open Idealize.ShloMosaic Idealize.ShloMosaic.TcCoe Cert.CompressIdeal Cert.CompressIdeal.Gen
open Idealize.ShloMosaic.Pipeline (Dat)

variable (m : (ℓ : Loc nD τ sig) → Buf (Elt Ideal) ℓ) (c : Dev nD) (t : Fin cfg0.N)

/-- The sequence of grid point `t`. -/
def seq (t : Fin cfg0.N) : Fin 4 := ⟨t.val / 4, by have h : t.val < 16 := t.isLt; omega⟩

/-- The token at row `r` of grid point `t`'s tile. -/
def tok (t : Fin cfg0.N) (r : Fin 2048) : Fin 8192 := ⟨t.val % 4 * 2048 + r.val, by have := r.isLt; omega⟩

/-- A channel's head. -/
def hd (k : Fin 128) : Fin 2 := ⟨k.val / 64, by omega⟩

/-- A channel within its head. -/
def dm (k : Fin 128) : Fin 64 := ⟨k.val % 64, by omega⟩

/-- The arguments. -/
abbrev A0 : FVec Ideal S4x8192x2x64 .f32 := m ((c : Thread nD τ).loc main_arg0)
abbrev A1 : FVec Ideal S4x8192x2x64 .f32 := m ((c : Thread nD τ).loc main_arg1)
abbrev A2 : FVec Ideal S64x64 .f32 := m ((c : Thread nD τ).loc main_arg2)
abbrev A3 : FVec Ideal S64x64 .f32 := m ((c : Thread nD τ).loc main_arg3)
abbrev A4 : FVec Ideal S64x64 .f32 := m ((c : Thread nD τ).loc main_arg4)
abbrev A5 : FVec Ideal S64x64 .f32 := m ((c : Thread nD τ).loc main_arg5)

/-- The blocks' means of one of the two inputs. -/
def means (s : Fin 2) (b : Fin 4) (k n : Fin 128) : EReal :=
  if s = 0 then block (A0 m c) (A2 m c) b (hd k) (dm k) n else block (A1 m c) (A4 m c) b (hd k) (dm k) n

/-- Every window's block index at point `t`: 4 tiles for each of 4 sequences. -/
theorem idx : ∀ t : Fin cfg0.N, win0_0.index t = ![t.val / 4, 0, t.val % 4] ∧ win0_1.index t = ![t.val / 4, 0, t.val % 4] ∧
    win0_2.index t = ![0, 0] ∧ win0_3.index t = ![0, 0] ∧ win0_4.index t = ![0, 0] ∧ win0_5.index t = ![0, 0] ∧
    win0_6.index t = ![0, 0, 0] ∧ win0_7.index t = ![t.val / 4, 0, 0] ∧ win0_8.index t = ![t.val / 4, 0, 0] :=
  (by decide +kernel : ∀ t : Fin grid0.N, _)

/-- A point's tile within its sequence. -/
theorem coord1 : ∀ t : Fin cfg0.N, (grid0.coords t 1).val = t.val % 4 :=
  (by decide +kernel : ∀ t : Fin grid0.N, _)

theorem blk0 (k : Fin 128) (r : Fin 2048) : iblk m c 0 t (ix3 0 k r) = A0 m c (ix4 (seq t) (tok t r) (hd k) (dm k)) := by
  unfold seq tok hd dm
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  pointwise
  blk_ext [idx t]

theorem blk1 (k : Fin 128) (r : Fin 2048) : iblk m c 1 t (ix3 0 k r) = A1 m c (ix4 (seq t) (tok t r) (hd k) (dm k)) := by
  unfold seq tok hd dm
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  pointwise
  blk_ext [idx t]

theorem blk2 (k : Fin 128) (r : Fin 2048) : iblk m c 2 t (ix2 k r) = A2 m c (ix2 ⟨r.val % 64, by omega⟩ (dm k)) := by
  unfold dm
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  pointwise
  blk_ext [idx t]

theorem blk4 (k : Fin 128) (r : Fin 2048) : iblk m c 4 t (ix2 k r) = A4 m c (ix2 ⟨r.val % 64, by omega⟩ (dm k)) := by
  unfold dm
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  pointwise
  blk_ext [idx t]

/-- The printed identity matrix over the 2 heads. -/
theorem eye : ∀ a b : Fin 2, (FloatOps.uitofp FTy.f32 (IntOp.cmpi CmpIPredicate.eq (IntOp.addi (BitVec.ofNat 32 a.val) 0#32)
    (BitVec.ofNat 32 b.val)) : Ideal .f32) = if a.val = b.val then (1 : EReal) else 0 := by
  intro a b
  have h : IntOp.cmpi CmpIPredicate.eq (IntOp.addi (BitVec.ofNat 32 a.val) 0#32) (BitVec.ofNat 32 b.val) = if a.val = b.val then 1#1 else 0#1 := by
    revert a b
    decide +kernel
  rw [h]
  split <;> simp [FloatOps.uitofp]

/-- The printed floor division of a row by 64. -/
theorem fdiv : ∀ r : Fin 2048,
    Scalar.select
      (IntOp.andi
        (IntOp.cmpi CmpIPredicate.ne
          (if BitVec.ofNat 32 r.val = 0 then (0 : BitVec 32) else if (BitVec.ofNat 32 r.val).msb = true then -1 else 1)
          (if id (constantI S_ 32 64#32) ix0 = 0 then (0 : BitVec 32)
          else if BitVec.msb (id (constantI S_ 32 64#32) ix0) = true then -1 else 1))
        (IntOp.cmpi CmpIPredicate.ne
          (IntOp.remsi ArithUnit.host (BitVec.ofNat 32 r.val) (id (constantI S_ 32 64#32) ix0)) 0#32))
      (IntOp.subi (IntOp.divsi ArithUnit.host (BitVec.ofNat 32 r.val) (id (constantI S_ 32 64#32) ix0)) 1#32)
      (IntOp.divsi ArithUnit.host (BitVec.ofNat 32 r.val) (id (constantI S_ 32 64#32) ix0)) = BitVec.ofNat 32 (r.val / 64) := by
  decide +kernel

theorem blk3 (o k : Fin 128) : iblk m c 3 t (ix2 o k) = (if (hd o).val = k.val / 64 then (1 : EReal) else 0) * A3 m c (ix2 (dm k) (dm o)) := by
  unfold hd dm
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  simp -implicitDefEqProofs only [StableHlo.TRef.toBuf, StableHlo.TRef.ofBuf, cast_cast, cast_eq]
  clean_types
  rw [show ((View.whole main_v33).slice (win0_3.rect t)).emb (ix2 o k) = ix2 o k from by blk_ext [idx t]]
  pointwise
  exact congrArg (· * _) (eye (hd o) (hd k))

theorem blk5 (o k : Fin 128) : iblk m c 5 t (ix2 o k) = (if (hd o).val = k.val / 64 then (1 : EReal) else 0) * A5 m c (ix2 (dm k) (dm o)) := by
  unfold hd dm
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  simp -implicitDefEqProofs only [StableHlo.TRef.toBuf, StableHlo.TRef.ofBuf, cast_cast, cast_eq]
  clean_types
  rw [show ((View.whole main_v46).slice (win0_5.rect t)).emb (ix2 o k) = ix2 o k from by blk_ext [idx t]]
  pointwise
  exact congrArg (· * _) (eye (hd o) (hd k))

/-- Where the placing matrix is not zero. -/
theorem place : ∀ (j : Fin 4) (q : Fin 32) (n : Fin 128),
    IntOp.cmpi CmpIPredicate.eq (BitVec.ofNat 32 n.val) (IntOp.addi (IntOp.muli (BitVec.ofNat 32 j.val) 32#32) (BitVec.ofNat 32 q.val)) =
      if n.val = j.val * 32 + q.val then 1#1 else 0#1 := by
  decide +kernel

theorem blk6 (j : Fin 4) (r : Fin 2048) (n : Fin 128) : iblk m c 6 t (ix3 j r n) = if n.val = j.val * 32 + r.val / 64 then part else 0 := by
  blk_simp [iblk, idx t]
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  simp -implicitDefEqProofs only [StableHlo.TRef.toBuf, StableHlo.TRef.ofBuf, cast_cast, cast_eq]
  clean_types
  rw [show ((View.whole main_v20).slice (win0_6.rect t)).emb (ix3 j r n) = ix3 j r n from by blk_ext [idx t]]
  pointwise
  rw [fdiv r]
  refine (congrArg (Scalar.select · _ _) (place j ⟨r.val / 64, by omega⟩ n)).trans ?_
  dsimp only
  by_cases h : n.val = j.val * 32 + r.val / 64
  · rw [if_pos h, if_pos h]
    rfl
  · rw [if_neg h, if_neg h]
    rfl

/-- What a point's tile gives to one of the two carried sums: the means of the blocks that start in it. -/
theorem step0 (k n : Fin 128) : gained (iblk m c 0 t) (iblk m c 2 t) (iblk m c 6 t) (grid0.coords t 1) k n =
    if n.val / 32 = t.val % 4 then block (A0 m c) (A2 m c) (seq t) (hd k) (dm k) n else 0 := by
  unfold gained
  refine (Finset.sum_congr rfl fun r _ => ?_).trans ((placed (fun r => A0 m c (ix4 (seq t) (tok t r) (hd k) (dm k)) *
    (1 + A2 m c (ix2 ⟨r.val % 64, by omega⟩ (dm k)))) (t.val % 4) n.val n.isLt).trans ?_)
  · refine congrArg₂ (· * ·) ?_ ((blk6 m c t (grid0.coords t 1) r n).trans ?_)
    · rw [blk0, blk2]
    · rw [coord1]
  · by_cases h : n.val / 32 = t.val % 4
    · rw [if_pos h, if_pos h]
      refine congrArg mean (funext fun i => ?_)
      have e1 : tok t ⟨n.val % 32 * 64 + i.val, by omega⟩ = ⟨n.val * 64 + i.val, by omega⟩ := Fin.ext (by
        show t.val % 4 * 2048 + (n.val % 32 * 64 + i.val) = n.val * 64 + i.val
        omega)
      have e2 : (⟨(n.val % 32 * 64 + i.val) % 64, by omega⟩ : Fin 64) = i := Fin.ext (by
        show (n.val % 32 * 64 + i.val) % 64 = i.val
        omega)
      dsimp only
      rw [e1, e2]
    · rw [if_neg h, if_neg h]

theorem step1 (k n : Fin 128) : gained (iblk m c 1 t) (iblk m c 4 t) (iblk m c 6 t) (grid0.coords t 1) k n =
    if n.val / 32 = t.val % 4 then block (A1 m c) (A4 m c) (seq t) (hd k) (dm k) n else 0 := by
  unfold gained
  refine (Finset.sum_congr rfl fun r _ => ?_).trans ((placed (fun r => A1 m c (ix4 (seq t) (tok t r) (hd k) (dm k)) *
    (1 + A4 m c (ix2 ⟨r.val % 64, by omega⟩ (dm k)))) (t.val % 4) n.val n.isLt).trans ?_)
  · refine congrArg₂ (· * ·) ?_ ((blk6 m c t (grid0.coords t 1) r n).trans ?_)
    · rw [blk1, blk4]
    · rw [coord1]
  · by_cases h : n.val / 32 = t.val % 4
    · rw [if_pos h, if_pos h]
      refine congrArg mean (funext fun i => ?_)
      have e1 : tok t ⟨n.val % 32 * 64 + i.val, by omega⟩ = ⟨n.val * 64 + i.val, by omega⟩ := Fin.ext (by
        show t.val % 4 * 2048 + (n.val % 32 * 64 + i.val) = n.val * 64 + i.val
        omega)
      have e2 : (⟨(n.val % 32 * 64 + i.val) % 64, by omega⟩ : Fin 64) = i := Fin.ext (by
        show (n.val % 32 * 64 + i.val) % 64 = i.val
        omega)
      dsimp only
      rw [e1, e2]
    · rw [if_neg h, if_neg h]

theorem step (s : Fin 2) (k n : Fin 128) :
    (if s = 0 then gained (iblk m c 0 t) (iblk m c 2 t) (iblk m c 6 t) (grid0.coords t 1) k n
      else gained (iblk m c 1 t) (iblk m c 4 t) (iblk m c 6 t) (grid0.coords t 1) k n) =
    if n.val / 32 = t.val % 4 then means m c s (seq t) k n else 0 := by
  unfold means
  by_cases hs : s = 0
  · rw [if_pos hs, if_pos hs, step0]
  · rw [if_neg hs, if_neg hs, step1]

/-- The carried sums after each point. -/
theorem carried (q : ℕ) : ∀ t : Fin cfg0.N, t.val % 4 = q → ∀ (s : Fin 2) (k n : Fin 128),
    (outsAt0 m c t.val t.isLt).2.2 (ix3 s k n) = if n.val / 32 ≤ q then means m c s (seq t) k n else 0 := by
  induction q with
  | zero =>
    intro t ht s k n
    rw [outsAt0_A m c t ht]
    dsimp only
    rw [openAs, step, ht]
    simp only [Nat.le_zero]
  | succ q ih =>
    intro t ht s k n
    rw [outsAt0_B m c t (by omega)]
    dsimp only
    rw [openBs, step, ht]
    have e := ih ⟨t.val - 1, Nat.lt_of_le_of_lt (Nat.sub_le _ _) t.isLt⟩ (by show (t.val - 1) % 4 = q; omega) s k n
    have es : seq ⟨t.val - 1, Nat.lt_of_le_of_lt (Nat.sub_le _ _) t.isLt⟩ = seq t := Fin.ext (by
      show (t.val - 1) / 4 = t.val / 4
      omega)
    rw [es] at e
    refine (congrArg (· + _) e).trans ?_
    by_cases h : n.val / 32 = q + 1
    · simp only [if_pos h, if_neg (show ¬ n.val / 32 ≤ q by omega), if_pos (show n.val / 32 ≤ q + 1 by omega), zero_add]
    · by_cases h' : n.val / 32 ≤ q
      · simp only [if_neg h, if_pos h', if_pos (show n.val / 32 ≤ q + 1 by omega), add_zero]
      · simp only [if_neg h, if_neg h', if_neg (show ¬ n.val / 32 ≤ q + 1 by omega), add_zero]

/-- At a sequence's last tile the carried sums and that tile's part together are the means of all its blocks. -/
theorem full (ht : t.val % 4 = 3) (s : Fin 2) (k n : Fin 128) :
    (outsAt0 m c (t.val - 1) (Nat.lt_of_le_of_lt (Nat.sub_le _ _) t.isLt)).2.2 (ix3 s k n) +
      (if s = 0 then gained (iblk m c 0 t) (iblk m c 2 t) (iblk m c 6 t) (grid0.coords t 1) k n
      else gained (iblk m c 1 t) (iblk m c 4 t) (iblk m c 6 t) (grid0.coords t 1) k n) = means m c s (seq t) k n := by
  rw [step, ht]
  have e := carried m c 2 ⟨t.val - 1, Nat.lt_of_le_of_lt (Nat.sub_le _ _) t.isLt⟩ (by show (t.val - 1) % 4 = 2; omega) s k n
  have es : seq ⟨t.val - 1, Nat.lt_of_le_of_lt (Nat.sub_le _ _) t.isLt⟩ = seq t := Fin.ext (by
    show (t.val - 1) / 4 = t.val / 4
    omega)
  rw [es] at e
  refine (congrArg (· + _) e).trans ?_
  have hn := n.isLt
  by_cases h : n.val / 32 = 3
  · simp only [if_pos h, if_neg (show ¬ n.val / 32 ≤ 2 by omega), zero_add]
  · simp only [if_neg h, if_pos (show n.val / 32 ≤ 2 by omega), add_zero]

/-- A summary from the means of all channels, as the kernel's weight matrix forms it. -/
theorem weighed (x : FVec Ideal S4x8192x2x64 .f32) (g w : FVec Ideal S64x64 .f32) (b : Fin 4) (o n : Fin 128) :
    ∑ k : Fin 128, ((if (hd o).val = k.val / 64 then (1 : EReal) else 0) * w (ix2 (dm k) (dm o))) * block x g b (hd k) (dm k) n =
      summary x g w b (hd o) (dm o) n := by
  refine (headed (fun d => w (ix2 d (dm o))) (fun k => block x g b (hd k) (dm k) n) (hd o)).trans ?_
  unfold summary
  refine Finset.sum_congr rfl fun d _ => ?_
  have hh := (hd o).isLt
  have e1 : hd ⟨(hd o).val * 64 + d.val, by omega⟩ = hd o := Fin.ext (by
    show ((hd o).val * 64 + d.val) / 64 = (hd o).val
    omega)
  have e2 : dm ⟨(hd o).val * 64 + d.val, by omega⟩ = d := Fin.ext (by
    show ((hd o).val * 64 + d.val) % 64 = d.val
    omega)
  rw [e1, e2]

theorem point7 (hf : t.val % 4 = 3) (o n : Fin 128) : (outsAt0 m c t.val t.isLt).1 (ix3 0 o n) =
    Cert.CompressReferenceIdeal.Read.val_main_v11 (F := Ideal) (A0 m c) (A2 m c) (A3 m c) (ix3 (seq t) o n) := by
  refine Eq.trans ?_ (v11_apply _ _ _ (seq t) o n).symm
  rw [outsAt0_B m c t (by omega)]
  dsimp only
  rw [openB7]
  refine (Finset.sum_congr rfl fun k _ => ?_).trans (weighed (A0 m c) (A2 m c) (A3 m c) (seq t) o n)
  rw [blk3]
  exact congrArg _ (full m c t hf 0 k n)

theorem point8 (hf : t.val % 4 = 3) (o n : Fin 128) : (outsAt0 m c t.val t.isLt).2.1 (ix3 0 o n) =
    Cert.CompressReferenceIdeal.Read.val_main_v23 (F := Ideal) (A1 m c) (A4 m c) (A5 m c) (ix3 (seq t) o n) := by
  refine Eq.trans ?_ (v23_apply _ _ _ (seq t) o n).symm
  rw [outsAt0_B m c t (by omega)]
  dsimp only
  rw [openB8]
  refine (Finset.sum_congr rfl fun k _ => ?_).trans (weighed (A1 m c) (A4 m c) (A5 m c) (seq t) o n)
  rw [blk5]
  exact congrArg _ (full m c t hf 1 k n)

/-- The first result array after the run. -/
theorem final7 : (dats m 0 c).arrAt 7 cfg0.N =
    Cert.CompressReferenceIdeal.Read.val_main_v11 (F := Ideal) (A0 m c) (A2 m c) (A3 m c) := by
  refine (dats m 0 c).arrAt_eq_of_covers 7 _ (by decide +kernel) fun t hf y => ?_
  blk_simp
  rw [after0_7]
  obtain ⟨a, b, rfl⟩ : ∃ (a : Fin 128) (b : Fin 128), y = ix3 0 a b := ⟨y 1, y 2, by blk_ext⟩
  refine (point7 m c t ((flush0_7 t).mp hf) a b).trans (congrArg _ ?_)
  unfold seq
  blk_ext [idx t]

/-- The second result array after the run. -/
theorem final8 : (dats m 0 c).arrAt 8 cfg0.N =
    Cert.CompressReferenceIdeal.Read.val_main_v23 (F := Ideal) (A1 m c) (A4 m c) (A5 m c) := by
  refine (dats m 0 c).arrAt_eq_of_covers 8 _ (by decide +kernel) fun t hf y => ?_
  blk_simp
  rw [after0_8]
  obtain ⟨a, b, rfl⟩ : ∃ (a : Fin 128) (b : Fin 128), y = ix3 0 a b := ⟨y 1, y 2, by blk_ext⟩
  refine (point8 m c t ((flush0_8 t).mp hf) a b).trans (congrArg _ ?_)
  unfold seq
  blk_ext [idx t]

end Cert.Proof.CM

end
-- ==== Proof.FR.RunIdeal.lean ====
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! The run of the program `FrontIdeal`: its blocks, what its body leaves in each window, the body's triple, the pipeline's run
and the frame. -/

namespace Cert.FrontIdeal.Body

open Cert.FrontIdeal Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

abbrev r0_0 : Rect S1x256x1024 := Rect.unit (s := S1x256x1024) ![0, 0, 0] S1x256x1024.size inb_S1x256x1024_S1x256x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S1024x3072 := Rect.unit (s := S1024x3072) ![0, 0] S1024x3072.size inb_S1024x3072_S1024x3072_0_0
abbrev r0_4 : Rect S1x256x512 := Rect.unit (s := S1x256x512) ![0, 0, 0] S1x256x512.size inb_S1x256x512_S1x256x512_0_0_0
abbrev r0_5 : Rect S1x256x2048 := Rect.unit (s := S1x256x2048) ![0, 0, 0] S1x256x2048.size inb_S1x256x2048_S1x256x2048_0_0_0
abbrev r0_6 : Rect S1312x1024 := Rect.unit (s := S1312x1024) ![0, 0] S1312x1024.size inb_S1312x1024_S1312x1024_0_0
abbrev r0_7 : Rect S32x256 := Rect.unit (s := S32x256) ![0, 0] S32x256.size inb_S32x256_S32x256_0_0
abbrev r0_8 : Rect S64x256 := Rect.unit (s := S64x256) ![0, 0] S64x256.size inb_S64x256_S64x256_0_0
abbrev r0_9 : Rect S1x512x256 := Rect.unit (s := S1x512x256) ![0, 0, 0] S1x64x256.size inb_S1x512x256_S1x64x256_0_0_0
abbrev r0_10 : Rect S1x512x256 := Rect.unit (s := S1x512x256) ![0, 64, 0] S1x64x256.size inb_S1x512x256_S1x64x256_0_64_0
abbrev r0_11 : Rect S1x512x256 := Rect.unit (s := S1x512x256) ![0, 128, 0] S1x64x256.size inb_S1x512x256_S1x64x256_0_128_0
abbrev r0_12 : Rect S1x512x256 := Rect.unit (s := S1x512x256) ![0, 192, 0] S1x64x256.size inb_S1x512x256_S1x64x256_0_192_0
abbrev r0_13 : Rect S1x512x256 := Rect.unit (s := S1x512x256) ![0, 256, 0] S1x64x256.size inb_S1x512x256_S1x64x256_0_256_0
abbrev r0_14 : Rect S1x512x256 := Rect.unit (s := S1x512x256) ![0, 320, 0] S1x64x256.size inb_S1x512x256_S1x64x256_0_320_0
abbrev r0_15 : Rect S1x512x256 := Rect.unit (s := S1x512x256) ![0, 384, 0] S1x64x256.size inb_S1x512x256_S1x64x256_0_384_0
abbrev r0_16 : Rect S1x512x256 := Rect.unit (s := S1x512x256) ![0, 448, 0] S1x64x256.size inb_S1x512x256_S1x64x256_0_448_0
abbrev r0_17 : Rect S3x64x256 := Rect.unit (s := S3x64x256) ![1, 0, 0] S1x64x256.size inb_S3x64x256_S1x64x256_1_0_0
abbrev r0_18 : Rect S3x64x256 := Rect.unit (s := S3x64x256) ![2, 0, 0] S1x64x256.size inb_S3x64x256_S1x64x256_2_0_0
abbrev r0_19 : Rect S3x64x256 := Rect.unit (s := S3x64x256) ![0, 0, 0] S1x64x256.size inb_S3x64x256_S1x64x256_0_0_0
abbrev r0_20 : Rect S1x128x256 := Rect.unit (s := S1x128x256) ![0, 0, 0] S1x128x256.size inb_S1x128x256_S1x128x256_0_0_0
abbrev r0_21 : Rect S1x256x144 := Rect.unit (s := S1x256x144) ![0, 0, 0] S1x256x144.size inb_S1x256x144_S1x256x144_0_0_0
abbrev r0_22 : Rect S1x256x128 := Rect.unit (s := S1x256x128) ![0, 0, 0] S1x256x128.size inb_S1x256x128_S1x256x128_0_0_0
abbrev r0_23 : Rect S1x160x256 := Rect.unit (s := S1x160x256) ![0, 0, 0] S1x160x256.size inb_S1x160x256_S1x160x256_0_0_0
abbrev r0_24 : Rect S1x32x256 := Rect.unit (s := S1x32x256) ![0, 0, 0] S1x32x256.size inb_S1x32x256_S1x32x256_0_0_0

/-! ## What the body leaves in each output window's buffer -/

/-! ### Values of the body that the stores' payloads, spelt out, would write more than once

    Each is a vector the body binds (often a part call's result), stated over the input windows' blocks and
    numbered on from the skeleton's payload functions (`k0_pay79` …, after `k0_pay78`), so that
    `out0_W` and the values after it name it instead of spelling it out (`unfold_out out0_W` opens a canon
    with them, `unfold_payloads` opens them with the payloads); the comment after each is the printed function's
    name for the value (a count appended where that name is bound again). -/

def k0_pay79 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S256x1024 .bf16 :=
  k0_pay2 (View.ld x0 r0_0) (View.ld x3 r0_1) (View.ld x2 r0_2) (View.ld x1 r0_2)
def k0_pay80 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S1312x256 .f32 :=
  k0_pay6 (k0_pay79 i x0 x1 x2 x3 x4 x5 x6 x7 x8 x9) (View.ld x5 r0_6)
def k0_pay81 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S32x256 .f32 :=
  k0_pay7 (View.ld x8 r0_7)
def k0_pay82 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S32x256 .f32 :=
  k0_pay8 (View.ld x9 r0_7)
def k0_pay83 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S64x256 .f32 :=
  k0_pay9 (View.ld x6 r0_8)
def k0_pay84 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S64x256 .f32 :=
  k0_pay20 (k0_pay80 i x0 x1 x2 x3 x4 x5 x6 x7 x8 x9)
def k0_pay85 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S1x256 .f32 :=
  k0_pay21 (k0_pay80 i x0 x1 x2 x3 x4 x5 x6 x7 x8 x9)
def k0_pay86 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S64x256 .f32 :=
  k0_pay36 (k0_pay80 i x0 x1 x2 x3 x4 x5 x6 x7 x8 x9)
def k0_pay87 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S128x256 .f32 :=
  k0_pay53 (k0_pay81 i x0 x1 x2 x3 x4 x5 x6 x7 x8 x9) (k0_pay82 i x0 x1 x2 x3 x4 x5 x6 x7 x8 x9) (k0_pay47 (k0_pay80 i x0 x1 x2 x3 x4 x5 x6 x7 x8 x9) (k0_pay81 i x0 x1 x2 x3 x4 x5 x6 x7 x8 x9) (k0_pay82 i x0 x1 x2 x3 x4 x5 x6 x7 x8 x9) (View.ld x7 r0_17)) (k0_pay49 (k0_pay80 i x0 x1 x2 x3 x4 x5 x6 x7 x8 x9) (View.ld x7 r0_17)) (k0_pay50 (k0_pay80 i x0 x1 x2 x3 x4 x5 x6 x7 x8 x9) (View.ld x7 r0_17)) (k0_pay51 (k0_pay80 i x0 x1 x2 x3 x4 x5 x6 x7 x8 x9) (k0_pay81 i x0 x1 x2 x3 x4 x5 x6 x7 x8 x9) (View.ld x7 r0_17)) (k0_pay52 (k0_pay80 i x0 x1 x2 x3 x4 x5 x6 x7 x8 x9) (k0_pay82 i x0 x1 x2 x3 x4 x5 x6 x7 x8 x9) (View.ld x7 r0_17))
def k0_pay88 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S128x256 .f32 :=
  k0_pay54 (k0_pay80 i x0 x1 x2 x3 x4 x5 x6 x7 x8 x9)
def k0_pay89 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S128x256 .f32 :=
  k0_pay63 (k0_pay56 (k0_pay80 i x0 x1 x2 x3 x4 x5 x6 x7 x8 x9) (k0_pay81 i x0 x1 x2 x3 x4 x5 x6 x7 x8 x9) (k0_pay82 i x0 x1 x2 x3 x4 x5 x6 x7 x8 x9) (View.ld x7 r0_18)) (k0_pay60 (k0_pay80 i x0 x1 x2 x3 x4 x5 x6 x7 x8 x9) (k0_pay81 i x0 x1 x2 x3 x4 x5 x6 x7 x8 x9) (k0_pay82 i x0 x1 x2 x3 x4 x5 x6 x7 x8 x9) (View.ld x7 r0_18)) (k0_pay61 (k0_pay80 i x0 x1 x2 x3 x4 x5 x6 x7 x8 x9) (k0_pay81 i x0 x1 x2 x3 x4 x5 x6 x7 x8 x9) (View.ld x7 r0_18)) (k0_pay62 (k0_pay80 i x0 x1 x2 x3 x4 x5 x6 x7 x8 x9) (k0_pay82 i x0 x1 x2 x3 x4 x5 x6 x7 x8 x9) (View.ld x7 r0_18))
def k0_pay90 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : FVec F S128x256 .f32 :=
  k0_pay64 (k0_pay80 i x0 x1 x2 x3 x4 x5 x6 x7 x8 x9)

def out0_10 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x256x512 .f32 :=
  View.canon [⟨r0_4, k0_pay4 (View.ld x0 r0_0) (View.ld x3 r0_1) (View.ld x2 r0_2) (View.ld x1 r0_2) (View.ld x4 r0_3)⟩]

theorem cover0_10 (p0 : Vec F S1x256x512 .f32) (y : S1x256x512.Idx) :
    ∃ pc ∈ ([⟨r0_4, p0⟩] : List (View.Piece (Elt F) S1x256x512 .f32)), y ∈ pc.1.set :=
  View.cover_of_tiled [⟨r0_4, p0⟩] S1x256x512.size (by rfl) y

def out0_11 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x256x2048 .f32 :=
  View.canon [⟨r0_5, k0_pay5 (k0_pay3 (View.ld x0 r0_0) (View.ld x3 r0_1) (View.ld x2 r0_2) (View.ld x1 r0_2) (View.ld x4 r0_3))⟩]

theorem cover0_11 (p0 : Vec F S1x256x2048 .f32) (y : S1x256x2048.Idx) :
    ∃ pc ∈ ([⟨r0_5, p0⟩] : List (View.Piece (Elt F) S1x256x2048 .f32)), y ∈ pc.1.set :=
  View.cover_of_tiled [⟨r0_5, p0⟩] S1x256x2048.size (by rfl) y

def out0_12 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x512x256 .bf16 :=
  View.canon [⟨r0_16, k0_pay41 (k0_pay80 i x0 x1 x2 x3 x4 x5 x6 x7 x8 x9) (k0_pay83 i x0 x1 x2 x3 x4 x5 x6 x7 x8 x9)⟩,
    ⟨r0_15, k0_pay38 (k0_pay83 i x0 x1 x2 x3 x4 x5 x6 x7 x8 x9) (k0_pay86 i x0 x1 x2 x3 x4 x5 x6 x7 x8 x9)⟩,
    ⟨r0_14, k0_pay34 (k0_pay80 i x0 x1 x2 x3 x4 x5 x6 x7 x8 x9) (k0_pay83 i x0 x1 x2 x3 x4 x5 x6 x7 x8 x9)⟩,
    ⟨r0_13, k0_pay30 (k0_pay80 i x0 x1 x2 x3 x4 x5 x6 x7 x8 x9) (k0_pay83 i x0 x1 x2 x3 x4 x5 x6 x7 x8 x9)⟩,
    ⟨r0_12, k0_pay27 (k0_pay26 (k0_pay80 i x0 x1 x2 x3 x4 x5 x6 x7 x8 x9) (k0_pay83 i x0 x1 x2 x3 x4 x5 x6 x7 x8 x9))⟩,
    ⟨r0_11, k0_pay23 (k0_pay83 i x0 x1 x2 x3 x4 x5 x6 x7 x8 x9) (k0_pay84 i x0 x1 x2 x3 x4 x5 x6 x7 x8 x9) (k0_pay85 i x0 x1 x2 x3 x4 x5 x6 x7 x8 x9) (Scalar.ofBits .f32 0x42800000#32)⟩,
    ⟨r0_10, k0_pay18 (k0_pay80 i x0 x1 x2 x3 x4 x5 x6 x7 x8 x9) (k0_pay83 i x0 x1 x2 x3 x4 x5 x6 x7 x8 x9)⟩,
    ⟨r0_9, k0_pay11 (k0_pay79 i x0 x1 x2 x3 x4 x5 x6 x7 x8 x9) (View.ld x5 r0_6) (View.ld x6 r0_8)⟩]

theorem cover0_12 (p0 : Vec F S1x64x256 .bf16) (p1 : Vec F S1x64x256 .bf16) (p2 : Vec F S1x64x256 .bf16) (p3 : Vec F S1x64x256 .bf16) (p4 : Vec F S1x64x256 .bf16) (p5 : Vec F S1x64x256 .bf16) (p6 : Vec F S1x64x256 .bf16) (p7 : Vec F S1x64x256 .bf16) (y : S1x512x256.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩] : List (View.Piece (Elt F) S1x512x256 .bf16)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩] S1x64x256.size (by rfl) y

def out0_13 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x512x256 .bf16 :=
  View.canon [⟨r0_16, k0_pay45 (k0_pay81 i x0 x1 x2 x3 x4 x5 x6 x7 x8 x9) (k0_pay82 i x0 x1 x2 x3 x4 x5 x6 x7 x8 x9) (k0_pay42 (k0_pay80 i x0 x1 x2 x3 x4 x5 x6 x7 x8 x9) (k0_pay83 i x0 x1 x2 x3 x4 x5 x6 x7 x8 x9)) (k0_pay43 (k0_pay80 i x0 x1 x2 x3 x4 x5 x6 x7 x8 x9) (k0_pay83 i x0 x1 x2 x3 x4 x5 x6 x7 x8 x9)) (k0_pay44 (k0_pay80 i x0 x1 x2 x3 x4 x5 x6 x7 x8 x9) (k0_pay81 i x0 x1 x2 x3 x4 x5 x6 x7 x8 x9) (k0_pay82 i x0 x1 x2 x3 x4 x5 x6 x7 x8 x9) (k0_pay83 i x0 x1 x2 x3 x4 x5 x6 x7 x8 x9))⟩,
    ⟨r0_15, k0_pay39 (k0_pay81 i x0 x1 x2 x3 x4 x5 x6 x7 x8 x9) (k0_pay82 i x0 x1 x2 x3 x4 x5 x6 x7 x8 x9) (k0_pay83 i x0 x1 x2 x3 x4 x5 x6 x7 x8 x9) (k0_pay86 i x0 x1 x2 x3 x4 x5 x6 x7 x8 x9)⟩,
    ⟨r0_14, k0_pay35 (k0_pay80 i x0 x1 x2 x3 x4 x5 x6 x7 x8 x9) (k0_pay81 i x0 x1 x2 x3 x4 x5 x6 x7 x8 x9) (k0_pay82 i x0 x1 x2 x3 x4 x5 x6 x7 x8 x9) (k0_pay83 i x0 x1 x2 x3 x4 x5 x6 x7 x8 x9)⟩,
    ⟨r0_13, k0_pay32 (k0_pay31 (k0_pay80 i x0 x1 x2 x3 x4 x5 x6 x7 x8 x9) (k0_pay81 i x0 x1 x2 x3 x4 x5 x6 x7 x8 x9) (k0_pay82 i x0 x1 x2 x3 x4 x5 x6 x7 x8 x9) (k0_pay83 i x0 x1 x2 x3 x4 x5 x6 x7 x8 x9))⟩,
    ⟨r0_12, k0_pay28 (k0_pay81 i x0 x1 x2 x3 x4 x5 x6 x7 x8 x9) (k0_pay82 i x0 x1 x2 x3 x4 x5 x6 x7 x8 x9) (k0_pay25 (k0_pay80 i x0 x1 x2 x3 x4 x5 x6 x7 x8 x9) (k0_pay83 i x0 x1 x2 x3 x4 x5 x6 x7 x8 x9))⟩,
    ⟨r0_11, k0_pay24 (k0_pay81 i x0 x1 x2 x3 x4 x5 x6 x7 x8 x9) (k0_pay82 i x0 x1 x2 x3 x4 x5 x6 x7 x8 x9) (k0_pay83 i x0 x1 x2 x3 x4 x5 x6 x7 x8 x9) (k0_pay84 i x0 x1 x2 x3 x4 x5 x6 x7 x8 x9) (k0_pay85 i x0 x1 x2 x3 x4 x5 x6 x7 x8 x9) (Scalar.ofBits .f32 0x42800000#32)⟩,
    ⟨r0_10, k0_pay19 (k0_pay80 i x0 x1 x2 x3 x4 x5 x6 x7 x8 x9) (k0_pay81 i x0 x1 x2 x3 x4 x5 x6 x7 x8 x9) (k0_pay82 i x0 x1 x2 x3 x4 x5 x6 x7 x8 x9) (k0_pay83 i x0 x1 x2 x3 x4 x5 x6 x7 x8 x9)⟩,
    ⟨r0_9, k0_pay16 (k0_pay82 i x0 x1 x2 x3 x4 x5 x6 x7 x8 x9) (k0_pay12 (k0_pay79 i x0 x1 x2 x3 x4 x5 x6 x7 x8 x9) (View.ld x5 r0_6) (View.ld x6 r0_8)) (k0_pay14 (k0_pay79 i x0 x1 x2 x3 x4 x5 x6 x7 x8 x9) (View.ld x5 r0_6) (View.ld x8 r0_7) (View.ld x9 r0_7) (View.ld x6 r0_8)) (k0_pay15 (k0_pay79 i x0 x1 x2 x3 x4 x5 x6 x7 x8 x9) (View.ld x5 r0_6) (View.ld x8 r0_7) (View.ld x6 r0_8))⟩]

theorem cover0_13 (p0 : Vec F S1x64x256 .bf16) (p1 : Vec F S1x64x256 .bf16) (p2 : Vec F S1x64x256 .bf16) (p3 : Vec F S1x64x256 .bf16) (p4 : Vec F S1x64x256 .bf16) (p5 : Vec F S1x64x256 .bf16) (p6 : Vec F S1x64x256 .bf16) (p7 : Vec F S1x64x256 .bf16) (y : S1x512x256.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩] : List (View.Piece (Elt F) S1x512x256 .bf16)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩] S1x64x256.size (by rfl) y

def out0_14 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x128x256 .f32 :=
  View.canon [⟨r0_20, k0_pay65 (k0_pay80 i x0 x1 x2 x3 x4 x5 x6 x7 x8 x9) (View.ld x7 r0_19)⟩]

theorem cover0_14 (p0 : Vec F S1x128x256 .f32) (y : S1x128x256.Idx) :
    ∃ pc ∈ ([⟨r0_20, p0⟩] : List (View.Piece (Elt F) S1x128x256 .f32)), y ∈ pc.1.set :=
  View.cover_of_tiled [⟨r0_20, p0⟩] S1x128x256.size (by rfl) y

def out0_15 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x128x256 .f32 :=
  View.canon [⟨r0_20, k0_pay66 (k0_pay80 i x0 x1 x2 x3 x4 x5 x6 x7 x8 x9)⟩]

theorem cover0_15 (p0 : Vec F S1x128x256 .f32) (y : S1x128x256.Idx) :
    ∃ pc ∈ ([⟨r0_20, p0⟩] : List (View.Piece (Elt F) S1x128x256 .f32)), y ∈ pc.1.set :=
  View.cover_of_tiled [⟨r0_20, p0⟩] S1x128x256.size (by rfl) y

def out0_16 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x128x256 .f32 :=
  View.canon [⟨r0_20, k0_pay67 (k0_pay87 i x0 x1 x2 x3 x4 x5 x6 x7 x8 x9)⟩]

theorem cover0_16 (p0 : Vec F S1x128x256 .f32) (y : S1x128x256.Idx) :
    ∃ pc ∈ ([⟨r0_20, p0⟩] : List (View.Piece (Elt F) S1x128x256 .f32)), y ∈ pc.1.set :=
  View.cover_of_tiled [⟨r0_20, p0⟩] S1x128x256.size (by rfl) y

def out0_17 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x128x256 .f32 :=
  View.canon [⟨r0_20, k0_pay68 (k0_pay88 i x0 x1 x2 x3 x4 x5 x6 x7 x8 x9)⟩]

theorem cover0_17 (p0 : Vec F S1x128x256 .f32) (y : S1x128x256.Idx) :
    ∃ pc ∈ ([⟨r0_20, p0⟩] : List (View.Piece (Elt F) S1x128x256 .f32)), y ∈ pc.1.set :=
  View.cover_of_tiled [⟨r0_20, p0⟩] S1x128x256.size (by rfl) y

def out0_18 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x128x256 .f32 :=
  View.canon [⟨r0_20, k0_pay69 (k0_pay89 i x0 x1 x2 x3 x4 x5 x6 x7 x8 x9)⟩]

theorem cover0_18 (p0 : Vec F S1x128x256 .f32) (y : S1x128x256.Idx) :
    ∃ pc ∈ ([⟨r0_20, p0⟩] : List (View.Piece (Elt F) S1x128x256 .f32)), y ∈ pc.1.set :=
  View.cover_of_tiled [⟨r0_20, p0⟩] S1x128x256.size (by rfl) y

def out0_19 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x128x256 .f32 :=
  View.canon [⟨r0_20, k0_pay70 (k0_pay90 i x0 x1 x2 x3 x4 x5 x6 x7 x8 x9)⟩]

theorem cover0_19 (p0 : Vec F S1x128x256 .f32) (y : S1x128x256.Idx) :
    ∃ pc ∈ ([⟨r0_20, p0⟩] : List (View.Piece (Elt F) S1x128x256 .f32)), y ∈ pc.1.set :=
  View.cover_of_tiled [⟨r0_20, p0⟩] S1x128x256.size (by rfl) y

def out0_20 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x256x144 .bf16 :=
  View.canon [⟨r0_21, k0_pay73 (k0_pay71 (BitVec.ofNat 32 (i 1).val)) (k0_pay72 (k0_pay87 i x0 x1 x2 x3 x4 x5 x6 x7 x8 x9))⟩]

theorem cover0_20 (p0 : Vec F S1x256x144 .bf16) (y : S1x256x144.Idx) :
    ∃ pc ∈ ([⟨r0_21, p0⟩] : List (View.Piece (Elt F) S1x256x144 .bf16)), y ∈ pc.1.set :=
  View.cover_of_tiled [⟨r0_21, p0⟩] S1x256x144.size (by rfl) y

def out0_21 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x256x128 .bf16 :=
  View.canon [⟨r0_22, k0_pay74 (k0_pay89 i x0 x1 x2 x3 x4 x5 x6 x7 x8 x9)⟩]

theorem cover0_21 (p0 : Vec F S1x256x128 .bf16) (y : S1x256x128.Idx) :
    ∃ pc ∈ ([⟨r0_22, p0⟩] : List (View.Piece (Elt F) S1x256x128 .bf16)), y ∈ pc.1.set :=
  View.cover_of_tiled [⟨r0_22, p0⟩] S1x256x128.size (by rfl) y

def out0_22 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x160x256 .bf16 :=
  View.canon [⟨r0_23, k0_pay76 (k0_pay88 i x0 x1 x2 x3 x4 x5 x6 x7 x8 x9)⟩]

theorem cover0_22 (p0 : Vec F S1x160x256 .bf16) (y : S1x160x256.Idx) :
    ∃ pc ∈ ([⟨r0_23, p0⟩] : List (View.Piece (Elt F) S1x160x256 .bf16)), y ∈ pc.1.set :=
  View.cover_of_tiled [⟨r0_23, p0⟩] S1x160x256.size (by rfl) y

def out0_23 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x160x256 .bf16 :=
  View.canon [⟨r0_23, k0_pay77 (k0_pay90 i x0 x1 x2 x3 x4 x5 x6 x7 x8 x9)⟩]

theorem cover0_23 (p0 : Vec F S1x160x256 .bf16) (y : S1x160x256.Idx) :
    ∃ pc ∈ ([⟨r0_23, p0⟩] : List (View.Piece (Elt F) S1x160x256 .bf16)), y ∈ pc.1.set :=
  View.cover_of_tiled [⟨r0_23, p0⟩] S1x160x256.size (by rfl) y

def out0_24 (i : grid0.Coords) (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) : Vec F S1x32x256 .f32 :=
  View.canon [⟨r0_24, k0_pay1 (k0_pay78 (k0_pay80 i x0 x1 x2 x3 x4 x5 x6 x7 x8 x9))⟩]

theorem cover0_24 (p0 : Vec F S1x32x256 .f32) (y : S1x32x256.Idx) :
    ∃ pc ∈ ([⟨r0_24, p0⟩] : List (View.Piece (Elt F) S1x32x256 .f32)), y ∈ pc.1.set :=
  View.cover_of_tiled [⟨r0_24, p0⟩] S1x32x256.size (by rfl) y

/-! ## The body's triple -/

set_option maxHeartbeats 1000000 in
theorem sound_kernel (c : Dev nD) (E : Set ℕ) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1312x1024 .bf16) (harg7 : arg7.IsWhole) (arg8 : Memref sig .tc .vmem S64x256 .f32) (harg8 : arg8.IsWhole) (arg9 : Memref sig .tc .vmem S3x64x256 .f32) (harg9 : arg9.IsWhole) (arg10 : Memref sig .tc .vmem S32x256 .f32) (harg10 : arg10.IsWhole) (arg11 : Memref sig .tc .vmem S32x256 .f32) (harg11 : arg11.IsWhole) (arg12 : Memref sig .tc .vmem S1x256x512 .f32) (harg12 : arg12.IsWhole) (arg13 : Memref sig .tc .vmem S1x256x2048 .f32) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S1x128x256 .f32) (harg16 : arg16.IsWhole) (arg17 : Memref sig .tc .vmem S1x128x256 .f32) (harg17 : arg17.IsWhole) (arg18 : Memref sig .tc .vmem S1x128x256 .f32) (harg18 : arg18.IsWhole) (arg19 : Memref sig .tc .vmem S1x128x256 .f32) (harg19 : arg19.IsWhole) (arg20 : Memref sig .tc .vmem S1x128x256 .f32) (harg20 : arg20.IsWhole) (arg21 : Memref sig .tc .vmem S1x128x256 .f32) (harg21 : arg21.IsWhole) (arg22 : Memref sig .tc .vmem S1x256x144 .bf16) (harg22 : arg22.IsWhole) (arg23 : Memref sig .tc .vmem S1x256x128 .bf16) (harg23 : arg23.IsWhole) (arg24 : Memref sig .tc .vmem S1x160x256 .bf16) (harg24 : arg24.IsWhole) (arg25 : Memref sig .tc .vmem S1x160x256 .bf16) (harg25 : arg25.IsWhole) (arg26 : Memref sig .tc .vmem S1x32x256 .f32) (harg26 : arg26.IsWhole)
    (x0 : Vec F S1x256x1024 .f32) (x1 : Vec F S1x1x1024 .f32) (x2 : Vec F S1x1x1024 .f32) (x3 : Vec F S1x1024 .f32) (x4 : Vec F S1024x3072 .bf16) (x5 : Vec F S1312x1024 .bf16) (x6 : Vec F S64x256 .f32) (x7 : Vec F S3x64x256 .f32) (x8 : Vec F S32x256 .f32) (x9 : Vec F S32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out0_10 i x0 x1 x2 x3 x4 x5 x6 x7 x8 x9) ∗ owns (c : Thread nD τ) arg13 fullShare (out0_11 i x0 x1 x2 x3 x4 x5 x6 x7 x8 x9) ∗ owns (c : Thread nD τ) arg14 fullShare (out0_12 i x0 x1 x2 x3 x4 x5 x6 x7 x8 x9) ∗ owns (c : Thread nD τ) arg15 fullShare (out0_13 i x0 x1 x2 x3 x4 x5 x6 x7 x8 x9) ∗ owns (c : Thread nD τ) arg16 fullShare (out0_14 i x0 x1 x2 x3 x4 x5 x6 x7 x8 x9) ∗ owns (c : Thread nD τ) arg17 fullShare (out0_15 i x0 x1 x2 x3 x4 x5 x6 x7 x8 x9) ∗ owns (c : Thread nD τ) arg18 fullShare (out0_16 i x0 x1 x2 x3 x4 x5 x6 x7 x8 x9) ∗ owns (c : Thread nD τ) arg19 fullShare (out0_17 i x0 x1 x2 x3 x4 x5 x6 x7 x8 x9) ∗ owns (c : Thread nD τ) arg20 fullShare (out0_18 i x0 x1 x2 x3 x4 x5 x6 x7 x8 x9) ∗ owns (c : Thread nD τ) arg21 fullShare (out0_19 i x0 x1 x2 x3 x4 x5 x6 x7 x8 x9) ∗ owns (c : Thread nD τ) arg22 fullShare (out0_20 i x0 x1 x2 x3 x4 x5 x6 x7 x8 x9) ∗ owns (c : Thread nD τ) arg23 fullShare (out0_21 i x0 x1 x2 x3 x4 x5 x6 x7 x8 x9) ∗ owns (c : Thread nD τ) arg24 fullShare (out0_22 i x0 x1 x2 x3 x4 x5 x6 x7 x8 x9) ∗ owns (c : Thread nD τ) arg25 fullShare (out0_23 i x0 x1 x2 x3 x4 x5 x6 x7 x8 x9) ∗ owns (c : Thread nD τ) arg26 fullShare (out0_24 i x0 x1 x2 x3 x4 x5 x6 x7 x8 x9)) -∗ K ⟨⟩))
      ⊢ wp frame (wpE (defs₀ (F := F)) Variants.none c none) E (cc0_front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_front_eq_skeleton]; unfold cc0_front_skel
  simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _ _ _ _ _ _ _)).trans ?_
    rfl
  isplitl [H13]
  · iexists _; isplitr
    swap; · iexact H13
    ipureintro
    refine (View.read_writes_eq_canon _ _ _ (cover0_13 _ _ _ _ _ _ _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => out0_13 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out0_14 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out0_15 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_13 (c : Dev nD) (t : Fin cfg0.N) : (dats m 0 c).after 13 t = out0_13 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_15 (c : Dev nD) (t : Fin cfg0.N) : (dats m 0 c).after 15 t = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FrontIdeal.Body

end
-- ==== Proof.FR.Blk.lean ====
module

public import proofs.«01_k».proof.Proof.FR.RunIdeal
public import proofs.«01_k».proof.Proof.Gen.FrontReferenceIdeal.Read
public import Idealize.ShloMosaic.Lib.Pipeline.ValueKit
public import Idealize.ShloMosaic.Lib.Claim
public import Idealize.ShloMosaic.Lib.Pointwise

@[expose] public section

set_option maxRecDepth 16384

noncomputable section

/-! The kernel's input blocks read at an entry. -/

namespace Cert.Proof.FR

open Idealize.ShloMosaic Idealize.ShloMosaic.TcCoe Cert.FrontIdeal Cert.FrontIdeal.Gen Cert.FrontIdeal.Body
open Idealize.ShloMosaic.Pipeline (Dat)

variable (m : (ℓ : Loc nD τ sig) → Buf (Elt Ideal) ℓ)

/-- Every window's block index at point `t`: 32 token tiles for each of 4 sequences. -/
theorem idx : ∀ t : Fin cfg0.N, win0_0.index t = ![t.val / 32, t.val % 32, 0] ∧ win0_1.index t = ![t.val / 32, 0, 0] ∧
    win0_2.index t = ![t.val / 32, 0, 1] ∧ win0_3.index t = ![0, 0] ∧ win0_4.index t = ![0, 0] ∧ win0_5.index t = ![0, 0] ∧
    win0_6.index t = ![0, 0] ∧ win0_7.index t = ![0, 0, 0] ∧ win0_8.index t = ![0, t.val % 32] ∧
    win0_9.index t = ![0, t.val % 32] :=
  (by decide +kernel : ∀ t : Fin grid0.N, _)

/-- Every result window's block index at point `t`. -/
theorem oidx : ∀ t : Fin cfg0.N, win0_10.index t = ![t.val / 32, t.val % 32, 0] ∧ win0_11.index t = ![t.val / 32, t.val % 32, 0] ∧
    win0_12.index t = ![t.val / 32, 0, t.val % 32] ∧ win0_13.index t = ![t.val / 32, 0, t.val % 32] ∧
    win0_14.index t = ![t.val / 32, 0, t.val % 32] ∧ win0_15.index t = ![t.val / 32, 0, t.val % 32] ∧
    win0_16.index t = ![t.val / 32, 0, t.val % 32] ∧ win0_17.index t = ![t.val / 32, 0, t.val % 32] ∧
    win0_20.index t = ![t.val / 32, t.val % 32, 0] ∧ win0_21.index t = ![t.val / 32, t.val % 32, 0] ∧
    win0_22.index t = ![t.val / 32, 0, t.val % 32] ∧ win0_23.index t = ![t.val / 32, 0, t.val % 32] ∧
    win0_24.index t = ![t.val / 32, 0, t.val % 32] :=
  (by decide +kernel : ∀ t : Fin grid0.N, _)

/-- The sequence of grid point `t`. -/
def seq (t : Fin cfg0.N) : Fin 4 := ⟨t.val / 32, by have h : t.val < 128 := t.isLt; omega⟩

/-- The token at row `r` of grid point `t`'s tile. -/
def tok (t : Fin cfg0.N) (r : Fin 256) : Fin 8192 := ⟨t.val % 32 * 256 + r.val, by have := r.isLt; omega⟩

variable (c : Dev nD) (t : Fin cfg0.N)

abbrev A0 : (⟨S4x8192x1024, .f32⟩ : BufTy).Contents (Elt Ideal) := m ((c : Thread nD τ).loc main_arg0)
abbrev A1 : (⟨S4x6144, .f32⟩ : BufTy).Contents (Elt Ideal) := m ((c : Thread nD τ).loc main_arg1)
abbrev A2 : (⟨S1024, .f32⟩ : BufTy).Contents (Elt Ideal) := m ((c : Thread nD τ).loc main_arg2)
abbrev A3 : (⟨S1024x4376, .f32⟩ : BufTy).Contents (Elt Ideal) := m ((c : Thread nD τ).loc main_arg3)
abbrev A4 : (⟨S64, .f32⟩ : BufTy).Contents (Elt Ideal) := m ((c : Thread nD τ).loc main_arg4)
abbrev A5 : (⟨S3x64, .f32⟩ : BufTy).Contents (Elt Ideal) := m ((c : Thread nD τ).loc main_arg5)

theorem blk0 (r : Fin 256) (k : Fin 1024) : iblk m c 0 t (ix3 0 r k) = A0 m c (ix3 (seq t) (tok t r) k) := by
  unfold seq tok
  blk_ext [iblk, V, idx t]

theorem blk1 (k : Fin 1024) : iblk m c 1 t (ix3 0 0 k) = A1 m c (ix2 (seq t) ⟨k.val, by omega⟩) := by
  unfold seq
  blk_simp [iblk, idx t]
  entry_read
  pointwise
  blk_ext [idx t]

theorem blk2 (k : Fin 1024) : iblk m c 2 t (ix3 0 0 k) = A1 m c (ix2 (seq t) ⟨1024 + k.val, by omega⟩) := by
  unfold seq
  blk_simp [iblk, idx t]
  entry_read
  pointwise
  blk_ext [idx t]

theorem blk3 (k : Fin 1024) : iblk m c 3 t (ix2 0 k) = A2 m c (ix1 k) := by
  blk_simp [iblk, idx t]
  entry_read
  pointwise
  blk_ext [idx t]

/-- The weights of the gated unit and of the outer gates, side by side. -/
theorem wn (w : FVec Ideal S1024x4376 .f32) (k : Fin 1024) (n : Fin 3072) :
    truncf (F := Ideal) .bf16 (concatenate S1024x3072 1
      [⟨S1024x1024, extractStridedSlice S1024x1024 ![0, 0] w slices_S1024x4376_S1024x1024_0_0⟩,
        ⟨S1024x2048, extractStridedSlice S1024x2048 ![0, 2328] w slices_S1024x4376_S1024x2048_0_2328⟩]
      concatenates_S1024x1024_S1024x2048_S1024x3072_d1) bitsLt_bf16_f32 (ix2 k n) =
      if h : n.val < 1024 then w (ix2 k ⟨n.val, by omega⟩) else w (ix2 k ⟨2328 + (n.val - 1024), by omega⟩) := by
  pointwise

theorem blk4 (k : Fin 1024) (n : Fin 3072) : iblk m c 4 t (ix2 k n) = if h : n.val < 1024 then A3 m c (ix2 k ⟨n.val, by omega⟩)
    else A3 m c (ix2 k ⟨2328 + (n.val - 1024), by omega⟩) := by
  blk_simp [iblk, idx t]
  entry_read
  refine Eq.trans ?_ (wn (A3 m c) k n)
  blk_ext [idx t]

/-- The heads' weights, transposed, with eight rows of zeros. -/
theorem wt (w : FVec Ideal S1024x4376 .f32) (k : Fin 1024) (j : Fin 1312) :
    truncf (F := Ideal) .bf16 (transpose S1312x1024 [1, 0] (concatenate S1024x1312 1
      [⟨S1024x1304, extractStridedSlice S1024x1304 ![0, 1024] w slices_S1024x4376_S1024x1304_0_1024⟩,
        ⟨S1024x8, broadcastInDim S1024x8 ![] bcast_S_S1024x8 (constant S_ FTy.f32 0#32)⟩]
      concatenates_S1024x1304_S1024x8_S1024x1312_d1) transposes_S1024x1312_S1312x1024_1_0) bitsLt_bf16_f32 (ix2 j k) =
      if h : j.val < 1304 then w (ix2 k ⟨1024 + j.val, by omega⟩) else (0 : EReal) := by
  pointwise

theorem blk5 (j : Fin 1312) (k : Fin 1024) : iblk m c 5 t (ix2 j k) =
    if h : j.val < 1304 then A3 m c (ix2 k ⟨1024 + j.val, by omega⟩) else (0 : EReal) := by
  blk_simp [iblk, idx t]
  entry_read
  refine Eq.trans ?_ (wt (A3 m c) k j)
  blk_ext [idx t]

theorem blk6 (d : Fin 64) (r : Fin 256) : iblk m c 6 t (ix2 d r) = A4 m c (ix1 d) := by
  blk_simp [iblk, idx t]
  entry_read
  pointwise
  blk_ext [idx t]

theorem blk7 (j : Fin 3) (d : Fin 64) (r : Fin 256) : iblk m c 7 t (ix3 j d r) = A5 m c (ix2 j d) := by
  blk_simp [iblk, idx t]
  entry_read
  pointwise
  blk_ext [idx t]

/-- A table of angles, transposed. -/
theorem angles (w : FVec Ideal S8192x32 .f32) (e : Fin 32) (p : Fin 8192) :
    transpose S32x8192 [1, 0] w transposes_S8192x32_S32x8192_1_0 (ix2 e p) = w (ix2 p e) := by
  pointwise

theorem blk8 (e : Fin 32) (r : Fin 256) : iblk m c 8 t (ix2 e r) =
    Cert.FrontReferenceIdeal.Read.val_main_v105 (F := Ideal) (ix2 (tok t r) e) := by
  blk_simp [iblk, idx t]
  entry_read
  refine Eq.trans ?_ (angles (Cert.FrontReferenceIdeal.Read.val_main_v105 (F := Ideal)) e (tok t r))
  show transpose S32x8192 [1, 0] (Cert.FrontReferenceIdeal.Read.val_main_v105 (F := Ideal)) transposes_S8192x32_S32x8192_1_0 _ = _
  unfold tok
  blk_ext [idx t]

theorem blk9 (e : Fin 32) (r : Fin 256) : iblk m c 9 t (ix2 e r) =
    Cert.FrontReferenceIdeal.Read.val_main_v107 (F := Ideal) (ix2 (tok t r) e) := by
  blk_simp [iblk, idx t]
  entry_read
  refine Eq.trans ?_ (angles (Cert.FrontReferenceIdeal.Read.val_main_v107 (F := Ideal)) e (tok t r))
  show transpose S32x8192 [1, 0] (Cert.FrontReferenceIdeal.Read.val_main_v107 (F := Ideal)) transposes_S8192x32_S32x8192_1_0 _ = _
  unfold tok
  blk_ext [idx t]

end Cert.Proof.FR

end
-- ==== Proof.FR.Spec.lean ====
module

public import proofs.«01_k».proof.Proof.BK.Spec

@[expose] public section

noncomputable section

/-! One token's row of the layer's front, over the extended reals: the normalised row times the input projection, then the
gated unit, the merge gates, the normalised and turned heads, the rows' values and the branch gates, all read from the
projected row `z`. -/

namespace Cert.Proof.FR

open Idealize.ShloMosaic

/-- A head's reciprocal root mean square, the width 64 and the small addend as the programs' own words. -/
def headInv (v : Fin 64 → EReal) : EReal :=
  Ideal.rsqrt (Ideal.div (∑ k, v k * v k) (Ideal.ofBits FTy.f32 0x42800000#32) + Ideal.ofBits FTy.f32 0x358637BD#32)

/-- A head's normalised channel. -/
def headNorm (v g : Fin 64 → EReal) (d : Fin 64) : EReal := v d * headInv v * g d

/-- A query head's normalised channel, times the score's scale as the programs' own word. -/
def queryNorm (v g : Fin 64 → EReal) (d : Fin 64) : EReal := headNorm v g d * Ideal.ofBits FTy.f32 0x3E38AA3B#32

/-- The rotary turn of a head: the first 32 channels against the last 32. -/
def turn (v : Fin 64 → EReal) (cs sn : Fin 32 → EReal) (d : Fin 64) : EReal :=
  if h : d.val < 32 then v d * cs ⟨d.val, h⟩ - v ⟨32 + d.val, by omega⟩ * sn ⟨d.val, h⟩
  else v ⟨32 + (d.val - 32), by omega⟩ * cs ⟨d.val - 32, by omega⟩ + v ⟨d.val - 32, by omega⟩ * sn ⟨d.val - 32, by omega⟩

/-- Two heads one after the other. -/
def pair (a b : Fin 64 → EReal) (p : Fin 128) : EReal :=
  if h : p.val < 64 then a ⟨p.val, h⟩ else b ⟨p.val - 64, by omega⟩

/-- Two heads, each followed by sixteen ones. -/
def withOnes (w : Fin 128 → EReal) (p : Fin 160) : EReal :=
  if h : p.val < 64 then w ⟨p.val, by omega⟩
  else if h' : p.val - 64 < 16 then 1
    else if h'' : p.val - 64 - 16 < 64 then w ⟨64 + (p.val - 64 - 16), by omega⟩ else 1

/-- Query head `h` of the projected row. -/
def qHead (z : Fin 4376 → EReal) (h : Fin 8) (d : Fin 64) : EReal := z ⟨1024 + (h.val * 64 + d.val), by omega⟩

/-- Head `h` of part `j` of the row's keys and values. -/
def kvHead (z : Fin 4376 → EReal) (j : Fin 6) (h : Fin 2) (d : Fin 64) : EReal :=
  z ⟨1536 + (128 * j.val + h.val * 64 + d.val), by omega⟩

end Cert.Proof.FR

end
-- ==== Proof.FR.Block.lean ====
module

public import proofs.«01_k».proof.Proof.Gen.FrontIdeal.Skeleton
public import proofs.«01_k».proof.Proof.FR.Spec
public import Idealize.ShloMosaic.Lib.Pointwise
public import Idealize.ShloMosaic.Lib.WordCmp

@[expose] public section

noncomputable section

/-! What the kernel's body computes from its blocks, read at an entry. -/

namespace Cert.Proof.FR

open Idealize.ShloMosaic Cert.FrontIdeal Cert.FrontIdeal.Gen

/-- The normalised row the body computes, at row `r` and column `k`. -/
theorem pay2_apply (P0 : Vec Ideal S1x256x1024 .f32) (P3 : Vec Ideal S1x1024 .f32) (P2 P1 : Vec Ideal S1x1x1024 .f32)
    (r : Fin 256) (k : Fin 1024) :
    k0_pay2 P0 P3 P2 P1 (ix2 r k) =
      BK.normed (fun k => P0 (ix3 0 r k)) (fun k => P3 (ix2 0 k)) (fun k => P2 (ix3 0 0 k)) (fun k => P1 (ix3 0 0 k)) k := by
  unfold BK.normed BK.invRms
  pointwise [k0_pay2]

/-- The token-major projection the body computes. -/
theorem pay3_apply (P0 : Vec Ideal S1x256x1024 .f32) (P3 : Vec Ideal S1x1024 .f32) (P2 P1 : Vec Ideal S1x1x1024 .f32)
    (P4 : Vec Ideal S1024x3072 .bf16) (r : Fin 256) (n : Fin 3072) :
    k0_pay3 P0 P3 P2 P1 P4 (ix2 r n) = BK.rowMul (fun k => k0_pay2 P0 P3 P2 P1 (ix2 r k)) (fun k n => P4 (ix2 k n)) n := by
  unfold BK.rowMul
  pointwise [k0_pay3]

/-- The channel-major projection the body computes. -/
theorem pay6_apply (v : FVec Ideal S256x1024 .bf16) (P5 : Vec Ideal S1312x1024 .bf16) (j : Fin 1312) (r : Fin 256) :
    k0_pay6 v P5 (ix2 j r) = ∑ k, P5 (ix2 j k) * v (ix2 r k) := by
  pointwise [k0_pay6]

/-- The gated unit the body stores. -/
theorem pay4_apply (P0 : Vec Ideal S1x256x1024 .f32) (P3 : Vec Ideal S1x1024 .f32) (P2 P1 : Vec Ideal S1x1x1024 .f32)
    (P4 : Vec Ideal S1024x3072 .bf16) (r : Fin 256) (n : Fin 512) :
    k0_pay4 P0 P3 P2 P1 P4 (ix3 0 r n) = k0_pay3 P0 P3 P2 P1 P4 (ix2 r ⟨n.val, by omega⟩) *
      Ideal.logistic (k0_pay3 P0 P3 P2 P1 P4 (ix2 r ⟨512 + n.val, by omega⟩)) := by
  pointwise [k0_pay4]

/-- The merge gates the body stores. -/
theorem pay5_apply (v : FVec Ideal S256x3072 .f32) (r : Fin 256) (n : Fin 2048) :
    k0_pay5 v (ix3 0 r n) = Ideal.logistic (v (ix2 r ⟨1024 + n.val, by omega⟩)) := by
  pointwise [k0_pay5]

/-- Query head 0, normalised and scaled. -/
theorem qn0 (a : FVec Ideal S256x1024 .bf16) (w : Vec Ideal S1312x1024 .bf16) (g : Vec Ideal S64x256 .f32) (d : Fin 64) (r : Fin 256) :
    k0_pay10 a w g (ix2 d r) =
      queryNorm (fun e => (k0_pay6 a w) (ix2 ⟨0 + e.val, by omega⟩ r)) (fun e => (k0_pay9 g) (ix2 e r)) d := by
  unfold queryNorm headNorm headInv
  simp only [Nat.zero_add]
  pointwise [k0_pay10]

/-- The stored channel of query head 0. -/
theorem qp0 (a : FVec Ideal S256x1024 .bf16) (w : Vec Ideal S1312x1024 .bf16) (g : Vec Ideal S64x256 .f32) (d : Fin 64) (r : Fin 256) :
    k0_pay11 a w g (ix3 0 d r) =
      queryNorm (fun e => (k0_pay6 a w) (ix2 ⟨0 + e.val, by omega⟩ r)) (fun e => (k0_pay9 g) (ix2 e r)) d := by
  rw [← qn0]
  pointwise [k0_pay11]

/-- The stored turned channel of query head 0. -/
theorem qr0 (a : FVec Ideal S256x1024 .bf16) (w : Vec Ideal S1312x1024 .bf16) (g : Vec Ideal S64x256 .f32) (cs sn : Vec Ideal S32x256 .f32) (d : Fin 64) (r : Fin 256) :
    k0_pay16 (k0_pay8 sn) (k0_pay12 a w g) (k0_pay14 a w cs sn g) (k0_pay15 a w cs g) (ix3 0 d r) =
      turn (queryNorm (fun e => (k0_pay6 a w) (ix2 ⟨0 + e.val, by omega⟩ r)) (fun e => (k0_pay9 g) (ix2 e r)))
        (fun e => (k0_pay7 cs) (ix2 e r)) (fun e => (k0_pay8 sn) (ix2 e r)) d := by
  unfold turn
  simp only [← qn0]
  pointwise [k0_pay16, k0_pay12, k0_pay14, k0_pay15, k0_pay13]

/-- Query head 1, normalised and scaled. -/
theorem qn1 (v : FVec Ideal S1312x256 .f32) (g : FVec Ideal S64x256 .f32) (d : Fin 64) (r : Fin 256) :
    k0_pay17 v g (ix2 d r) =
      queryNorm (fun e => v (ix2 ⟨64 + e.val, by omega⟩ r)) (fun e => g (ix2 e r)) d := by
  unfold queryNorm headNorm headInv
  pointwise [k0_pay17]

/-- The stored channel of query head 1. -/
theorem qp1 (v : FVec Ideal S1312x256 .f32) (g : FVec Ideal S64x256 .f32) (d : Fin 64) (r : Fin 256) :
    k0_pay18 v g (ix3 0 d r) =
      queryNorm (fun e => v (ix2 ⟨64 + e.val, by omega⟩ r)) (fun e => g (ix2 e r)) d := by
  rw [← qn1]
  pointwise [k0_pay18]

/-- The stored turned channel of query head 1. -/
theorem qr1 (v : FVec Ideal S1312x256 .f32) (g : FVec Ideal S64x256 .f32) (cs sn : FVec Ideal S32x256 .f32) (d : Fin 64) (r : Fin 256) :
    k0_pay19 v cs sn g (ix3 0 d r) =
      turn (queryNorm (fun e => v (ix2 ⟨64 + e.val, by omega⟩ r)) (fun e => g (ix2 e r)))
        (fun e => cs (ix2 e r)) (fun e => sn (ix2 e r)) d := by
  unfold turn
  simp only [← qn1]
  pointwise [k0_pay19]

/-- Query head 2, normalised and scaled. -/
theorem qn2 (v : FVec Ideal S1312x256 .f32) (g : FVec Ideal S64x256 .f32) (d : Fin 64) (r : Fin 256) :
    k0_pay22 g (k0_pay20 v) (k0_pay21 v) (Scalar.ofBits .f32 0x42800000#32) (ix2 d r) =
      queryNorm (fun e => v (ix2 ⟨128 + e.val, by omega⟩ r)) (fun e => g (ix2 e r)) d := by
  unfold queryNorm headNorm headInv
  pointwise [k0_pay22, k0_pay20, k0_pay21]

/-- The stored channel of query head 2. -/
theorem qp2 (v : FVec Ideal S1312x256 .f32) (g : FVec Ideal S64x256 .f32) (d : Fin 64) (r : Fin 256) :
    k0_pay23 g (k0_pay20 v) (k0_pay21 v) (Scalar.ofBits .f32 0x42800000#32) (ix3 0 d r) =
      queryNorm (fun e => v (ix2 ⟨128 + e.val, by omega⟩ r)) (fun e => g (ix2 e r)) d := by
  rw [← qn2]
  pointwise [k0_pay23]

/-- The stored turned channel of query head 2. -/
theorem qr2 (v : FVec Ideal S1312x256 .f32) (g : FVec Ideal S64x256 .f32) (cs sn : FVec Ideal S32x256 .f32) (d : Fin 64) (r : Fin 256) :
    k0_pay24 cs sn g (k0_pay20 v) (k0_pay21 v) (Scalar.ofBits .f32 0x42800000#32) (ix3 0 d r) =
      turn (queryNorm (fun e => v (ix2 ⟨128 + e.val, by omega⟩ r)) (fun e => g (ix2 e r)))
        (fun e => cs (ix2 e r)) (fun e => sn (ix2 e r)) d := by
  unfold turn
  simp only [← qn2]
  pointwise [k0_pay24]

/-- Query head 3, normalised and scaled. -/
theorem qn3 (v : FVec Ideal S1312x256 .f32) (g : FVec Ideal S64x256 .f32) (d : Fin 64) (r : Fin 256) :
    k0_pay25 v g (ix2 d r) =
      queryNorm (fun e => v (ix2 ⟨192 + e.val, by omega⟩ r)) (fun e => g (ix2 e r)) d := by
  unfold queryNorm headNorm headInv
  pointwise [k0_pay25]

/-- The stored channel of query head 3. -/
theorem qp3 (v : FVec Ideal S1312x256 .f32) (g : FVec Ideal S64x256 .f32) (d : Fin 64) (r : Fin 256) :
    k0_pay27 (k0_pay26 v g) (ix3 0 d r) =
      queryNorm (fun e => v (ix2 ⟨192 + e.val, by omega⟩ r)) (fun e => g (ix2 e r)) d := by
  rw [← qn3]
  pointwise [k0_pay27, k0_pay26]

/-- The stored turned channel of query head 3. -/
theorem qr3 (v : FVec Ideal S1312x256 .f32) (g : FVec Ideal S64x256 .f32) (cs sn : FVec Ideal S32x256 .f32) (d : Fin 64) (r : Fin 256) :
    k0_pay28 cs sn (k0_pay25 v g) (ix3 0 d r) =
      turn (queryNorm (fun e => v (ix2 ⟨192 + e.val, by omega⟩ r)) (fun e => g (ix2 e r)))
        (fun e => cs (ix2 e r)) (fun e => sn (ix2 e r)) d := by
  unfold turn
  simp only [← qn3]
  pointwise [k0_pay28]

/-- Query head 4, normalised and scaled. -/
theorem qn4 (v : FVec Ideal S1312x256 .f32) (g : FVec Ideal S64x256 .f32) (d : Fin 64) (r : Fin 256) :
    k0_pay29 v g (ix2 d r) =
      queryNorm (fun e => v (ix2 ⟨256 + e.val, by omega⟩ r)) (fun e => g (ix2 e r)) d := by
  unfold queryNorm headNorm headInv
  pointwise [k0_pay29]

/-- The stored channel of query head 4. -/
theorem qp4 (v : FVec Ideal S1312x256 .f32) (g : FVec Ideal S64x256 .f32) (d : Fin 64) (r : Fin 256) :
    k0_pay30 v g (ix3 0 d r) =
      queryNorm (fun e => v (ix2 ⟨256 + e.val, by omega⟩ r)) (fun e => g (ix2 e r)) d := by
  rw [← qn4]
  pointwise [k0_pay30]

/-- The stored turned channel of query head 4. -/
theorem qr4 (v : FVec Ideal S1312x256 .f32) (g : FVec Ideal S64x256 .f32) (cs sn : FVec Ideal S32x256 .f32) (d : Fin 64) (r : Fin 256) :
    k0_pay32 (k0_pay31 v cs sn g) (ix3 0 d r) =
      turn (queryNorm (fun e => v (ix2 ⟨256 + e.val, by omega⟩ r)) (fun e => g (ix2 e r)))
        (fun e => cs (ix2 e r)) (fun e => sn (ix2 e r)) d := by
  unfold turn
  simp only [← qn4]
  pointwise [k0_pay32, k0_pay31]

/-- Query head 5, normalised and scaled. -/
theorem qn5 (v : FVec Ideal S1312x256 .f32) (g : FVec Ideal S64x256 .f32) (d : Fin 64) (r : Fin 256) :
    k0_pay33 v g (ix2 d r) =
      queryNorm (fun e => v (ix2 ⟨320 + e.val, by omega⟩ r)) (fun e => g (ix2 e r)) d := by
  unfold queryNorm headNorm headInv
  pointwise [k0_pay33]

/-- The stored channel of query head 5. -/
theorem qp5 (v : FVec Ideal S1312x256 .f32) (g : FVec Ideal S64x256 .f32) (d : Fin 64) (r : Fin 256) :
    k0_pay34 v g (ix3 0 d r) =
      queryNorm (fun e => v (ix2 ⟨320 + e.val, by omega⟩ r)) (fun e => g (ix2 e r)) d := by
  rw [← qn5]
  pointwise [k0_pay34]

/-- The stored turned channel of query head 5. -/
theorem qr5 (v : FVec Ideal S1312x256 .f32) (g : FVec Ideal S64x256 .f32) (cs sn : FVec Ideal S32x256 .f32) (d : Fin 64) (r : Fin 256) :
    k0_pay35 v cs sn g (ix3 0 d r) =
      turn (queryNorm (fun e => v (ix2 ⟨320 + e.val, by omega⟩ r)) (fun e => g (ix2 e r)))
        (fun e => cs (ix2 e r)) (fun e => sn (ix2 e r)) d := by
  unfold turn
  simp only [← qn5]
  pointwise [k0_pay35]

/-- Query head 6, normalised and scaled. -/
theorem qn6 (v : FVec Ideal S1312x256 .f32) (g : FVec Ideal S64x256 .f32) (d : Fin 64) (r : Fin 256) :
    k0_pay37 g (k0_pay36 v) (ix2 d r) =
      queryNorm (fun e => v (ix2 ⟨384 + e.val, by omega⟩ r)) (fun e => g (ix2 e r)) d := by
  unfold queryNorm headNorm headInv
  pointwise [k0_pay37, k0_pay36]

/-- The stored channel of query head 6. -/
theorem qp6 (v : FVec Ideal S1312x256 .f32) (g : FVec Ideal S64x256 .f32) (d : Fin 64) (r : Fin 256) :
    k0_pay38 g (k0_pay36 v) (ix3 0 d r) =
      queryNorm (fun e => v (ix2 ⟨384 + e.val, by omega⟩ r)) (fun e => g (ix2 e r)) d := by
  rw [← qn6]
  pointwise [k0_pay38]

/-- The stored turned channel of query head 6. -/
theorem qr6 (v : FVec Ideal S1312x256 .f32) (g : FVec Ideal S64x256 .f32) (cs sn : FVec Ideal S32x256 .f32) (d : Fin 64) (r : Fin 256) :
    k0_pay39 cs sn g (k0_pay36 v) (ix3 0 d r) =
      turn (queryNorm (fun e => v (ix2 ⟨384 + e.val, by omega⟩ r)) (fun e => g (ix2 e r)))
        (fun e => cs (ix2 e r)) (fun e => sn (ix2 e r)) d := by
  unfold turn
  simp only [← qn6]
  pointwise [k0_pay39]

/-- Query head 7, normalised and scaled. -/
theorem qn7 (v : FVec Ideal S1312x256 .f32) (g : FVec Ideal S64x256 .f32) (d : Fin 64) (r : Fin 256) :
    k0_pay40 v g (ix2 d r) =
      queryNorm (fun e => v (ix2 ⟨448 + e.val, by omega⟩ r)) (fun e => g (ix2 e r)) d := by
  unfold queryNorm headNorm headInv
  pointwise [k0_pay40]

/-- The stored channel of query head 7. -/
theorem qp7 (v : FVec Ideal S1312x256 .f32) (g : FVec Ideal S64x256 .f32) (d : Fin 64) (r : Fin 256) :
    k0_pay41 v g (ix3 0 d r) =
      queryNorm (fun e => v (ix2 ⟨448 + e.val, by omega⟩ r)) (fun e => g (ix2 e r)) d := by
  rw [← qn7]
  pointwise [k0_pay41]

/-- The stored turned channel of query head 7. -/
theorem qr7 (v : FVec Ideal S1312x256 .f32) (g : FVec Ideal S64x256 .f32) (cs sn : FVec Ideal S32x256 .f32) (d : Fin 64) (r : Fin 256) :
    k0_pay45 cs sn (k0_pay42 v g) (k0_pay43 v g) (k0_pay44 v cs sn g) (ix3 0 d r) =
      turn (queryNorm (fun e => v (ix2 ⟨448 + e.val, by omega⟩ r)) (fun e => g (ix2 e r)))
        (fun e => cs (ix2 e r)) (fun e => sn (ix2 e r)) d := by
  unfold turn
  simp only [← qn7]
  pointwise [k0_pay45, k0_pay42, k0_pay43, k0_pay44]

/-- The normalised keys of the summaries' branch, head after head. -/
theorem kcmp_apply (v : FVec Ideal S1312x256 .f32) (g : Vec Ideal S1x64x256 .f32) (p : Fin 128) (r : Fin 256) :
    k0_pay65 v g (ix3 0 p r) = pair (headNorm (fun e => v (ix2 ⟨512 + e.val, by omega⟩ r)) (fun e => g (ix3 0 e r)))
      (headNorm (fun e => v (ix2 ⟨576 + e.val, by omega⟩ r)) (fun e => g (ix3 0 e r))) p := by
  unfold pair headNorm headInv
  pointwise [k0_pay65]

/-- The first head of the selected keys, normalised and turned. -/
theorem ksel0 (v : FVec Ideal S1312x256 .f32) (cs sn : FVec Ideal S32x256 .f32) (g : Vec Ideal S1x64x256 .f32) (d : Fin 64) (r : Fin 256) :
    k0_pay47 v cs sn g (ix2 d r) = turn (headNorm (fun e => v (ix2 ⟨768 + e.val, by omega⟩ r)) (fun e => g (ix3 0 e r))) (fun e => cs (ix2 e r)) (fun e => sn (ix2 e r)) d := by
  unfold turn headNorm headInv
  pointwise [k0_pay47, k0_pay46]

/-- The second head of the selected keys, normalised. -/
theorem kseln (v : FVec Ideal S1312x256 .f32) (g : Vec Ideal S1x64x256 .f32) (d : Fin 64) (r : Fin 256) :
    k0_pay48 v g (ix2 d r) = headNorm (fun e => v (ix2 ⟨832 + e.val, by omega⟩ r)) (fun e => g (ix3 0 e r)) d := by
  unfold headNorm headInv
  pointwise [k0_pay48, k0_pay46]

/-- The selected keys, head after head. -/
theorem ksel_apply (v : FVec Ideal S1312x256 .f32) (cs sn : FVec Ideal S32x256 .f32) (g : Vec Ideal S1x64x256 .f32) (p : Fin 128) (r : Fin 256) :
    k0_pay53 cs sn (k0_pay47 v cs sn g) (k0_pay49 v g) (k0_pay50 v g) (k0_pay51 v cs g) (k0_pay52 v sn g) (ix2 p r) =
      pair (turn (headNorm (fun e => v (ix2 ⟨768 + e.val, by omega⟩ r)) (fun e => g (ix3 0 e r))) (fun e => cs (ix2 e r)) (fun e => sn (ix2 e r)))
        (turn (headNorm (fun e => v (ix2 ⟨832 + e.val, by omega⟩ r)) (fun e => g (ix3 0 e r))) (fun e => cs (ix2 e r)) (fun e => sn (ix2 e r))) p := by
  unfold pair
  simp only [← ksel0]
  unfold turn
  simp only [← kseln]
  pointwise [k0_pay53, k0_pay49, k0_pay50, k0_pay51, k0_pay52]

/-- The first head of the window's keys, normalised and turned. -/
theorem kwin0 (v : FVec Ideal S1312x256 .f32) (cs sn : FVec Ideal S32x256 .f32) (g : Vec Ideal S1x64x256 .f32) (d : Fin 64) (r : Fin 256) :
    k0_pay56 v cs sn g (ix2 d r) = turn (headNorm (fun e => v (ix2 ⟨1024 + e.val, by omega⟩ r)) (fun e => g (ix3 0 e r))) (fun e => cs (ix2 e r)) (fun e => sn (ix2 e r)) d := by
  unfold turn headNorm headInv
  pointwise [k0_pay56, k0_pay55]

/-- The second head of the window's keys, normalised. -/
theorem kwinn (v : FVec Ideal S1312x256 .f32) (g : Vec Ideal S1x64x256 .f32) (d : Fin 64) (r : Fin 256) :
    k0_pay57 v g (ix2 d r) = headNorm (fun e => v (ix2 ⟨1088 + e.val, by omega⟩ r)) (fun e => g (ix3 0 e r)) d := by
  unfold headNorm headInv
  pointwise [k0_pay57, k0_pay55]

/-- The window's keys, head after head. -/
theorem kwin_apply (v : FVec Ideal S1312x256 .f32) (cs sn : FVec Ideal S32x256 .f32) (g : Vec Ideal S1x64x256 .f32) (p : Fin 128) (r : Fin 256) :
    k0_pay63 (k0_pay56 v cs sn g) (k0_pay60 v cs sn g) (k0_pay61 v cs g) (k0_pay62 v sn g) (ix2 p r) =
      pair (turn (headNorm (fun e => v (ix2 ⟨1024 + e.val, by omega⟩ r)) (fun e => g (ix3 0 e r))) (fun e => cs (ix2 e r)) (fun e => sn (ix2 e r)))
        (turn (headNorm (fun e => v (ix2 ⟨1088 + e.val, by omega⟩ r)) (fun e => g (ix3 0 e r))) (fun e => cs (ix2 e r)) (fun e => sn (ix2 e r))) p := by
  unfold pair
  simp only [← kwin0]
  unfold turn
  simp only [← kwinn]
  pointwise [k0_pay63, k0_pay60, k0_pay61, k0_pay62, k0_pay58, k0_pay59]

/-- The values of the summaries' branch, head after head. -/
theorem vcmp_apply (v : FVec Ideal S1312x256 .f32) (p : Fin 128) (r : Fin 256) :
    k0_pay66 v (ix3 0 p r) = v (ix2 ⟨640 + p.val, by omega⟩ r) := by
  pointwise [k0_pay66]
  split_ifs
  all_goals first | rfl | exact congrArg v (congrArg (ix2 · r) (Fin.ext (by dsimp only; omega)))

/-- The selected values, head after head. -/
theorem vsel_apply (v : FVec Ideal S1312x256 .f32) (p : Fin 128) (r : Fin 256) :
    k0_pay54 v (ix2 p r) = v (ix2 ⟨896 + p.val, by omega⟩ r) := by
  pointwise [k0_pay54]
  split_ifs
  all_goals first | rfl | exact congrArg v (congrArg (ix2 · r) (Fin.ext (by dsimp only; omega)))

/-- The window's values, head after head. -/
theorem vwin_apply (v : FVec Ideal S1312x256 .f32) (p : Fin 128) (r : Fin 256) :
    k0_pay64 v (ix2 p r) = v (ix2 ⟨1152 + p.val, by omega⟩ r) := by
  pointwise [k0_pay64]
  split_ifs
  all_goals first | rfl | exact congrArg v (congrArg (ix2 · r) (Fin.ext (by dsimp only; omega)))

theorem pay67_apply (w : FVec Ideal S128x256 .f32) (p : Fin 128) (r : Fin 256) : k0_pay67 w (ix3 0 p r) = w (ix2 p r) := by
  pointwise [k0_pay67]

theorem pay68_apply (w : FVec Ideal S128x256 .f32) (p : Fin 128) (r : Fin 256) : k0_pay68 w (ix3 0 p r) = w (ix2 p r) := by
  pointwise [k0_pay68]

theorem pay69_apply (w : FVec Ideal S128x256 .f32) (p : Fin 128) (r : Fin 256) : k0_pay69 w (ix3 0 p r) = w (ix2 p r) := by
  pointwise [k0_pay69]

theorem pay70_apply (w : FVec Ideal S128x256 .f32) (p : Fin 128) (r : Fin 256) : k0_pay70 w (ix3 0 p r) = w (ix2 p r) := by
  pointwise [k0_pay70]

/-- The selected keys as rows, followed by their block's indicator columns. -/
theorem kselb_apply (i : IVec S256x16 1) (w : FVec Ideal S128x256 .f32) (r : Fin 256) (n : Fin 144) :
    k0_pay73 i (k0_pay72 w) (ix3 0 r n) =
      if h : n.val < 128 then w (ix2 ⟨n.val, h⟩ r) else Scalar.select (i (ix2 r ⟨n.val - 128, by omega⟩)) (1 : EReal) 0 := by
  pointwise [k0_pay73, k0_pay72]

/-- The window's keys as rows. -/
theorem kwinb_apply (w : FVec Ideal S128x256 .f32) (r : Fin 256) (n : Fin 128) : k0_pay74 w (ix3 0 r n) = w (ix2 n r) := by
  pointwise [k0_pay74]

/-- The branch gates. -/
theorem ng_apply (v : FVec Ideal S1312x256 .f32) (j : Fin 32) (r : Fin 256) :
    k0_pay1 (k0_pay78 v) (ix3 0 j r) = Ideal.logistic (v (ix2 ⟨1280 + j.val, by omega⟩ r)) := by
  pointwise [k0_pay1, k0_pay78]

/-- The selected values, each head followed by sixteen rows of ones. -/
theorem vselb_apply (w : FVec Ideal S128x256 .f32) (p : Fin 160) (r : Fin 256) :
    k0_pay76 w (ix3 0 p r) = withOnes (fun p => w (ix2 p r)) p := by
  unfold withOnes
  pointwise [k0_pay76, k0_pay75]

/-- The window's values, each head followed by sixteen rows of ones. -/
theorem vwinb_apply (w : FVec Ideal S128x256 .f32) (p : Fin 160) (r : Fin 256) :
    k0_pay77 w (ix3 0 p r) = withOnes (fun p => w (ix2 p r)) p := by
  unfold withOnes
  pointwise [k0_pay77, k0_pay75]

/-- The block number within its chunk, as the body computes it. -/
def blockOf (a r : BitVec 32) : BitVec 32 :=
  let s := IntOp.shrui ArithUnit.vector (IntOp.addi (Scalar.muli a 256#32) r) 6#32
  let e := Scalar.select (Scalar.cmpi CmpIPredicate.eq 8#32 0#32) 1#32 8#32
  let q := IntOp.remsi ArithUnit.vector s e
  Scalar.select (IntOp.andi (IntOp.xori (IntOp.cmpi CmpIPredicate.slt q 0#32) (Scalar.cmpi CmpIPredicate.slt e 0#32))
    (IntOp.cmpi CmpIPredicate.ne q 0#32)) (IntOp.addi q e) q

theorem blockOf_eq : ∀ (t : Fin 32) (r : Fin 256),
    blockOf (BitVec.ofNat 32 t.val) (BitVec.ofNat 32 r.val) = BitVec.ofNat 32 ((256 * t.val + r.val) / 64 % 8) := by
  decide +kernel

/-- The indicator column: the token's block number within its chunk is the column's. -/
theorem mask_apply (t : Fin 32) (r : Fin 256) (k : Fin 16) :
    k0_pay71 (BitVec.ofNat 32 t.val) (ix2 r k) = BitVec.ofBool (decide ((256 * t.val + r.val) / 64 % 8 = k.val)) := by
  have h : k0_pay71 (BitVec.ofNat 32 t.val) (ix2 r k) =
      IntOp.cmpi CmpIPredicate.eq (blockOf (BitVec.ofNat 32 t.val) (BitVec.ofNat 32 r.val)) (BitVec.ofNat 32 k.val) := by
    unfold blockOf
    pointwise [k0_pay71]
  rw [h, blockOf_eq]
  word_cmp

end Cert.Proof.FR

end
-- ==== Proof.FR.Open.lean ====
module

public import proofs.«01_k».proof.Proof.FR.RunIdeal
public import proofs.«01_k».proof.Proof.FR.Block
public import Idealize.ShloMosaic.Lib.Pipeline.ValueKit
public import Idealize.ShloMosaic.Lib.Claim
public import Idealize.ShloMosaic.Lib.Pointwise

@[expose] public section

set_option maxRecDepth 16384

noncomputable section

/-! What the body leaves in each result block, as one function of the input blocks. -/

namespace Cert.Proof.FR

open Idealize.ShloMosaic Idealize.ShloMosaic.TcCoe Cert.FrontIdeal Cert.FrontIdeal.Gen Cert.FrontIdeal.Body
open Idealize.ShloMosaic.Pipeline (Dat)

variable (i : grid0.Coords) (x0 : Vec Ideal S1x256x1024 .f32) (x1 : Vec Ideal S1x1x1024 .f32) (x2 : Vec Ideal S1x1x1024 .f32)
  (x3 : Vec Ideal S1x1024 .f32) (x4 : Vec Ideal S1024x3072 .bf16) (x5 : Vec Ideal S1312x1024 .bf16) (x6 : Vec Ideal S64x256 .f32)
  (x7 : Vec Ideal S3x64x256 .f32) (x8 : Vec Ideal S32x256 .f32) (x9 : Vec Ideal S32x256 .f32)

theorem open79 : k0_pay79 i x0 x1 x2 x3 x4 x5 x6 x7 x8 x9 = k0_pay2 x0 x3 x2 x1 := by
  unfold k0_pay79
  frame_out

theorem open80 : k0_pay80 i x0 x1 x2 x3 x4 x5 x6 x7 x8 x9 = k0_pay6 (k0_pay2 x0 x3 x2 x1) x5 := by
  unfold k0_pay80
  rw [open79]
  frame_out

theorem pay7_apply (w : Vec Ideal S32x256 .f32) (e : Fin 32) (r : Fin 256) : k0_pay7 w (ix2 e r) = w (ix2 e r) := by
  pointwise [k0_pay7]

theorem pay8_apply (w : Vec Ideal S32x256 .f32) (e : Fin 32) (r : Fin 256) : k0_pay8 w (ix2 e r) = w (ix2 e r) := by
  pointwise [k0_pay8]

theorem pay9_apply (w : Vec Ideal S64x256 .f32) (e : Fin 64) (r : Fin 256) : k0_pay9 w (ix2 e r) = w (ix2 e r) := by
  pointwise [k0_pay9]

theorem open81 (e : Fin 32) (r : Fin 256) : k0_pay81 i x0 x1 x2 x3 x4 x5 x6 x7 x8 x9 (ix2 e r) = x8 (ix2 e r) := by
  unfold k0_pay81
  refine (pay7_apply _ e r).trans ?_
  pointwise

theorem open82 (e : Fin 32) (r : Fin 256) : k0_pay82 i x0 x1 x2 x3 x4 x5 x6 x7 x8 x9 (ix2 e r) = x9 (ix2 e r) := by
  unfold k0_pay82
  refine (pay8_apply _ e r).trans ?_
  pointwise

theorem open83 (e : Fin 64) (r : Fin 256) : k0_pay83 i x0 x1 x2 x3 x4 x5 x6 x7 x8 x9 (ix2 e r) = x6 (ix2 e r) := by
  unfold k0_pay83
  refine (pay9_apply _ e r).trans ?_
  pointwise

theorem ld7_0 (d : Fin 64) (r : Fin 256) : View.ld x7 r0_19 (ix3 0 d r) = x7 (ix3 0 d r) := by
  pointwise

theorem ld7_1 (d : Fin 64) (r : Fin 256) : View.ld x7 r0_17 (ix3 0 d r) = x7 (ix3 1 d r) := by
  pointwise

theorem ld7_2 (d : Fin 64) (r : Fin 256) : View.ld x7 r0_18 (ix3 0 d r) = x7 (ix3 2 d r) := by
  pointwise

theorem open87 (p : Fin 128) (r : Fin 256) : k0_pay87 i x0 x1 x2 x3 x4 x5 x6 x7 x8 x9 (ix2 p r) =
    pair (turn (headNorm (fun e => k0_pay6 (k0_pay2 x0 x3 x2 x1) x5 (ix2 ⟨768 + e.val, by omega⟩ r)) (fun e => x7 (ix3 1 e r)))
      (fun e => x8 (ix2 e r)) (fun e => x9 (ix2 e r)))
      (turn (headNorm (fun e => k0_pay6 (k0_pay2 x0 x3 x2 x1) x5 (ix2 ⟨832 + e.val, by omega⟩ r)) (fun e => x7 (ix3 1 e r)))
      (fun e => x8 (ix2 e r)) (fun e => x9 (ix2 e r))) p := by
  unfold k0_pay87
  refine (ksel_apply _ _ _ _ p r).trans ?_
  simp only [open80, open81, open82]
  have hg : (fun e : Fin 64 => View.ld x7 r0_17 (ix3 0 e r)) = fun e => x7 (ix3 1 e r) := funext fun e => ld7_1 x7 e r
  exact congrArg (fun g => pair (turn (headNorm (fun e => k0_pay6 (k0_pay2 x0 x3 x2 x1) x5 (ix2 ⟨768 + e.val, by omega⟩ r)) g) (fun e => x8 (ix2 e r)) (fun e => x9 (ix2 e r)))
    (turn (headNorm (fun e => k0_pay6 (k0_pay2 x0 x3 x2 x1) x5 (ix2 ⟨832 + e.val, by omega⟩ r)) g) (fun e => x8 (ix2 e r)) (fun e => x9 (ix2 e r))) p) hg

theorem open89 (p : Fin 128) (r : Fin 256) : k0_pay89 i x0 x1 x2 x3 x4 x5 x6 x7 x8 x9 (ix2 p r) =
    pair (turn (headNorm (fun e => k0_pay6 (k0_pay2 x0 x3 x2 x1) x5 (ix2 ⟨1024 + e.val, by omega⟩ r)) (fun e => x7 (ix3 2 e r)))
      (fun e => x8 (ix2 e r)) (fun e => x9 (ix2 e r)))
      (turn (headNorm (fun e => k0_pay6 (k0_pay2 x0 x3 x2 x1) x5 (ix2 ⟨1088 + e.val, by omega⟩ r)) (fun e => x7 (ix3 2 e r)))
      (fun e => x8 (ix2 e r)) (fun e => x9 (ix2 e r))) p := by
  unfold k0_pay89
  refine (kwin_apply _ _ _ _ p r).trans ?_
  simp only [open80, open81, open82]
  have hg : (fun e : Fin 64 => View.ld x7 r0_18 (ix3 0 e r)) = fun e => x7 (ix3 2 e r) := funext fun e => ld7_2 x7 e r
  exact congrArg (fun g => pair (turn (headNorm (fun e => k0_pay6 (k0_pay2 x0 x3 x2 x1) x5 (ix2 ⟨1024 + e.val, by omega⟩ r)) g) (fun e => x8 (ix2 e r)) (fun e => x9 (ix2 e r)))
    (turn (headNorm (fun e => k0_pay6 (k0_pay2 x0 x3 x2 x1) x5 (ix2 ⟨1088 + e.val, by omega⟩ r)) g) (fun e => x8 (ix2 e r)) (fun e => x9 (ix2 e r))) p) hg

theorem open88 (p : Fin 128) (r : Fin 256) : k0_pay88 i x0 x1 x2 x3 x4 x5 x6 x7 x8 x9 (ix2 p r) =
    k0_pay6 (k0_pay2 x0 x3 x2 x1) x5 (ix2 ⟨896 + p.val, by omega⟩ r) := by
  unfold k0_pay88
  refine (vsel_apply _ p r).trans ?_
  rw [open80]

theorem open90 (p : Fin 128) (r : Fin 256) : k0_pay90 i x0 x1 x2 x3 x4 x5 x6 x7 x8 x9 (ix2 p r) =
    k0_pay6 (k0_pay2 x0 x3 x2 x1) x5 (ix2 ⟨1152 + p.val, by omega⟩ r) := by
  unfold k0_pay90
  refine (vwin_apply _ p r).trans ?_
  rw [open80]

theorem open10 (y : S1x256x512.Idx) : out0_10 i x0 x1 x2 x3 x4 x5 x6 x7 x8 x9 y =
    k0_pay4 x0 x3 x2 x1 x4 y := by
  unfold out0_10
  frame_out

theorem open11 (y : S1x256x2048.Idx) : out0_11 i x0 x1 x2 x3 x4 x5 x6 x7 x8 x9 y =
    k0_pay5 (k0_pay3 x0 x3 x2 x1 x4) y := by
  unfold out0_11
  frame_out

theorem open14 (y : S1x128x256.Idx) : out0_14 i x0 x1 x2 x3 x4 x5 x6 x7 x8 x9 y =
    k0_pay65 (k0_pay80 i x0 x1 x2 x3 x4 x5 x6 x7 x8 x9) (View.ld x7 r0_19) y := by
  unfold out0_14
  frame_out

theorem open15 (y : S1x128x256.Idx) : out0_15 i x0 x1 x2 x3 x4 x5 x6 x7 x8 x9 y =
    k0_pay66 (k0_pay80 i x0 x1 x2 x3 x4 x5 x6 x7 x8 x9) y := by
  unfold out0_15
  frame_out

theorem open16 (y : S1x128x256.Idx) : out0_16 i x0 x1 x2 x3 x4 x5 x6 x7 x8 x9 y =
    k0_pay67 (k0_pay87 i x0 x1 x2 x3 x4 x5 x6 x7 x8 x9) y := by
  unfold out0_16
  frame_out

theorem open17 (y : S1x128x256.Idx) : out0_17 i x0 x1 x2 x3 x4 x5 x6 x7 x8 x9 y =
    k0_pay68 (k0_pay88 i x0 x1 x2 x3 x4 x5 x6 x7 x8 x9) y := by
  unfold out0_17
  frame_out

theorem open18 (y : S1x128x256.Idx) : out0_18 i x0 x1 x2 x3 x4 x5 x6 x7 x8 x9 y =
    k0_pay69 (k0_pay89 i x0 x1 x2 x3 x4 x5 x6 x7 x8 x9) y := by
  unfold out0_18
  frame_out

theorem open19 (y : S1x128x256.Idx) : out0_19 i x0 x1 x2 x3 x4 x5 x6 x7 x8 x9 y =
    k0_pay70 (k0_pay90 i x0 x1 x2 x3 x4 x5 x6 x7 x8 x9) y := by
  unfold out0_19
  frame_out

theorem open20 (y : S1x256x144.Idx) : out0_20 i x0 x1 x2 x3 x4 x5 x6 x7 x8 x9 y =
    k0_pay73 (k0_pay71 (BitVec.ofNat 32 (i 1).val)) (k0_pay72 (k0_pay87 i x0 x1 x2 x3 x4 x5 x6 x7 x8 x9)) y := by
  unfold out0_20
  frame_out

theorem open21 (y : S1x256x128.Idx) : out0_21 i x0 x1 x2 x3 x4 x5 x6 x7 x8 x9 y =
    k0_pay74 (k0_pay89 i x0 x1 x2 x3 x4 x5 x6 x7 x8 x9) y := by
  unfold out0_21
  frame_out

theorem open22 (y : S1x160x256.Idx) : out0_22 i x0 x1 x2 x3 x4 x5 x6 x7 x8 x9 y =
    k0_pay76 (k0_pay88 i x0 x1 x2 x3 x4 x5 x6 x7 x8 x9) y := by
  unfold out0_22
  frame_out

theorem open23 (y : S1x160x256.Idx) : out0_23 i x0 x1 x2 x3 x4 x5 x6 x7 x8 x9 y =
    k0_pay77 (k0_pay90 i x0 x1 x2 x3 x4 x5 x6 x7 x8 x9) y := by
  unfold out0_23
  frame_out

theorem open24 (y : S1x32x256.Idx) : out0_24 i x0 x1 x2 x3 x4 x5 x6 x7 x8 x9 y =
    k0_pay1 (k0_pay78 (k0_pay80 i x0 x1 x2 x3 x4 x5 x6 x7 x8 x9)) y := by
  unfold out0_24
  frame_out

/-- A function of a query head, at the head that holds channel `p`. -/
theorem headAt (F : (Fin 64 → EReal) → Fin 64 → EReal) (z : FVec Ideal S1312x256 .f32) (h : ℕ) (hh : h < 8) (p : Fin 512) (r : Fin 256)
    (d : Fin 64) (hp : p.val = 64 * h + d.val) :
    F (fun e => z (ix2 ⟨64 * h + e.val, by omega⟩ r)) d =
      F (fun e => z (ix2 ⟨64 * (p.val / 64) + e.val, by omega⟩ r)) ⟨p.val % 64, Nat.mod_lt _ (by decide)⟩ := by
  obtain rfl : h = p.val / 64 := by omega
  obtain rfl : d = ⟨p.val % 64, Nat.mod_lt _ (by decide)⟩ := Fin.ext (by dsimp only; omega)
  rfl

theorem eta64 (x : S1x64x256.Idx) : x = ix3 0 (x 1) (x 2) := by
  blk_ext

theorem ld5 : View.ld x5 r0_6 = x5 := by
  frame_out

theorem open12 (p : Fin 512) (r : Fin 256) : out0_12 i x0 x1 x2 x3 x4 x5 x6 x7 x8 x9 (ix3 0 p r) =
    queryNorm (fun e => k0_pay6 (k0_pay2 x0 x3 x2 x1) x5 (ix2 ⟨64 * (p.val / 64) + e.val, by omega⟩ r)) (fun e => x6 (ix2 e r))
      ⟨p.val % 64, Nat.mod_lt _ (by decide)⟩ := by
  unfold out0_12
  canon_tiles x h
  case piece0 =>
    rw [open80]
    obtain rfl : r = x 2 := Fin.ext h2
    refine (congrArg _ (eta64 x)).trans ((qp7 _ _ (x 1) (x 2)).trans ?_)
    refine Eq.trans ?_ (headAt (fun z => queryNorm z (fun e => x6 (ix2 e (x 2)))) (k0_pay6 (k0_pay2 x0 x3 x2 x1) x5) 7 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece1 =>
    unfold k0_pay86; rw [open80]
    obtain rfl : r = x 2 := Fin.ext h2
    refine (congrArg _ (eta64 x)).trans ((qp6 _ _ (x 1) (x 2)).trans ?_)
    refine Eq.trans ?_ (headAt (fun z => queryNorm z (fun e => x6 (ix2 e (x 2)))) (k0_pay6 (k0_pay2 x0 x3 x2 x1) x5) 6 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece2 =>
    rw [open80]
    obtain rfl : r = x 2 := Fin.ext h2
    refine (congrArg _ (eta64 x)).trans ((qp5 _ _ (x 1) (x 2)).trans ?_)
    refine Eq.trans ?_ (headAt (fun z => queryNorm z (fun e => x6 (ix2 e (x 2)))) (k0_pay6 (k0_pay2 x0 x3 x2 x1) x5) 5 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece3 =>
    rw [open80]
    obtain rfl : r = x 2 := Fin.ext h2
    refine (congrArg _ (eta64 x)).trans ((qp4 _ _ (x 1) (x 2)).trans ?_)
    refine Eq.trans ?_ (headAt (fun z => queryNorm z (fun e => x6 (ix2 e (x 2)))) (k0_pay6 (k0_pay2 x0 x3 x2 x1) x5) 4 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece4 =>
    rw [open80]
    obtain rfl : r = x 2 := Fin.ext h2
    refine (congrArg _ (eta64 x)).trans ((qp3 _ _ (x 1) (x 2)).trans ?_)
    refine Eq.trans ?_ (headAt (fun z => queryNorm z (fun e => x6 (ix2 e (x 2)))) (k0_pay6 (k0_pay2 x0 x3 x2 x1) x5) 3 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece5 =>
    unfold k0_pay84 k0_pay85; rw [open80]
    obtain rfl : r = x 2 := Fin.ext h2
    refine (congrArg _ (eta64 x)).trans ((qp2 _ _ (x 1) (x 2)).trans ?_)
    refine Eq.trans ?_ (headAt (fun z => queryNorm z (fun e => x6 (ix2 e (x 2)))) (k0_pay6 (k0_pay2 x0 x3 x2 x1) x5) 2 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece6 =>
    rw [open80]
    obtain rfl : r = x 2 := Fin.ext h2
    refine (congrArg _ (eta64 x)).trans ((qp1 _ _ (x 1) (x 2)).trans ?_)
    refine Eq.trans ?_ (headAt (fun z => queryNorm z (fun e => x6 (ix2 e (x 2)))) (k0_pay6 (k0_pay2 x0 x3 x2 x1) x5) 1 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg
  case piece7 =>
    rw [open79, ld5]
    obtain rfl : r = x 2 := Fin.ext h2
    refine (congrArg _ (eta64 x)).trans ((qp0 _ _ _ (x 1) (x 2)).trans ?_)
    refine Eq.trans ?_ (headAt (fun z => queryNorm z (fun e => x6 (ix2 e (x 2)))) (k0_pay6 (k0_pay2 x0 x3 x2 x1) x5) 0 (by omega) p (x 2) (x 1) (h1.trans (Nat.zero_add _).symm))
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    exact congrArg (fun g => queryNorm _ g _) hg

theorem open13 (p : Fin 512) (r : Fin 256) : out0_13 i x0 x1 x2 x3 x4 x5 x6 x7 x8 x9 (ix3 0 p r) =
    turn (queryNorm (fun e => k0_pay6 (k0_pay2 x0 x3 x2 x1) x5 (ix2 ⟨64 * (p.val / 64) + e.val, by omega⟩ r)) (fun e => x6 (ix2 e r)))
      (fun e => x8 (ix2 e r)) (fun e => x9 (ix2 e r)) ⟨p.val % 64, Nat.mod_lt _ (by decide)⟩ := by
  unfold out0_13
  canon_tiles x h
  case piece0 =>
    rw [open80]
    obtain rfl : r = x 2 := Fin.ext h2
    refine (congrArg _ (eta64 x)).trans ((qr7 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 7 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece1 =>
    unfold k0_pay86; rw [open80]
    obtain rfl : r = x 2 := Fin.ext h2
    refine (congrArg _ (eta64 x)).trans ((qr6 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 6 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece2 =>
    rw [open80]
    obtain rfl : r = x 2 := Fin.ext h2
    refine (congrArg _ (eta64 x)).trans ((qr5 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 5 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece3 =>
    rw [open80]
    obtain rfl : r = x 2 := Fin.ext h2
    refine (congrArg _ (eta64 x)).trans ((qr4 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 4 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece4 =>
    rw [open80]
    obtain rfl : r = x 2 := Fin.ext h2
    refine (congrArg _ (eta64 x)).trans ((qr3 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 3 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece5 =>
    unfold k0_pay84 k0_pay85; rw [open80]
    obtain rfl : r = x 2 := Fin.ext h2
    refine (congrArg _ (eta64 x)).trans ((qr2 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 2 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece6 =>
    rw [open80]
    obtain rfl : r = x 2 := Fin.ext h2
    refine (congrArg _ (eta64 x)).trans ((qr1 _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 1 (by omega) p (x 2) (x 1) h1)
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)
  case piece7 =>
    rw [open79, ld5]
    obtain rfl : r = x 2 := Fin.ext h2
    refine (congrArg _ (eta64 x)).trans ((qr0 _ _ _ _ _ (x 1) (x 2)).trans ?_)
    refine Eq.trans ?_ (headAt (fun z => turn (queryNorm z (fun e => x6 (ix2 e (x 2)))) (fun e => x8 (ix2 e (x 2))) (fun e => x9 (ix2 e (x 2)))) (k0_pay6 (k0_pay2 x0 x3 x2 x1) x5) 0 (by omega) p (x 2) (x 1) (h1.trans (Nat.zero_add _).symm))
    have hg : (fun e : Fin 64 => k0_pay83 i x0 x1 x2 x3 x4 x5 x6 x7 x8 x9 (ix2 e (x 2))) = fun e => x6 (ix2 e (x 2)) := funext fun e => open83 i x0 x1 x2 x3 x4 x5 x6 x7 x8 x9 e (x 2)
    have hc : (fun e : Fin 32 => k0_pay81 i x0 x1 x2 x3 x4 x5 x6 x7 x8 x9 (ix2 e (x 2))) = fun e => x8 (ix2 e (x 2)) := funext fun e => open81 i x0 x1 x2 x3 x4 x5 x6 x7 x8 x9 e (x 2)
    have hs : (fun e : Fin 32 => k0_pay82 i x0 x1 x2 x3 x4 x5 x6 x7 x8 x9 (ix2 e (x 2))) = fun e => x9 (ix2 e (x 2)) := funext fun e => open82 i x0 x1 x2 x3 x4 x5 x6 x7 x8 x9 e (x 2)
    exact (congrArg (fun g => turn (queryNorm _ g) _ _ _) hg).trans (congrArg₂ (fun c s => turn (queryNorm _ _) c s _) hc hs)

end Cert.Proof.FR

end
-- ==== Proof.FR.Ref.lean ====
module

public import proofs.«01_k».proof.Proof.Gen.FrontReferenceIdeal.Read
public import proofs.«01_k».proof.Proof.FR.Spec
public import Idealize.ShloMosaic.Lib.Pointwise
public import Idealize.ShloMosaic.Lib.WordCmp

@[expose] public section

noncomputable section

/-! The reference's results read at an entry, from the token's projected row. -/

namespace Cert.Proof.FR

open Idealize.ShloMosaic Cert.FrontReferenceIdeal Cert.FrontReferenceIdeal.Gen Cert.FrontReferenceIdeal.Read

variable (x0 : (⟨S4x8192x1024, .f32⟩ : BufTy).Contents (Elt Ideal)) (x1 : (⟨S4x6144, .f32⟩ : BufTy).Contents (Elt Ideal))
  (x2 : (⟨S1024, .f32⟩ : BufTy).Contents (Elt Ideal)) (x3 : (⟨S1024x4376, .f32⟩ : BufTy).Contents (Elt Ideal))
  (x4 : (⟨S64, .f32⟩ : BufTy).Contents (Elt Ideal)) (x5 : (⟨S3x64, .f32⟩ : BufTy).Contents (Elt Ideal))

/-- A token's normalised row. -/
theorem v25_apply (b : Fin 4) (t : Fin 8192) (k : Fin 1024) :
    val_main_v25 (F := Ideal) x0 x1 x2 (ix3 b t k) =
      BK.normed (fun k => x0 (ix3 b t k)) (fun k => x2 (ix1 k)) (fun k => x1 (ix2 b ⟨1024 + k.val, by omega⟩))
        (fun k => x1 (ix2 b ⟨k.val, by omega⟩)) k := by
  unfold BK.normed BK.invRms
  pointwise [val_main_v25, val_main_v24, val_main_v23, val_main_v22, val_main_v21, val_main_v20, val_main_v19,
    val_main_v18, val_main_v17, val_main_v16, val_main_v15, val_main_v14, val_main_v13, val_main_v12,
    val_main_v11, val_main_v10, val_main_v9, val_main_v8, val_main_v7, val_main_v2, val_main_v1, val_main_v0,
    val_main_cst, val_main_cst_0, val_main_cst_1, val_main_cst_2]

/-- A token's projected row. -/
def zrow (b : Fin 4) (t : Fin 8192) (n : Fin 4376) : EReal := val_main_v26 (F := Ideal) x0 x1 x2 x3 (ix3 b t n)

theorem zrow_eq (b : Fin 4) (t : Fin 8192) (n : Fin 4376) :
    zrow x0 x1 x2 x3 b t n =
      BK.rowMul (fun k => val_main_v25 (F := Ideal) x0 x1 x2 (ix3 b t k)) (fun k n => x3 (ix2 k n)) n := by
  unfold zrow BK.rowMul
  pointwise [val_main_v26]

/-- The gated unit. -/
theorem v40_apply (b : Fin 4) (t : Fin 8192) (n : Fin 512) :
    val_main_v40 (F := Ideal) x0 x1 x2 x3 (ix3 b t n) =
      (zrow x0 x1 x2 x3 b t) ⟨n.val, by omega⟩ * Ideal.logistic ((zrow x0 x1 x2 x3 b t) ⟨512 + n.val, by omega⟩) := by
  unfold zrow Ideal.logistic
  pointwise [val_main_v40, val_main_v39, val_main_v38, val_main_v37, val_main_v36, val_main_v35, val_main_v34,
    val_main_v33, val_main_v32, val_main_v27, val_main_cst_3, val_main_cst_4]

/-- The merge gates. -/
theorem v185_apply (b : Fin 4) (t : Fin 8192) (n : Fin 2048) :
    val_main_v185 (F := Ideal) x0 x1 x2 x3 (ix3 b t n) =
      Ideal.logistic ((zrow x0 x1 x2 x3 b t) ⟨2328 + n.val, by omega⟩) := by
  unfold zrow Ideal.logistic
  pointwise [val_main_v185, val_main_v184, val_main_v183, val_main_v182, val_main_v181, val_main_v180, val_main_v31,
    val_main_cst_22, val_main_cst_23]

/-- A normalised query head. -/
theorem v54_apply (b : Fin 4) (t : Fin 8192) (h : Fin 8) (d : Fin 64) :
    val_main_v54 (F := Ideal) x0 x1 x2 x3 x4 (ix4 b t h d) =
      headNorm (qHead (zrow x0 x1 x2 x3 b t) h) (fun e => x4 (ix1 e)) d := by
  unfold headNorm headInv qHead zrow
  pointwise [val_main_v54, val_main_v53, val_main_v52, val_main_v51, val_main_v50, val_main_v49, val_main_v48,
    val_main_v47, val_main_v46, val_main_v45, val_main_v44, val_main_v43, val_main_v42, val_main_v41,
    val_main_v28, val_main_cst_5, val_main_cst_6, val_main_cst_7]

/-- A normalised key head of part 0. -/
theorem v72_apply (b : Fin 4) (t : Fin 8192) (h : Fin 2) (d : Fin 64) :
    val_main_v72 (F := Ideal) x0 x1 x2 x3 x5 (ix4 b t h d) =
      headNorm (kvHead (zrow x0 x1 x2 x3 b t) 0 h) (fun e => x5 (ix2 0 e)) d := by
  unfold headNorm headInv kvHead zrow
  pointwise [val_main_v72, val_main_v71, val_main_v70, val_main_v69, val_main_v68, val_main_v67, val_main_v66,
    val_main_v65, val_main_v64, val_main_v63, val_main_v62, val_main_v61, val_main_v60, val_main_v59,
    val_main_v58, val_main_v57, val_main_v56, val_main_v55, val_main_v29, val_main_cst_8, val_main_cst_9,
    val_main_cst_10]

/-- A normalised key head of part 2. -/
theorem v91_apply (b : Fin 4) (t : Fin 8192) (h : Fin 2) (d : Fin 64) :
    val_main_v91 (F := Ideal) x0 x1 x2 x3 x5 (ix4 b t h d) =
      headNorm (kvHead (zrow x0 x1 x2 x3 b t) 2 h) (fun e => x5 (ix2 1 e)) d := by
  unfold headNorm headInv kvHead zrow
  pointwise [val_main_v91, val_main_v90, val_main_v89, val_main_v88, val_main_v87, val_main_v86, val_main_v85,
    val_main_v84, val_main_v83, val_main_v82, val_main_v81, val_main_v80, val_main_v79, val_main_v78,
    val_main_v77, val_main_v76, val_main_v75, val_main_v55, val_main_v29, val_main_cst_11, val_main_cst_12,
    val_main_cst_13]

/-- A normalised key head of part 4. -/
theorem v140_apply (b : Fin 4) (t : Fin 8192) (h : Fin 2) (d : Fin 64) :
    val_main_v140 (F := Ideal) x0 x1 x2 x3 x5 (ix4 b t h d) =
      headNorm (kvHead (zrow x0 x1 x2 x3 b t) 4 h) (fun e => x5 (ix2 2 e)) d := by
  unfold headNorm headInv kvHead zrow
  pointwise [val_main_v140, val_main_v139, val_main_v138, val_main_v137, val_main_v136, val_main_v135, val_main_v134,
    val_main_v133, val_main_v132, val_main_v131, val_main_v130, val_main_v129, val_main_v128, val_main_v127,
    val_main_v126, val_main_v125, val_main_v124, val_main_v55, val_main_v29, val_main_cst_16, val_main_cst_17,
    val_main_cst_18]

/-- A value head of part 1. -/
theorem v74_apply (b : Fin 4) (t : Fin 8192) (h : Fin 2) (d : Fin 64) :
    val_main_v74 (F := Ideal) x0 x1 x2 x3 (ix4 b t h d) =
      kvHead (zrow x0 x1 x2 x3 b t) 1 h d := by
  unfold kvHead zrow
  pointwise [val_main_v74, val_main_v73, val_main_v55, val_main_v29]

/-- A value head of part 3. -/
theorem v123_apply (b : Fin 4) (t : Fin 8192) (h : Fin 2) (d : Fin 64) :
    val_main_v123 (F := Ideal) x0 x1 x2 x3 (ix4 b t h d) =
      kvHead (zrow x0 x1 x2 x3 b t) 3 h d := by
  unfold kvHead zrow
  pointwise [val_main_v123, val_main_v122, val_main_v55, val_main_v29]

/-- A value head of part 5. -/
theorem v172_apply (b : Fin 4) (t : Fin 8192) (h : Fin 2) (d : Fin 64) :
    val_main_v172 (F := Ideal) x0 x1 x2 x3 (ix4 b t h d) =
      kvHead (zrow x0 x1 x2 x3 b t) 5 h d := by
  unfold kvHead zrow
  pointwise [val_main_v172, val_main_v171, val_main_v55, val_main_v29]

end Cert.Proof.FR

end
-- ==== Proof.FR.Ref2.lean ====
module

public import proofs.«01_k».proof.Proof.FR.Ref
public import Idealize.ShloMosaic.Lib.Pointwise
public import Idealize.ShloMosaic.Lib.WordCmp

@[expose] public section

noncomputable section

/-! The reference's results read at an entry, from the token's projected row. -/

namespace Cert.Proof.FR

open Idealize.ShloMosaic Cert.FrontReferenceIdeal Cert.FrontReferenceIdeal.Gen Cert.FrontReferenceIdeal.Read

variable (x0 : (⟨S4x8192x1024, .f32⟩ : BufTy).Contents (Elt Ideal)) (x1 : (⟨S4x6144, .f32⟩ : BufTy).Contents (Elt Ideal))
  (x2 : (⟨S1024, .f32⟩ : BufTy).Contents (Elt Ideal)) (x3 : (⟨S1024x4376, .f32⟩ : BufTy).Contents (Elt Ideal))
  (x4 : (⟨S64, .f32⟩ : BufTy).Contents (Elt Ideal)) (x5 : (⟨S3x64, .f32⟩ : BufTy).Contents (Elt Ideal))

theorem v154_eq : val_main_v154 (F := Ideal) = val_main_v105 (F := Ideal) := rfl

theorem v206_eq : val_main_v206 (F := Ideal) = val_main_v105 (F := Ideal) := rfl

theorem v156_eq : val_main_v156 (F := Ideal) = val_main_v107 (F := Ideal) := rfl

theorem v208_eq : val_main_v208 (F := Ideal) = val_main_v107 (F := Ideal) := rfl

/-- A turned key head of part 2. -/
theorem v121_apply (b : Fin 4) (t : Fin 8192) (h : Fin 2) (d : Fin 64) :
    val_main_v121 (F := Ideal) x0 x1 x2 x3 x5 (ix4 b t h d) =
      turn (headNorm (kvHead (zrow x0 x1 x2 x3 b t) 2 h) (fun e => x5 (ix2 1 e)))
        (fun e => val_main_v105 (F := Ideal) (ix2 t e)) (fun e => val_main_v107 (F := Ideal) (ix2 t e)) d := by
  unfold turn
  simp only [← v91_apply]
  pointwise [val_main_v121, val_main_v120, val_main_v119, val_main_v118, val_main_v117, val_main_v116, val_main_v115,
    val_main_v114, val_main_v113, val_main_v112, val_main_v111, val_main_v110, val_main_v109, val_main_v106,
    val_main_v108]

/-- A turned key head of part 4. -/
theorem v170_apply (b : Fin 4) (t : Fin 8192) (h : Fin 2) (d : Fin 64) :
    val_main_v170 (F := Ideal) x0 x1 x2 x3 x5 (ix4 b t h d) =
      turn (headNorm (kvHead (zrow x0 x1 x2 x3 b t) 4 h) (fun e => x5 (ix2 2 e)))
        (fun e => val_main_v105 (F := Ideal) (ix2 t e)) (fun e => val_main_v107 (F := Ideal) (ix2 t e)) d := by
  unfold turn
  rw [← v154_eq, ← v156_eq]
  simp only [← v140_apply]
  pointwise [val_main_v170, val_main_v169, val_main_v168, val_main_v167, val_main_v166, val_main_v165, val_main_v164,
    val_main_v163, val_main_v162, val_main_v161, val_main_v160, val_main_v159, val_main_v158, val_main_v155,
    val_main_v157]

/-- A scaled query head. -/
theorem v192_apply (b : Fin 4) (t : Fin 8192) (h : Fin 8) (d : Fin 64) :
    val_main_v192 (F := Ideal) x0 x1 x2 x3 x4 (ix4 b t h d) =
      queryNorm (qHead (zrow x0 x1 x2 x3 b t) h) (fun e => x4 (ix1 e)) d := by
  unfold queryNorm
  rw [← v54_apply]
  pointwise [val_main_v192, val_main_v191, val_main_cst_25]

/-- A turned query head. -/
theorem v222_apply (b : Fin 4) (t : Fin 8192) (h : Fin 8) (d : Fin 64) :
    val_main_v222 (F := Ideal) x0 x1 x2 x3 x4 (ix4 b t h d) =
      turn (queryNorm (qHead (zrow x0 x1 x2 x3 b t) h) (fun e => x4 (ix1 e)))
        (fun e => val_main_v105 (F := Ideal) (ix2 t e)) (fun e => val_main_v107 (F := Ideal) (ix2 t e)) d := by
  unfold turn
  rw [← v206_eq, ← v208_eq]
  simp only [← v192_apply]
  pointwise [val_main_v222, val_main_v221, val_main_v220, val_main_v219, val_main_v218, val_main_v217, val_main_v216,
    val_main_v215, val_main_v214, val_main_v213, val_main_v212, val_main_v211, val_main_v210, val_main_v209,
    val_main_v207]

/-- The queries, channel by channel. -/
theorem v190_apply (b : Fin 4) (p : Fin 512) (t : Fin 8192) :
    val_main_v190 (F := Ideal) x0 x1 x2 x3 x4 (ix3 b p t) =
      queryNorm (qHead (zrow x0 x1 x2 x3 b t) ⟨p.val / 64, by omega⟩) (fun e => x4 (ix1 e)) ⟨p.val % 64, Nat.mod_lt _ (by decide)⟩ := by
  unfold queryNorm
  rw [← v54_apply]
  pointwise [val_main_v190, val_main_v189, val_main_v188, val_main_v187, val_main_v186, val_main_cst_24]

theorem pair_div (f : Fin 2 → Fin 64 → EReal) (p : Fin 128) : f ⟨p.val / 64, by omega⟩ ⟨p.val % 64, Nat.mod_lt _ (by decide)⟩ = pair (f 0) (f 1) p := by
  unfold pair
  split
  · exact congrArg₂ f (Fin.ext (by show p.val / 64 = 0; omega)) (Fin.ext (by show p.val % 64 = p.val; omega))
  · exact congrArg₂ f (Fin.ext (by show p.val / 64 = 1; omega)) (Fin.ext (by show p.val % 64 = p.val - 64; omega))

/-- The keys of part 0, channel by channel. -/
theorem v227_apply (b : Fin 4) (p : Fin 128) (t : Fin 8192) :
    val_main_v227 (F := Ideal) x0 x1 x2 x3 x5 (ix3 b p t) =
      pair (headNorm (kvHead (zrow x0 x1 x2 x3 b t) 0 0) (fun e => x5 (ix2 0 e)))
        (headNorm (kvHead (zrow x0 x1 x2 x3 b t) 0 1) (fun e => x5 (ix2 0 e))) p := by
  rw [← pair_div (fun h => headNorm (kvHead (zrow x0 x1 x2 x3 b t) 0 h) (fun e => x5 (ix2 0 e)))]
  dsimp only
  rw [← v72_apply]
  pointwise [val_main_v227, val_main_v226]

end Cert.Proof.FR

end
-- ==== Proof.FR.Ref3.lean ====
module

public import proofs.«01_k».proof.Proof.FR.Ref
public import Idealize.ShloMosaic.Lib.Pointwise
public import Idealize.ShloMosaic.Lib.WordCmp

@[expose] public section

noncomputable section

/-! The reference's last layout steps, read at an entry. -/

namespace Cert.Proof.FR

open Idealize.ShloMosaic Cert.FrontReferenceIdeal Cert.FrontReferenceIdeal.Gen Cert.FrontReferenceIdeal.Read

/-- Eight heads of 64 laid out channel by channel. -/
theorem chan8 (w : FVec Ideal S4x8192x8x64 .f32) (b : Fin 4) (p : Fin 512) (t : Fin 8192) :
    transpose S4x512x8192 [0, 2, 1] (shapeCast S4x8192x512 w shapeCasts_S4x8192x8x64_S4x8192x512)
      transposes_S4x8192x512_S4x512x8192_0_2_1 (ix3 b p t) = w (ix4 b t ⟨p.val / 64, by omega⟩ ⟨p.val % 64, Nat.mod_lt _ (by decide)⟩) := by
  pointwise

/-- Two heads of 64 laid out in a row. -/
theorem rows2 (w : FVec Ideal S4x8192x2x64 .f32) (b : Fin 4) (t : Fin 8192) (p : Fin 128) :
    shapeCast S4x8192x128 w shapeCasts_S4x8192x2x64_S4x8192x128 (ix3 b t p) = w (ix4 b t ⟨p.val / 64, by omega⟩ ⟨p.val % 64, Nat.mod_lt _ (by decide)⟩) := by
  pointwise

/-- Two heads of 64 laid out channel by channel. -/
theorem chan2 (w : FVec Ideal S4x8192x2x64 .f32) (b : Fin 4) (p : Fin 128) (t : Fin 8192) :
    transpose S4x128x8192 [0, 2, 1] (shapeCast S4x8192x128 w shapeCasts_S4x8192x2x64_S4x8192x128)
      transposes_S4x8192x128_S4x128x8192_0_2_1 (ix3 b p t) = w (ix4 b t ⟨p.val / 64, by omega⟩ ⟨p.val % 64, Nat.mod_lt _ (by decide)⟩) := by
  pointwise

/-- Two heads of 80 laid out channel by channel. -/
theorem chan80 (w : FVec Ideal S4x8192x2x80 .f32) (b : Fin 4) (p : Fin 160) (t : Fin 8192) :
    transpose S4x160x8192 [0, 2, 1] (shapeCast S4x8192x160 w shapeCasts_S4x8192x2x80_S4x8192x160)
      transposes_S4x8192x160_S4x160x8192_0_2_1 (ix3 b p t) =
      w (ix4 b t ⟨p.val / 80, by omega⟩ ⟨p.val % 80, Nat.mod_lt _ (by decide)⟩) := by
  pointwise

/-- A head of 64 followed by sixteen entries. -/
theorem cat80 (w : FVec Ideal S4x8192x2x64 .f32) (o : FVec Ideal S4x8192x2x16 .f32) (b : Fin 4) (t : Fin 8192) (h : Fin 2)
    (d : Fin 80) :
    concatenate S4x8192x2x80 3 [⟨S4x8192x2x64, w⟩, ⟨S4x8192x2x16, o⟩] concatenates_S4x8192x2x64_S4x8192x2x16_S4x8192x2x80_d3
      (ix4 b t h d) = if hd : d.val < 64 then w (ix4 b t h ⟨d.val, hd⟩) else o (ix4 b t h ⟨d.val - 64, by omega⟩) := by
  pointwise

/-- Two heads of 64, each followed by sixteen ones, laid out channel by channel. -/
theorem aug2 (w : FVec Ideal S4x8192x2x64 .f32) (o : FVec Ideal S4x8192x2x16 .f32) (b : Fin 4) (p : Fin 160) (t : Fin 8192)
    (ho : ∀ i, o i = 1) :
    transpose S4x160x8192 [0, 2, 1] (shapeCast S4x8192x160
      (concatenate S4x8192x2x80 3 [⟨S4x8192x2x64, w⟩, ⟨S4x8192x2x16, o⟩] concatenates_S4x8192x2x64_S4x8192x2x16_S4x8192x2x80_d3)
      shapeCasts_S4x8192x2x80_S4x8192x160) transposes_S4x8192x160_S4x160x8192_0_2_1 (ix3 b p t) =
      withOnes (fun p => w (ix4 b t ⟨p.val / 64, by omega⟩ ⟨p.val % 64, Nat.mod_lt _ (by decide)⟩)) p := by
  rw [chan80, cat80]
  unfold withOnes
  simp only [ho]
  split_ifs
  all_goals first
    | rfl
    | omega
    | exact congrArg₂ (fun u v => w (ix4 b t u v)) (Fin.ext (by dsimp only; omega)) (Fin.ext (by dsimp only; omega))

/-- Rows of 128 followed by sixteen further columns. -/
theorem cols (w : FVec Ideal S4x8192x128 .f32) (o : FVec Ideal S4x8192x16 .f32) (b : Fin 4) (t : Fin 8192) (p : Fin 144) :
    concatenate S4x8192x144 2 [⟨S4x8192x128, w⟩, ⟨S4x8192x16, o⟩] concatenates_S4x8192x128_S4x8192x16_S4x8192x144_d2 (ix3 b t p) =
      if h : p.val < 128 then w (ix3 b t ⟨p.val, h⟩) else o (ix3 b t ⟨p.val - 128, by omega⟩) := by
  pointwise

/-- A bit as a number. -/
theorem uitofp_bit (v : BitVec 1) : (FloatOps.uitofp FTy.f32 v : Ideal FTy.f32) = Scalar.select v (1 : EReal) 0 := by
  have h : v = 0#1 ∨ v = 1#1 := by revert v; decide
  rcases h with h | h <;> subst h <;> simp [FloatOps.uitofp, Scalar.select]

/-- The indicator column: the token's block number within its chunk is the column's. -/
theorem v178_apply (b : Fin 4) (t : Fin 8192) (k : Fin 16) :
    val_main_v178 (F := Ideal) (ix3 b t k) = Scalar.select (BitVec.ofBool (decide (t.val / 64 % 8 = k.val))) (1 : EReal) 0 := by
  pointwise [val_main_v178, val_main_v177, val_main_v176, val_main_v175, val_main_v174, val_main_v173]
  rw [uitofp_bit]
  word_cmp

end Cert.Proof.FR

end
-- ==== Proof.FR.Ref4.lean ====
module

public import proofs.«01_k».proof.Proof.FR.Ref2
public import proofs.«01_k».proof.Proof.FR.Ref3
public import Idealize.ShloMosaic.Lib.Pointwise
public import Idealize.ShloMosaic.Lib.WordCmp

@[expose] public section

noncomputable section

/-! The reference's results read at an entry, from the token's projected row. -/

namespace Cert.Proof.FR

open Idealize.ShloMosaic Cert.FrontReferenceIdeal Cert.FrontReferenceIdeal.Gen Cert.FrontReferenceIdeal.Read

variable (x0 : (⟨S4x8192x1024, .f32⟩ : BufTy).Contents (Elt Ideal)) (x1 : (⟨S4x6144, .f32⟩ : BufTy).Contents (Elt Ideal))
  (x2 : (⟨S1024, .f32⟩ : BufTy).Contents (Elt Ideal)) (x3 : (⟨S1024x4376, .f32⟩ : BufTy).Contents (Elt Ideal))
  (x4 : (⟨S64, .f32⟩ : BufTy).Contents (Elt Ideal)) (x5 : (⟨S3x64, .f32⟩ : BufTy).Contents (Elt Ideal))

/-- A cast to fewer bits leaves an ideal number. -/
theorem trunc_id (x : Ideal FTy.f32) : (FloatOps.truncf (F := Ideal) FTy.bf16 bitsLt_bf16_f32 x : EReal) = x := rfl

/-- The turned queries, channel by channel. -/
theorem v225_apply (b : Fin 4) (p : Fin 512) (t : Fin 8192) :
    val_main_v225 (F := Ideal) x0 x1 x2 x3 x4 (ix3 b p t) =
      turn (queryNorm (qHead (zrow x0 x1 x2 x3 b t) ⟨p.val / 64, by omega⟩) (fun e => x4 (ix1 e)))
        (fun e => val_main_v105 (F := Ideal) (ix2 t e)) (fun e => val_main_v107 (F := Ideal) (ix2 t e)) ⟨p.val % 64, Nat.mod_lt _ (by decide)⟩ := by
  refine (val_main_v225_apply (F := Ideal) x0 x1 x2 x3 x4 _).trans ((trunc_id _).trans ?_)
  unfold val_main_v224 val_main_v223
  exact (chan8 (val_main_v222 (F := Ideal) x0 x1 x2 x3 x4) b p t).trans (v222_apply x0 x1 x2 x3 x4 b t _ _)

/-- The keys of part 2, channel by channel. -/
theorem v231_apply (b : Fin 4) (p : Fin 128) (t : Fin 8192) :
    val_main_v231 (F := Ideal) x0 x1 x2 x3 x5 (ix3 b p t) =
      pair (turn (headNorm (kvHead (zrow x0 x1 x2 x3 b t) 2 0) (fun e => x5 (ix2 1 e)))
        (fun e => val_main_v105 (F := Ideal) (ix2 t e)) (fun e => val_main_v107 (F := Ideal) (ix2 t e)))
        (turn (headNorm (kvHead (zrow x0 x1 x2 x3 b t) 2 1) (fun e => x5 (ix2 1 e)))
        (fun e => val_main_v105 (F := Ideal) (ix2 t e)) (fun e => val_main_v107 (F := Ideal) (ix2 t e))) p :=
  (chan2 (val_main_v121 (F := Ideal) x0 x1 x2 x3 x5) b p t).trans ((v121_apply x0 x1 x2 x3 x5 b t _ _).trans
    (pair_div (fun h => turn (headNorm (kvHead (zrow x0 x1 x2 x3 b t) 2 h) (fun e => x5 (ix2 1 e)))
        (fun e => val_main_v105 (F := Ideal) (ix2 t e)) (fun e => val_main_v107 (F := Ideal) (ix2 t e))) p))

/-- The keys of part 4, channel by channel. -/
theorem v235_apply (b : Fin 4) (p : Fin 128) (t : Fin 8192) :
    val_main_v235 (F := Ideal) x0 x1 x2 x3 x5 (ix3 b p t) =
      pair (turn (headNorm (kvHead (zrow x0 x1 x2 x3 b t) 4 0) (fun e => x5 (ix2 2 e)))
        (fun e => val_main_v105 (F := Ideal) (ix2 t e)) (fun e => val_main_v107 (F := Ideal) (ix2 t e)))
        (turn (headNorm (kvHead (zrow x0 x1 x2 x3 b t) 4 1) (fun e => x5 (ix2 2 e)))
        (fun e => val_main_v105 (F := Ideal) (ix2 t e)) (fun e => val_main_v107 (F := Ideal) (ix2 t e))) p :=
  (chan2 (val_main_v170 (F := Ideal) x0 x1 x2 x3 x5) b p t).trans ((v170_apply x0 x1 x2 x3 x5 b t _ _).trans
    (pair_div (fun h => turn (headNorm (kvHead (zrow x0 x1 x2 x3 b t) 4 h) (fun e => x5 (ix2 2 e)))
        (fun e => val_main_v105 (F := Ideal) (ix2 t e)) (fun e => val_main_v107 (F := Ideal) (ix2 t e))) p))

/-- A value of part 1, by its place in the row. -/
theorem v74_at (b : Fin 4) (p : Fin 128) (t : Fin 8192) :
    val_main_v74 (F := Ideal) x0 x1 x2 x3 (ix4 b t ⟨p.val / 64, by omega⟩ ⟨p.val % 64, Nat.mod_lt _ (by decide)⟩) = (zrow x0 x1 x2 x3 b t) ⟨1664 + p.val, by omega⟩ := by
  refine (v74_apply x0 x1 x2 x3 b t _ _).trans ?_
  unfold kvHead
  exact congrArg (zrow x0 x1 x2 x3 b t) (Fin.ext (by dsimp only; omega))

/-- The values of part 1, channel by channel. -/
theorem v229_apply (b : Fin 4) (p : Fin 128) (t : Fin 8192) :
    val_main_v229 (F := Ideal) x0 x1 x2 x3 (ix3 b p t) = (zrow x0 x1 x2 x3 b t) ⟨1664 + p.val, by omega⟩ :=
  (chan2 (val_main_v74 (F := Ideal) x0 x1 x2 x3) b p t).trans (v74_at x0 x1 x2 x3 b p t)

/-- A value of part 3, by its place in the row. -/
theorem v123_at (b : Fin 4) (p : Fin 128) (t : Fin 8192) :
    val_main_v123 (F := Ideal) x0 x1 x2 x3 (ix4 b t ⟨p.val / 64, by omega⟩ ⟨p.val % 64, Nat.mod_lt _ (by decide)⟩) = (zrow x0 x1 x2 x3 b t) ⟨1920 + p.val, by omega⟩ := by
  refine (v123_apply x0 x1 x2 x3 b t _ _).trans ?_
  unfold kvHead
  exact congrArg (zrow x0 x1 x2 x3 b t) (Fin.ext (by dsimp only; omega))

/-- The values of part 3, channel by channel. -/
theorem v233_apply (b : Fin 4) (p : Fin 128) (t : Fin 8192) :
    val_main_v233 (F := Ideal) x0 x1 x2 x3 (ix3 b p t) = (zrow x0 x1 x2 x3 b t) ⟨1920 + p.val, by omega⟩ :=
  (chan2 (val_main_v123 (F := Ideal) x0 x1 x2 x3) b p t).trans (v123_at x0 x1 x2 x3 b p t)

/-- A value of part 5, by its place in the row. -/
theorem v172_at (b : Fin 4) (p : Fin 128) (t : Fin 8192) :
    val_main_v172 (F := Ideal) x0 x1 x2 x3 (ix4 b t ⟨p.val / 64, by omega⟩ ⟨p.val % 64, Nat.mod_lt _ (by decide)⟩) = (zrow x0 x1 x2 x3 b t) ⟨2176 + p.val, by omega⟩ := by
  refine (v172_apply x0 x1 x2 x3 b t _ _).trans ?_
  unfold kvHead
  exact congrArg (zrow x0 x1 x2 x3 b t) (Fin.ext (by dsimp only; omega))

/-- The values of part 5, channel by channel. -/
theorem v237_apply (b : Fin 4) (p : Fin 128) (t : Fin 8192) :
    val_main_v237 (F := Ideal) x0 x1 x2 x3 (ix3 b p t) = (zrow x0 x1 x2 x3 b t) ⟨2176 + p.val, by omega⟩ :=
  (chan2 (val_main_v172 (F := Ideal) x0 x1 x2 x3) b p t).trans (v172_at x0 x1 x2 x3 b p t)

/-- The values of part 3 with their ones, channel by channel. -/
theorem v247_apply (b : Fin 4) (p : Fin 160) (t : Fin 8192) :
    val_main_v247 (F := Ideal) x0 x1 x2 x3 (ix3 b p t) =
      withOnes (fun p => (zrow x0 x1 x2 x3 b t) ⟨1920 + p.val, by omega⟩) p := by
  refine (val_main_v247_apply (F := Ideal) x0 x1 x2 x3 _).trans ((trunc_id _).trans ?_)
  unfold val_main_v246 val_main_v245 val_main_v244
  exact (aug2 (val_main_v123 (F := Ideal) x0 x1 x2 x3) (val_main_v243 (F := Ideal)) b p t fun i => by
    pointwise [val_main_v243, val_main_cst_28]).trans
    (congrArg (fun w => withOnes w p) (funext fun p => v123_at x0 x1 x2 x3 b p t))

/-- The values of part 5 with their ones, channel by channel. -/
theorem v252_apply (b : Fin 4) (p : Fin 160) (t : Fin 8192) :
    val_main_v252 (F := Ideal) x0 x1 x2 x3 (ix3 b p t) =
      withOnes (fun p => (zrow x0 x1 x2 x3 b t) ⟨2176 + p.val, by omega⟩) p := by
  refine (val_main_v252_apply (F := Ideal) x0 x1 x2 x3 _).trans ((trunc_id _).trans ?_)
  unfold val_main_v251 val_main_v250 val_main_v249
  exact (aug2 (val_main_v172 (F := Ideal) x0 x1 x2 x3) (val_main_v248 (F := Ideal)) b p t fun i => by
    pointwise [val_main_v248, val_main_cst_29]).trans
    (congrArg (fun w => withOnes w p) (funext fun p => v172_at x0 x1 x2 x3 b p t))

/-- The window's keys as rows. -/
theorem v242_apply (b : Fin 4) (t : Fin 8192) (p : Fin 128) :
    val_main_v242 (F := Ideal) x0 x1 x2 x3 x5 (ix3 b t p) = val_main_v235 (F := Ideal) x0 x1 x2 x3 x5 (ix3 b p t) := by
  refine (val_main_v242_apply (F := Ideal) x0 x1 x2 x3 x5 _).trans ((trunc_id _).trans ?_)
  unfold val_main_v241
  exact (rows2 (val_main_v170 (F := Ideal) x0 x1 x2 x3 x5) b t p).trans (chan2 (val_main_v170 (F := Ideal) x0 x1 x2 x3 x5) b p t).symm

/-- The selected keys as rows, followed by their block's indicator columns. -/
theorem v240_apply (b : Fin 4) (t : Fin 8192) (p : Fin 144) :
    val_main_v240 (F := Ideal) x0 x1 x2 x3 x5 (ix3 b t p) =
      if h : p.val < 128 then val_main_v231 (F := Ideal) x0 x1 x2 x3 x5 (ix3 b ⟨p.val, h⟩ t)
      else Scalar.select (BitVec.ofBool (decide (t.val / 64 % 8 = p.val - 128))) (1 : EReal) 0 := by
  refine (cols (val_main_v238 (F := Ideal) x0 x1 x2 x3 x5) (val_main_v178 (F := Ideal)) b t p).trans ?_
  split_ifs with h
  · exact (rows2 (val_main_v121 (F := Ideal) x0 x1 x2 x3 x5) b t ⟨p.val, h⟩).trans
      (chan2 (val_main_v121 (F := Ideal) x0 x1 x2 x3 x5) b ⟨p.val, h⟩ t).symm
  · exact v178_apply b t _

/-- The branch gates' rows, followed by eight zeros. -/
theorem gates (w : FVec Ideal S4x8192x24 .f32) (o : FVec Ideal S4x8192x8 .f32) (b : Fin 4) (t : Fin 8192) (p : Fin 32)
    (ho : ∀ i, o i = 0) :
    concatenate S4x8192x32 2 [⟨S4x8192x24, w⟩, ⟨S4x8192x8, o⟩] concatenates_S4x8192x24_S4x8192x8_S4x8192x32_d2 (ix3 b t p) =
      if h : p.val < 24 then w (ix3 b t ⟨p.val, h⟩) else 0 := by
  pointwise
  simp only [ho]

theorem v253_apply (b : Fin 4) (t : Fin 8192) (p : Fin 32) :
    val_main_v253 (F := Ideal) x0 x1 x2 x3 (ix3 b t p) = if h : p.val < 24 then (zrow x0 x1 x2 x3 b t) ⟨2304 + p.val, by omega⟩ else 0 := by
  refine (gates (val_main_v30 (F := Ideal) x0 x1 x2 x3) (val_main_v179 (F := Ideal)) b t p fun i => ?_).trans ?_
  · pointwise [val_main_v179, val_main_cst_21]
  · unfold zrow
    pointwise [val_main_v30]

/-- The branch gates, channel by channel. -/
theorem v260_apply (b : Fin 4) (p : Fin 32) (t : Fin 8192) :
    val_main_v260 (F := Ideal) x0 x1 x2 x3 (ix3 b p t) =
      Ideal.logistic (if h : p.val < 24 then (zrow x0 x1 x2 x3 b t) ⟨2304 + p.val, by omega⟩ else 0) := by
  rw [← v253_apply]
  unfold Ideal.logistic
  pointwise [val_main_v260, val_main_v259, val_main_v258, val_main_v257, val_main_v256, val_main_v255, val_main_v254,
    val_main_cst_30, val_main_cst_31]

end Cert.Proof.FR

end
-- ==== Proof.FR.Rows.lean ====
module

public import proofs.«01_k».proof.Proof.FR.Blk
public import proofs.«01_k».proof.Proof.FR.Open
public import proofs.«01_k».proof.Proof.FR.Ref4

@[expose] public section

set_option maxRecDepth 16384

noncomputable section

/-! The values the stores share, over the kernel's input blocks: the projected row of the tile's tokens. -/

namespace Cert.Proof.FR

open Idealize.ShloMosaic Idealize.ShloMosaic.TcCoe Cert.FrontIdeal Cert.FrontIdeal.Gen Cert.FrontIdeal.Body
open Idealize.ShloMosaic.Pipeline (Dat)

variable (m : (ℓ : Loc nD τ sig) → Buf (Elt Ideal) ℓ) (c : Dev nD) (t : Fin cfg0.N)

/-- The projected row of the token at row `r` of point `t`'s tile. -/
abbrev zr (r : Fin 256) : Fin 4376 → EReal := zrow (A0 m c) (A1 m c) (A2 m c) (A3 m c) (seq t) (tok t r)

/-- The tile's normalised tokens. -/
theorem pre (r : Fin 256) (k : Fin 1024) : k0_pay2 (iblk m c 0 t) (iblk m c 3 t) (iblk m c 2 t) (iblk m c 1 t) (ix2 r k) =
    Cert.FrontReferenceIdeal.Read.val_main_v25 (F := Ideal) (A0 m c) (A1 m c) (A2 m c) (ix3 (seq t) (tok t r) k) := by
  refine (pay2_apply _ _ _ _ r k).trans ((v25_apply (A0 m c) (A1 m c) (A2 m c) (seq t) (tok t r) k).trans ?_).symm
  simp only [blk0, blk1, blk2, blk3]

/-- The row's columns the gated unit reads. -/
theorem znlo (r : Fin 256) (n : Fin 1024) :
    k0_pay3 (iblk m c 0 t) (iblk m c 3 t) (iblk m c 2 t) (iblk m c 1 t) (iblk m c 4 t) (ix2 r ⟨n.val, by omega⟩) =
      zr m c t r ⟨n.val, by omega⟩ := by
  refine (pay3_apply _ _ _ _ _ r _).trans ((zrow_eq _ _ _ _ _ _ _).trans ?_).symm
  unfold BK.rowMul
  exact Finset.sum_congr rfl fun k _ => by
    dsimp only
    rw [pre, blk4, dif_pos n.isLt]

/-- The row's columns of the merge gates. -/
theorem znhi (r : Fin 256) (n : Fin 2048) :
    k0_pay3 (iblk m c 0 t) (iblk m c 3 t) (iblk m c 2 t) (iblk m c 1 t) (iblk m c 4 t) (ix2 r ⟨1024 + n.val, by omega⟩) =
      zr m c t r ⟨2328 + n.val, by omega⟩ := by
  refine (pay3_apply _ _ _ _ _ r _).trans ((zrow_eq _ _ _ _ _ _ _).trans ?_).symm
  unfold BK.rowMul
  exact Finset.sum_congr rfl fun k _ => by
    dsimp only
    rw [pre, blk4, dif_neg (by dsimp only; omega)]
    simp only [Nat.add_sub_cancel_left]

/-- The heads' columns of the row, transposed. -/
theorem zt (j : Fin 1312) (r : Fin 256) (h : j.val < 1304) :
    k0_pay6 (k0_pay2 (iblk m c 0 t) (iblk m c 3 t) (iblk m c 2 t) (iblk m c 1 t)) (iblk m c 5 t) (ix2 j r) =
      zr m c t r ⟨1024 + j.val, by omega⟩ := by
  refine (pay6_apply _ _ j r).trans ((zrow_eq _ _ _ _ _ _ _).trans ?_).symm
  unfold BK.rowMul
  exact Finset.sum_congr rfl fun k _ => by rw [pre, blk5, dif_pos h, mul_comm]

/-- The eight rows of zeros. -/
theorem zt0 (j : Fin 1312) (r : Fin 256) (h : ¬j.val < 1304) :
    k0_pay6 (k0_pay2 (iblk m c 0 t) (iblk m c 3 t) (iblk m c 2 t) (iblk m c 1 t)) (iblk m c 5 t) (ix2 j r) = (0 : EReal) := by
  refine (pay6_apply _ _ j r).trans ?_
  exact Finset.sum_eq_zero fun k _ => by rw [blk5, dif_neg h, zero_mul]

end Cert.Proof.FR

end
-- ==== Proof.FR.Points.lean ====
module

public import proofs.«01_k».proof.Proof.FR.Rows

@[expose] public section

set_option maxRecDepth 16384

noncomputable section

/-! What the body stores into each result's block, at an entry: the reference's result there. -/

namespace Cert.Proof.FR

open Idealize.ShloMosaic Idealize.ShloMosaic.TcCoe Cert.FrontIdeal Cert.FrontIdeal.Gen Cert.FrontIdeal.Body
open Idealize.ShloMosaic.Pipeline (Dat)

variable (m : (ℓ : Loc nD τ sig) → Buf (Elt Ideal) ℓ) (c : Dev nD) (t : Fin cfg0.N)

/-- A head of keys or values, at its rows of the transposed projection. -/
theorem zkv (o : ℕ) (j : Fin 6) (h : Fin 2) (ho : o = 512 + 128 * j.val + 64 * h.val) (r : Fin 256) :
    (fun e : Fin 64 => k0_pay6 (k0_pay2 (iblk m c 0 t) (iblk m c 3 t) (iblk m c 2 t) (iblk m c 1 t)) (iblk m c 5 t) (ix2 ⟨o + e.val, by omega⟩ r)) = kvHead (zr m c t r) j h := by
  funext e
  refine (zt m c t _ r (by dsimp only; omega)).trans ?_
  unfold kvHead
  exact congrArg (zr m c t r) (Fin.ext (by dsimp only; omega))

/-- A query head, at its rows of the transposed projection. -/
theorem zq (h : Fin 8) (r : Fin 256) :
    (fun e : Fin 64 => k0_pay6 (k0_pay2 (iblk m c 0 t) (iblk m c 3 t) (iblk m c 2 t) (iblk m c 1 t)) (iblk m c 5 t) (ix2 ⟨64 * h.val + e.val, by omega⟩ r)) = qHead (zr m c t r) h := by
  funext e
  refine (zt m c t _ r (by dsimp only; omega)).trans ?_
  unfold qHead
  exact congrArg (zr m c t r) (Fin.ext (by dsimp only; omega))

/-- The tile's keys of part 2, turned. -/
theorem row87 (p : Fin 128) (r : Fin 256) : k0_pay87 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p r) =
    Cert.FrontReferenceIdeal.Read.val_main_v231 (F := Ideal) (A0 m c) (A1 m c) (A2 m c) (A3 m c) (A5 m c) (ix3 (seq t) p (tok t r)) := by
  refine (open87 (grid0.coords t) (iblk m c 0 t) (iblk m c 1 t) (iblk m c 2 t) (iblk m c 3 t) (iblk m c 4 t) (iblk m c 5 t) (iblk m c 6 t) (iblk m c 7 t) (iblk m c 8 t) (iblk m c 9 t) p r).trans ?_
  refine Eq.trans ?_ (v231_apply (A0 m c) (A1 m c) (A2 m c) (A3 m c) (A5 m c) (seq t) p (tok t r)).symm
  have h0 := zkv m c t 768 2 0 (by decide) r
  have h1 := zkv m c t 832 2 1 (by decide) r
  rw [h0, h1]
  simp only [blk7, blk8, blk9]

/-- The tile's keys of part 4, turned. -/
theorem row89 (p : Fin 128) (r : Fin 256) : k0_pay89 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p r) =
    Cert.FrontReferenceIdeal.Read.val_main_v235 (F := Ideal) (A0 m c) (A1 m c) (A2 m c) (A3 m c) (A5 m c) (ix3 (seq t) p (tok t r)) := by
  refine (open89 (grid0.coords t) (iblk m c 0 t) (iblk m c 1 t) (iblk m c 2 t) (iblk m c 3 t) (iblk m c 4 t) (iblk m c 5 t) (iblk m c 6 t) (iblk m c 7 t) (iblk m c 8 t) (iblk m c 9 t) p r).trans ?_
  refine Eq.trans ?_ (v235_apply (A0 m c) (A1 m c) (A2 m c) (A3 m c) (A5 m c) (seq t) p (tok t r)).symm
  have h0 := zkv m c t 1024 4 0 (by decide) r
  have h1 := zkv m c t 1088 4 1 (by decide) r
  rw [h0, h1]
  simp only [blk7, blk8, blk9]

/-- The tile's values from row 896 of the transposed projection. -/
theorem row88 (p : Fin 128) (r : Fin 256) : k0_pay88 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p r) = zr m c t r ⟨1920 + p.val, by omega⟩ := by
  refine (open88 (grid0.coords t) (iblk m c 0 t) (iblk m c 1 t) (iblk m c 2 t) (iblk m c 3 t) (iblk m c 4 t) (iblk m c 5 t) (iblk m c 6 t) (iblk m c 7 t) (iblk m c 8 t) (iblk m c 9 t) p r).trans ((zt m c t _ r (by dsimp only; omega)).trans ?_)
  exact congrArg (zr m c t r) (Fin.ext (by dsimp only; omega))

/-- The tile's values from row 1152 of the transposed projection. -/
theorem row90 (p : Fin 128) (r : Fin 256) : k0_pay90 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 p r) = zr m c t r ⟨2176 + p.val, by omega⟩ := by
  refine (open90 (grid0.coords t) (iblk m c 0 t) (iblk m c 1 t) (iblk m c 2 t) (iblk m c 3 t) (iblk m c 4 t) (iblk m c 5 t) (iblk m c 6 t) (iblk m c 7 t) (iblk m c 8 t) (iblk m c 9 t) p r).trans ((zt m c t _ r (by dsimp only; omega)).trans ?_)
  exact congrArg (zr m c t r) (Fin.ext (by dsimp only; omega))

/-- The second coordinate of point `t`. -/
theorem coord1 : ∀ t : Fin cfg0.N, (grid0.coords t 1).val = t.val % 32 :=
  (by decide +kernel : ∀ t : Fin grid0.N, _)

/-- The gated unit of the tile. -/
theorem point10 (r : Fin 256) (n : Fin 512) : out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n) =
    Cert.FrontReferenceIdeal.Read.val_main_v40 (F := Ideal) (A0 m c) (A1 m c) (A2 m c) (A3 m c) (ix3 (seq t) (tok t r) n) := by
  refine (open10 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((pay4_apply _ _ _ _ _ r n).trans ?_)
  refine Eq.trans ?_ (v40_apply (A0 m c) (A1 m c) (A2 m c) (A3 m c) (seq t) (tok t r) n).symm
  exact congrArg₂ (fun a b => a * Ideal.logistic b) (znlo m c t r ⟨n.val, by omega⟩) (znlo m c t r ⟨512 + n.val, by omega⟩)

/-- The merge gates of the tile. -/
theorem point11 (r : Fin 256) (n : Fin 2048) : out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n) =
    Cert.FrontReferenceIdeal.Read.val_main_v185 (F := Ideal) (A0 m c) (A1 m c) (A2 m c) (A3 m c) (ix3 (seq t) (tok t r) n) := by
  refine (open11 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((pay5_apply _ r n).trans ?_)
  exact (congrArg Ideal.logistic (znhi m c t r n)).trans (v185_apply (A0 m c) (A1 m c) (A2 m c) (A3 m c) (seq t) (tok t r) n).symm

/-- The tile's queries. -/
theorem point12 (p : Fin 512) (r : Fin 256) : out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v190 (F := Ideal) (A0 m c) (A1 m c) (A2 m c) (A3 m c) (A4 m c) (ix3 (seq t) p (tok t r)) := by
  refine (open12 (grid0.coords t) (iblk m c 0 t) (iblk m c 1 t) (iblk m c 2 t) (iblk m c 3 t) (iblk m c 4 t) (iblk m c 5 t) (iblk m c 6 t) (iblk m c 7 t) (iblk m c 8 t) (iblk m c 9 t) p r).trans ?_
  refine Eq.trans ?_ (v190_apply (A0 m c) (A1 m c) (A2 m c) (A3 m c) (A4 m c) (seq t) p (tok t r)).symm
  have h0 := zq m c t ⟨p.val / 64, by omega⟩ r
  dsimp only at h0
  rw [h0]
  simp only [blk6, blk8, blk9]

/-- The tile's turned queries. -/
theorem point13 (p : Fin 512) (r : Fin 256) : out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v225 (F := Ideal) (A0 m c) (A1 m c) (A2 m c) (A3 m c) (A4 m c) (ix3 (seq t) p (tok t r)) := by
  refine (open13 (grid0.coords t) (iblk m c 0 t) (iblk m c 1 t) (iblk m c 2 t) (iblk m c 3 t) (iblk m c 4 t) (iblk m c 5 t) (iblk m c 6 t) (iblk m c 7 t) (iblk m c 8 t) (iblk m c 9 t) p r).trans ?_
  refine Eq.trans ?_ (v225_apply (A0 m c) (A1 m c) (A2 m c) (A3 m c) (A4 m c) (seq t) p (tok t r)).symm
  have h0 := zq m c t ⟨p.val / 64, by omega⟩ r
  dsimp only at h0
  rw [h0]
  simp only [blk6, blk8, blk9]

/-- The tile's keys for compression. -/
theorem point14 (p : Fin 128) (r : Fin 256) : out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v227 (F := Ideal) (A0 m c) (A1 m c) (A2 m c) (A3 m c) (A5 m c) (ix3 (seq t) p (tok t r)) := by
  refine (open14 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((kcmp_apply _ _ p r).trans ?_)
  refine Eq.trans ?_ (v227_apply (A0 m c) (A1 m c) (A2 m c) (A3 m c) (A5 m c) (seq t) p (tok t r)).symm
  rw [open80]
  have h0 := zkv m c t 512 0 0 (by decide) r
  have h1 := zkv m c t 576 0 1 (by decide) r
  rw [h0, h1]
  have hg : (fun e : Fin 64 => View.ld (iblk m c 7 t) r0_19 (ix3 0 e r)) = fun e => A5 m c (ix2 0 e) :=
    funext fun e => (ld7_0 (iblk m c 7 t) e r).trans (blk7 m c t 0 e r)
  exact congrArg (fun g => pair (headNorm (kvHead (zr m c t r) 0 0) g) (headNorm (kvHead (zr m c t r) 0 1) g) p) hg

/-- The tile's values for compression. -/
theorem point15 (p : Fin 128) (r : Fin 256) : out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v229 (F := Ideal) (A0 m c) (A1 m c) (A2 m c) (A3 m c) (ix3 (seq t) p (tok t r)) := by
  refine (open15 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((vcmp_apply _ p r).trans ?_)
  rw [open80]
  refine Eq.trans ?_ (v229_apply (A0 m c) (A1 m c) (A2 m c) (A3 m c) (seq t) p (tok t r)).symm
  refine (zt m c t _ r (by dsimp only; omega)).trans ?_
  exact congrArg (zr m c t r) (Fin.ext (by dsimp only; omega))

/-- The tile's selected keys. -/
theorem point16 (p : Fin 128) (r : Fin 256) : out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v231 (F := Ideal) (A0 m c) (A1 m c) (A2 m c) (A3 m c) (A5 m c) (ix3 (seq t) p (tok t r)) := by
  exact (open16 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((pay67_apply _ p r).trans (row87 m c t p r))

/-- The tile's selected values. -/
theorem point17 (p : Fin 128) (r : Fin 256) : out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v233 (F := Ideal) (A0 m c) (A1 m c) (A2 m c) (A3 m c) (ix3 (seq t) p (tok t r)) := by
  exact (open17 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((pay68_apply _ p r).trans ((row88 m c t p r).trans (v233_apply (A0 m c) (A1 m c) (A2 m c) (A3 m c) (seq t) p (tok t r)).symm))

/-- The tile's window keys. -/
theorem point18 (p : Fin 128) (r : Fin 256) : out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v235 (F := Ideal) (A0 m c) (A1 m c) (A2 m c) (A3 m c) (A5 m c) (ix3 (seq t) p (tok t r)) := by
  exact (open18 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((pay69_apply _ p r).trans (row89 m c t p r))

/-- The tile's window values. -/
theorem point19 (p : Fin 128) (r : Fin 256) : out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v237 (F := Ideal) (A0 m c) (A1 m c) (A2 m c) (A3 m c) (ix3 (seq t) p (tok t r)) := by
  exact (open19 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((pay70_apply _ p r).trans ((row90 m c t p r).trans (v237_apply (A0 m c) (A1 m c) (A2 m c) (A3 m c) (seq t) p (tok t r)).symm))

/-- The tile's selected keys as rows, with the block's indicator columns. -/
theorem point20 (r : Fin 256) (n : Fin 144) : out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n) =
    Cert.FrontReferenceIdeal.Read.val_main_v240 (F := Ideal) (A0 m c) (A1 m c) (A2 m c) (A3 m c) (A5 m c) (ix3 (seq t) (tok t r) n) := by
  refine (open20 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((kselb_apply _ _ r n).trans ?_)
  refine Eq.trans ?_ (v240_apply (A0 m c) (A1 m c) (A2 m c) (A3 m c) (A5 m c) (seq t) (tok t r) n).symm
  split
  · exact row87 m c t _ r
  · rw [coord1]
    rw [mask_apply ⟨t.val % 32, Nat.mod_lt _ (by decide)⟩ r]
    unfold tok
    dsimp only
    rw [Nat.mul_comm 256]

/-- The tile's window keys as rows. -/
theorem point21 (r : Fin 256) (n : Fin 128) : out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n) =
    Cert.FrontReferenceIdeal.Read.val_main_v242 (F := Ideal) (A0 m c) (A1 m c) (A2 m c) (A3 m c) (A5 m c) (ix3 (seq t) (tok t r) n) := by
  refine (open21 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((kwinb_apply _ r n).trans ?_)
  exact (row89 m c t n r).trans (v242_apply (A0 m c) (A1 m c) (A2 m c) (A3 m c) (A5 m c) (seq t) (tok t r) n).symm

/-- The tile's selected values with rows of ones. -/
theorem point22 (p : Fin 160) (r : Fin 256) : out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v247 (F := Ideal) (A0 m c) (A1 m c) (A2 m c) (A3 m c) (ix3 (seq t) p (tok t r)) := by
  refine (open22 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((vselb_apply _ p r).trans ?_)
  refine Eq.trans ?_ (v247_apply (A0 m c) (A1 m c) (A2 m c) (A3 m c) (seq t) p (tok t r)).symm
  exact congrArg (fun f => withOnes f p) (funext fun p => row88 m c t p r)

/-- The tile's window values with rows of ones. -/
theorem point23 (p : Fin 160) (r : Fin 256) : out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v252 (F := Ideal) (A0 m c) (A1 m c) (A2 m c) (A3 m c) (ix3 (seq t) p (tok t r)) := by
  refine (open23 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((vwinb_apply _ p r).trans ?_)
  refine Eq.trans ?_ (v252_apply (A0 m c) (A1 m c) (A2 m c) (A3 m c) (seq t) p (tok t r)).symm
  exact congrArg (fun f => withOnes f p) (funext fun p => row90 m c t p r)

/-- The tile's branch gates. -/
theorem point24 (p : Fin 32) (r : Fin 256) : out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 p r) =
    Cert.FrontReferenceIdeal.Read.val_main_v260 (F := Ideal) (A0 m c) (A1 m c) (A2 m c) (A3 m c) (ix3 (seq t) p (tok t r)) := by
  refine (open24 (grid0.coords t) (iblk m c 0 t) (iblk m c 1 t) (iblk m c 2 t) (iblk m c 3 t) (iblk m c 4 t) (iblk m c 5 t) (iblk m c 6 t) (iblk m c 7 t) (iblk m c 8 t) (iblk m c 9 t) _).trans ((ng_apply _ p r).trans ?_)
  rw [open80]
  refine Eq.trans ?_ (v260_apply (A0 m c) (A1 m c) (A2 m c) (A3 m c) (seq t) p (tok t r)).symm
  refine congrArg Ideal.logistic ?_
  split
  · refine (zt m c t _ r (by dsimp only; omega)).trans ?_
    exact congrArg (zr m c t r) (Fin.ext (by dsimp only; omega))
  · exact zt0 m c t _ r (by dsimp only; omega)

end Cert.Proof.FR

end
-- ==== Proof.FR.Array.lean ====
module

public import proofs.«01_k».proof.Proof.FR.Points
public import Idealize.ShloMosaic.Lib.Pipeline.ValueKit
public import Idealize.ShloMosaic.Lib.Claim

@[expose] public section

set_option maxRecDepth 16384

noncomputable section

/-! The kernel's result arrays after the run are the reference's results of the kernel's arguments. -/

namespace Cert.Proof.FR

open Idealize.ShloMosaic Idealize.ShloMosaic.TcCoe Cert.FrontIdeal Cert.FrontIdeal.Gen Cert.FrontIdeal.Body
open Idealize.ShloMosaic.Pipeline (Dat)
open Idealize.SL.Sem

variable (m : (ℓ : Loc nD τ sig) → Buf (Elt Ideal) ℓ) (c : Dev nD)

/-- The block index of the window keys' and values' results at point `t`. -/
theorem oidx' : ∀ t : Fin cfg0.N, win0_18.index t = ![t.val / 32, 0, t.val % 32] ∧ win0_19.index t = ![t.val / 32, 0, t.val % 32] :=
  (by decide +kernel : ∀ t : Fin grid0.N, _)

/-- Result 0 after the run. -/
theorem final10 : (dats m 0 c).arrAt 10 cfg0.N = Cert.FrontReferenceIdeal.Read.val_main_v40 (F := Ideal) (A0 m c) (A1 m c) (A2 m c) (A3 m c) := by
  refine (dats m 0 c).arrAt_eq_of_covers 10 _ (by decide +kernel) fun t _ y => ?_
  blk_simp
  rw [after0_10]
  obtain ⟨a, b, rfl⟩ : ∃ (a : Fin 256) (b : Fin 512), y = ix3 0 a b := ⟨y 1, y 2, by blk_ext⟩
  refine (point10 m c t a b).trans (congrArg _ ?_)
  unfold seq tok
  blk_ext [oidx t]

/-- Result 1 after the run. -/
theorem final11 : (dats m 0 c).arrAt 11 cfg0.N = Cert.FrontReferenceIdeal.Read.val_main_v185 (F := Ideal) (A0 m c) (A1 m c) (A2 m c) (A3 m c) := by
  refine (dats m 0 c).arrAt_eq_of_covers 11 _ (by decide +kernel) fun t _ y => ?_
  blk_simp
  rw [after0_11]
  obtain ⟨a, b, rfl⟩ : ∃ (a : Fin 256) (b : Fin 2048), y = ix3 0 a b := ⟨y 1, y 2, by blk_ext⟩
  refine (point11 m c t a b).trans (congrArg _ ?_)
  unfold seq tok
  blk_ext [oidx t]

/-- Result 2 after the run. -/
theorem final12 : (dats m 0 c).arrAt 12 cfg0.N = Cert.FrontReferenceIdeal.Read.val_main_v190 (F := Ideal) (A0 m c) (A1 m c) (A2 m c) (A3 m c) (A4 m c) := by
  refine (dats m 0 c).arrAt_eq_of_covers 12 _ (by decide +kernel) fun t _ y => ?_
  blk_simp
  rw [after0_12]
  obtain ⟨a, b, rfl⟩ : ∃ (a : Fin 512) (b : Fin 256), y = ix3 0 a b := ⟨y 1, y 2, by blk_ext⟩
  refine (point12 m c t a b).trans (congrArg _ ?_)
  unfold seq tok
  blk_ext [oidx t]

/-- Result 3 after the run. -/
theorem final13 : (dats m 0 c).arrAt 13 cfg0.N = Cert.FrontReferenceIdeal.Read.val_main_v225 (F := Ideal) (A0 m c) (A1 m c) (A2 m c) (A3 m c) (A4 m c) := by
  refine (dats m 0 c).arrAt_eq_of_covers 13 _ (by decide +kernel) fun t _ y => ?_
  blk_simp
  rw [after0_13]
  obtain ⟨a, b, rfl⟩ : ∃ (a : Fin 512) (b : Fin 256), y = ix3 0 a b := ⟨y 1, y 2, by blk_ext⟩
  refine (point13 m c t a b).trans (congrArg _ ?_)
  unfold seq tok
  blk_ext [oidx t]

/-- Result 4 after the run. -/
theorem final14 : (dats m 0 c).arrAt 14 cfg0.N = Cert.FrontReferenceIdeal.Read.val_main_v227 (F := Ideal) (A0 m c) (A1 m c) (A2 m c) (A3 m c) (A5 m c) := by
  refine (dats m 0 c).arrAt_eq_of_covers 14 _ (by decide +kernel) fun t _ y => ?_
  blk_simp
  rw [after0_14]
  obtain ⟨a, b, rfl⟩ : ∃ (a : Fin 128) (b : Fin 256), y = ix3 0 a b := ⟨y 1, y 2, by blk_ext⟩
  refine (point14 m c t a b).trans (congrArg _ ?_)
  unfold seq tok
  blk_ext [oidx t]

/-- Result 5 after the run. -/
theorem final15 : (dats m 0 c).arrAt 15 cfg0.N = Cert.FrontReferenceIdeal.Read.val_main_v229 (F := Ideal) (A0 m c) (A1 m c) (A2 m c) (A3 m c) := by
  refine (dats m 0 c).arrAt_eq_of_covers 15 _ (by decide +kernel) fun t _ y => ?_
  blk_simp
  rw [after0_15]
  obtain ⟨a, b, rfl⟩ : ∃ (a : Fin 128) (b : Fin 256), y = ix3 0 a b := ⟨y 1, y 2, by blk_ext⟩
  refine (point15 m c t a b).trans (congrArg _ ?_)
  unfold seq tok
  blk_ext [oidx t]

/-- Result 6 after the run. -/
theorem final16 : (dats m 0 c).arrAt 16 cfg0.N = Cert.FrontReferenceIdeal.Read.val_main_v231 (F := Ideal) (A0 m c) (A1 m c) (A2 m c) (A3 m c) (A5 m c) := by
  refine (dats m 0 c).arrAt_eq_of_covers 16 _ (by decide +kernel) fun t _ y => ?_
  blk_simp
  rw [after0_16]
  obtain ⟨a, b, rfl⟩ : ∃ (a : Fin 128) (b : Fin 256), y = ix3 0 a b := ⟨y 1, y 2, by blk_ext⟩
  refine (point16 m c t a b).trans (congrArg _ ?_)
  unfold seq tok
  blk_ext [oidx t]

/-- Result 7 after the run. -/
theorem final17 : (dats m 0 c).arrAt 17 cfg0.N = Cert.FrontReferenceIdeal.Read.val_main_v233 (F := Ideal) (A0 m c) (A1 m c) (A2 m c) (A3 m c) := by
  refine (dats m 0 c).arrAt_eq_of_covers 17 _ (by decide +kernel) fun t _ y => ?_
  blk_simp
  rw [after0_17]
  obtain ⟨a, b, rfl⟩ : ∃ (a : Fin 128) (b : Fin 256), y = ix3 0 a b := ⟨y 1, y 2, by blk_ext⟩
  refine (point17 m c t a b).trans (congrArg _ ?_)
  unfold seq tok
  blk_ext [oidx t]

/-- Result 8 after the run. -/
theorem final18 : (dats m 0 c).arrAt 18 cfg0.N = Cert.FrontReferenceIdeal.Read.val_main_v235 (F := Ideal) (A0 m c) (A1 m c) (A2 m c) (A3 m c) (A5 m c) := by
  refine (dats m 0 c).arrAt_eq_of_covers 18 _ (by decide +kernel) fun t _ y => ?_
  blk_simp
  rw [after0_18]
  obtain ⟨a, b, rfl⟩ : ∃ (a : Fin 128) (b : Fin 256), y = ix3 0 a b := ⟨y 1, y 2, by blk_ext⟩
  refine (point18 m c t a b).trans (congrArg _ ?_)
  unfold seq tok
  blk_ext [oidx' t]

/-- Result 9 after the run. -/
theorem final19 : (dats m 0 c).arrAt 19 cfg0.N = Cert.FrontReferenceIdeal.Read.val_main_v237 (F := Ideal) (A0 m c) (A1 m c) (A2 m c) (A3 m c) := by
  refine (dats m 0 c).arrAt_eq_of_covers 19 _ (by decide +kernel) fun t _ y => ?_
  blk_simp
  rw [after0_19]
  obtain ⟨a, b, rfl⟩ : ∃ (a : Fin 128) (b : Fin 256), y = ix3 0 a b := ⟨y 1, y 2, by blk_ext⟩
  refine (point19 m c t a b).trans (congrArg _ ?_)
  unfold seq tok
  blk_ext [oidx' t]

/-- Result 10 after the run. -/
theorem final20 : (dats m 0 c).arrAt 20 cfg0.N = Cert.FrontReferenceIdeal.Read.val_main_v240 (F := Ideal) (A0 m c) (A1 m c) (A2 m c) (A3 m c) (A5 m c) := by
  refine (dats m 0 c).arrAt_eq_of_covers 20 _ (by decide +kernel) fun t _ y => ?_
  blk_simp
  rw [after0_20]
  obtain ⟨a, b, rfl⟩ : ∃ (a : Fin 256) (b : Fin 144), y = ix3 0 a b := ⟨y 1, y 2, by blk_ext⟩
  refine (point20 m c t a b).trans (congrArg _ ?_)
  unfold seq tok
  blk_ext [oidx t]

/-- Result 11 after the run. -/
theorem final21 : (dats m 0 c).arrAt 21 cfg0.N = Cert.FrontReferenceIdeal.Read.val_main_v242 (F := Ideal) (A0 m c) (A1 m c) (A2 m c) (A3 m c) (A5 m c) := by
  refine (dats m 0 c).arrAt_eq_of_covers 21 _ (by decide +kernel) fun t _ y => ?_
  blk_simp
  rw [after0_21]
  obtain ⟨a, b, rfl⟩ : ∃ (a : Fin 256) (b : Fin 128), y = ix3 0 a b := ⟨y 1, y 2, by blk_ext⟩
  refine (point21 m c t a b).trans (congrArg _ ?_)
  unfold seq tok
  blk_ext [oidx t]

/-- Result 12 after the run. -/
theorem final22 : (dats m 0 c).arrAt 22 cfg0.N = Cert.FrontReferenceIdeal.Read.val_main_v247 (F := Ideal) (A0 m c) (A1 m c) (A2 m c) (A3 m c) := by
  refine (dats m 0 c).arrAt_eq_of_covers 22 _ (by decide +kernel) fun t _ y => ?_
  blk_simp
  rw [after0_22]
  obtain ⟨a, b, rfl⟩ : ∃ (a : Fin 160) (b : Fin 256), y = ix3 0 a b := ⟨y 1, y 2, by blk_ext⟩
  refine (point22 m c t a b).trans (congrArg _ ?_)
  unfold seq tok
  blk_ext [oidx t]

/-- Result 13 after the run. -/
theorem final23 : (dats m 0 c).arrAt 23 cfg0.N = Cert.FrontReferenceIdeal.Read.val_main_v252 (F := Ideal) (A0 m c) (A1 m c) (A2 m c) (A3 m c) := by
  refine (dats m 0 c).arrAt_eq_of_covers 23 _ (by decide +kernel) fun t _ y => ?_
  blk_simp
  rw [after0_23]
  obtain ⟨a, b, rfl⟩ : ∃ (a : Fin 160) (b : Fin 256), y = ix3 0 a b := ⟨y 1, y 2, by blk_ext⟩
  refine (point23 m c t a b).trans (congrArg _ ?_)
  unfold seq tok
  blk_ext [oidx t]

/-- Result 14 after the run. -/
theorem final24 : (dats m 0 c).arrAt 24 cfg0.N = Cert.FrontReferenceIdeal.Read.val_main_v260 (F := Ideal) (A0 m c) (A1 m c) (A2 m c) (A3 m c) := by
  refine (dats m 0 c).arrAt_eq_of_covers 24 _ (by decide +kernel) fun t _ y => ?_
  blk_simp
  rw [after0_24]
  obtain ⟨a, b, rfl⟩ : ∃ (a : Fin 32) (b : Fin 256), y = ix3 0 a b := ⟨y 1, y 2, by blk_ext⟩
  refine (point24 m c t a b).trans (congrArg _ ?_)
  unfold seq tok
  blk_ext [oidx t]

/-- An argument's buffer after the run, when no window writes it back. -/
theorem kept0 (r : PUnit × MemSt nD τ sig (Elt Ideal)) (h : Pipeline.FramePost cfgs (dats m) 0 (V m) r) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (V_main_arg1 m c)

theorem kept2 (r : PUnit × MemSt nD τ sig (Elt Ideal)) (h : Pipeline.FramePost cfgs (dats m) 0 (V m) r) :
    r.2.mem ((c : Thread nD τ).loc main_arg2) = m ((c : Thread nD τ).loc main_arg2) :=
  ((h c).2 main_arg2 (Pipeline.mem_restRefs_of main_arg2 (by decide) (by decide))).trans (V_main_arg2 m c)

theorem kept3 (r : PUnit × MemSt nD τ sig (Elt Ideal)) (h : Pipeline.FramePost cfgs (dats m) 0 (V m) r) :
    r.2.mem ((c : Thread nD τ).loc main_arg3) = m ((c : Thread nD τ).loc main_arg3) :=
  ((h c).2 main_arg3 (Pipeline.mem_restRefs_of main_arg3 (by decide) (by decide))).trans (V_main_arg3 m c)

theorem kept4 (r : PUnit × MemSt nD τ sig (Elt Ideal)) (h : Pipeline.FramePost cfgs (dats m) 0 (V m) r) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt Ideal)) (h : Pipeline.FramePost cfgs (dats m) 0 (V m) r) :
    r.2.mem ((c : Thread nD τ).loc main_arg5) = m ((c : Thread nD τ).loc main_arg5) :=
  ((h c).2 main_arg5 (Pipeline.mem_restRefs_of main_arg5 (by decide) (by decide))).trans (V_main_arg5 m c)

theorem post10 (r : PUnit × MemSt nD τ sig (Elt Ideal)) (h : Pipeline.FramePost cfgs (dats m) 0 (V m) r) :
    r.2.mem ((c : Thread nD τ).loc main_v32_0) = Cert.FrontReferenceIdeal.Read.val_main_v40 (F := Ideal) (A0 m c) (A1 m c) (A2 m c) (A3 m c) :=
  ((h c).1 10).trans (final10 m c)

theorem post11 (r : PUnit × MemSt nD τ sig (Elt Ideal)) (h : Pipeline.FramePost cfgs (dats m) 0 (V m) r) :
    r.2.mem ((c : Thread nD τ).loc main_v32_1) = Cert.FrontReferenceIdeal.Read.val_main_v185 (F := Ideal) (A0 m c) (A1 m c) (A2 m c) (A3 m c) :=
  ((h c).1 11).trans (final11 m c)

theorem post12 (r : PUnit × MemSt nD τ sig (Elt Ideal)) (h : Pipeline.FramePost cfgs (dats m) 0 (V m) r) :
    r.2.mem ((c : Thread nD τ).loc main_v32_2) = Cert.FrontReferenceIdeal.Read.val_main_v190 (F := Ideal) (A0 m c) (A1 m c) (A2 m c) (A3 m c) (A4 m c) :=
  ((h c).1 12).trans (final12 m c)

theorem post13 (r : PUnit × MemSt nD τ sig (Elt Ideal)) (h : Pipeline.FramePost cfgs (dats m) 0 (V m) r) :
    r.2.mem ((c : Thread nD τ).loc main_v32_3) = Cert.FrontReferenceIdeal.Read.val_main_v225 (F := Ideal) (A0 m c) (A1 m c) (A2 m c) (A3 m c) (A4 m c) :=
  ((h c).1 13).trans (final13 m c)

theorem post14 (r : PUnit × MemSt nD τ sig (Elt Ideal)) (h : Pipeline.FramePost cfgs (dats m) 0 (V m) r) :
    r.2.mem ((c : Thread nD τ).loc main_v32_4) = Cert.FrontReferenceIdeal.Read.val_main_v227 (F := Ideal) (A0 m c) (A1 m c) (A2 m c) (A3 m c) (A5 m c) :=
  ((h c).1 14).trans (final14 m c)

theorem post15 (r : PUnit × MemSt nD τ sig (Elt Ideal)) (h : Pipeline.FramePost cfgs (dats m) 0 (V m) r) :
    r.2.mem ((c : Thread nD τ).loc main_v32_5) = Cert.FrontReferenceIdeal.Read.val_main_v229 (F := Ideal) (A0 m c) (A1 m c) (A2 m c) (A3 m c) :=
  ((h c).1 15).trans (final15 m c)

theorem post16 (r : PUnit × MemSt nD τ sig (Elt Ideal)) (h : Pipeline.FramePost cfgs (dats m) 0 (V m) r) :
    r.2.mem ((c : Thread nD τ).loc main_v32_6) = Cert.FrontReferenceIdeal.Read.val_main_v231 (F := Ideal) (A0 m c) (A1 m c) (A2 m c) (A3 m c) (A5 m c) :=
  ((h c).1 16).trans (final16 m c)

theorem post17 (r : PUnit × MemSt nD τ sig (Elt Ideal)) (h : Pipeline.FramePost cfgs (dats m) 0 (V m) r) :
    r.2.mem ((c : Thread nD τ).loc main_v32_7) = Cert.FrontReferenceIdeal.Read.val_main_v233 (F := Ideal) (A0 m c) (A1 m c) (A2 m c) (A3 m c) :=
  ((h c).1 17).trans (final17 m c)

theorem post18 (r : PUnit × MemSt nD τ sig (Elt Ideal)) (h : Pipeline.FramePost cfgs (dats m) 0 (V m) r) :
    r.2.mem ((c : Thread nD τ).loc main_v32_8) = Cert.FrontReferenceIdeal.Read.val_main_v235 (F := Ideal) (A0 m c) (A1 m c) (A2 m c) (A3 m c) (A5 m c) :=
  ((h c).1 18).trans (final18 m c)

theorem post19 (r : PUnit × MemSt nD τ sig (Elt Ideal)) (h : Pipeline.FramePost cfgs (dats m) 0 (V m) r) :
    r.2.mem ((c : Thread nD τ).loc main_v32_9) = Cert.FrontReferenceIdeal.Read.val_main_v237 (F := Ideal) (A0 m c) (A1 m c) (A2 m c) (A3 m c) :=
  ((h c).1 19).trans (final19 m c)

theorem post20 (r : PUnit × MemSt nD τ sig (Elt Ideal)) (h : Pipeline.FramePost cfgs (dats m) 0 (V m) r) :
    r.2.mem ((c : Thread nD τ).loc main_v32_10) = Cert.FrontReferenceIdeal.Read.val_main_v240 (F := Ideal) (A0 m c) (A1 m c) (A2 m c) (A3 m c) (A5 m c) :=
  ((h c).1 20).trans (final20 m c)

theorem post21 (r : PUnit × MemSt nD τ sig (Elt Ideal)) (h : Pipeline.FramePost cfgs (dats m) 0 (V m) r) :
    r.2.mem ((c : Thread nD τ).loc main_v32_11) = Cert.FrontReferenceIdeal.Read.val_main_v242 (F := Ideal) (A0 m c) (A1 m c) (A2 m c) (A3 m c) (A5 m c) :=
  ((h c).1 21).trans (final21 m c)

theorem post22 (r : PUnit × MemSt nD τ sig (Elt Ideal)) (h : Pipeline.FramePost cfgs (dats m) 0 (V m) r) :
    r.2.mem ((c : Thread nD τ).loc main_v32_12) = Cert.FrontReferenceIdeal.Read.val_main_v247 (F := Ideal) (A0 m c) (A1 m c) (A2 m c) (A3 m c) :=
  ((h c).1 22).trans (final22 m c)

theorem post23 (r : PUnit × MemSt nD τ sig (Elt Ideal)) (h : Pipeline.FramePost cfgs (dats m) 0 (V m) r) :
    r.2.mem ((c : Thread nD τ).loc main_v32_13) = Cert.FrontReferenceIdeal.Read.val_main_v252 (F := Ideal) (A0 m c) (A1 m c) (A2 m c) (A3 m c) :=
  ((h c).1 23).trans (final23 m c)

theorem post24 (r : PUnit × MemSt nD τ sig (Elt Ideal)) (h : Pipeline.FramePost cfgs (dats m) 0 (V m) r) :
    r.2.mem ((c : Thread nD τ).loc main_v32_14) = Cert.FrontReferenceIdeal.Read.val_main_v260 (F := Ideal) (A0 m c) (A1 m c) (A2 m c) (A3 m c) :=
  ((h c).1 24).trans (final24 m c)

/-- The kernel's run: every result array ends as the reference's result of the arguments, the arguments unchanged. -/
theorem run_values (ρ : Dev nD → PrngReg) : θ_run defs (onTc (τ := τ) (main (F := Ideal))) ⟨m, fun _ => 0, ρ⟩ fun r => ∀ c : Dev nD,
    r.2.mem ((c : Thread nD τ).loc main_v32_0) = Cert.FrontReferenceIdeal.Read.val_main_v40 (F := Ideal) (A0 m c) (A1 m c) (A2 m c) (A3 m c)
    ∧ r.2.mem ((c : Thread nD τ).loc main_v32_1) = Cert.FrontReferenceIdeal.Read.val_main_v185 (F := Ideal) (A0 m c) (A1 m c) (A2 m c) (A3 m c)
    ∧ r.2.mem ((c : Thread nD τ).loc main_v32_2) = Cert.FrontReferenceIdeal.Read.val_main_v190 (F := Ideal) (A0 m c) (A1 m c) (A2 m c) (A3 m c) (A4 m c)
    ∧ r.2.mem ((c : Thread nD τ).loc main_v32_3) = Cert.FrontReferenceIdeal.Read.val_main_v225 (F := Ideal) (A0 m c) (A1 m c) (A2 m c) (A3 m c) (A4 m c)
    ∧ r.2.mem ((c : Thread nD τ).loc main_v32_4) = Cert.FrontReferenceIdeal.Read.val_main_v227 (F := Ideal) (A0 m c) (A1 m c) (A2 m c) (A3 m c) (A5 m c)
    ∧ r.2.mem ((c : Thread nD τ).loc main_v32_5) = Cert.FrontReferenceIdeal.Read.val_main_v229 (F := Ideal) (A0 m c) (A1 m c) (A2 m c) (A3 m c)
    ∧ r.2.mem ((c : Thread nD τ).loc main_v32_6) = Cert.FrontReferenceIdeal.Read.val_main_v231 (F := Ideal) (A0 m c) (A1 m c) (A2 m c) (A3 m c) (A5 m c)
    ∧ r.2.mem ((c : Thread nD τ).loc main_v32_7) = Cert.FrontReferenceIdeal.Read.val_main_v233 (F := Ideal) (A0 m c) (A1 m c) (A2 m c) (A3 m c)
    ∧ r.2.mem ((c : Thread nD τ).loc main_v32_8) = Cert.FrontReferenceIdeal.Read.val_main_v235 (F := Ideal) (A0 m c) (A1 m c) (A2 m c) (A3 m c) (A5 m c)
    ∧ r.2.mem ((c : Thread nD τ).loc main_v32_9) = Cert.FrontReferenceIdeal.Read.val_main_v237 (F := Ideal) (A0 m c) (A1 m c) (A2 m c) (A3 m c)
    ∧ r.2.mem ((c : Thread nD τ).loc main_v32_10) = Cert.FrontReferenceIdeal.Read.val_main_v240 (F := Ideal) (A0 m c) (A1 m c) (A2 m c) (A3 m c) (A5 m c)
    ∧ r.2.mem ((c : Thread nD τ).loc main_v32_11) = Cert.FrontReferenceIdeal.Read.val_main_v242 (F := Ideal) (A0 m c) (A1 m c) (A2 m c) (A3 m c) (A5 m c)
    ∧ r.2.mem ((c : Thread nD τ).loc main_v32_12) = Cert.FrontReferenceIdeal.Read.val_main_v247 (F := Ideal) (A0 m c) (A1 m c) (A2 m c) (A3 m c)
    ∧ r.2.mem ((c : Thread nD τ).loc main_v32_13) = Cert.FrontReferenceIdeal.Read.val_main_v252 (F := Ideal) (A0 m c) (A1 m c) (A2 m c) (A3 m c)
    ∧ r.2.mem ((c : Thread nD τ).loc main_v32_14) = Cert.FrontReferenceIdeal.Read.val_main_v260 (F := Ideal) (A0 m c) (A1 m c) (A2 m c) (A3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨post10 m c r h,
    post11 m c r h,
    post12 m c r h,
    post13 m c r h,
    post14 m c r h,
    post15 m c r h,
    post16 m c r h,
    post17 m c r h,
    post18 m c r h,
    post19 m c r h,
    post20 m c r h,
    post21 m c r h,
    post22 m c r h,
    post23 m c r h,
    post24 m c r h,
    kept0 m c r h,
    kept1 m c r h,
    kept2 m c r h,
    kept3 m c r h,
    kept4 m c r h,
    kept5 m c r h⟩) (run_main m ρ)

end Cert.Proof.FR

end
-- ==== Proof.FR.ReferenceRun.lean ====
module

public import proofs.«01_k».proof.Proof.Gen.FrontReferenceIdeal.Run
public import proofs.«01_k».proof.Proof.Gen.FrontReferenceIdeal.Read
public import Idealize.ShloMosaic.Lib.Claim

@[expose] public section

set_option maxRecDepth 16384

noncomputable section

/-! The reference's run, its results by name. -/

namespace Cert.Proof.FR

open Idealize.ShloMosaic Idealize.ShloMosaic.TcCoe Cert.FrontReferenceIdeal
open Cert.FrontReferenceIdeal.Gen Idealize.SL.Sem Idealize.ShloMosaic.StableHlo

variable (m : (ℓ : Loc nD τ sig) → Buf (Elt Ideal) ℓ)

set_option maxHeartbeats 2000000 in
/-- The reference's run: every result by name of the arguments, the arguments unchanged. -/
theorem reference_values (ρ : Dev nD → PrngReg) : θ_run defs (onTc (τ := τ) (main (F := Ideal))) ⟨m, fun _ => 0, ρ⟩ fun r => ∀ c : Dev nD,
    r.2.mem ((c.tc : Thread nD τ).loc main_v40) = Cert.FrontReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v185) = Cert.FrontReferenceIdeal.Read.val_main_v185 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v190) = Cert.FrontReferenceIdeal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v225) = Cert.FrontReferenceIdeal.Read.val_main_v225 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v227) = Cert.FrontReferenceIdeal.Read.val_main_v227 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    ∧ r.2.mem ((c.tc : Thread nD τ).loc main_v229) = Cert.FrontReferenceIdeal.Read.val_main_v229 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v231) = Cert.FrontReferenceIdeal.Read.val_main_v231 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    ∧ r.2.mem ((c.tc : Thread nD τ).loc main_v233) = Cert.FrontReferenceIdeal.Read.val_main_v233 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v235) = Cert.FrontReferenceIdeal.Read.val_main_v235 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    ∧ r.2.mem ((c.tc : Thread nD τ).loc main_v237) = Cert.FrontReferenceIdeal.Read.val_main_v237 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v240) = Cert.FrontReferenceIdeal.Read.val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    ∧ r.2.mem ((c.tc : Thread nD τ).loc main_v242) = Cert.FrontReferenceIdeal.Read.val_main_v242 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
    ∧ r.2.mem ((c.tc : Thread nD τ).loc main_v247) = Cert.FrontReferenceIdeal.Read.val_main_v247 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v252) = Cert.FrontReferenceIdeal.Read.val_main_v252 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v260) = Cert.FrontReferenceIdeal.Read.val_main_v260 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h c main_v40).trans ((congrFun (Value.after_ops (launchContents m c)) (Proc.devRef .tc main_v40)).trans ((Value.val5_main_v40 (launchContents m c)).trans (Read.val_main_v40_eq (F := Ideal) (launchContents m c)))),
    (h c main_v185).trans ((congrFun (Value.after_ops (launchContents m c)) (Proc.devRef .tc main_v185)).trans ((Value.val5_main_v185 (launchContents m c)).trans (Read.val_main_v185_eq (F := Ideal) (launchContents m c)))),
    (h c main_v190).trans ((congrFun (Value.after_ops (launchContents m c)) (Proc.devRef .tc main_v190)).trans ((Value.val5_main_v190 (launchContents m c)).trans (Read.val_main_v190_eq (F := Ideal) (launchContents m c)))),
    (h c main_v225).trans ((congrFun (Value.after_ops (launchContents m c)) (Proc.devRef .tc main_v225)).trans ((Value.val5_main_v225 (launchContents m c)).trans (Read.val_main_v225_eq (F := Ideal) (launchContents m c)))),
    (h c main_v227).trans ((congrFun (Value.after_ops (launchContents m c)) (Proc.devRef .tc main_v227)).trans ((Value.val5_main_v227 (launchContents m c)).trans (Read.val_main_v227_eq (F := Ideal) (launchContents m c)))),
    (h c main_v229).trans ((congrFun (Value.after_ops (launchContents m c)) (Proc.devRef .tc main_v229)).trans ((Value.val5_main_v229 (launchContents m c)).trans (Read.val_main_v229_eq (F := Ideal) (launchContents m c)))),
    (h c main_v231).trans ((congrFun (Value.after_ops (launchContents m c)) (Proc.devRef .tc main_v231)).trans ((Value.val5_main_v231 (launchContents m c)).trans (Read.val_main_v231_eq (F := Ideal) (launchContents m c)))),
    (h c main_v233).trans ((congrFun (Value.after_ops (launchContents m c)) (Proc.devRef .tc main_v233)).trans ((Value.val5_main_v233 (launchContents m c)).trans (Read.val_main_v233_eq (F := Ideal) (launchContents m c)))),
    (h c main_v235).trans ((congrFun (Value.after_ops (launchContents m c)) (Proc.devRef .tc main_v235)).trans ((Value.val5_main_v235 (launchContents m c)).trans (Read.val_main_v235_eq (F := Ideal) (launchContents m c)))),
    (h c main_v237).trans ((congrFun (Value.after_ops (launchContents m c)) (Proc.devRef .tc main_v237)).trans ((Value.val5_main_v237 (launchContents m c)).trans (Read.val_main_v237_eq (F := Ideal) (launchContents m c)))),
    (h c main_v240).trans ((congrFun (Value.after_ops (launchContents m c)) (Proc.devRef .tc main_v240)).trans ((Value.val5_main_v240 (launchContents m c)).trans (Read.val_main_v240_eq (F := Ideal) (launchContents m c)))),
    (h c main_v242).trans ((congrFun (Value.after_ops (launchContents m c)) (Proc.devRef .tc main_v242)).trans ((Value.val5_main_v242 (launchContents m c)).trans (Read.val_main_v242_eq (F := Ideal) (launchContents m c)))),
    (h c main_v247).trans ((congrFun (Value.after_ops (launchContents m c)) (Proc.devRef .tc main_v247)).trans ((Value.val5_main_v247 (launchContents m c)).trans (Read.val_main_v247_eq (F := Ideal) (launchContents m c)))),
    (h c main_v252).trans ((congrFun (Value.after_ops (launchContents m c)) (Proc.devRef .tc main_v252)).trans ((Value.val5_main_v252 (launchContents m c)).trans (Read.val_main_v252_eq (F := Ideal) (launchContents m c)))),
    (h c main_v260).trans ((congrFun (Value.after_ops (launchContents m c)) (Proc.devRef .tc main_v260)).trans ((Value.val5_main_v260 (launchContents m c)).trans (Read.val_main_v260_eq (F := Ideal) (launchContents m c)))),
    (h c main_arg0).trans ((congrFun (Value.after_ops (launchContents m c)) (Proc.devRef .tc main_arg0)).trans (Value.val5_main_arg0 (launchContents m c))),
    (h c main_arg1).trans ((congrFun (Value.after_ops (launchContents m c)) (Proc.devRef .tc main_arg1)).trans (Value.val5_main_arg1 (launchContents m c))),
    (h c main_arg2).trans ((congrFun (Value.after_ops (launchContents m c)) (Proc.devRef .tc main_arg2)).trans (Value.val5_main_arg2 (launchContents m c))),
    (h c main_arg3).trans ((congrFun (Value.after_ops (launchContents m c)) (Proc.devRef .tc main_arg3)).trans (Value.val5_main_arg3 (launchContents m c))),
    (h c main_arg4).trans ((congrFun (Value.after_ops (launchContents m c)) (Proc.devRef .tc main_arg4)).trans (Value.val5_main_arg4 (launchContents m c))),
    (h c main_arg5).trans ((congrFun (Value.after_ops (launchContents m c)) (Proc.devRef .tc main_arg5)).trans (Value.val5_main_arg5 (launchContents m c)))⟩)
    (run_seq Value.scopedRefs_eq Value.scopedSems_eq defs main (fun _ => Value.ops) Value.main_eq (fun _ => Value.ops_sub) m ρ fun _ => Value.ops_fresh)

end Cert.Proof.FR

end
-- ==== Proof.lean ====
module

public import proofs.«01_k».proof.Defs
public import proofs.«01_k».proof.Proof.K.Frame
public import proofs.«01_k».proof.Proof.KI.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Back
public import proofs.«01_k».proof.Proof.Gen.Back.Frame
public import proofs.«01_k».proof.Proof.Gen.BackIdeal
public import proofs.«01_k».proof.Proof.Gen.BackReferenceIdeal
public import proofs.«01_k».proof.Proof.Gen.BackReferenceIdeal.Run
public import proofs.«01_k».proof.Proof.BK.Array
public import proofs.«01_k».proof.Proof.Gen.Conv.Frame
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.CV.Array
public import proofs.«01_k».proof.Proof.AD.Array
public import proofs.«01_k».proof.Proof.CM.Array
public import proofs.«01_k».proof.Proof.Gen.Ada.Frame
public import proofs.«01_k».proof.Proof.Gen.AdaIdeal.Value
public import proofs.«01_k».proof.Proof.Gen.AdaReferenceIdeal.Run
public import proofs.«01_k».proof.Proof.Gen.AdaReferenceIdeal.Read
public import proofs.«01_k».proof.Proof.Gen.Compress.Frame
public import proofs.«01_k».proof.Proof.Gen.CompressIdeal.Value
public import proofs.«01_k».proof.Proof.Gen.CompressReferenceIdeal.Run
public import proofs.«01_k».proof.Proof.Gen.CompressReferenceIdeal.Read
public import proofs.«01_k».proof.Proof.Gen.Front
public import proofs.«01_k».proof.Proof.Gen.FrontIdeal
public import proofs.«01_k».proof.Proof.Gen.FrontReferenceIdeal
public import proofs.«01_k».proof.Proof.Gen.FrontReferenceIdeal.Run
public import proofs.«01_k».proof.Proof.FR.Run
public import proofs.«01_k».proof.Proof.FR.Array
public import proofs.«01_k».proof.Proof.FR.ReferenceRun

@[expose] public section

noncomputable section

namespace Cert.Proof

open Idealize.ShloMosaic Idealize.SL.Sem

/-- The layer's tail and its reference, run from memories that agree on the arguments, end with equal results. -/
theorem back : Cert.algebraic_BackIdeal_BackReferenceIdeal (hBackIdeal := Cert.BackIdeal.Gen.facts)
    (hBackReferenceIdeal := Cert.BackReferenceIdeal.Gen.facts) := by
  intro m ρ m' ρ' _ hagree
  refine ⟨_, (θ_run Cert.BackIdeal.defs _ _).mono (fun _ h c => h c) (Cert.BackIdeal.Value.run_blocks (F := Ideal) m ρ), ?_⟩
  refine (θ_run Cert.BackReferenceIdeal.defs _ _).mono (fun _ h c => ⟨(h c).1.trans ?_, (h c).2⟩)
    (Cert.BackReferenceIdeal.Value.run (F := Ideal) m' ρ')
  obtain ⟨h0, h1, h2, h3, h4, h5, h6, h7, h8, h9, h10⟩ := hagree c
  rw [Cert.Proof.BK.final m c, Cert.BackReferenceIdeal.Read.val_main_v44_eq, h0, h1, h2, h3, h4, h5, h6, h7, h8, h9, h10]

/-- The layer's front and its reference, run from memories that agree on the arguments, end with equal results. -/
theorem front : Cert.algebraic_FrontIdeal_FrontReferenceIdeal (hFrontIdeal := Cert.FrontIdeal.Gen.facts)
    (hFrontReferenceIdeal := Cert.FrontReferenceIdeal.Gen.facts) := by
  intro m ρ m' ρ' _ hagree
  refine ⟨fun c => Cert.FrontReferenceIdeal.Read.val_main_v40 (F := Ideal) (FR.A0 m c) (FR.A1 m c) (FR.A2 m c) (FR.A3 m c),
    fun c => Cert.FrontReferenceIdeal.Read.val_main_v185 (F := Ideal) (FR.A0 m c) (FR.A1 m c) (FR.A2 m c) (FR.A3 m c),
    fun c => Cert.FrontReferenceIdeal.Read.val_main_v190 (F := Ideal) (FR.A0 m c) (FR.A1 m c) (FR.A2 m c) (FR.A3 m c) (FR.A4 m c),
    fun c => Cert.FrontReferenceIdeal.Read.val_main_v225 (F := Ideal) (FR.A0 m c) (FR.A1 m c) (FR.A2 m c) (FR.A3 m c) (FR.A4 m c),
    fun c => Cert.FrontReferenceIdeal.Read.val_main_v227 (F := Ideal) (FR.A0 m c) (FR.A1 m c) (FR.A2 m c) (FR.A3 m c) (FR.A5 m c),
    fun c => Cert.FrontReferenceIdeal.Read.val_main_v229 (F := Ideal) (FR.A0 m c) (FR.A1 m c) (FR.A2 m c) (FR.A3 m c),
    fun c => Cert.FrontReferenceIdeal.Read.val_main_v231 (F := Ideal) (FR.A0 m c) (FR.A1 m c) (FR.A2 m c) (FR.A3 m c) (FR.A5 m c),
    fun c => Cert.FrontReferenceIdeal.Read.val_main_v233 (F := Ideal) (FR.A0 m c) (FR.A1 m c) (FR.A2 m c) (FR.A3 m c),
    fun c => Cert.FrontReferenceIdeal.Read.val_main_v235 (F := Ideal) (FR.A0 m c) (FR.A1 m c) (FR.A2 m c) (FR.A3 m c) (FR.A5 m c),
    fun c => Cert.FrontReferenceIdeal.Read.val_main_v237 (F := Ideal) (FR.A0 m c) (FR.A1 m c) (FR.A2 m c) (FR.A3 m c),
    fun c => Cert.FrontReferenceIdeal.Read.val_main_v240 (F := Ideal) (FR.A0 m c) (FR.A1 m c) (FR.A2 m c) (FR.A3 m c) (FR.A5 m c),
    fun c => Cert.FrontReferenceIdeal.Read.val_main_v242 (F := Ideal) (FR.A0 m c) (FR.A1 m c) (FR.A2 m c) (FR.A3 m c) (FR.A5 m c),
    fun c => Cert.FrontReferenceIdeal.Read.val_main_v247 (F := Ideal) (FR.A0 m c) (FR.A1 m c) (FR.A2 m c) (FR.A3 m c),
    fun c => Cert.FrontReferenceIdeal.Read.val_main_v252 (F := Ideal) (FR.A0 m c) (FR.A1 m c) (FR.A2 m c) (FR.A3 m c),
    fun c => Cert.FrontReferenceIdeal.Read.val_main_v260 (F := Ideal) (FR.A0 m c) (FR.A1 m c) (FR.A2 m c) (FR.A3 m c),
    (θ_run Cert.FrontIdeal.defs _ _).mono (fun _ h c => h c) (Cert.Proof.FR.run_values m ρ), ?_⟩
  refine (θ_run Cert.FrontReferenceIdeal.defs _ _).mono (fun r h c => ?_) (Cert.Proof.FR.reference_values m' ρ')
  obtain ⟨e0, e1, e2, e3, e4, e5⟩ := hagree c
  obtain ⟨h10, h11, h12, h13, h14, h15, h16, h17, h18, h19, h20, h21, h22, h23, h24, hk⟩ := h c
  rw [e0, e1, e2, e3] at h10 h11 h15 h17 h19 h22 h23 h24
  rw [e0, e1, e2, e3, e4] at h12 h13
  rw [e0, e1, e2, e3, e5] at h14 h16 h18 h20 h21
  exact ⟨h10, h11, h12, h13, h14, h15, h16, h17, h18, h19, h20, h21, h22, h23, h24, hk⟩

/-- The layer's convolution and its reference, run from memories that agree on the arguments, end with equal results. -/
theorem conv : Cert.algebraic_ConvIdeal_ConvReferenceIdeal (hConvIdeal := Cert.ConvIdeal.Gen.facts)
    (hConvReferenceIdeal := Cert.ConvReferenceIdeal.Gen.facts) := by
  intro m ρ m' ρ' _ hagree
  refine ⟨_, _, (θ_run Cert.ConvIdeal.defs _ _).mono (fun _ h c => h c) (Cert.ConvIdeal.Value.run_blocks (F := Ideal) m ρ), ?_⟩
  refine (θ_run Cert.ConvReferenceIdeal.defs _ _).mono (fun _ h c => ⟨(h c).1.trans ?_, (h c).2.1.trans ?_, (h c).2.2⟩)
    (Cert.ConvReferenceIdeal.Value.run (F := Ideal) m' ρ')
  · obtain ⟨h0, h1, h2, h3, h4, h5⟩ := hagree c
    rw [Cert.Proof.CV.final7 m c, Cert.ConvReferenceIdeal.Read.val_main_v248_eq]
    unfold CV.A0 CV.A1 CV.A2 CV.A3 CV.A4 CV.A5
    rw [← h0, ← h1, ← h2, ← h3, ← h4, ← h5]
  · obtain ⟨h0, h1, h2, h3, h4, h5⟩ := hagree c
    rw [Cert.Proof.CV.final8 m c, Cert.ConvReferenceIdeal.Read.val_main_v249_eq]
    unfold CV.A0
    rw [← h0]

/-- The modulations' projection and its reference, run from memories that agree on the arguments, end with equal results. -/
theorem ada : Cert.algebraic_AdaIdeal_AdaReferenceIdeal (hAdaIdeal := Cert.AdaIdeal.Gen.facts)
    (hAdaReferenceIdeal := Cert.AdaReferenceIdeal.Gen.facts) := by
  intro m ρ m' ρ' _ hagree
  refine ⟨_, (θ_run Cert.AdaIdeal.defs _ _).mono (fun _ h c => h c) (Cert.AdaIdeal.Value.run_blocks (F := Ideal) m ρ), ?_⟩
  refine (θ_run Cert.AdaReferenceIdeal.defs _ _).mono (fun _ h c => ⟨(h c).1.trans ?_, (h c).2⟩)
    (Cert.AdaReferenceIdeal.Value.run (F := Ideal) m' ρ')
  obtain ⟨h0, h1, h2⟩ := hagree c
  rw [Cert.Proof.AD.final m c, Cert.AdaReferenceIdeal.Read.val_main_v4_eq]
  unfold AD.A0 AD.A1 AD.A2
  rw [← h0, ← h1, ← h2]

/-- The block summaries and their reference, run from memories that agree on the arguments, end with equal results. -/
theorem compress : Cert.algebraic_CompressIdeal_CompressReferenceIdeal (hCompressIdeal := Cert.CompressIdeal.Gen.facts)
    (hCompressReferenceIdeal := Cert.CompressReferenceIdeal.Gen.facts) := by
  intro m ρ m' ρ' _ hagree
  refine ⟨_, _, (θ_run Cert.CompressIdeal.defs _ _).mono (fun _ h c => h c) (Cert.CompressIdeal.Value.run_blocks (F := Ideal) m ρ), ?_⟩
  refine (θ_run Cert.CompressReferenceIdeal.defs _ _).mono (fun _ h c => ⟨(h c).1.trans ?_, (h c).2.1.trans ?_, (h c).2.2⟩)
    (Cert.CompressReferenceIdeal.Value.run (F := Ideal) m' ρ')
  · obtain ⟨h0, h1, h2, h3, h4, h5⟩ := hagree c
    rw [Cert.Proof.CM.final7 m c, Cert.CompressReferenceIdeal.Read.val_main_v11_eq]
    unfold CM.A0 CM.A2 CM.A3
    rw [← h0, ← h2, ← h3]
  · obtain ⟨h0, h1, h2, h3, h4, h5⟩ := hagree c
    rw [Cert.Proof.CM.final8 m c, Cert.CompressReferenceIdeal.Read.val_main_v23_eq]
    unfold CM.A1 CM.A4 CM.A5
    rw [← h1, ← h4, ← h5]

theorem claim : Cert.Claim := ⟨Cert.Kernel.Gen.facts, Cert.KernelIdeal.Gen.facts, Cert.ReferenceIdeal.Gen.facts,
  Cert.Back.Gen.facts, Cert.BackIdeal.Gen.facts, Cert.BackReferenceIdeal.Gen.facts,
  Cert.Front.Gen.facts, Cert.FrontIdeal.Gen.facts, Cert.FrontReferenceIdeal.Gen.facts,
  Cert.Conv.Gen.facts, Cert.ConvIdeal.Gen.facts, Cert.ConvReferenceIdeal.Gen.facts,
  Cert.Ada.Gen.facts, Cert.AdaIdeal.Gen.facts, Cert.AdaReferenceIdeal.Gen.facts,
  Cert.Compress.Gen.facts, Cert.CompressIdeal.Gen.facts, Cert.CompressReferenceIdeal.Gen.facts,
  fun m ρ _ => Cert.Proof.K.frame m ρ,
  fun m ρ _ => Cert.Proof.KI.frame m ρ,
  fun m ρ _ => (θ_run Cert.ReferenceIdeal.defs _ _).mono
    (fun r h => ⟨fun c => (h c).2, sem_eq_zero_of_no_sems (by decide) r.2⟩) (Cert.ReferenceIdeal.Value.run (F := Ideal) m ρ),
  fun m ρ _ => Cert.Back.Gen.frame m ρ,
  fun m ρ _ => Cert.BackIdeal.Gen.frame m ρ,
  fun m ρ _ => (θ_run Cert.BackReferenceIdeal.defs _ _).mono
    (fun r h => ⟨fun c => (h c).2, sem_eq_zero_of_no_sems (by decide) r.2⟩) (Cert.BackReferenceIdeal.Value.run (F := Ideal) m ρ),
  fun m ρ _ => Cert.Front.Body.frame m ρ,
  fun m ρ _ => Cert.FrontIdeal.Body.frame m ρ,
  fun m ρ _ => (θ_run Cert.FrontReferenceIdeal.defs _ _).mono
    (fun r h => ⟨fun c => (h c).2.2.2.2.2.2.2.2.2.2.2.2.2.2.2, sem_eq_zero_of_no_sems (by decide) r.2⟩) (Cert.Proof.FR.reference_values m ρ),
  fun m ρ _ => Cert.Conv.Gen.frame m ρ,
  fun m ρ _ => Cert.ConvIdeal.Gen.frame m ρ,
  fun m ρ _ => (θ_run Cert.ConvReferenceIdeal.defs _ _).mono
    (fun r h => ⟨fun c => (h c).2.2, sem_eq_zero_of_no_sems (by decide) r.2⟩) (Cert.ConvReferenceIdeal.Value.run (F := Ideal) m ρ),
  fun m ρ _ => Cert.Ada.Gen.frame m ρ,
  fun m ρ _ => Cert.AdaIdeal.Gen.frame m ρ,
  fun m ρ _ => (θ_run Cert.AdaReferenceIdeal.defs _ _).mono
    (fun r h => ⟨fun c => (h c).2, sem_eq_zero_of_no_sems (by decide) r.2⟩) (Cert.AdaReferenceIdeal.Value.run (F := Ideal) m ρ),
  fun m ρ _ => Cert.Compress.Gen.frame m ρ,
  fun m ρ _ => Cert.CompressIdeal.Gen.frame m ρ,
  fun m ρ _ => (θ_run Cert.CompressReferenceIdeal.defs _ _).mono
    (fun r h => ⟨fun c => (h c).2.2, sem_eq_zero_of_no_sems (by decide) r.2⟩) (Cert.CompressReferenceIdeal.Value.run (F := Ideal) m ρ),
  ⟨IdealRules.named_const.statement Cert.KernelIdeal.κ "neg" .f32 0xF1800000#32 ⊥ rfl,
    IdealRules.named_const.statement Cert.KernelIdeal.κ "m_init" .f32 0xF1000000#32 ⊥ rfl⟩,
  trivial,
  back,
  trivial,
  front,
  trivial,
  conv,
  trivial,
  ada,
  trivial, compress⟩

end Cert.Proof

end
